-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v51) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .bf16) (main_arg1 : FVec F S1024x1024 .bf16) (main_arg2 : FVec F S1024x1024 .bf16) (main_arg3 : FVec F S1024x1024 .bf16) (main_arg4 : FVec F S1024x1024 .bf16) : IVec S_ 1 :=
  let main_v0 : FVec F S1024x1024 .bf16 := Host.absf main_arg0
  let main_cst : FVec F S_ .bf16 := constant S_ .bf16 0x7F80#16
  let main_v1 : FVec F S1024x1024 .bf16 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .bf16 := Host.absf main_arg2
  let main_cst_2 : FVec F S_ .bf16 := constant S_ .bf16 0x7F80#16
  let main_v10 : FVec F S1024x1024 .bf16 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_ReferenceIdeal.lean ====
abbrev S1024x1024 : Shape := ⟨2, ![1024, 1024]⟩
abbrev S16384x1024 : Shape := ⟨2, ![16384, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S1024x1024 .bf16) (main_arg1 : FVec F S1024x1024 .bf16) (main_arg2 : FVec F S16384x1024 .bf16) (main_arg3 : FVec F S16384x1024 .bf16) (main_arg4 : FVec F S1024x1024 .bf16) : IVec S_ 1 :=
  let main_v0 : FVec F S1024x1024 .bf16 := Host.absf main_arg0
  let main_cst : FVec F S_ .bf16 := constant S_ .bf16 0x7F80#16
  let main_v1 : FVec F S1024x1024 .bf16 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S16384x1024 .bf16 := Host.absf main_arg2
  let main_cst_2 : FVec F S_ .bf16 := constant S_ .bf16 0x7F80#16
  let main_v10 : FVec F S16384x1024 .bf16 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Kernel.lean ====
abbrev S1024x1024 : Shape := ⟨2, ![1024, 1024]⟩
abbrev S1024x1152 : Shape := ⟨2, ![1024, 1152]⟩
abbrev S512x1152 : Shape := ⟨2, ![512, 1152]⟩
abbrev S256x1152 : Shape := ⟨2, ![256, 1152]⟩
abbrev S128x1152 : Shape := ⟨2, ![128, 1152]⟩
abbrev S_ : Shape := ⟨0, ![]⟩
abbrev S7 : Shape := ⟨1, ![7]⟩
abbrev S10 : Shape := ⟨1, ![10]⟩
abbrev S512x1024 : Shape := ⟨2, ![512, 1024]⟩
abbrev S512x128 : Shape := ⟨2, ![512, 128]⟩
abbrev S1024x128 : Shape := ⟨2, ![1024, 128]⟩
abbrev S512 : Shape := ⟨1, ![512]⟩
abbrev S512x1 : Shape := ⟨2, ![512, 1]⟩
abbrev S512x120 : Shape := ⟨2, ![512, 120]⟩
abbrev S1 : Shape := ⟨1, ![1]⟩
abbrev S128x128 : Shape := ⟨2, ![128, 128]⟩
abbrev S128x1024 : Shape := ⟨2, ![128, 1024]⟩
abbrev S128x1 : Shape := ⟨2, ![128, 1]⟩
abbrev S256x128 : Shape := ⟨2, ![256, 128]⟩
abbrev S256x1024 : Shape := ⟨2, ![256, 1024]⟩
abbrev S256x1 : Shape := ⟨2, ![256, 1]⟩

abbrev nBuf : Space → Nat
  | .hbm => 6
  | .vmem => 13
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .bf16⟩
  | .local _ .vmem, ⟨7, _⟩ => ⟨S1024x1152, .f32⟩
  | .local _ .vmem, ⟨8, _⟩ => ⟨S1024x1152, .bf16⟩
  | .local _ .vmem, ⟨9, _⟩ => ⟨S512x1152, .bf16⟩
  | .local _ .vmem, ⟨10, _⟩ => ⟨S256x1152, .bf16⟩
  | .local _ .vmem, ⟨11, _⟩ => ⟨S128x1152, .bf16⟩
  | .local _ .vmem, ⟨12, _⟩ => ⟨S128x1152, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_mult1 (d0 : Dev nD) : BitVec 32 :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  v29
def k0_mult2 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  v31
def k0_off1 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v98 : Index := Scalar.indexCast v30
  let c0_37 : Index := 0#32
  ![v98.toNat, 0]
def k0_off2 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v112 : Index := Scalar.indexCast v30
  let c0_46 : Index := 0#32
  ![v112.toNat, 0]
def k0_off3 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v116 : Index := Scalar.indexCast v30
  let c128 : Index := 128#32
  ![v116.toNat, 128]
def k0_off4 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v130 : Index := Scalar.indexCast v30
  let c128_55 : Index := 128#32
  ![v130.toNat, 128]
def k0_off5 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v134 : Index := Scalar.indexCast v30
  let c256 : Index := 256#32
  ![v134.toNat, 256]
def k0_off6 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v148 : Index := Scalar.indexCast v30
  let c256_64 : Index := 256#32
  ![v148.toNat, 256]
def k0_off7 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v152 : Index := Scalar.indexCast v30
  let c384 : Index := 384#32
  ![v152.toNat, 384]
def k0_off8 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v166 : Index := Scalar.indexCast v30
  let c384_73 : Index := 384#32
  ![v166.toNat, 384]
def k0_off9 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v170 : Index := Scalar.indexCast v30
  let c512 : Index := 512#32
  ![v170.toNat, 512]
def k0_off10 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v184 : Index := Scalar.indexCast v30
  let c512_82 : Index := 512#32
  ![v184.toNat, 512]
def k0_off11 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v188 : Index := Scalar.indexCast v30
  let c640 : Index := 640#32
  ![v188.toNat, 640]
def k0_off12 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v202 : Index := Scalar.indexCast v30
  let c640_91 : Index := 640#32
  ![v202.toNat, 640]
def k0_off13 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v206 : Index := Scalar.indexCast v30
  let c768 : Index := 768#32
  ![v206.toNat, 768]
def k0_off14 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v220 : Index := Scalar.indexCast v30
  let c768_100 : Index := 768#32
  ![v220.toNat, 768]
def k0_off15 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v224 : Index := Scalar.indexCast v30
  let c896 : Index := 896#32
  ![v224.toNat, 896]
def k0_off16 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v238 : Index := Scalar.indexCast v30
  let c896_109 : Index := 896#32
  ![v238.toNat, 896]
def k0_off17 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v244 : Index := Scalar.indexCast v30
  let c1024 : Index := 1024#32
  ![v244.toNat, 1024]
def k0_off18 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let v248 : Index := Scalar.indexCast v30
  let c0_111 : Index := 0#32
  ![v248.toNat, 0]
def k0_off19 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let v28 : BitVec 32 := Scalar.subi c1_i32_19 v27
  let c512_i32 : BitVec 32 := 512#32
  let v29 : BitVec 32 := Scalar.muli v28 c512_i32
  let v30 : BitVec 32 := v29
  let c0_i32_118 : BitVec 32 := 0#32
  ![v30.toNat, 0]
def k0_dev5 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_114 : BitVec 32 := 1#32
  let v255 : BitVec 32 := Scalar.xori v2 c1_i32_114
  let c1_i32_116 : BitVec 32 := 1#32
  let v256 : BitVec 32 := Scalar.muli v255 c1_i32_116
  let v257 : BitVec 32 := Scalar.addi c0_i32_117 v256
  v257.toNat
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v326 : Index := Scalar.indexCast v32
  let c0_137 : Index := 0#32
  ![v326.toNat, 0]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v340 : Index := Scalar.indexCast v32
  let c0_146 : Index := 0#32
  ![v340.toNat, 0]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v344 : Index := Scalar.indexCast v32
  let c128_147 : Index := 128#32
  ![v344.toNat, 128]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v358 : Index := Scalar.indexCast v32
  let c128_156 : Index := 128#32
  ![v358.toNat, 128]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v362 : Index := Scalar.indexCast v32
  let c256_157 : Index := 256#32
  ![v362.toNat, 256]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v376 : Index := Scalar.indexCast v32
  let c256_166 : Index := 256#32
  ![v376.toNat, 256]
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v380 : Index := Scalar.indexCast v32
  let c384_167 : Index := 384#32
  ![v380.toNat, 384]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v394 : Index := Scalar.indexCast v32
  let c384_176 : Index := 384#32
  ![v394.toNat, 384]
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v398 : Index := Scalar.indexCast v32
  let c512_177 : Index := 512#32
  ![v398.toNat, 512]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v412 : Index := Scalar.indexCast v32
  let c512_186 : Index := 512#32
  ![v412.toNat, 512]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v416 : Index := Scalar.indexCast v32
  let c640_187 : Index := 640#32
  ![v416.toNat, 640]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v430 : Index := Scalar.indexCast v32
  let c640_196 : Index := 640#32
  ![v430.toNat, 640]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v434 : Index := Scalar.indexCast v32
  let c768_197 : Index := 768#32
  ![v434.toNat, 768]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v448 : Index := Scalar.indexCast v32
  let c768_206 : Index := 768#32
  ![v448.toNat, 768]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v452 : Index := Scalar.indexCast v32
  let c896_207 : Index := 896#32
  ![v452.toNat, 896]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v466 : Index := Scalar.indexCast v32
  let c896_216 : Index := 896#32
  ![v466.toNat, 896]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v472 : Index := Scalar.indexCast v32
  let c1024_218 : Index := 1024#32
  ![v472.toNat, 1024]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let v481 : Index := Scalar.indexCast v32
  let c0_223 : Index := 0#32
  ![v481.toNat, 0]
def k0_mult3 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  v493
def k0_mult4 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c1_i32_229 : BitVec 32 := 1#32
  let c2_i32_227 : BitVec 32 := 2#32
  let v490 : BitVec 32 := Scalar.shrsi v2 c2_i32_227
  let c1_i32_228 : BitVec 32 := 1#32
  let v491 : BitVec 32 := Scalar.andi v490 c1_i32_228
  let v495 : BitVec 32 := Scalar.subi c1_i32_229 v491
  let c256_i32_230 : BitVec 32 := 256#32
  let v496 : BitVec 32 := Scalar.muli v495 c256_i32_230
  let v497 : BitVec 32 := Scalar.addi v32 v496
  v497
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c1_i32_229 : BitVec 32 := 1#32
  let c2_i32_227 : BitVec 32 := 2#32
  let v490 : BitVec 32 := Scalar.shrsi v2 c2_i32_227
  let c1_i32_228 : BitVec 32 := 1#32
  let v491 : BitVec 32 := Scalar.andi v490 c1_i32_228
  let v495 : BitVec 32 := Scalar.subi c1_i32_229 v491
  let c256_i32_230 : BitVec 32 := 256#32
  let v496 : BitVec 32 := Scalar.muli v495 c256_i32_230
  let v497 : BitVec 32 := Scalar.addi v32 v496
  let v498 : BitVec 32 := v497
  let v499 : Index := Scalar.indexCast v498
  let c0_231 : Index := 0#32
  ![v499.toNat, 0]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c1_i32_229 : BitVec 32 := 1#32
  let c2_i32_227 : BitVec 32 := 2#32
  let v490 : BitVec 32 := Scalar.shrsi v2 c2_i32_227
  let c1_i32_228 : BitVec 32 := 1#32
  let v491 : BitVec 32 := Scalar.andi v490 c1_i32_228
  let v495 : BitVec 32 := Scalar.subi c1_i32_229 v491
  let c256_i32_230 : BitVec 32 := 256#32
  let v496 : BitVec 32 := Scalar.muli v495 c256_i32_230
  let v497 : BitVec 32 := Scalar.addi v32 v496
  let v498 : BitVec 32 := v497
  let c0_i32_240 : BitVec 32 := 0#32
  ![v498.toNat, 0]
def k0_dev6 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_233 : BitVec 32 := 4#32
  let v506 : BitVec 32 := Scalar.xori v2 c4_i32_233
  let c1_i32_238 : BitVec 32 := 1#32
  let v508 : BitVec 32 := Scalar.muli v506 c1_i32_238
  let v509 : BitVec 32 := Scalar.addi c0_i32_239 v508
  v509.toNat
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let v518 : Index := Scalar.indexCast v494
  let c0_245 : Index := 0#32
  ![v518.toNat, 0]
def k0_mult5 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  v530
def k0_mult6 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_251 : BitVec 32 := 1#32
  let c1_i32_249 : BitVec 32 := 1#32
  let v527 : BitVec 32 := Scalar.shrsi v2 c1_i32_249
  let c1_i32_250 : BitVec 32 := 1#32
  let v528 : BitVec 32 := Scalar.andi v527 c1_i32_250
  let v532 : BitVec 32 := Scalar.subi c1_i32_251 v528
  let c128_i32_252 : BitVec 32 := 128#32
  let v533 : BitVec 32 := Scalar.muli v532 c128_i32_252
  let v534 : BitVec 32 := Scalar.addi v494 v533
  v534
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_251 : BitVec 32 := 1#32
  let c1_i32_249 : BitVec 32 := 1#32
  let v527 : BitVec 32 := Scalar.shrsi v2 c1_i32_249
  let c1_i32_250 : BitVec 32 := 1#32
  let v528 : BitVec 32 := Scalar.andi v527 c1_i32_250
  let v532 : BitVec 32 := Scalar.subi c1_i32_251 v528
  let c128_i32_252 : BitVec 32 := 128#32
  let v533 : BitVec 32 := Scalar.muli v532 c128_i32_252
  let v534 : BitVec 32 := Scalar.addi v494 v533
  let v535 : BitVec 32 := v534
  let v536 : Index := Scalar.indexCast v535
  let c0_253 : Index := 0#32
  ![v536.toNat, 0]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_251 : BitVec 32 := 1#32
  let c1_i32_249 : BitVec 32 := 1#32
  let v527 : BitVec 32 := Scalar.shrsi v2 c1_i32_249
  let c1_i32_250 : BitVec 32 := 1#32
  let v528 : BitVec 32 := Scalar.andi v527 c1_i32_250
  let v532 : BitVec 32 := Scalar.subi c1_i32_251 v528
  let c128_i32_252 : BitVec 32 := 128#32
  let v533 : BitVec 32 := Scalar.muli v532 c128_i32_252
  let v534 : BitVec 32 := Scalar.addi v494 v533
  let v535 : BitVec 32 := v534
  let c0_i32_262 : BitVec 32 := 0#32
  ![v535.toNat, 0]
def k0_dev7 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_255 : BitVec 32 := 2#32
  let v543 : BitVec 32 := Scalar.xori v2 c2_i32_255
  let c1_i32_260 : BitVec 32 := 1#32
  let v545 : BitVec 32 := Scalar.muli v543 c1_i32_260
  let v546 : BitVec 32 := Scalar.addi c0_i32_261 v545
  v546.toNat
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  let v531 : BitVec 32 := v530
  let v555 : Index := Scalar.indexCast v531
  let c0_267 : Index := 0#32
  ![v555.toNat, 0]
def k0_mult7 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  let v531 : BitVec 32 := v530
  v531
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  let v531 : BitVec 32 := v530
  let v564 : BitVec 32 := v531
  let v565 : Index := Scalar.indexCast v564
  let c0_271 : Index := 0#32
  ![v565.toNat, 0]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  let v531 : BitVec 32 := v530
  let v564 : BitVec 32 := v531
  let c0_i32_280 : BitVec 32 := 0#32
  ![v564.toNat, 0]
def k0_dev8 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_276 : BitVec 32 := 8#32
  let v573 : BitVec 32 := Scalar.xori v2 c8_i32_276
  let c1_i32_278 : BitVec 32 := 1#32
  let v574 : BitVec 32 := Scalar.muli v573 c1_i32_278
  let v575 : BitVec 32 := Scalar.addi c0_i32_279 v574
  v575.toNat
def k0_mult8 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_292 : BitVec 32 := 2#32
  let v595 : BitVec 32 := Scalar.xori v2 c2_i32_292
  let c1_i32_293 : BitVec 32 := 1#32
  let v596 : BitVec 32 := Scalar.andi v595 c1_i32_293
  let c512_i32_294 : BitVec 32 := 512#32
  let v597 : BitVec 32 := Scalar.muli v596 c512_i32_294
  let c2_i32_295 : BitVec 32 := 2#32
  let v598 : BitVec 32 := Scalar.shrsi v595 c2_i32_295
  let c1_i32_296 : BitVec 32 := 1#32
  let v599 : BitVec 32 := Scalar.andi v598 c1_i32_296
  let c256_i32_297 : BitVec 32 := 256#32
  let v600 : BitVec 32 := Scalar.muli v599 c256_i32_297
  let v601 : BitVec 32 := Scalar.addi v597 v600
  let c1_i32_298 : BitVec 32 := 1#32
  let v602 : BitVec 32 := Scalar.shrsi v595 c1_i32_298
  let c1_i32_299 : BitVec 32 := 1#32
  let v603 : BitVec 32 := Scalar.andi v602 c1_i32_299
  let c128_i32_300 : BitVec 32 := 128#32
  let v604 : BitVec 32 := Scalar.muli v603 c128_i32_300
  let v605 : BitVec 32 := Scalar.addi v601 v604
  v605
def k0_mult9 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_301 : BitVec 32 := 4#32
  let v607 : BitVec 32 := Scalar.xori v2 c4_i32_301
  let c1_i32_302 : BitVec 32 := 1#32
  let v608 : BitVec 32 := Scalar.andi v607 c1_i32_302
  let c512_i32_303 : BitVec 32 := 512#32
  let v609 : BitVec 32 := Scalar.muli v608 c512_i32_303
  let c2_i32_304 : BitVec 32 := 2#32
  let v610 : BitVec 32 := Scalar.shrsi v607 c2_i32_304
  let c1_i32_305 : BitVec 32 := 1#32
  let v611 : BitVec 32 := Scalar.andi v610 c1_i32_305
  let c256_i32_306 : BitVec 32 := 256#32
  let v612 : BitVec 32 := Scalar.muli v611 c256_i32_306
  let v613 : BitVec 32 := Scalar.addi v609 v612
  let c1_i32_307 : BitVec 32 := 1#32
  let v614 : BitVec 32 := Scalar.shrsi v607 c1_i32_307
  let c1_i32_308 : BitVec 32 := 1#32
  let v615 : BitVec 32 := Scalar.andi v614 c1_i32_308
  let c128_i32_309 : BitVec 32 := 128#32
  let v616 : BitVec 32 := Scalar.muli v615 c128_i32_309
  let v617 : BitVec 32 := Scalar.addi v613 v616
  v617
def k0_mult10 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_310 : BitVec 32 := 4#32
  let v619 : BitVec 32 := Scalar.xori v2 c4_i32_310
  let c2_i32_311 : BitVec 32 := 2#32
  let v620 : BitVec 32 := Scalar.xori v619 c2_i32_311
  let c1_i32_312 : BitVec 32 := 1#32
  let v621 : BitVec 32 := Scalar.andi v620 c1_i32_312
  let c512_i32_313 : BitVec 32 := 512#32
  let v622 : BitVec 32 := Scalar.muli v621 c512_i32_313
  let c2_i32_314 : BitVec 32 := 2#32
  let v623 : BitVec 32 := Scalar.shrsi v620 c2_i32_314
  let c1_i32_315 : BitVec 32 := 1#32
  let v624 : BitVec 32 := Scalar.andi v623 c1_i32_315
  let c256_i32_316 : BitVec 32 := 256#32
  let v625 : BitVec 32 := Scalar.muli v624 c256_i32_316
  let v626 : BitVec 32 := Scalar.addi v622 v625
  let c1_i32_317 : BitVec 32 := 1#32
  let v627 : BitVec 32 := Scalar.shrsi v620 c1_i32_317
  let c1_i32_318 : BitVec 32 := 1#32
  let v628 : BitVec 32 := Scalar.andi v627 c1_i32_318
  let c128_i32_319 : BitVec 32 := 128#32
  let v629 : BitVec 32 := Scalar.muli v628 c128_i32_319
  let v630 : BitVec 32 := Scalar.addi v626 v629
  v630
def k0_mult11 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_320 : BitVec 32 := 1#32
  let v632 : BitVec 32 := Scalar.xori v2 c1_i32_320
  let c1_i32_321 : BitVec 32 := 1#32
  let v633 : BitVec 32 := Scalar.andi v632 c1_i32_321
  let c512_i32_322 : BitVec 32 := 512#32
  let v634 : BitVec 32 := Scalar.muli v633 c512_i32_322
  let c2_i32_323 : BitVec 32 := 2#32
  let v635 : BitVec 32 := Scalar.shrsi v632 c2_i32_323
  let c1_i32_324 : BitVec 32 := 1#32
  let v636 : BitVec 32 := Scalar.andi v635 c1_i32_324
  let c256_i32_325 : BitVec 32 := 256#32
  let v637 : BitVec 32 := Scalar.muli v636 c256_i32_325
  let v638 : BitVec 32 := Scalar.addi v634 v637
  let c1_i32_326 : BitVec 32 := 1#32
  let v639 : BitVec 32 := Scalar.shrsi v632 c1_i32_326
  let c1_i32_327 : BitVec 32 := 1#32
  let v640 : BitVec 32 := Scalar.andi v639 c1_i32_327
  let c128_i32_328 : BitVec 32 := 128#32
  let v641 : BitVec 32 := Scalar.muli v640 c128_i32_328
  let v642 : BitVec 32 := Scalar.addi v638 v641
  v642
def k0_mult12 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_329 : BitVec 32 := 1#32
  let v644 : BitVec 32 := Scalar.xori v2 c1_i32_329
  let c2_i32_330 : BitVec 32 := 2#32
  let v645 : BitVec 32 := Scalar.xori v644 c2_i32_330
  let c1_i32_331 : BitVec 32 := 1#32
  let v646 : BitVec 32 := Scalar.andi v645 c1_i32_331
  let c512_i32_332 : BitVec 32 := 512#32
  let v647 : BitVec 32 := Scalar.muli v646 c512_i32_332
  let c2_i32_333 : BitVec 32 := 2#32
  let v648 : BitVec 32 := Scalar.shrsi v645 c2_i32_333
  let c1_i32_334 : BitVec 32 := 1#32
  let v649 : BitVec 32 := Scalar.andi v648 c1_i32_334
  let c256_i32_335 : BitVec 32 := 256#32
  let v650 : BitVec 32 := Scalar.muli v649 c256_i32_335
  let v651 : BitVec 32 := Scalar.addi v647 v650
  let c1_i32_336 : BitVec 32 := 1#32
  let v652 : BitVec 32 := Scalar.shrsi v645 c1_i32_336
  let c1_i32_337 : BitVec 32 := 1#32
  let v653 : BitVec 32 := Scalar.andi v652 c1_i32_337
  let c128_i32_338 : BitVec 32 := 128#32
  let v654 : BitVec 32 := Scalar.muli v653 c128_i32_338
  let v655 : BitVec 32 := Scalar.addi v651 v654
  v655
def k0_mult13 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_339 : BitVec 32 := 1#32
  let v657 : BitVec 32 := Scalar.xori v2 c1_i32_339
  let c1_i32_340 : BitVec 32 := 1#32
  let v658 : BitVec 32 := Scalar.andi v657 c1_i32_340
  let c512_i32_341 : BitVec 32 := 512#32
  let v659 : BitVec 32 := Scalar.muli v658 c512_i32_341
  let c1_i32_344 : BitVec 32 := 1#32
  let c2_i32_342 : BitVec 32 := 2#32
  let v660 : BitVec 32 := Scalar.shrsi v657 c2_i32_342
  let c1_i32_343 : BitVec 32 := 1#32
  let v661 : BitVec 32 := Scalar.andi v660 c1_i32_343
  let v662 : BitVec 32 := Scalar.subi c1_i32_344 v661
  let c256_i32_345 : BitVec 32 := 256#32
  let v663 : BitVec 32 := Scalar.muli v662 c256_i32_345
  let v664 : BitVec 32 := Scalar.addi v659 v663
  v664
def k0_dev9 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_346 : BitVec 32 := 2#32
  let v666 : BitVec 32 := Scalar.xori v2 c2_i32_346
  let c1_i32_349 : BitVec 32 := 1#32
  let v667 : BitVec 32 := Scalar.muli v666 c1_i32_349
  let v668 : BitVec 32 := Scalar.addi c0_i32_350 v667
  v668.toNat
def k0_dev10 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_353 : BitVec 32 := 4#32
  let v675 : BitVec 32 := Scalar.xori v2 c4_i32_353
  let c1_i32_355 : BitVec 32 := 1#32
  let v676 : BitVec 32 := Scalar.muli v675 c1_i32_355
  let v677 : BitVec 32 := Scalar.addi c0_i32_356 v676
  v677.toNat
def k0_dev11 (d0 : Dev nD) : Nat :=
  let c0_i32_362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_359 : BitVec 32 := 1#32
  let v684 : BitVec 32 := Scalar.xori v2 c1_i32_359
  let c1_i32_361 : BitVec 32 := 1#32
  let v685 : BitVec 32 := Scalar.muli v684 c1_i32_361
  let v686 : BitVec 32 := Scalar.addi c0_i32_362 v685
  v686.toNat
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  let v531 : BitVec 32 := v530
  let v564 : BitVec 32 := v531
  let v693 : Index := Scalar.indexCast v564
  let c1024_365 : Index := 1024#32
  ![v693.toNat, 1024]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  let v531 : BitVec 32 := v530
  let v564 : BitVec 32 := v531
  let v697 : Index := Scalar.indexCast v564
  let c0_367 : Index := 0#32
  ![v697.toNat, 0]
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  let v531 : BitVec 32 := v530
  let v564 : BitVec 32 := v531
  let v708 : Index := Scalar.indexCast v564
  let c128_371 : Index := 128#32
  ![v708.toNat, 128]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  let v531 : BitVec 32 := v530
  let v564 : BitVec 32 := v531
  let v719 : Index := Scalar.indexCast v564
  let c256_375 : Index := 256#32
  ![v719.toNat, 256]
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  let v531 : BitVec 32 := v530
  let v564 : BitVec 32 := v531
  let v730 : Index := Scalar.indexCast v564
  let c384_379 : Index := 384#32
  ![v730.toNat, 384]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  let v531 : BitVec 32 := v530
  let v564 : BitVec 32 := v531
  let v741 : Index := Scalar.indexCast v564
  let c512_383 : Index := 512#32
  ![v741.toNat, 512]
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  let v531 : BitVec 32 := v530
  let v564 : BitVec 32 := v531
  let v752 : Index := Scalar.indexCast v564
  let c640_387 : Index := 640#32
  ![v752.toNat, 640]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  let v531 : BitVec 32 := v530
  let v564 : BitVec 32 := v531
  let v763 : Index := Scalar.indexCast v564
  let c768_391 : Index := 768#32
  ![v763.toNat, 768]
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  let v531 : BitVec 32 := v530
  let v564 : BitVec 32 := v531
  let v774 : Index := Scalar.indexCast v564
  let c896_395 : Index := 896#32
  ![v774.toNat, 896]
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.andi v2 c1_i32_18
  let c512_i32_20 : BitVec 32 := 512#32
  let v31 : BitVec 32 := Scalar.muli v27 c512_i32_20
  let v32 : BitVec 32 := v31
  let c2_i32_227 : BitVec 32 := 2#32
  let v490 : BitVec 32 := Scalar.shrsi v2 c2_i32_227
  let c1_i32_228 : BitVec 32 := 1#32
  let v491 : BitVec 32 := Scalar.andi v490 c1_i32_228
  let c256_i32 : BitVec 32 := 256#32
  let v492 : BitVec 32 := Scalar.muli v491 c256_i32
  let v493 : BitVec 32 := Scalar.addi v32 v492
  let v494 : BitVec 32 := v493
  let c1_i32_249 : BitVec 32 := 1#32
  let v527 : BitVec 32 := Scalar.shrsi v2 c1_i32_249
  let c1_i32_250 : BitVec 32 := 1#32
  let v528 : BitVec 32 := Scalar.andi v527 c1_i32_250
  let c128_i32 : BitVec 32 := 128#32
  let v529 : BitVec 32 := Scalar.muli v528 c128_i32
  let v530 : BitVec 32 := Scalar.addi v494 v529
  let v531 : BitVec 32 := v530
  let v564 : BitVec 32 := v531
  let v785 : Index := Scalar.indexCast v564
  let c0_399 : Index := 0#32
  ![v785.toNat, 0]
def k0_off56 (d0 : Dev nD) (c2_i32_292 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v595 : BitVec 32 := Scalar.xori v2 c2_i32_292
  let c1_i32_293 : BitVec 32 := 1#32
  let v596 : BitVec 32 := Scalar.andi v595 c1_i32_293
  let c512_i32_294 : BitVec 32 := 512#32
  let v597 : BitVec 32 := Scalar.muli v596 c512_i32_294
  let c2_i32_295 : BitVec 32 := 2#32
  let v598 : BitVec 32 := Scalar.shrsi v595 c2_i32_295
  let c1_i32_296 : BitVec 32 := 1#32
  let v599 : BitVec 32 := Scalar.andi v598 c1_i32_296
  let c256_i32_297 : BitVec 32 := 256#32
  let v600 : BitVec 32 := Scalar.muli v599 c256_i32_297
  let v601 : BitVec 32 := Scalar.addi v597 v600
  let c1_i32_298 : BitVec 32 := 1#32
  let v602 : BitVec 32 := Scalar.shrsi v595 c1_i32_298
  let c1_i32_299 : BitVec 32 := 1#32
  let v603 : BitVec 32 := Scalar.andi v602 c1_i32_299
  let c128_i32_300 : BitVec 32 := 128#32
  let v604 : BitVec 32 := Scalar.muli v603 c128_i32_300
  let v605 : BitVec 32 := Scalar.addi v601 v604
  let v606 : BitVec 32 := v605
  let c0_i32_403 : BitVec 32 := 0#32
  ![v606.toNat, 0]
def k0_off56_at (r : Fin 3) : BitVec 32 :=
  if r.val < 1 then
    2#32
  else
    if r.val < 2 then
      4#32
    else
      1#32
def k0_dev12 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_405 : BitVec 32 := 4#32
  let v793 : BitVec 32 := Scalar.xori v2 c4_i32_405
  let c1_i32_407 : BitVec 32 := 1#32
  let v794 : BitVec 32 := Scalar.muli v793 c1_i32_407
  let v795 : BitVec 32 := Scalar.addi c0_i32_408 v794
  v795.toNat
def k0_dev13 (d0 : Dev nD) : Nat :=
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_411 : BitVec 32 := 1#32
  let v802 : BitVec 32 := Scalar.xori v2 c1_i32_411
  let c1_i32_414 : BitVec 32 := 1#32
  let v803 : BitVec 32 := Scalar.muli v802 c1_i32_414
  let v804 : BitVec 32 := Scalar.addi c0_i32_415 v803
  v804.toNat
def k0_off57 (d0 : Dev nD) (c2_i32_292 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v595 : BitVec 32 := Scalar.xori v2 c2_i32_292
  let c1_i32_293 : BitVec 32 := 1#32
  let v596 : BitVec 32 := Scalar.andi v595 c1_i32_293
  let c512_i32_294 : BitVec 32 := 512#32
  let v597 : BitVec 32 := Scalar.muli v596 c512_i32_294
  let c2_i32_295 : BitVec 32 := 2#32
  let v598 : BitVec 32 := Scalar.shrsi v595 c2_i32_295
  let c1_i32_296 : BitVec 32 := 1#32
  let v599 : BitVec 32 := Scalar.andi v598 c1_i32_296
  let c256_i32_297 : BitVec 32 := 256#32
  let v600 : BitVec 32 := Scalar.muli v599 c256_i32_297
  let v601 : BitVec 32 := Scalar.addi v597 v600
  let c1_i32_298 : BitVec 32 := 1#32
  let v602 : BitVec 32 := Scalar.shrsi v595 c1_i32_298
  let c1_i32_299 : BitVec 32 := 1#32
  let v603 : BitVec 32 := Scalar.andi v602 c1_i32_299
  let c128_i32_300 : BitVec 32 := 128#32
  let v604 : BitVec 32 := Scalar.muli v603 c128_i32_300
  let v605 : BitVec 32 := Scalar.addi v601 v604
  let v606 : BitVec 32 := v605
  let v811 : Index := Scalar.indexCast v606
  let c1024_418 : Index := 1024#32
  ![v811.toNat, 1024]
def k0_off57_at (r : Fin 3) : BitVec 32 :=
  if r.val < 1 then
    2#32
  else
    if r.val < 2 then
      4#32
    else
      1#32
def k0_off58 (d0 : Dev nD) (c2_i32_292 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v595 : BitVec 32 := Scalar.xori v2 c2_i32_292
  let c1_i32_293 : BitVec 32 := 1#32
  let v596 : BitVec 32 := Scalar.andi v595 c1_i32_293
  let c512_i32_294 : BitVec 32 := 512#32
  let v597 : BitVec 32 := Scalar.muli v596 c512_i32_294
  let c2_i32_295 : BitVec 32 := 2#32
  let v598 : BitVec 32 := Scalar.shrsi v595 c2_i32_295
  let c1_i32_296 : BitVec 32 := 1#32
  let v599 : BitVec 32 := Scalar.andi v598 c1_i32_296
  let c256_i32_297 : BitVec 32 := 256#32
  let v600 : BitVec 32 := Scalar.muli v599 c256_i32_297
  let v601 : BitVec 32 := Scalar.addi v597 v600
  let c1_i32_298 : BitVec 32 := 1#32
  let v602 : BitVec 32 := Scalar.shrsi v595 c1_i32_298
  let c1_i32_299 : BitVec 32 := 1#32
  let v603 : BitVec 32 := Scalar.andi v602 c1_i32_299
  let c128_i32_300 : BitVec 32 := 128#32
  let v604 : BitVec 32 := Scalar.muli v603 c128_i32_300
  let v605 : BitVec 32 := Scalar.addi v601 v604
  let v606 : BitVec 32 := v605
  let v815 : Index := Scalar.indexCast v606
  let c0_420 : Index := 0#32
  ![v815.toNat, 0]
def k0_off58_at (r : Fin 3) : BitVec 32 :=
  if r.val < 1 then
    2#32
  else
    if r.val < 2 then
      4#32
    else
      1#32
def k0_off59 (d0 : Dev nD) (c2_i32_292 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v595 : BitVec 32 := Scalar.xori v2 c2_i32_292
  let c1_i32_293 : BitVec 32 := 1#32
  let v596 : BitVec 32 := Scalar.andi v595 c1_i32_293
  let c512_i32_294 : BitVec 32 := 512#32
  let v597 : BitVec 32 := Scalar.muli v596 c512_i32_294
  let c2_i32_295 : BitVec 32 := 2#32
  let v598 : BitVec 32 := Scalar.shrsi v595 c2_i32_295
  let c1_i32_296 : BitVec 32 := 1#32
  let v599 : BitVec 32 := Scalar.andi v598 c1_i32_296
  let c256_i32_297 : BitVec 32 := 256#32
  let v600 : BitVec 32 := Scalar.muli v599 c256_i32_297
  let v601 : BitVec 32 := Scalar.addi v597 v600
  let c1_i32_298 : BitVec 32 := 1#32
  let v602 : BitVec 32 := Scalar.shrsi v595 c1_i32_298
  let c1_i32_299 : BitVec 32 := 1#32
  let v603 : BitVec 32 := Scalar.andi v602 c1_i32_299
  let c128_i32_300 : BitVec 32 := 128#32
  let v604 : BitVec 32 := Scalar.muli v603 c128_i32_300
  let v605 : BitVec 32 := Scalar.addi v601 v604
  let v606 : BitVec 32 := v605
  let v826 : Index := Scalar.indexCast v606
  let c128_424 : Index := 128#32
  ![v826.toNat, 128]
def k0_off59_at (r : Fin 3) : BitVec 32 :=
  if r.val < 1 then
    2#32
  else
    if r.val < 2 then
      4#32
    else
      1#32
def k0_off60 (d0 : Dev nD) (c2_i32_292 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v595 : BitVec 32 := Scalar.xori v2 c2_i32_292
  let c1_i32_293 : BitVec 32 := 1#32
  let v596 : BitVec 32 := Scalar.andi v595 c1_i32_293
  let c512_i32_294 : BitVec 32 := 512#32
  let v597 : BitVec 32 := Scalar.muli v596 c512_i32_294
  let c2_i32_295 : BitVec 32 := 2#32
  let v598 : BitVec 32 := Scalar.shrsi v595 c2_i32_295
  let c1_i32_296 : BitVec 32 := 1#32
  let v599 : BitVec 32 := Scalar.andi v598 c1_i32_296
  let c256_i32_297 : BitVec 32 := 256#32
  let v600 : BitVec 32 := Scalar.muli v599 c256_i32_297
  let v601 : BitVec 32 := Scalar.addi v597 v600
  let c1_i32_298 : BitVec 32 := 1#32
  let v602 : BitVec 32 := Scalar.shrsi v595 c1_i32_298
  let c1_i32_299 : BitVec 32 := 1#32
  let v603 : BitVec 32 := Scalar.andi v602 c1_i32_299
  let c128_i32_300 : BitVec 32 := 128#32
  let v604 : BitVec 32 := Scalar.muli v603 c128_i32_300
  let v605 : BitVec 32 := Scalar.addi v601 v604
  let v606 : BitVec 32 := v605
  let v837 : Index := Scalar.indexCast v606
  let c256_428 : Index := 256#32
  ![v837.toNat, 256]
def k0_off60_at (r : Fin 3) : BitVec 32 :=
  if r.val < 1 then
    2#32
  else
    if r.val < 2 then
      4#32
    else
      1#32
def k0_off61 (d0 : Dev nD) (c2_i32_292 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v595 : BitVec 32 := Scalar.xori v2 c2_i32_292
  let c1_i32_293 : BitVec 32 := 1#32
  let v596 : BitVec 32 := Scalar.andi v595 c1_i32_293
  let c512_i32_294 : BitVec 32 := 512#32
  let v597 : BitVec 32 := Scalar.muli v596 c512_i32_294
  let c2_i32_295 : BitVec 32 := 2#32
  let v598 : BitVec 32 := Scalar.shrsi v595 c2_i32_295
  let c1_i32_296 : BitVec 32 := 1#32
  let v599 : BitVec 32 := Scalar.andi v598 c1_i32_296
  let c256_i32_297 : BitVec 32 := 256#32
  let v600 : BitVec 32 := Scalar.muli v599 c256_i32_297
  let v601 : BitVec 32 := Scalar.addi v597 v600
  let c1_i32_298 : BitVec 32 := 1#32
  let v602 : BitVec 32 := Scalar.shrsi v595 c1_i32_298
  let c1_i32_299 : BitVec 32 := 1#32
  let v603 : BitVec 32 := Scalar.andi v602 c1_i32_299
  let c128_i32_300 : BitVec 32 := 128#32
  let v604 : BitVec 32 := Scalar.muli v603 c128_i32_300
  let v605 : BitVec 32 := Scalar.addi v601 v604
  let v606 : BitVec 32 := v605
  let v848 : Index := Scalar.indexCast v606
  let c384_432 : Index := 384#32
  ![v848.toNat, 384]
def k0_off61_at (r : Fin 3) : BitVec 32 :=
  if r.val < 1 then
    2#32
  else
    if r.val < 2 then
      4#32
    else
      1#32
def k0_off62 (d0 : Dev nD) (c2_i32_292 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v595 : BitVec 32 := Scalar.xori v2 c2_i32_292
  let c1_i32_293 : BitVec 32 := 1#32
  let v596 : BitVec 32 := Scalar.andi v595 c1_i32_293
  let c512_i32_294 : BitVec 32 := 512#32
  let v597 : BitVec 32 := Scalar.muli v596 c512_i32_294
  let c2_i32_295 : BitVec 32 := 2#32
  let v598 : BitVec 32 := Scalar.shrsi v595 c2_i32_295
  let c1_i32_296 : BitVec 32 := 1#32
  let v599 : BitVec 32 := Scalar.andi v598 c1_i32_296
  let c256_i32_297 : BitVec 32 := 256#32
  let v600 : BitVec 32 := Scalar.muli v599 c256_i32_297
  let v601 : BitVec 32 := Scalar.addi v597 v600
  let c1_i32_298 : BitVec 32 := 1#32
  let v602 : BitVec 32 := Scalar.shrsi v595 c1_i32_298
  let c1_i32_299 : BitVec 32 := 1#32
  let v603 : BitVec 32 := Scalar.andi v602 c1_i32_299
  let c128_i32_300 : BitVec 32 := 128#32
  let v604 : BitVec 32 := Scalar.muli v603 c128_i32_300
  let v605 : BitVec 32 := Scalar.addi v601 v604
  let v606 : BitVec 32 := v605
  let v859 : Index := Scalar.indexCast v606
  let c512_436 : Index := 512#32
  ![v859.toNat, 512]
def k0_off62_at (r : Fin 3) : BitVec 32 :=
  if r.val < 1 then
    2#32
  else
    if r.val < 2 then
      4#32
    else
      1#32
def k0_off63 (d0 : Dev nD) (c2_i32_292 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v595 : BitVec 32 := Scalar.xori v2 c2_i32_292
  let c1_i32_293 : BitVec 32 := 1#32
  let v596 : BitVec 32 := Scalar.andi v595 c1_i32_293
  let c512_i32_294 : BitVec 32 := 512#32
  let v597 : BitVec 32 := Scalar.muli v596 c512_i32_294
  let c2_i32_295 : BitVec 32 := 2#32
  let v598 : BitVec 32 := Scalar.shrsi v595 c2_i32_295
  let c1_i32_296 : BitVec 32 := 1#32
  let v599 : BitVec 32 := Scalar.andi v598 c1_i32_296
  let c256_i32_297 : BitVec 32 := 256#32
  let v600 : BitVec 32 := Scalar.muli v599 c256_i32_297
  let v601 : BitVec 32 := Scalar.addi v597 v600
  let c1_i32_298 : BitVec 32 := 1#32
  let v602 : BitVec 32 := Scalar.shrsi v595 c1_i32_298
  let c1_i32_299 : BitVec 32 := 1#32
  let v603 : BitVec 32 := Scalar.andi v602 c1_i32_299
  let c128_i32_300 : BitVec 32 := 128#32
  let v604 : BitVec 32 := Scalar.muli v603 c128_i32_300
  let v605 : BitVec 32 := Scalar.addi v601 v604
  let v606 : BitVec 32 := v605
  let v870 : Index := Scalar.indexCast v606
  let c640_440 : Index := 640#32
  ![v870.toNat, 640]
def k0_off63_at (r : Fin 3) : BitVec 32 :=
  if r.val < 1 then
    2#32
  else
    if r.val < 2 then
      4#32
    else
      1#32
def k0_off64 (d0 : Dev nD) (c2_i32_292 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v595 : BitVec 32 := Scalar.xori v2 c2_i32_292
  let c1_i32_293 : BitVec 32 := 1#32
  let v596 : BitVec 32 := Scalar.andi v595 c1_i32_293
  let c512_i32_294 : BitVec 32 := 512#32
  let v597 : BitVec 32 := Scalar.muli v596 c512_i32_294
  let c2_i32_295 : BitVec 32 := 2#32
  let v598 : BitVec 32 := Scalar.shrsi v595 c2_i32_295
  let c1_i32_296 : BitVec 32 := 1#32
  let v599 : BitVec 32 := Scalar.andi v598 c1_i32_296
  let c256_i32_297 : BitVec 32 := 256#32
  let v600 : BitVec 32 := Scalar.muli v599 c256_i32_297
  let v601 : BitVec 32 := Scalar.addi v597 v600
  let c1_i32_298 : BitVec 32 := 1#32
  let v602 : BitVec 32 := Scalar.shrsi v595 c1_i32_298
  let c1_i32_299 : BitVec 32 := 1#32
  let v603 : BitVec 32 := Scalar.andi v602 c1_i32_299
  let c128_i32_300 : BitVec 32 := 128#32
  let v604 : BitVec 32 := Scalar.muli v603 c128_i32_300
  let v605 : BitVec 32 := Scalar.addi v601 v604
  let v606 : BitVec 32 := v605
  let v881 : Index := Scalar.indexCast v606
  let c768_444 : Index := 768#32
  ![v881.toNat, 768]
def k0_off64_at (r : Fin 3) : BitVec 32 :=
  if r.val < 1 then
    2#32
  else
    if r.val < 2 then
      4#32
    else
      1#32
def k0_off65 (d0 : Dev nD) (c2_i32_292 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v595 : BitVec 32 := Scalar.xori v2 c2_i32_292
  let c1_i32_293 : BitVec 32 := 1#32
  let v596 : BitVec 32 := Scalar.andi v595 c1_i32_293
  let c512_i32_294 : BitVec 32 := 512#32
  let v597 : BitVec 32 := Scalar.muli v596 c512_i32_294
  let c2_i32_295 : BitVec 32 := 2#32
  let v598 : BitVec 32 := Scalar.shrsi v595 c2_i32_295
  let c1_i32_296 : BitVec 32 := 1#32
  let v599 : BitVec 32 := Scalar.andi v598 c1_i32_296
  let c256_i32_297 : BitVec 32 := 256#32
  let v600 : BitVec 32 := Scalar.muli v599 c256_i32_297
  let v601 : BitVec 32 := Scalar.addi v597 v600
  let c1_i32_298 : BitVec 32 := 1#32
  let v602 : BitVec 32 := Scalar.shrsi v595 c1_i32_298
  let c1_i32_299 : BitVec 32 := 1#32
  let v603 : BitVec 32 := Scalar.andi v602 c1_i32_299
  let c128_i32_300 : BitVec 32 := 128#32
  let v604 : BitVec 32 := Scalar.muli v603 c128_i32_300
  let v605 : BitVec 32 := Scalar.addi v601 v604
  let v606 : BitVec 32 := v605
  let v892 : Index := Scalar.indexCast v606
  let c896_448 : Index := 896#32
  ![v892.toNat, 896]
def k0_off65_at (r : Fin 3) : BitVec 32 :=
  if r.val < 1 then
    2#32
  else
    if r.val < 2 then
      4#32
    else
      1#32
def k0_off66 (d0 : Dev nD) (c2_i32_292 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v595 : BitVec 32 := Scalar.xori v2 c2_i32_292
  let c1_i32_293 : BitVec 32 := 1#32
  let v596 : BitVec 32 := Scalar.andi v595 c1_i32_293
  let c512_i32_294 : BitVec 32 := 512#32
  let v597 : BitVec 32 := Scalar.muli v596 c512_i32_294
  let c2_i32_295 : BitVec 32 := 2#32
  let v598 : BitVec 32 := Scalar.shrsi v595 c2_i32_295
  let c1_i32_296 : BitVec 32 := 1#32
  let v599 : BitVec 32 := Scalar.andi v598 c1_i32_296
  let c256_i32_297 : BitVec 32 := 256#32
  let v600 : BitVec 32 := Scalar.muli v599 c256_i32_297
  let v601 : BitVec 32 := Scalar.addi v597 v600
  let c1_i32_298 : BitVec 32 := 1#32
  let v602 : BitVec 32 := Scalar.shrsi v595 c1_i32_298
  let c1_i32_299 : BitVec 32 := 1#32
  let v603 : BitVec 32 := Scalar.andi v602 c1_i32_299
  let c128_i32_300 : BitVec 32 := 128#32
  let v604 : BitVec 32 := Scalar.muli v603 c128_i32_300
  let v605 : BitVec 32 := Scalar.addi v601 v604
  let v606 : BitVec 32 := v605
  let v903 : Index := Scalar.indexCast v606
  let c0_452 : Index := 0#32
  ![v903.toNat, 0]
def k0_off66_at (r : Fin 3) : BitVec 32 :=
  if r.val < 1 then
    2#32
  else
    if r.val < 2 then
      4#32
    else
      1#32
def k0_dev14 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_458 : BitVec 32 := 1#32
  let v911 : BitVec 32 := Scalar.xori v2 c1_i32_458
  let c1_i32_460 : BitVec 32 := 1#32
  let v912 : BitVec 32 := Scalar.muli v911 c1_i32_460
  let v913 : BitVec 32 := Scalar.addi c0_i32_461 v912
  v913.toNat
def k0_off67 (d0 : Dev nD) (c4_i32_310 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v619 : BitVec 32 := Scalar.xori v2 c4_i32_310
  let c2_i32_311 : BitVec 32 := 2#32
  let v620 : BitVec 32 := Scalar.xori v619 c2_i32_311
  let c1_i32_312 : BitVec 32 := 1#32
  let v621 : BitVec 32 := Scalar.andi v620 c1_i32_312
  let c512_i32_313 : BitVec 32 := 512#32
  let v622 : BitVec 32 := Scalar.muli v621 c512_i32_313
  let c2_i32_314 : BitVec 32 := 2#32
  let v623 : BitVec 32 := Scalar.shrsi v620 c2_i32_314
  let c1_i32_315 : BitVec 32 := 1#32
  let v624 : BitVec 32 := Scalar.andi v623 c1_i32_315
  let c256_i32_316 : BitVec 32 := 256#32
  let v625 : BitVec 32 := Scalar.muli v624 c256_i32_316
  let v626 : BitVec 32 := Scalar.addi v622 v625
  let c1_i32_317 : BitVec 32 := 1#32
  let v627 : BitVec 32 := Scalar.shrsi v620 c1_i32_317
  let c1_i32_318 : BitVec 32 := 1#32
  let v628 : BitVec 32 := Scalar.andi v627 c1_i32_318
  let c128_i32_319 : BitVec 32 := 128#32
  let v629 : BitVec 32 := Scalar.muli v628 c128_i32_319
  let v630 : BitVec 32 := Scalar.addi v626 v629
  let v631 : BitVec 32 := v630
  let c0_i32_502 : BitVec 32 := 0#32
  ![v631.toNat, 0]
def k0_dev15 (d0 : Dev nD) : Nat :=
  let c0_i32_508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_504 : BitVec 32 := 1#32
  let v1020 : BitVec 32 := Scalar.xori v2 c1_i32_504
  let c1_i32_507 : BitVec 32 := 1#32
  let v1021 : BitVec 32 := Scalar.muli v1020 c1_i32_507
  let v1022 : BitVec 32 := Scalar.addi c0_i32_508 v1021
  v1022.toNat
def k0_off68 (d0 : Dev nD) (c4_i32_310 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v619 : BitVec 32 := Scalar.xori v2 c4_i32_310
  let c2_i32_311 : BitVec 32 := 2#32
  let v620 : BitVec 32 := Scalar.xori v619 c2_i32_311
  let c1_i32_312 : BitVec 32 := 1#32
  let v621 : BitVec 32 := Scalar.andi v620 c1_i32_312
  let c512_i32_313 : BitVec 32 := 512#32
  let v622 : BitVec 32 := Scalar.muli v621 c512_i32_313
  let c2_i32_314 : BitVec 32 := 2#32
  let v623 : BitVec 32 := Scalar.shrsi v620 c2_i32_314
  let c1_i32_315 : BitVec 32 := 1#32
  let v624 : BitVec 32 := Scalar.andi v623 c1_i32_315
  let c256_i32_316 : BitVec 32 := 256#32
  let v625 : BitVec 32 := Scalar.muli v624 c256_i32_316
  let v626 : BitVec 32 := Scalar.addi v622 v625
  let c1_i32_317 : BitVec 32 := 1#32
  let v627 : BitVec 32 := Scalar.shrsi v620 c1_i32_317
  let c1_i32_318 : BitVec 32 := 1#32
  let v628 : BitVec 32 := Scalar.andi v627 c1_i32_318
  let c128_i32_319 : BitVec 32 := 128#32
  let v629 : BitVec 32 := Scalar.muli v628 c128_i32_319
  let v630 : BitVec 32 := Scalar.addi v626 v629
  let v631 : BitVec 32 := v630
  let v1029 : Index := Scalar.indexCast v631
  let c1024_511 : Index := 1024#32
  ![v1029.toNat, 1024]
def k0_off69 (d0 : Dev nD) (c4_i32_310 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v619 : BitVec 32 := Scalar.xori v2 c4_i32_310
  let c2_i32_311 : BitVec 32 := 2#32
  let v620 : BitVec 32 := Scalar.xori v619 c2_i32_311
  let c1_i32_312 : BitVec 32 := 1#32
  let v621 : BitVec 32 := Scalar.andi v620 c1_i32_312
  let c512_i32_313 : BitVec 32 := 512#32
  let v622 : BitVec 32 := Scalar.muli v621 c512_i32_313
  let c2_i32_314 : BitVec 32 := 2#32
  let v623 : BitVec 32 := Scalar.shrsi v620 c2_i32_314
  let c1_i32_315 : BitVec 32 := 1#32
  let v624 : BitVec 32 := Scalar.andi v623 c1_i32_315
  let c256_i32_316 : BitVec 32 := 256#32
  let v625 : BitVec 32 := Scalar.muli v624 c256_i32_316
  let v626 : BitVec 32 := Scalar.addi v622 v625
  let c1_i32_317 : BitVec 32 := 1#32
  let v627 : BitVec 32 := Scalar.shrsi v620 c1_i32_317
  let c1_i32_318 : BitVec 32 := 1#32
  let v628 : BitVec 32 := Scalar.andi v627 c1_i32_318
  let c128_i32_319 : BitVec 32 := 128#32
  let v629 : BitVec 32 := Scalar.muli v628 c128_i32_319
  let v630 : BitVec 32 := Scalar.addi v626 v629
  let v631 : BitVec 32 := v630
  let v1033 : Index := Scalar.indexCast v631
  let c0_513 : Index := 0#32
  ![v1033.toNat, 0]
def k0_off70 (d0 : Dev nD) (c4_i32_310 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v619 : BitVec 32 := Scalar.xori v2 c4_i32_310
  let c2_i32_311 : BitVec 32 := 2#32
  let v620 : BitVec 32 := Scalar.xori v619 c2_i32_311
  let c1_i32_312 : BitVec 32 := 1#32
  let v621 : BitVec 32 := Scalar.andi v620 c1_i32_312
  let c512_i32_313 : BitVec 32 := 512#32
  let v622 : BitVec 32 := Scalar.muli v621 c512_i32_313
  let c2_i32_314 : BitVec 32 := 2#32
  let v623 : BitVec 32 := Scalar.shrsi v620 c2_i32_314
  let c1_i32_315 : BitVec 32 := 1#32
  let v624 : BitVec 32 := Scalar.andi v623 c1_i32_315
  let c256_i32_316 : BitVec 32 := 256#32
  let v625 : BitVec 32 := Scalar.muli v624 c256_i32_316
  let v626 : BitVec 32 := Scalar.addi v622 v625
  let c1_i32_317 : BitVec 32 := 1#32
  let v627 : BitVec 32 := Scalar.shrsi v620 c1_i32_317
  let c1_i32_318 : BitVec 32 := 1#32
  let v628 : BitVec 32 := Scalar.andi v627 c1_i32_318
  let c128_i32_319 : BitVec 32 := 128#32
  let v629 : BitVec 32 := Scalar.muli v628 c128_i32_319
  let v630 : BitVec 32 := Scalar.addi v626 v629
  let v631 : BitVec 32 := v630
  let v1044 : Index := Scalar.indexCast v631
  let c128_517 : Index := 128#32
  ![v1044.toNat, 128]
def k0_off71 (d0 : Dev nD) (c4_i32_310 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v619 : BitVec 32 := Scalar.xori v2 c4_i32_310
  let c2_i32_311 : BitVec 32 := 2#32
  let v620 : BitVec 32 := Scalar.xori v619 c2_i32_311
  let c1_i32_312 : BitVec 32 := 1#32
  let v621 : BitVec 32 := Scalar.andi v620 c1_i32_312
  let c512_i32_313 : BitVec 32 := 512#32
  let v622 : BitVec 32 := Scalar.muli v621 c512_i32_313
  let c2_i32_314 : BitVec 32 := 2#32
  let v623 : BitVec 32 := Scalar.shrsi v620 c2_i32_314
  let c1_i32_315 : BitVec 32 := 1#32
  let v624 : BitVec 32 := Scalar.andi v623 c1_i32_315
  let c256_i32_316 : BitVec 32 := 256#32
  let v625 : BitVec 32 := Scalar.muli v624 c256_i32_316
  let v626 : BitVec 32 := Scalar.addi v622 v625
  let c1_i32_317 : BitVec 32 := 1#32
  let v627 : BitVec 32 := Scalar.shrsi v620 c1_i32_317
  let c1_i32_318 : BitVec 32 := 1#32
  let v628 : BitVec 32 := Scalar.andi v627 c1_i32_318
  let c128_i32_319 : BitVec 32 := 128#32
  let v629 : BitVec 32 := Scalar.muli v628 c128_i32_319
  let v630 : BitVec 32 := Scalar.addi v626 v629
  let v631 : BitVec 32 := v630
  let v1055 : Index := Scalar.indexCast v631
  let c256_521 : Index := 256#32
  ![v1055.toNat, 256]
def k0_off72 (d0 : Dev nD) (c4_i32_310 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v619 : BitVec 32 := Scalar.xori v2 c4_i32_310
  let c2_i32_311 : BitVec 32 := 2#32
  let v620 : BitVec 32 := Scalar.xori v619 c2_i32_311
  let c1_i32_312 : BitVec 32 := 1#32
  let v621 : BitVec 32 := Scalar.andi v620 c1_i32_312
  let c512_i32_313 : BitVec 32 := 512#32
  let v622 : BitVec 32 := Scalar.muli v621 c512_i32_313
  let c2_i32_314 : BitVec 32 := 2#32
  let v623 : BitVec 32 := Scalar.shrsi v620 c2_i32_314
  let c1_i32_315 : BitVec 32 := 1#32
  let v624 : BitVec 32 := Scalar.andi v623 c1_i32_315
  let c256_i32_316 : BitVec 32 := 256#32
  let v625 : BitVec 32 := Scalar.muli v624 c256_i32_316
  let v626 : BitVec 32 := Scalar.addi v622 v625
  let c1_i32_317 : BitVec 32 := 1#32
  let v627 : BitVec 32 := Scalar.shrsi v620 c1_i32_317
  let c1_i32_318 : BitVec 32 := 1#32
  let v628 : BitVec 32 := Scalar.andi v627 c1_i32_318
  let c128_i32_319 : BitVec 32 := 128#32
  let v629 : BitVec 32 := Scalar.muli v628 c128_i32_319
  let v630 : BitVec 32 := Scalar.addi v626 v629
  let v631 : BitVec 32 := v630
  let v1066 : Index := Scalar.indexCast v631
  let c384_525 : Index := 384#32
  ![v1066.toNat, 384]
def k0_off73 (d0 : Dev nD) (c4_i32_310 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v619 : BitVec 32 := Scalar.xori v2 c4_i32_310
  let c2_i32_311 : BitVec 32 := 2#32
  let v620 : BitVec 32 := Scalar.xori v619 c2_i32_311
  let c1_i32_312 : BitVec 32 := 1#32
  let v621 : BitVec 32 := Scalar.andi v620 c1_i32_312
  let c512_i32_313 : BitVec 32 := 512#32
  let v622 : BitVec 32 := Scalar.muli v621 c512_i32_313
  let c2_i32_314 : BitVec 32 := 2#32
  let v623 : BitVec 32 := Scalar.shrsi v620 c2_i32_314
  let c1_i32_315 : BitVec 32 := 1#32
  let v624 : BitVec 32 := Scalar.andi v623 c1_i32_315
  let c256_i32_316 : BitVec 32 := 256#32
  let v625 : BitVec 32 := Scalar.muli v624 c256_i32_316
  let v626 : BitVec 32 := Scalar.addi v622 v625
  let c1_i32_317 : BitVec 32 := 1#32
  let v627 : BitVec 32 := Scalar.shrsi v620 c1_i32_317
  let c1_i32_318 : BitVec 32 := 1#32
  let v628 : BitVec 32 := Scalar.andi v627 c1_i32_318
  let c128_i32_319 : BitVec 32 := 128#32
  let v629 : BitVec 32 := Scalar.muli v628 c128_i32_319
  let v630 : BitVec 32 := Scalar.addi v626 v629
  let v631 : BitVec 32 := v630
  let v1077 : Index := Scalar.indexCast v631
  let c512_529 : Index := 512#32
  ![v1077.toNat, 512]
def k0_off74 (d0 : Dev nD) (c4_i32_310 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v619 : BitVec 32 := Scalar.xori v2 c4_i32_310
  let c2_i32_311 : BitVec 32 := 2#32
  let v620 : BitVec 32 := Scalar.xori v619 c2_i32_311
  let c1_i32_312 : BitVec 32 := 1#32
  let v621 : BitVec 32 := Scalar.andi v620 c1_i32_312
  let c512_i32_313 : BitVec 32 := 512#32
  let v622 : BitVec 32 := Scalar.muli v621 c512_i32_313
  let c2_i32_314 : BitVec 32 := 2#32
  let v623 : BitVec 32 := Scalar.shrsi v620 c2_i32_314
  let c1_i32_315 : BitVec 32 := 1#32
  let v624 : BitVec 32 := Scalar.andi v623 c1_i32_315
  let c256_i32_316 : BitVec 32 := 256#32
  let v625 : BitVec 32 := Scalar.muli v624 c256_i32_316
  let v626 : BitVec 32 := Scalar.addi v622 v625
  let c1_i32_317 : BitVec 32 := 1#32
  let v627 : BitVec 32 := Scalar.shrsi v620 c1_i32_317
  let c1_i32_318 : BitVec 32 := 1#32
  let v628 : BitVec 32 := Scalar.andi v627 c1_i32_318
  let c128_i32_319 : BitVec 32 := 128#32
  let v629 : BitVec 32 := Scalar.muli v628 c128_i32_319
  let v630 : BitVec 32 := Scalar.addi v626 v629
  let v631 : BitVec 32 := v630
  let v1088 : Index := Scalar.indexCast v631
  let c640_533 : Index := 640#32
  ![v1088.toNat, 640]
def k0_off75 (d0 : Dev nD) (c4_i32_310 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v619 : BitVec 32 := Scalar.xori v2 c4_i32_310
  let c2_i32_311 : BitVec 32 := 2#32
  let v620 : BitVec 32 := Scalar.xori v619 c2_i32_311
  let c1_i32_312 : BitVec 32 := 1#32
  let v621 : BitVec 32 := Scalar.andi v620 c1_i32_312
  let c512_i32_313 : BitVec 32 := 512#32
  let v622 : BitVec 32 := Scalar.muli v621 c512_i32_313
  let c2_i32_314 : BitVec 32 := 2#32
  let v623 : BitVec 32 := Scalar.shrsi v620 c2_i32_314
  let c1_i32_315 : BitVec 32 := 1#32
  let v624 : BitVec 32 := Scalar.andi v623 c1_i32_315
  let c256_i32_316 : BitVec 32 := 256#32
  let v625 : BitVec 32 := Scalar.muli v624 c256_i32_316
  let v626 : BitVec 32 := Scalar.addi v622 v625
  let c1_i32_317 : BitVec 32 := 1#32
  let v627 : BitVec 32 := Scalar.shrsi v620 c1_i32_317
  let c1_i32_318 : BitVec 32 := 1#32
  let v628 : BitVec 32 := Scalar.andi v627 c1_i32_318
  let c128_i32_319 : BitVec 32 := 128#32
  let v629 : BitVec 32 := Scalar.muli v628 c128_i32_319
  let v630 : BitVec 32 := Scalar.addi v626 v629
  let v631 : BitVec 32 := v630
  let v1099 : Index := Scalar.indexCast v631
  let c768_537 : Index := 768#32
  ![v1099.toNat, 768]
def k0_off76 (d0 : Dev nD) (c4_i32_310 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v619 : BitVec 32 := Scalar.xori v2 c4_i32_310
  let c2_i32_311 : BitVec 32 := 2#32
  let v620 : BitVec 32 := Scalar.xori v619 c2_i32_311
  let c1_i32_312 : BitVec 32 := 1#32
  let v621 : BitVec 32 := Scalar.andi v620 c1_i32_312
  let c512_i32_313 : BitVec 32 := 512#32
  let v622 : BitVec 32 := Scalar.muli v621 c512_i32_313
  let c2_i32_314 : BitVec 32 := 2#32
  let v623 : BitVec 32 := Scalar.shrsi v620 c2_i32_314
  let c1_i32_315 : BitVec 32 := 1#32
  let v624 : BitVec 32 := Scalar.andi v623 c1_i32_315
  let c256_i32_316 : BitVec 32 := 256#32
  let v625 : BitVec 32 := Scalar.muli v624 c256_i32_316
  let v626 : BitVec 32 := Scalar.addi v622 v625
  let c1_i32_317 : BitVec 32 := 1#32
  let v627 : BitVec 32 := Scalar.shrsi v620 c1_i32_317
  let c1_i32_318 : BitVec 32 := 1#32
  let v628 : BitVec 32 := Scalar.andi v627 c1_i32_318
  let c128_i32_319 : BitVec 32 := 128#32
  let v629 : BitVec 32 := Scalar.muli v628 c128_i32_319
  let v630 : BitVec 32 := Scalar.addi v626 v629
  let v631 : BitVec 32 := v630
  let v1110 : Index := Scalar.indexCast v631
  let c896_541 : Index := 896#32
  ![v1110.toNat, 896]
def k0_off77 (d0 : Dev nD) (c4_i32_310 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v619 : BitVec 32 := Scalar.xori v2 c4_i32_310
  let c2_i32_311 : BitVec 32 := 2#32
  let v620 : BitVec 32 := Scalar.xori v619 c2_i32_311
  let c1_i32_312 : BitVec 32 := 1#32
  let v621 : BitVec 32 := Scalar.andi v620 c1_i32_312
  let c512_i32_313 : BitVec 32 := 512#32
  let v622 : BitVec 32 := Scalar.muli v621 c512_i32_313
  let c2_i32_314 : BitVec 32 := 2#32
  let v623 : BitVec 32 := Scalar.shrsi v620 c2_i32_314
  let c1_i32_315 : BitVec 32 := 1#32
  let v624 : BitVec 32 := Scalar.andi v623 c1_i32_315
  let c256_i32_316 : BitVec 32 := 256#32
  let v625 : BitVec 32 := Scalar.muli v624 c256_i32_316
  let v626 : BitVec 32 := Scalar.addi v622 v625
  let c1_i32_317 : BitVec 32 := 1#32
  let v627 : BitVec 32 := Scalar.shrsi v620 c1_i32_317
  let c1_i32_318 : BitVec 32 := 1#32
  let v628 : BitVec 32 := Scalar.andi v627 c1_i32_318
  let c128_i32_319 : BitVec 32 := 128#32
  let v629 : BitVec 32 := Scalar.muli v628 c128_i32_319
  let v630 : BitVec 32 := Scalar.addi v626 v629
  let v631 : BitVec 32 := v630
  let v1121 : Index := Scalar.indexCast v631
  let c0_545 : Index := 0#32
  ![v1121.toNat, 0]
def k0_off78 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_339 : BitVec 32 := 1#32
  let v657 : BitVec 32 := Scalar.xori v2 c1_i32_339
  let c1_i32_340 : BitVec 32 := 1#32
  let v658 : BitVec 32 := Scalar.andi v657 c1_i32_340
  let c512_i32_341 : BitVec 32 := 512#32
  let v659 : BitVec 32 := Scalar.muli v658 c512_i32_341
  let c1_i32_344 : BitVec 32 := 1#32
  let c2_i32_342 : BitVec 32 := 2#32
  let v660 : BitVec 32 := Scalar.shrsi v657 c2_i32_342
  let c1_i32_343 : BitVec 32 := 1#32
  let v661 : BitVec 32 := Scalar.andi v660 c1_i32_343
  let v662 : BitVec 32 := Scalar.subi c1_i32_344 v661
  let c256_i32_345 : BitVec 32 := 256#32
  let v663 : BitVec 32 := Scalar.muli v662 c256_i32_345
  let v664 : BitVec 32 := Scalar.addi v659 v663
  let v665 : BitVec 32 := v664
  let c0_i32_629 : BitVec 32 := 0#32
  ![v665.toNat, 0]
def k0_off79 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_339 : BitVec 32 := 1#32
  let v657 : BitVec 32 := Scalar.xori v2 c1_i32_339
  let c1_i32_340 : BitVec 32 := 1#32
  let v658 : BitVec 32 := Scalar.andi v657 c1_i32_340
  let c512_i32_341 : BitVec 32 := 512#32
  let v659 : BitVec 32 := Scalar.muli v658 c512_i32_341
  let c1_i32_344 : BitVec 32 := 1#32
  let c2_i32_342 : BitVec 32 := 2#32
  let v660 : BitVec 32 := Scalar.shrsi v657 c2_i32_342
  let c1_i32_343 : BitVec 32 := 1#32
  let v661 : BitVec 32 := Scalar.andi v660 c1_i32_343
  let v662 : BitVec 32 := Scalar.subi c1_i32_344 v661
  let c256_i32_345 : BitVec 32 := 256#32
  let v663 : BitVec 32 := Scalar.muli v662 c256_i32_345
  let v664 : BitVec 32 := Scalar.addi v659 v663
  let v665 : BitVec 32 := v664
  let v1329 : Index := Scalar.indexCast v665
  let c1024_631 : Index := 1024#32
  ![v1329.toNat, 1024]
def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_339 : BitVec 32 := 1#32
  let v657 : BitVec 32 := Scalar.xori v2 c1_i32_339
  let c1_i32_340 : BitVec 32 := 1#32
  let v658 : BitVec 32 := Scalar.andi v657 c1_i32_340
  let c512_i32_341 : BitVec 32 := 512#32
  let v659 : BitVec 32 := Scalar.muli v658 c512_i32_341
  let c1_i32_344 : BitVec 32 := 1#32
  let c2_i32_342 : BitVec 32 := 2#32
  let v660 : BitVec 32 := Scalar.shrsi v657 c2_i32_342
  let c1_i32_343 : BitVec 32 := 1#32
  let v661 : BitVec 32 := Scalar.andi v660 c1_i32_343
  let v662 : BitVec 32 := Scalar.subi c1_i32_344 v661
  let c256_i32_345 : BitVec 32 := 256#32
  let v663 : BitVec 32 := Scalar.muli v662 c256_i32_345
  let v664 : BitVec 32 := Scalar.addi v659 v663
  let v665 : BitVec 32 := v664
  let v1333 : Index := Scalar.indexCast v665
  let c0_633 : Index := 0#32
  ![v1333.toNat, 0]
def k0_off81 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_339 : BitVec 32 := 1#32
  let v657 : BitVec 32 := Scalar.xori v2 c1_i32_339
  let c1_i32_340 : BitVec 32 := 1#32
  let v658 : BitVec 32 := Scalar.andi v657 c1_i32_340
  let c512_i32_341 : BitVec 32 := 512#32
  let v659 : BitVec 32 := Scalar.muli v658 c512_i32_341
  let c1_i32_344 : BitVec 32 := 1#32
  let c2_i32_342 : BitVec 32 := 2#32
  let v660 : BitVec 32 := Scalar.shrsi v657 c2_i32_342
  let c1_i32_343 : BitVec 32 := 1#32
  let v661 : BitVec 32 := Scalar.andi v660 c1_i32_343
  let v662 : BitVec 32 := Scalar.subi c1_i32_344 v661
  let c256_i32_345 : BitVec 32 := 256#32
  let v663 : BitVec 32 := Scalar.muli v662 c256_i32_345
  let v664 : BitVec 32 := Scalar.addi v659 v663
  let v665 : BitVec 32 := v664
  let v1344 : Index := Scalar.indexCast v665
  let c128_637 : Index := 128#32
  ![v1344.toNat, 128]
def k0_off82 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_339 : BitVec 32 := 1#32
  let v657 : BitVec 32 := Scalar.xori v2 c1_i32_339
  let c1_i32_340 : BitVec 32 := 1#32
  let v658 : BitVec 32 := Scalar.andi v657 c1_i32_340
  let c512_i32_341 : BitVec 32 := 512#32
  let v659 : BitVec 32 := Scalar.muli v658 c512_i32_341
  let c1_i32_344 : BitVec 32 := 1#32
  let c2_i32_342 : BitVec 32 := 2#32
  let v660 : BitVec 32 := Scalar.shrsi v657 c2_i32_342
  let c1_i32_343 : BitVec 32 := 1#32
  let v661 : BitVec 32 := Scalar.andi v660 c1_i32_343
  let v662 : BitVec 32 := Scalar.subi c1_i32_344 v661
  let c256_i32_345 : BitVec 32 := 256#32
  let v663 : BitVec 32 := Scalar.muli v662 c256_i32_345
  let v664 : BitVec 32 := Scalar.addi v659 v663
  let v665 : BitVec 32 := v664
  let v1355 : Index := Scalar.indexCast v665
  let c256_641 : Index := 256#32
  ![v1355.toNat, 256]
def k0_off83 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_339 : BitVec 32 := 1#32
  let v657 : BitVec 32 := Scalar.xori v2 c1_i32_339
  let c1_i32_340 : BitVec 32 := 1#32
  let v658 : BitVec 32 := Scalar.andi v657 c1_i32_340
  let c512_i32_341 : BitVec 32 := 512#32
  let v659 : BitVec 32 := Scalar.muli v658 c512_i32_341
  let c1_i32_344 : BitVec 32 := 1#32
  let c2_i32_342 : BitVec 32 := 2#32
  let v660 : BitVec 32 := Scalar.shrsi v657 c2_i32_342
  let c1_i32_343 : BitVec 32 := 1#32
  let v661 : BitVec 32 := Scalar.andi v660 c1_i32_343
  let v662 : BitVec 32 := Scalar.subi c1_i32_344 v661
  let c256_i32_345 : BitVec 32 := 256#32
  let v663 : BitVec 32 := Scalar.muli v662 c256_i32_345
  let v664 : BitVec 32 := Scalar.addi v659 v663
  let v665 : BitVec 32 := v664
  let v1366 : Index := Scalar.indexCast v665
  let c384_645 : Index := 384#32
  ![v1366.toNat, 384]
def k0_off84 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_339 : BitVec 32 := 1#32
  let v657 : BitVec 32 := Scalar.xori v2 c1_i32_339
  let c1_i32_340 : BitVec 32 := 1#32
  let v658 : BitVec 32 := Scalar.andi v657 c1_i32_340
  let c512_i32_341 : BitVec 32 := 512#32
  let v659 : BitVec 32 := Scalar.muli v658 c512_i32_341
  let c1_i32_344 : BitVec 32 := 1#32
  let c2_i32_342 : BitVec 32 := 2#32
  let v660 : BitVec 32 := Scalar.shrsi v657 c2_i32_342
  let c1_i32_343 : BitVec 32 := 1#32
  let v661 : BitVec 32 := Scalar.andi v660 c1_i32_343
  let v662 : BitVec 32 := Scalar.subi c1_i32_344 v661
  let c256_i32_345 : BitVec 32 := 256#32
  let v663 : BitVec 32 := Scalar.muli v662 c256_i32_345
  let v664 : BitVec 32 := Scalar.addi v659 v663
  let v665 : BitVec 32 := v664
  let v1377 : Index := Scalar.indexCast v665
  let c512_649 : Index := 512#32
  ![v1377.toNat, 512]
def k0_off85 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_339 : BitVec 32 := 1#32
  let v657 : BitVec 32 := Scalar.xori v2 c1_i32_339
  let c1_i32_340 : BitVec 32 := 1#32
  let v658 : BitVec 32 := Scalar.andi v657 c1_i32_340
  let c512_i32_341 : BitVec 32 := 512#32
  let v659 : BitVec 32 := Scalar.muli v658 c512_i32_341
  let c1_i32_344 : BitVec 32 := 1#32
  let c2_i32_342 : BitVec 32 := 2#32
  let v660 : BitVec 32 := Scalar.shrsi v657 c2_i32_342
  let c1_i32_343 : BitVec 32 := 1#32
  let v661 : BitVec 32 := Scalar.andi v660 c1_i32_343
  let v662 : BitVec 32 := Scalar.subi c1_i32_344 v661
  let c256_i32_345 : BitVec 32 := 256#32
  let v663 : BitVec 32 := Scalar.muli v662 c256_i32_345
  let v664 : BitVec 32 := Scalar.addi v659 v663
  let v665 : BitVec 32 := v664
  let v1388 : Index := Scalar.indexCast v665
  let c640_653 : Index := 640#32
  ![v1388.toNat, 640]
def k0_off86 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_339 : BitVec 32 := 1#32
  let v657 : BitVec 32 := Scalar.xori v2 c1_i32_339
  let c1_i32_340 : BitVec 32 := 1#32
  let v658 : BitVec 32 := Scalar.andi v657 c1_i32_340
  let c512_i32_341 : BitVec 32 := 512#32
  let v659 : BitVec 32 := Scalar.muli v658 c512_i32_341
  let c1_i32_344 : BitVec 32 := 1#32
  let c2_i32_342 : BitVec 32 := 2#32
  let v660 : BitVec 32 := Scalar.shrsi v657 c2_i32_342
  let c1_i32_343 : BitVec 32 := 1#32
  let v661 : BitVec 32 := Scalar.andi v660 c1_i32_343
  let v662 : BitVec 32 := Scalar.subi c1_i32_344 v661
  let c256_i32_345 : BitVec 32 := 256#32
  let v663 : BitVec 32 := Scalar.muli v662 c256_i32_345
  let v664 : BitVec 32 := Scalar.addi v659 v663
  let v665 : BitVec 32 := v664
  let v1399 : Index := Scalar.indexCast v665
  let c768_657 : Index := 768#32
  ![v1399.toNat, 768]
def k0_off87 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_339 : BitVec 32 := 1#32
  let v657 : BitVec 32 := Scalar.xori v2 c1_i32_339
  let c1_i32_340 : BitVec 32 := 1#32
  let v658 : BitVec 32 := Scalar.andi v657 c1_i32_340
  let c512_i32_341 : BitVec 32 := 512#32
  let v659 : BitVec 32 := Scalar.muli v658 c512_i32_341
  let c1_i32_344 : BitVec 32 := 1#32
  let c2_i32_342 : BitVec 32 := 2#32
  let v660 : BitVec 32 := Scalar.shrsi v657 c2_i32_342
  let c1_i32_343 : BitVec 32 := 1#32
  let v661 : BitVec 32 := Scalar.andi v660 c1_i32_343
  let v662 : BitVec 32 := Scalar.subi c1_i32_344 v661
  let c256_i32_345 : BitVec 32 := 256#32
  let v663 : BitVec 32 := Scalar.muli v662 c256_i32_345
  let v664 : BitVec 32 := Scalar.addi v659 v663
  let v665 : BitVec 32 := v664
  let v1410 : Index := Scalar.indexCast v665
  let c896_661 : Index := 896#32
  ![v1410.toNat, 896]
def k0_off88 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_339 : BitVec 32 := 1#32
  let v657 : BitVec 32 := Scalar.xori v2 c1_i32_339
  let c1_i32_340 : BitVec 32 := 1#32
  let v658 : BitVec 32 := Scalar.andi v657 c1_i32_340
  let c512_i32_341 : BitVec 32 := 512#32
  let v659 : BitVec 32 := Scalar.muli v658 c512_i32_341
  let c1_i32_344 : BitVec 32 := 1#32
  let c2_i32_342 : BitVec 32 := 2#32
  let v660 : BitVec 32 := Scalar.shrsi v657 c2_i32_342
  let c1_i32_343 : BitVec 32 := 1#32
  let v661 : BitVec 32 := Scalar.andi v660 c1_i32_343
  let v662 : BitVec 32 := Scalar.subi c1_i32_344 v661
  let c256_i32_345 : BitVec 32 := 256#32
  let v663 : BitVec 32 := Scalar.muli v662 c256_i32_345
  let v664 : BitVec 32 := Scalar.addi v659 v663
  let v665 : BitVec 32 := v664
  let v1421 : Index := Scalar.indexCast v665
  let c0_665 : Index := 0#32
  ![v1421.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x1024 : Shape := ⟨2, ![1024, 1024]⟩
abbrev S16384x1024 : Shape := ⟨2, ![16384, 1024]⟩
abbrev S1024x8x128 : Shape := ⟨3, ![1024, 8, 128]⟩
abbrev S16384x8x128 : Shape := ⟨3, ![16384, 8, 128]⟩
abbrev S1024 : Shape := ⟨1, ![1024]⟩
abbrev S_ : Shape := ⟨0, ![]⟩
abbrev S1024x1 : Shape := ⟨2, ![1024, 1]⟩
abbrev S16384 : Shape := ⟨1, ![16384]⟩
abbrev S1x16384 : Shape := ⟨2, ![1, 16384]⟩
abbrev S1024x16384 : Shape := ⟨2, ![1024, 16384]⟩
abbrev S8x1024x16384 : Shape := ⟨3, ![8, 1024, 16384]⟩
abbrev S1x1024x16384 : Shape := ⟨3, ![1, 1024, 16384]⟩
abbrev S8x1024 : Shape := ⟨2, ![8, 1024]⟩
abbrev S8x1024x1 : Shape := ⟨3, ![8, 1024, 1]⟩
abbrev S1x1024x1 : Shape := ⟨3, ![1, 1024, 1]⟩
abbrev S8x128x1024 : Shape := ⟨3, ![8, 128, 1024]⟩

abbrev nBuf : Space → Nat
  | .hbm => 130
  | .vmem => 0
  | .smem => 0
  | _ => 0

abbrev hbmTy0_0 (i : Nat) : BufTy := match i % 128 with
  | 0 => ⟨S1024x1024, .bf16⟩
  | 1 => ⟨S1024x1024, .bf16⟩
  | 2 => ⟨S16384x1024, .bf16⟩
  | 3 => ⟨S16384x1024, .bf16⟩
  | 4 => ⟨S1024x1024, .bf16⟩
  | 5 => ⟨S1024x1024, .f32⟩
  | 6 => ⟨S1024x1024, .bf16⟩
  | 7 => ⟨S1024x8x128, .bf16⟩
  | 8 => ⟨S16384x8x128, .bf16⟩
  | 9 => ⟨S16384x8x128, .bf16⟩
  | 10 => ⟨S1024, .i32⟩
  | 11 => ⟨S_, .i32⟩
  | 12 => ⟨S_, .i32⟩
  | 13 => ⟨S1024, .i32⟩
  | 14 => ⟨S1024, .i32⟩
  | 15 => ⟨S1024, .i32⟩
  | 16 => ⟨S_, .i32⟩
  | 17 => ⟨S1024, .i32⟩
  | 18 => ⟨S1024, .i1⟩
  | 19 => ⟨S1024, .i32⟩
  | 20 => ⟨S1024, .i32⟩
  | 21 => ⟨S_, .i32⟩
  | 22 => ⟨S1024, .i32⟩
  | 23 => ⟨S1024, .i1⟩
  | 24 => ⟨S1024, .i1⟩
  | 25 => ⟨S_, .i32⟩
  | 26 => ⟨S1024, .i32⟩
  | 27 => ⟨S1024, .i32⟩
  | 28 => ⟨S1024, .i32⟩
  | 29 => ⟨S1024x1, .i32⟩
  | 30 => ⟨S16384, .i32⟩
  | 31 => ⟨S_, .i32⟩
  | 32 => ⟨S_, .i32⟩
  | 33 => ⟨S16384, .i32⟩
  | 34 => ⟨S16384, .i32⟩
  | 35 => ⟨S16384, .i32⟩
  | 36 => ⟨S_, .i32⟩
  | 37 => ⟨S16384, .i32⟩
  | 38 => ⟨S16384, .i1⟩
  | 39 => ⟨S16384, .i32⟩
  | 40 => ⟨S16384, .i32⟩
  | 41 => ⟨S_, .i32⟩
  | 42 => ⟨S16384, .i32⟩
  | 43 => ⟨S16384, .i1⟩
  | 44 => ⟨S16384, .i1⟩
  | 45 => ⟨S_, .i32⟩
  | 46 => ⟨S16384, .i32⟩
  | 47 => ⟨S16384, .i32⟩
  | 48 => ⟨S16384, .i32⟩
  | 49 => ⟨S1x16384, .i32⟩
  | 50 => ⟨S1024x16384, .i32⟩
  | 51 => ⟨S1024x16384, .i32⟩
  | 52 => ⟨S1024x16384, .i1⟩
  | 53 => ⟨S_, .i32⟩
  | 54 => ⟨S1x16384, .i32⟩
  | 55 => ⟨S1x16384, .i1⟩
  | 56 => ⟨S1024x16384, .i1⟩
  | 57 => ⟨S1024x16384, .i1⟩
  | 58 => ⟨S1024x16384, .i32⟩
  | 59 => ⟨S1024x16384, .i32⟩
  | 60 => ⟨S1024x16384, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S1024x16384, .i32⟩
  | 68 => ⟨S1024x16384, .i32⟩
  | 69 => ⟨S_, .i32⟩
  | 70 => ⟨S1024x16384, .i32⟩
  | 71 => ⟨S1024x16384, .i1⟩
  | 72 => ⟨S_, .i32⟩
  | 73 => ⟨S1024x16384, .i32⟩
  | 74 => ⟨S1024x16384, .i1⟩
  | 75 => ⟨S_, .i32⟩
  | 76 => ⟨S_, .i1⟩
  | 77 => ⟨S1024x16384, .i1⟩
  | 78 => ⟨S1024x16384, .i1⟩
  | 79 => ⟨S1024x16384, .i1⟩
  | 80 => ⟨S1024x16384, .i32⟩
  | 81 => ⟨S1024x16384, .i32⟩
  | 82 => ⟨S1024x16384, .i32⟩
  | 83 => ⟨S_, .i32⟩
  | 84 => ⟨S1024x16384, .i32⟩
  | 85 => ⟨S1024x16384, .i1⟩
  | 86 => ⟨S1024x16384, .i1⟩
  | 87 => ⟨S8x1024x16384, .f32⟩
  | 88 => ⟨S8x1024x16384, .bf16⟩
  | 89 => ⟨S8x1024x16384, .f32⟩
  | 90 => ⟨S_, .f32⟩
  | 91 => ⟨S8x1024x16384, .f32⟩
  | 92 => ⟨S8x1024x16384, .f32⟩
  | 93 => ⟨S1x1024x16384, .i1⟩
  | 94 => ⟨S_, .f32⟩
  | 95 => ⟨S_, .f32⟩
  | 96 => ⟨S8x1024x16384, .i1⟩
  | 97 => ⟨S8x1024x16384, .f32⟩
  | 98 => ⟨S8x1024x16384, .f32⟩
  | 99 => ⟨S_, .f32⟩
  | 100 => ⟨S8x1024, .f32⟩
  | 101 => ⟨S8x1024x1, .f32⟩
  | 102 => ⟨S8x1024x16384, .f32⟩
  | 103 => ⟨S8x1024x16384, .f32⟩
  | 104 => ⟨S8x1024x16384, .f32⟩
  | 105 => ⟨S_, .i1⟩
  | 106 => ⟨S1024, .i1⟩
  | 107 => ⟨S1x1024x1, .i1⟩
  | 108 => ⟨S_, .f32⟩
  | 109 => ⟨S8x1024, .f32⟩
  | 110 => ⟨S8x1024x1, .f32⟩
  | 111 => ⟨S_, .f32⟩
  | 112 => ⟨S_, .f32⟩
  | 113 => ⟨S8x1024x1, .i1⟩
  | 114 => ⟨S8x1024x1, .f32⟩
  | 115 => ⟨S8x1024x1, .f32⟩
  | 116 => ⟨S8x1024x16384, .f32⟩
  | 117 => ⟨S8x1024x16384, .f32⟩
  | 118 => ⟨S1x1024x1, .i1⟩
  | 119 => ⟨S_, .f32⟩
  | 120 => ⟨S_, .f32⟩
  | 121 => ⟨S8x1024x16384, .i1⟩
  | 122 => ⟨S8x1024x16384, .f32⟩
  | 123 => ⟨S8x1024x16384, .f32⟩
  | 124 => ⟨S16384x8x128, .f32⟩
  | 125 => ⟨S8x128x1024, .f32⟩
  | 126 => ⟨S1024x8x128, .f32⟩
  | 127 => ⟨S1024x1024, .f32⟩
  | _ => ⟨S1024x1024, .bf16⟩

abbrev hbmTy0_1 (i : Nat) : BufTy := match i % 128 with
  | 0 => ⟨S1024x1024, .f32⟩
  | 1 => ⟨S1024x1024, .f32⟩
  | _ => ⟨S1024x1024, .bf16⟩

abbrev hbmTy (i : Nat) : BufTy := match i / 128 with
  | 0 => hbmTy0_0 i
  | 1 => hbmTy0_1 i
  | _ => ⟨S1024x1024, .bf16⟩

abbrev bufTy : (tb : Table) → Fin (tcTables nBuf tb) → BufTy
  | .hbm, ⟨i, _⟩ => hbmTy i
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_c_2 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v21 : Ref sig .tc := ⟨.hbm, 82, rfl⟩
abbrev main_c_3 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩

abbrev nD : Nat := 1
abbrev τ : Topo := Topo.v7x

variable {F : FTy → Type} [FloatOps F]
-- ==== Proof.KI.Sched.lean ====
/-
The protocol of the fused kernel's collectives, as a rounds schedule: who signals which semaphore, and what each
signal hands over. Devices are the 16 points of a 4-cube; `px m c` is the device whose number differs from `c`'s in
the bits of `m`.

* The barrier: each device signals its neighbours over the masks 1, 2, 4, 8; a signal hands the signaller's landing
  buffer for that mask.
* The reduce-scatter (masks 1, 4, 2) and the exchange over mask 8: a landing hands the receiver its landing buffer,
  written, and — for the reduce-scatter — the sender's source rows, which the receiver later fills in the all-gather.
* The all-gather: each landing hands rows of the receiver's gather buffer; each send returns the share of the rows it
  read.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties' names. -/
abbrev DN : Type := Fin 4
abbrev UB : Type := URounds (GSem nD τ sig) DN
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cube -/

/-- The device whose number differs from `c`'s in the bits of `m`. -/
def px (m : Fin 16) (c : Dev nD) : Dev nD := ⟨m.val ^^^ c.val, Nat.xor_lt_two_pow (n := 4) m.isLt c.isLt⟩

theorem px_px (m : Fin 16) (c : Dev nD) : px m (px m c) = c := Fin.ext (by
  show m.val ^^^ (m.val ^^^ c.val) = c.val
  rw [← Nat.xor_assoc, Nat.xor_self, Nat.zero_xor])
/-- `px m` as a permutation of the devices. -/
def pxE (m : Fin 16) : Dev nD ≃ Dev nD := ⟨px m, px m, px_px m, px_px m⟩

/-- The three low bits of a device's number. -/
def b0 (c : Dev nD) : ℕ := c.val % 2
def b1 (c : Dev nD) : ℕ := c.val / 2 % 2
def b2 (c : Dev nD) : ℕ := c.val / 4 % 2
/-- The first of the 128 rows that device `c` reduces. -/
def reg (c : Dev nD) : ℕ := b0 c * 512 + b2 c * 256 + b1 c * 128
/-- The rows a device sends in the three steps of the reduce-scatter. -/
def snd0 (c : Dev nD) : ℕ := (1 - b0 c) * 512
def kp0 (c : Dev nD) : ℕ := b0 c * 512
def snd1 (c : Dev nD) : ℕ := b0 c * 512 + (1 - b2 c) * 256
def kp1 (c : Dev nD) : ℕ := b0 c * 512 + b2 c * 256
def snd2 (c : Dev nD) : ℕ := b0 c * 512 + b2 c * 256 + (1 - b1 c) * 128

theorem dev1_eq (c : Dev nD) : (⟨k0_dev1 c, k0_dev1_lt c⟩ : Dev nD) = px 1 c := by revert c; decide +kernel
theorem dev2_eq (c : Dev nD) : (⟨k0_dev2 c, k0_dev2_lt c⟩ : Dev nD) = px 2 c := by revert c; decide +kernel
theorem dev3_eq (c : Dev nD) : (⟨k0_dev3 c, k0_dev3_lt c⟩ : Dev nD) = px 4 c := by revert c; decide +kernel
theorem dev4_eq (c : Dev nD) : (⟨k0_dev4 c, k0_dev4_lt c⟩ : Dev nD) = px 8 c := by revert c; decide +kernel
theorem dev5_eq (c : Dev nD) : (⟨k0_dev5 c, k0_dev5_lt c⟩ : Dev nD) = px 1 c := by revert c; decide +kernel
theorem dev6_eq (c : Dev nD) : (⟨k0_dev6 c, k0_dev6_lt c⟩ : Dev nD) = px 4 c := by revert c; decide +kernel
theorem dev7_eq (c : Dev nD) : (⟨k0_dev7 c, k0_dev7_lt c⟩ : Dev nD) = px 2 c := by revert c; decide +kernel
theorem dev8_eq (c : Dev nD) : (⟨k0_dev8 c, k0_dev8_lt c⟩ : Dev nD) = px 8 c := by revert c; decide +kernel
theorem dev9_eq (c : Dev nD) : (⟨k0_dev9 c, k0_dev9_lt c⟩ : Dev nD) = px 2 c := by revert c; decide +kernel
theorem dev10_eq (c : Dev nD) : (⟨k0_dev10 c, k0_dev10_lt c⟩ : Dev nD) = px 4 c := by revert c; decide +kernel
theorem dev11_eq (c : Dev nD) : (⟨k0_dev11 c, k0_dev11_lt c⟩ : Dev nD) = px 1 c := by revert c; decide +kernel
theorem dev12_eq (c : Dev nD) : (⟨k0_dev12 c, k0_dev12_lt c⟩ : Dev nD) = px 4 c := by revert c; decide +kernel
theorem dev13_eq (c : Dev nD) : (⟨k0_dev13 c, k0_dev13_lt c⟩ : Dev nD) = px 1 c := by revert c; decide +kernel
theorem dev14_eq (c : Dev nD) : (⟨k0_dev14 c, k0_dev14_lt c⟩ : Dev nD) = px 1 c := by revert c; decide +kernel
theorem dev15_eq (c : Dev nD) : (⟨k0_dev15 c, k0_dev15_lt c⟩ : Dev nD) = px 1 c := by revert c; decide +kernel

/-! ## The cells -/

abbrev barS : Sem sig := (SemArray.scalar (sig.barrier 0 rfl) : Sems sig S_).sem
/-- A device's cells: 0 the barrier, 1 the reduce-scatter's send semaphore, 2–8 the all-gather's send semaphores, 9–18
    the receive semaphores. -/
def csem (k : Fin 19) : SemLoc sig := if k.val = 0 then .reg barS else .dma ⟨k.val + 5, by have := k.isLt; show k.val + 5 < 24; omega⟩
/-- Which of a device's cells a semaphore is, if any. -/
def dec : SemLoc sig → Option (Fin 19)
  | .reg s => if s = barS then some 0 else none
  | .dma q => if h : 6 ≤ q.val then some ⟨q.val - 5, by have : q.val < 24 := q.isLt; omega⟩ else none
theorem dec_csem (k : Fin 19) : dec (csem k) = some k := by revert k; decide
theorem csem_inj {k k' : Fin 19} (h : csem k = csem k') : k = k' := Option.some.inj ((dec_csem k).symm.trans ((congrArg dec h).trans (dec_csem k')))
abbrev kcell (c : Dev nD) (k : Fin 19) : GSem nD τ sig := ((c : Thread nD τ), csem k)

/-- The buffers. -/
abbrev abM : Memref sig .tc .vmem S1024x1152 .bf16 := Memref.whole cc0_scratch2
abbrev l0M : Memref sig .tc .vmem S512x1152 .bf16 := Memref.whole cc0_scratch3
abbrev l1M : Memref sig .tc .vmem S256x1152 .bf16 := Memref.whole cc0_scratch4
abbrev l2M : Memref sig .tc .vmem S128x1152 .bf16 := Memref.whole cc0_scratch5
abbrev l3M : Memref sig .tc .vmem S128x1152 .bf16 := Memref.whole cc0_scratch6

abbrev n512 : ℕ := (l0M : Memref sig .tc .vmem S512x1152 .bf16).view.dmaCredit
abbrev n256 : ℕ := (l1M : Memref sig .tc .vmem S256x1152 .bf16).view.dmaCredit
abbrev n128 : ℕ := (l2M : Memref sig .tc .vmem S128x1152 .bf16).view.dmaCredit
theorem n512_pos : 0 < n512 := View.dmaCredit_pos _ (by decide)
theorem n256_pos : 0 < n256 := View.dmaCredit_pos _ (by decide)
theorem n128_pos : 0 < n128 := View.dmaCredit_pos _ (by decide)
theorem n256_eq : n256 = n128 + n128 := rfl

/-! ## The rows of the gather buffer -/

/-- The indices of the `n` rows from row `a`. -/
def rows (a n : ℕ) : Finset S1024x1152.Idx := Finset.univ.filter fun i => a ≤ (i 0).val ∧ (i 0).val < a + n
theorem mem_rows {a n : ℕ} {i : S1024x1152.Idx} : i ∈ rows a n ↔ a ≤ (i 0).val ∧ (i 0).val < a + n := by
  unfold rows; rw [Finset.mem_filter]; exact ⟨fun h => h.2, fun h => ⟨Finset.mem_univ _, h⟩⟩

/-- The device of `c`'s half-cube that reduces the 128-row block `k`. -/
def own (c : Dev nD) (k : ℕ) : Dev nD :=
  ⟨c.val / 8 * 8 + (k / 4 % 2 + 2 * (k % 2) + 4 * (k / 2 % 2)), by have : c.val < 16 := c.isLt; show _ < 16; omega⟩

/-- The index of an array of two axes at row `i`, column `j`. -/
def ix2 {n m : ℕ} (i : Fin n) (j : Fin m) : (⟨2, ![n, m]⟩ : Shape).Idx := fun a => match a with | 0 => i | 1 => j
theorem ix2_eta {n m : ℕ} (i : (⟨2, ![n, m]⟩ : Shape).Idx) : ix2 (i 0) (i 1) = i := funext fun a => by fin_cases a <;> rfl

/-- What the landing buffers receive on each device, and each device's reduced block. -/
structure Vals (F : FTy → Type) where
  l0 : Dev nD → S512x1152.Idx → Elt F .bf16
  l1 : Dev nD → S256x1152.Idx → Elt F .bf16
  l2 : Dev nD → S128x1152.Idx → Elt F .bf16
  l3 : Dev nD → S128x1152.Idx → Elt F .bf16
  fin : Dev nD → S128x1152.Idx → Elt F .bf16

/-- The gathered buffer of device `c`: row `r` is row `r % 128` of the block the device of `c`'s half-cube at `r / 128` reduced. -/
def Vals.ab (V : Vals F) (c : Dev nD) : S1024x1152.Idx → Elt F .bf16 :=
  fun i => V.fin (own c ((i 0).val / 128)) (ix2 ⟨(i 0).val % 128, Nat.mod_lt _ (by decide)⟩ (i 1))

variable (V : Vals F)

/-- Device `c`'s gather buffer on the rows `S`. -/
def abP (c : Dev nD) (S : Finset S1024x1152.Idx) (q : PosShare TreeShare) (f : S1024x1152.Idx → Elt F .bf16) : sProp 𝕄 :=
  ((c : Thread nD τ).loc cc0_scratch2) ↦[S]{q} f
def l0P (c : Dev nD) (f : S512x1152.Idx → Elt F .bf16) : sProp 𝕄 := ((c : Thread nD τ).loc cc0_scratch3) ↦{fullShare} f
def l1P (c : Dev nD) (f : S256x1152.Idx → Elt F .bf16) : sProp 𝕄 := ((c : Thread nD τ).loc cc0_scratch4) ↦{fullShare} f
def l2P (c : Dev nD) (f : S128x1152.Idx → Elt F .bf16) : sProp 𝕄 := ((c : Thread nD τ).loc cc0_scratch5) ↦{fullShare} f
def l3P (c : Dev nD) (f : S128x1152.Idx → Elt F .bf16) : sProp 𝕄 := ((c : Thread nD τ).loc cc0_scratch6) ↦{fullShare} f

/-! ## The schedule -/

abbrev qA : PosShare TreeShare := fullShare.left
abbrev qB : PosShare TreeShare := fullShare.right.left
abbrev qC : PosShare TreeShare := fullShare.right.right.left

/-- The rounds of each cell and their duties. -/
def dutiesK (k : Fin 19) (r : ℕ) : Finset DN :=
  if r = 0 then (if k = 0 then Finset.univ else if k = 18 then {0, 1} else {0}) else if k = 1 ∧ r < 4 then {0} else ∅
/-- The units of each duty. -/
def amountK (k : Fin 19) (r : ℕ) : ℕ :=
  if k = 0 then 1 else if (k = 1 ∧ r = 0) ∨ k = 9 then n512 else if (k = 1 ∧ r = 1) ∨ k = 10 then n256 else n128

/-- What each duty hands over. -/
def payK (c : Dev nD) (k : Fin 19) (r : ℕ) (d : DN) : sProp 𝕄 :=
  match k.val with
  | 0 => match d with
    | 0 => iprop(∃ f, l0P (px 1 c) f)
    | 1 => iprop(∃ f, l2P (px 2 c) f)
    | 2 => iprop(∃ f, l1P (px 4 c) f)
    | 3 => iprop(∃ f, l3P (px 8 c) f)
  | 1 => if r = 3 then iprop(∃ f, abP c (rows (reg c) 128) fullShare f) else iprop(emp)
  | 2 => abP c (rows (reg c) 128) qA (V.ab c)
  | 3 => abP c (rows (reg c) 128) qB (V.ab c)
  | 4 => abP c (rows (reg c) 128) qC (V.ab c)
  | 5 => abP c (rows (reg (px 2 c)) 128) qA (V.ab c)
  | 6 => abP c (rows (reg (px 2 c)) 128) qB (V.ab c)
  | 7 => abP c (rows (reg (px 4 c)) 128) qA (V.ab c)
  | 8 => abP c (rows (reg (px 6 c)) 128) qA (V.ab c)
  | 9 => iprop(l0P c (V.l0 c) ∗ ∃ f, abP (px 1 c) (rows (kp0 c) 512) fullShare f)
  | 10 => iprop(l1P c (V.l1 c) ∗ ∃ f, abP (px 4 c) (rows (kp1 c) 256) fullShare f)
  | 11 => iprop(l2P c (V.l2 c) ∗ ∃ f, abP (px 2 c) (rows (reg c) 128) fullShare f)
  | 12 => l3P c (V.l3 c)
  | 13 => abP c (rows (reg (px 2 c)) 128) fullShare (V.ab c)
  | 14 => abP c (rows (reg (px 4 c)) 128) fullShare (V.ab c)
  | 15 => abP c (rows (reg (px 6 c)) 128) fullShare (V.ab c)
  | 16 => abP c (rows (reg (px 1 c)) 128) fullShare (V.ab c)
  | 17 => abP c (rows (reg (px 3 c)) 128) fullShare (V.ab c)
  | _ => if d = 0 then abP c (rows (reg (px 5 c)) 128) fullShare (V.ab c) else abP c (rows (reg (px 7 c)) 128) fullShare (V.ab c)

omit [FloatOps F] in
instance payK_storable (c : Dev nD) (k : Fin 19) (r : ℕ) (d : DN) : BI.Storable (upEmb : UEmb _ 𝕄) (payK V c k r d) := by
  unfold payK abP l0P l1P l2P l3P
  (repeat' split) <;> infer_instance

/-- The schedule. -/
def Rd : Rounds.Schedule (GSem nD τ sig) DN 𝕄 where
  duties g r := match dec g.2 with
    | some k => if g.1.2 = .tc then dutiesK k r else ∅
    | none => ∅
  unitless _ := False
  amount g r _ := match dec g.2 with
    | some k => amountK k r
    | none => 1
  payload g r d := match dec g.2 with
    | some k => payK V g.1.1 k r d
    | none => iprop(emp)
  amount_pos g r d _ := by
    split
    · unfold amountK
      (repeat' split)
      exacts [Nat.one_pos, n512_pos, n256_pos, n128_pos]
    · exact Nat.one_pos

omit [FloatOps F] in
instance Rd_payload_storable (g : GSem nD τ sig) (r : ℕ) (d : DN) : BI.Storable (upEmb : UEmb _ 𝕄) ((Rd V).payload g r d) := by
  show BI.Storable upEmb (match dec g.2 with | some k => payK V g.1.1 k r d | none => iprop(emp))
  split <;> infer_instance

section Tables
variable (c : Dev nD) (k : Fin 19) (r : ℕ) (d : DN)
omit [FloatOps F] in
theorem duties_k : (Rd V).duties (kcell c k) r = dutiesK k r := by dsimp only [Rd]; rw [dec_csem]; exact if_pos rfl
omit [FloatOps F] in
theorem amount_k : (Rd V).amount (kcell c k) r d = amountK k r := by dsimp only [Rd]; rw [dec_csem]
omit [FloatOps F] in
theorem payload_k : (Rd V).payload (kcell c k) r d = payK V c k r d := by dsimp only [Rd]; rw [dec_csem]
omit [FloatOps F] in
theorem expect_k : (Rd V).expect (kcell c k) r = (dutiesK k r).card * amountK k r := by
  unfold Schedule.expect Schedule.amountOf
  rw [duties_k, Finset.sum_congr rfl fun d _ => amount_k V c k r d, Finset.sum_const, smul_eq_mul]
omit [FloatOps F] in
/-- The payloads of a round none of whose duties is taken. -/
theorem rest_k : bigSep ((Rd V).duties (kcell c k) r \ ∅) (fun d => (Rd V).payload (kcell c k) r d) = bigSep (dutiesK k r) (fun d => payK V c k r d) := by
  rw [Finset.sdiff_empty, duties_k]
  exact congrArg _ (funext fun d => payload_k V c k r d)
omit [FloatOps F] in
theorem duties_later : ∀ r, (if k = 1 then 4 else 1) ≤ r → (Rd V).duties (kcell c k) r = ∅ := by
  intro r hr
  rw [duties_k]; unfold dutiesK
  split at hr
  · rw [if_neg (by omega), if_neg (fun h => by omega)]
  · rename_i h; rw [if_neg (by omega), if_neg (fun h' => h h'.1)]
end Tables

/-! ## What is owed, and the levels -/

/-- The payments to other devices' cells in program order: the mask, the cell, the units. -/
def pays : List (Fin 16 × Fin 19 × ℕ) :=
  [(1, 0, 1), (2, 0, 1), (4, 0, 1), (8, 0, 1), (1, 9, n512), (4, 10, n256), (2, 11, n128), (8, 12, n128),
   (2, 13, n128), (4, 14, n128), (1, 16, n128), (4, 15, n128), (1, 17, n128), (1, 18, n128), (1, 18, n128)]

/-- What device `c` owes when the payments `l` are outstanding. -/
def Ow (c : Dev nD) : List (Fin 16 × Fin 19 × ℕ) → CellTallies nD τ sig Unit
  | [] => 0
  | e :: l => Ow c l + tallyAt (kcell (px e.1 c) e.2.1) () e.2.2

def O₀ (c : Dev nD) : CellTallies nD τ sig Unit := Ow c pays

def L (g : GSem nD τ sig) : Finset Unit := if g.1.2 = .tc then {()} else ∅
/-- The level of each cell: the barrier 1, the receive cells 2 and up in the order they are waited for, the rest 0. -/
def lvK (k : Fin 19) : ℕ := if k = 0 then 1 else k.val - 7
def lv (g : GSem nD τ sig) (_ : Unit) : ℕ := match dec g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Fin 19) : lv (kcell c k) () = lvK k := by unfold lv; rw [dec_csem]

theorem Ow_pos {c : Dev nD} {l : List (Fin 16 × Fin 19 × ℕ)} {g : GSem nD τ sig} {u : Unit} (h : 0 < Ow c l g u) :
    ∃ e ∈ l, g = kcell (px e.1 c) e.2.1 := by
  induction l with
  | nil => exact absurd h (Nat.lt_irrefl 0)
  | cons e l ih =>
    rw [Ow, Pi.add_apply, Finsupp.add_apply, tallyAt_apply] at h
    by_cases hg : g = kcell (px e.1 c) e.2.1 ∧ u = ()
    · exact ⟨e, List.mem_cons_self, hg.1⟩
    · rw [if_neg hg, Nat.add_zero] at h
      obtain ⟨e', he', h'⟩ := ih h
      exact ⟨e', List.mem_cons_of_mem _ he', h'⟩

omit [FloatOps F] in
/-- A device may wait on a cell of level at most `n` while every outstanding payment is to a cell above `n`. -/
theorem mayWait_of (c : Dev nD) (sm : SemLoc sig) (n : ℕ) (hn : lv ((c : Thread nD τ), sm) () ≤ n) (l : List (Fin 16 × Fin 19 × ℕ)) (hl : ∀ e ∈ l, n < lvK e.2.1) :
    (levAts L lv : sProp 𝕄) ⊢ MayWait (c : Thread nD τ) sm () (Ow c l) :=
  MayOwe.of_cut (L := L) (lev := lv) n (fun p hp => by rw [Finset.mem_singleton.mp hp, L_tc]; exact Finset.mem_singleton_self _)
    (fun g u hg => by obtain ⟨e, _, rfl⟩ := Ow_pos hg; rw [L_tc]; exact Finset.mem_singleton_self _)
    (fun p hp => by rw [Finset.mem_singleton.mp hp]; exact hn)
    (fun g u hg => by obtain ⟨e, he, rfl⟩ := Ow_pos hg; exact lt_of_lt_of_eq (hl e he) (lv_k _ _).symm)

end Cert.KernelIdealProof
-- ==== Proof.KI.Geom.lean ====
/-
Rectangles of the kernel's buffers: what a load of a rectangle reads (`subA`), what a store of one leaves (`putA`), and
which rows of the gather buffer a rectangle touches.
-/
module

public import proofs.«01_k».proof.Proof.KI.Sched

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The `n × m` rectangle of `f` at row `a`, column `b`. -/
def subA {α : Type} {N M : ℕ} [NeZero N] [NeZero M] (n m a b : ℕ) (f : (⟨2, ![N, M]⟩ : Shape).Idx → α) : (⟨2, ![n, m]⟩ : Shape).Idx → α :=
  fun i => f (ix2 (Fin.ofNat N (a + (i 0).val)) (Fin.ofNat M (b + (i 1).val)))

/-- `f` with its `n × m` rectangle at row `a`, column `b` replaced by `v`. -/
def putA {α : Type} {N M n m : ℕ} (a b : ℕ) (f : (⟨2, ![N, M]⟩ : Shape).Idx → α) (v : (⟨2, ![n, m]⟩ : Shape).Idx → α) : (⟨2, ![N, M]⟩ : Shape).Idx → α :=
  fun i => if h : (a ≤ (i 0).val ∧ (i 0).val < a + n) ∧ (b ≤ (i 1).val ∧ (i 1).val < b + m) then
    v (ix2 ⟨(i 0).val - a, by omega⟩ ⟨(i 1).val - b, by omega⟩) else f i

abbrev acM : Memref sig .tc .vmem S1024x1152 .f32 := Memref.whole cc0_scratch1
abbrev qM : Memref sig .tc .vmem S1024x1024 .bf16 := Memref.whole cc0_scratch0
abbrev xM : Memref sig .tc .vmem S1024x1024 .bf16 := Memref.whole cc0_stg0_0
abbrev wqM : Memref sig .tc .vmem S1024x1024 .bf16 := Memref.whole cc0_stg1_0
abbrev kM : Memref sig .tc .vmem S1024x1024 .bf16 := Memref.whole cc0_stg2_0
abbrev vM : Memref sig .tc .vmem S1024x1024 .bf16 := Memref.whole cc0_stg3_0
abbrev woM : Memref sig .tc .vmem S1024x1024 .bf16 := Memref.whole cc0_stg4_0
abbrev oM : Memref sig .tc .vmem S1024x1024 .f32 := Memref.whole cc0_stg5_0

/-- Where a unit-stride rectangle's index lands, as a `subA` index. -/
theorem emb_eq {N M n m : ℕ} [NeZero N] [NeZero M] {off : Fin 2 → ℕ} {a b : ℕ} (h : off = ![a, b])
    (inb : ∀ x, off x + (⟨2, ![n, m]⟩ : Shape).size x ≤ (⟨2, ![N, M]⟩ : Shape).size x) (j : (⟨2, ![n, m]⟩ : Shape).Idx) :
    (Rect.unit (s := ⟨2, ![N, M]⟩) off (⟨2, ![n, m]⟩ : Shape).size inb).emb j = ix2 (Fin.ofNat N (a + (j 0).val)) (Fin.ofNat M (b + (j 1).val)) := by
  subst h
  have h0 : a + n ≤ N := inb 0
  have h1 : b + m ≤ M := inb 1
  have j0 : (j 0).val < n := (j 0).isLt
  have j1 : (j 1).val < m := (j 1).isLt
  funext x
  apply Fin.ext
  rw [Rect.emb_apply]
  fin_cases x
  · show a + 1 * (j 0).val = (a + (j 0).val) % N
    rw [Nat.mod_eq_of_lt (by omega), Nat.one_mul]
  · show b + 1 * (j 1).val = (b + (j 1).val) % M
    rw [Nat.mod_eq_of_lt (by omega), Nat.one_mul]

/-- The indices a rectangle touches. -/
theorem mem_unit {N M n m : ℕ} {off : Fin 2 → ℕ} {a b : ℕ} (h : off = ![a, b])
    (inb : ∀ x, off x + (⟨2, ![n, m]⟩ : Shape).size x ≤ (⟨2, ![N, M]⟩ : Shape).size x) (i : (⟨2, ![N, M]⟩ : Shape).Idx) :
    i ∈ (Rect.unit (s := ⟨2, ![N, M]⟩) off (⟨2, ![n, m]⟩ : Shape).size inb).set ↔ (a ≤ (i 0).val ∧ (i 0).val < a + n) ∧ (b ≤ (i 1).val ∧ (i 1).val < b + m) := by
  subst h
  rw [Rect.mem_set_unit]
  exact ⟨fun h => ⟨h 0, h 1⟩, fun h x => by fin_cases x; exacts [h.1, h.2]⟩

section Reads
variable {n m : ℕ} {off : Fin 2 → ℕ} {a b : ℕ} (h : off = ![a, b])
include h
omit [FloatOps F]

theorem rd_q {inb : ∀ x, off x + (⟨2, ![n, m]⟩ : Shape).size x ≤ S1024x1024.size x} (f : S1024x1024.Idx → Elt F .bf16) :
    (qM : Memref sig .tc .vmem S1024x1024 .bf16).view.readAt (Elt F) (Rect.unit (s := S1024x1024) off (⟨2, ![n, m]⟩ : Shape).size inb).toLoadRect f = subA n m a b f :=
  funext fun j => congrArg f (emb_eq h inb j)
theorem rd_k {inb : ∀ x, off x + (⟨2, ![n, m]⟩ : Shape).size x ≤ S1024x1024.size x} (f : S1024x1024.Idx → Elt F .bf16) :
    (kM : Memref sig .tc .vmem S1024x1024 .bf16).view.readAt (Elt F) (Rect.unit (s := S1024x1024) off (⟨2, ![n, m]⟩ : Shape).size inb).toLoadRect f = subA n m a b f :=
  funext fun j => congrArg f (emb_eq h inb j)
theorem rd_v {inb : ∀ x, off x + (⟨2, ![n, m]⟩ : Shape).size x ≤ S1024x1024.size x} (f : S1024x1024.Idx → Elt F .bf16) :
    (vM : Memref sig .tc .vmem S1024x1024 .bf16).view.readAt (Elt F) (Rect.unit (s := S1024x1024) off (⟨2, ![n, m]⟩ : Shape).size inb).toLoadRect f = subA n m a b f :=
  funext fun j => congrArg f (emb_eq h inb j)
theorem rd_wo {inb : ∀ x, off x + (⟨2, ![n, m]⟩ : Shape).size x ≤ S1024x1024.size x} (f : S1024x1024.Idx → Elt F .bf16) :
    (woM : Memref sig .tc .vmem S1024x1024 .bf16).view.readAt (Elt F) (Rect.unit (s := S1024x1024) off (⟨2, ![n, m]⟩ : Shape).size inb).toLoadRect f = subA n m a b f :=
  funext fun j => congrArg f (emb_eq h inb j)
theorem rd_ac {inb : ∀ x, off x + (⟨2, ![n, m]⟩ : Shape).size x ≤ S1024x1152.size x} (f : S1024x1152.Idx → Elt F .f32) :
    (acM : Memref sig .tc .vmem S1024x1152 .f32).view.readAt (Elt F) (Rect.unit (s := S1024x1152) off (⟨2, ![n, m]⟩ : Shape).size inb).toLoadRect f = subA n m a b f :=
  funext fun j => congrArg f (emb_eq h inb j)
theorem rd_ab {inb : ∀ x, off x + (⟨2, ![n, m]⟩ : Shape).size x ≤ S1024x1152.size x} (f : S1024x1152.Idx → Elt F .bf16) :
    (abM : Memref sig .tc .vmem S1024x1152 .bf16).view.readAt (Elt F) (Rect.unit (s := S1024x1152) off (⟨2, ![n, m]⟩ : Shape).size inb).toLoadRect f = subA n m a b f :=
  funext fun j => congrArg f (emb_eq h inb j)
/-- A slice of the gather buffer reads its rows. -/
theorem rd_abs {inb : ∀ x, off x + (⟨2, ![n, m]⟩ : Shape).size x ≤ S1024x1152.size x} {hs} (f : S1024x1152.Idx → Elt F .bf16) :
    ((abM : Memref sig .tc .vmem S1024x1152 .bf16).slice (Rect.unit (s := S1024x1152) off (⟨2, ![n, m]⟩ : Shape).size inb) hs).view.read (Elt F) f = subA n m a b f :=
  funext fun j => congrArg f (emb_eq h inb j)

/-- A store through a rectangle of a whole buffer of two axes. -/
theorem put_apply {α : Type} {N M : ℕ} [NeZero N] [NeZero M] (inb : ∀ x, off x + (⟨2, ![n, m]⟩ : Shape).size x ≤ (⟨2, ![N, M]⟩ : Shape).size x)
    (f g : (⟨2, ![N, M]⟩ : Shape).Idx → α) (w : (⟨2, ![n, m]⟩ : Shape).Idx → α)
    (hin : ∀ j, g ((Rect.unit (s := ⟨2, ![N, M]⟩) off (⟨2, ![n, m]⟩ : Shape).size inb).emb j) = w j)
    (hout : ∀ i, i ∉ (Rect.unit (s := ⟨2, ![N, M]⟩) off (⟨2, ![n, m]⟩ : Shape).size inb).set → g i = f i) : g = putA a b f w := by
  have h0 : a + n ≤ N := by have := inb 0; rw [h] at this; exact this
  have h1 : b + m ≤ M := by have := inb 1; rw [h] at this; exact this
  funext i
  unfold putA
  split
  · rename_i hi
    rw [← hin, emb_eq h inb]
    congr 1
    funext x
    apply Fin.ext
    fin_cases x
    · show (i 0).val = (a + ((i 0).val - a)) % N
      rw [Nat.mod_eq_of_lt (by omega)]; omega
    · show (i 1).val = (b + ((i 1).val - b)) % M
      rw [Nat.mod_eq_of_lt (by omega)]; omega
  · rename_i hi
    exact hout i fun hm => hi ((mem_unit h inb i).mp hm)

theorem wr_ac {inb : ∀ x, off x + (⟨2, ![n, m]⟩ : Shape).size x ≤ S1024x1152.size x} (f : S1024x1152.Idx → Elt F .f32) (w : (⟨2, ![n, m]⟩ : Shape).Idx → Elt F .f32) :
    ((acM : Memref sig .tc .vmem S1024x1152 .f32).access (Rect.unit (s := S1024x1152) off (⟨2, ![n, m]⟩ : Shape).size inb)).write (Elt F) f w Finset.univ = putA a b f w :=
  put_apply h inb f _ w (fun j => View.write_emb_of_mem (v := (acM : Memref sig .tc .vmem S1024x1152 .f32).access (Rect.unit (s := S1024x1152) off (⟨2, ![n, m]⟩ : Shape).size inb)) f w (Finset.mem_univ j))
    fun i hi => View.write_of_not_mem _ _ _ (by rw [View.setOn_univ]; intro hm; exact hi (by rwa [show ((acM : Memref sig .tc .vmem S1024x1152 .f32).access (Rect.unit (s := S1024x1152) off (⟨2, ![n, m]⟩ : Shape).size inb)).set = _ from View.set_slice_whole _ _] at hm))
theorem wr_ab {inb : ∀ x, off x + (⟨2, ![n, m]⟩ : Shape).size x ≤ S1024x1152.size x} (f : S1024x1152.Idx → Elt F .bf16) (w : (⟨2, ![n, m]⟩ : Shape).Idx → Elt F .bf16) :
    ((abM : Memref sig .tc .vmem S1024x1152 .bf16).access (Rect.unit (s := S1024x1152) off (⟨2, ![n, m]⟩ : Shape).size inb)).write (Elt F) f w Finset.univ = putA a b f w :=
  put_apply h inb f _ w (fun j => View.write_emb_of_mem (v := (abM : Memref sig .tc .vmem S1024x1152 .bf16).access (Rect.unit (s := S1024x1152) off (⟨2, ![n, m]⟩ : Shape).size inb)) f w (Finset.mem_univ j))
    fun i hi => View.write_of_not_mem _ _ _ (by rw [View.setOn_univ]; intro hm; exact hi (by rwa [show ((abM : Memref sig .tc .vmem S1024x1152 .bf16).access (Rect.unit (s := S1024x1152) off (⟨2, ![n, m]⟩ : Shape).size inb)).set = _ from View.set_slice_whole _ _] at hm))
theorem wr_o {inb : ∀ x, off x + (⟨2, ![n, m]⟩ : Shape).size x ≤ S1024x1024.size x} (f : S1024x1024.Idx → Elt F .f32) (w : (⟨2, ![n, m]⟩ : Shape).Idx → Elt F .f32) :
    ((oM : Memref sig .tc .vmem S1024x1024 .f32).access (Rect.unit (s := S1024x1024) off (⟨2, ![n, m]⟩ : Shape).size inb)).write (Elt F) f w Finset.univ = putA a b f w :=
  put_apply h inb f _ w (fun j => View.write_emb_of_mem (v := (oM : Memref sig .tc .vmem S1024x1024 .f32).access (Rect.unit (s := S1024x1024) off (⟨2, ![n, m]⟩ : Shape).size inb)) f w (Finset.mem_univ j))
    fun i hi => View.write_of_not_mem _ _ _ (by rw [View.setOn_univ]; intro hm; exact hi (by rwa [show ((oM : Memref sig .tc .vmem S1024x1024 .f32).access (Rect.unit (s := S1024x1024) off (⟨2, ![n, m]⟩ : Shape).size inb)).set = _ from View.set_slice_whole _ _] at hm))
/-- A transfer into a slice of the gather buffer. -/
theorem wr_abs {inb : ∀ x, off x + (⟨2, ![n, m]⟩ : Shape).size x ≤ S1024x1152.size x} {hs} (f : S1024x1152.Idx → Elt F .bf16) (w : (⟨2, ![n, m]⟩ : Shape).Idx → Elt F .bf16) :
    ((abM : Memref sig .tc .vmem S1024x1152 .bf16).slice (Rect.unit (s := S1024x1152) off (⟨2, ![n, m]⟩ : Shape).size inb) hs).view.write (Elt F) f w Finset.univ = putA a b f w :=
  wr_ab h f w
end Reads

/-- The rows of the gather buffer a full-width slice covers. -/
theorem set_abs {n : ℕ} {off : Fin 2 → ℕ} {a : ℕ} (h : off = ![a, 0]) {inb : ∀ x, off x + (⟨2, ![n, 1152]⟩ : Shape).size x ≤ S1024x1152.size x} {hs} :
    ((abM : Memref sig .tc .vmem S1024x1152 .bf16).slice (Rect.unit (s := S1024x1152) off (⟨2, ![n, 1152]⟩ : Shape).size inb) hs).view.set = rows a n := by
  refine (View.set_slice_whole _ _).trans (Finset.ext fun i => ?_)
  rw [mem_unit h inb, mem_rows]
  have : (i 1).val < 1152 := (i 1).isLt
  exact ⟨fun hh => hh.1, fun hh => ⟨hh, by omega, by omega⟩⟩

/-- A load of a rectangle of the gather buffer touches its rows only. -/
theorem sub_ab {n m a' n' : ℕ} {off : Fin 2 → ℕ} {a b : ℕ} (h : off = ![a, b]) {inb : ∀ x, off x + (⟨2, ![n, m]⟩ : Shape).size x ≤ S1024x1152.size x}
    (h₁ : a' ≤ a) (h₂ : a + n ≤ a' + n') :
    (abM : Memref sig .tc .vmem S1024x1152 .bf16).view.setOn (Rect.unit (s := S1024x1152) off (⟨2, ![n, m]⟩ : Shape).size inb).toLoadRect.set ⊆ rows a' n' := by
  intro i hi
  have hi' : i ∈ (Rect.unit (s := S1024x1152) off (⟨2, ![n, m]⟩ : Shape).size inb).set := by
    rw [View.setOn] at hi
    obtain ⟨x, hx, rfl⟩ := Finset.mem_map.mp hi
    exact hx
  rw [mem_unit h inb] at hi'
  rw [mem_rows]; omega

theorem sub_abw {n m a' n' : ℕ} {off : Fin 2 → ℕ} {a b : ℕ} (h : off = ![a, b]) {inb : ∀ x, off x + (⟨2, ![n, m]⟩ : Shape).size x ≤ S1024x1152.size x}
    (h₁ : a' ≤ a) (h₂ : a + n ≤ a' + n') :
    ((abM : Memref sig .tc .vmem S1024x1152 .bf16).access (Rect.unit (s := S1024x1152) off (⟨2, ![n, m]⟩ : Shape).size inb)).setOn Finset.univ ⊆ rows a' n' := by
  rw [View.setOn_univ]
  intro i hi
  rw [show ((abM : Memref sig .tc .vmem S1024x1152 .bf16).access (Rect.unit (s := S1024x1152) off (⟨2, ![n, m]⟩ : Shape).size inb)).set = _ from View.set_slice_whole _ _, mem_unit h inb] at hi
  rw [mem_rows]; omega

end Cert.KernelIdealProof
-- ==== Proof.KI.Steps.lean ====
/-
The kernel's synchronising steps, each as one rule at the schedule `Rd`: a barrier signal, a wait, a copy of the
reduce-scatter (the source rows go with the landing), the exchange's copy and a copy of the all-gather (the source
comes back with the send semaphore).
-/
module

public import proofs.«01_k».proof.Proof.KI.Geom

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (V : Vals F) (K : Dev nD × Fin 19 → ℕ)

/-- Every cell's invariant and that it has reached round 0. -/
def recs : sProp 𝕄 :=
  iprop((bigSep Finset.univ fun ck : Dev nD × Fin 19 => cellInv ER (Rd V) (K ck) (kcell ck.1 ck.2))
    ∗ bigSep Finset.univ fun ck : Dev nD × Fin 19 => reached ER (kcell ck.1 ck.2) 0)

omit [FloatOps F] in
instance recs_persistent : BI.Persistent (recs V K) := by unfold recs; infer_instance

omit [FloatOps F] in
theorem inv_at (c : Dev nD) (k : Fin 19) : recs V K ⊢ cellInv ER (Rd V) (K (c, k)) (kcell c k) := by
  unfold recs; iintro ⟨H, -⟩
  iapply (show (bigSep Finset.univ fun ck : Dev nD × Fin 19 => cellInv ER (Rd V) (K ck) (kcell ck.1 ck.2)) ⊢ cellInv ER (Rd V) (K (c, k)) (kcell c k)
    from bigSep_elim (M := 𝕄) (Φ := fun ck : Dev nD × Fin 19 => cellInv ER (Rd V) (K ck) (kcell ck.1 ck.2)) (Finset.mem_univ (c, k))); iexact H
omit [FloatOps F] in
theorem reached_at (c : Dev nD) (k : Fin 19) : recs V K ⊢ reached ER (kcell c k) 0 := by
  unfold recs; iintro ⟨-, H⟩
  iapply (show (bigSep Finset.univ fun ck : Dev nD × Fin 19 => reached ER (kcell ck.1 ck.2) 0) ⊢ (reached ER (kcell c k) 0 : sProp 𝕄)
    from bigSep_elim (M := 𝕄) (Φ := fun ck : Dev nD × Fin 19 => reached ER (kcell ck.1 ck.2) 0) (Finset.mem_univ (c, k))); iexact H

/-- What device `c` owes while the payments `l` are outstanding, whatever it has waited for. -/
def OW (c : Dev nD) (l : List (Fin 16 × Fin 19 × ℕ)) : sProp 𝕄 := iprop(∃ W, owes (c : Thread nD τ) (Ow c l) W)

section Steps
variable (c : Dev nD)

/-- A barrier signal over mask `m`: the duty's payload is handed over. -/
theorem st_signal {α : Type} {Q : α → sProp 𝕄} {k : PUnit → Prog (TpuEff nD τ sig (Elt F) Λ₀ .tc) α} (n : Dev nD) (m : Fin 16) (hn : n = px m c) (d : DN) {sm : Sem sig} (hs : sm = barS) {z : ℤ} (hz : z = ((1 : ℕ) : ℤ)) {L₀ : List (Fin 16 × Fin 19 × ℕ)} (l : List (Fin 16 × Fin 19 × ℕ)) (hL : L₀ = (m, 0, 1) :: l) :
    iprop(recs V K ∗ OW c L₀ ∗ dutyTok ER (kcell (px m c) 0) 0 d ∗ payK V (px m c) 0 0 d)
      ⊢ iprop((OW c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) sm z) k) Q) := by
  subst hn hs hz hL
  unfold OW
  have hd : d ∈ (Rd V).duties (kcell (px m c) 0) 0 := by rw [duties_k]; exact Finset.mem_univ d
  iintro ⟨#HR, ⟨%W, HO⟩, Ht, Hp⟩ Hk
  iapply (Rounds.wp_signal 𝒱₀ ER (Rd V) (c : Thread nD τ) none (dst := (px m c : Thread nD τ)) (κ := K (px m c, 0)) (r := 0) (d := d) (k' := 1)
      hd (amount_k V (px m c) 0 0 d) () (Ow c l) rfl) $$ [HO Ht Hp]
  · isplitr; · iapply (inv_at V K (px m c) 0); iexact HR
    isplitl [HO]; · iexact HO
    isplitl [Ht]; · iexact Ht
    isplitl [Hp]; · iapply (show payK V (px m c) 0 0 d ⊢ (Rd V).payload ((px m c : Thread nD τ), SemLoc.reg barS) 0 d from Entails.of_eq (payload_k V (px m c) 0 0 d).symm); iexact Hp
    iapply (reached_at V K (px m c) 0); iexact HR
  iintro HO
  iapply Hk
  iexists W; iexact HO

/-- A wait for a whole round of one of its cells: the round's payloads come back. -/
theorem st_wait {α : Type} {Q : α → sProp 𝕄} {k : PUnit → Prog (TpuEff nD τ sig (Elt F) Λ₀ .tc) α} {w : TpuEff nD τ sig (Elt F) Λ₀ .tc PUnit} (kk : Fin 19) (r : ℕ) (n : ℕ) (sm : SemLoc sig) (hs : sm = csem kk)
    (hw : ∀ K' : PUnit → sProp 𝕄, wpE (defs₀ (F := F)) 𝒱₀ (c : Thread nD τ) none Set.univ w K' = waitSpec (c : Thread nD τ) Set.univ sm n K')
    (hn : n = (dutiesK kk r).card * amountK kk r) (l : List (Fin 16 × Fin 19 × ℕ)) (hl : ∀ e ∈ l, lvK kk < lvK e.2.1) :
    iprop(recs V K ∗ levAts L lv ∗ cred (tallyAt (kcell c kk) () n) ∗ OW c l ∗ atPos ER (kcell c kk) r ∅ 0)
      ⊢ iprop(((OW c l ∗ atPos ER (kcell c kk) (r + 1) ∅ 0 ∗ reached ER (kcell c kk) (r + 1) ∗ bigSep (dutiesK kk r) (fun d => payK V c kk r d))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hs
  unfold OW
  have he : 0 + n = (Rd V).expect (kcell c kk) r := by rw [Nat.zero_add, hn]; exact (expect_k V c kk r).symm
  have hm := mayWait_of (F := F) c (csem kk) (lvK kk) (le_of_eq (lv_k c kk)) l hl
  iintro ⟨#HR, #Hlev, Hc, ⟨%W, HO⟩, Hat⟩ Hk
  iapply (Rounds.wp_wait_rest_token 𝒱₀ ER (Rd V) (c : Thread nD τ) none (κ := K (c, kk)) hw (Set.mem_univ _) () (O := Ow c l) (W := W) (R := r) (m := 0) (T := ∅)
      he) $$ [Hc HO Hat]
  · isplitr; · iapply (inv_at V K c kk); iexact HR
    isplitl [Hc]; · iexact Hc
    isplitl [HO]; · iexact HO
    isplitr; · iapply hm; iexact Hlev
    iexact Hat
  iintro ⟨HO, Hat, Hr, Hpay⟩
  ihave Hp := (Entails.of_eq (rest_k V c kk r)) $$ Hpay
  iapply Hk
  isplitl [HO]; · iexists _; iexact HO
  isplitl [Hat]; · iexact Hat
  isplitl [Hr]; · iexact Hr
  iexact Hp

/-- A copy of the reduce-scatter: rows of the gather buffer into the peer's landing buffer `dst`; the rows go to the peer
    with the landing. -/
theorem st_send_rs {α : Type} {Q : α → sProp 𝕄} {k : PUnit → Prog (TpuEff nD τ sig (Elt F) Λ₀ .tc) α} {n : ℕ} {o : Fin 2 → ℕ} {a : ℕ} (ho : o = ![a, 0]) {inb : ∀ x, o x + (⟨2, ![n, 1152]⟩ : Shape).size x ≤ S1024x1152.size x} {hs}
    (nd : Dev nD) (m : Fin 16) (hn : nd = px m c) (dst : Memref sig .tc .vmem (⟨2, ![n, 1152]⟩ : Shape) .bf16)
    (kk : Fin 19) (r : ℕ) (N : ℕ) {sS sR : DmaSem sig} (hsS : SemLoc.dma sS = csem 1) (hsR : SemLoc.dma sR = csem kk)
    (hN : dst.view.amount (SemLoc.dma sR) = N) (hr : r < 3) (hk1 : amountK 1 r = N) (hk2 : amountK kk 0 = N) (hkk : 0 ∈ dutiesK kk 0)
    {hsc : (dst : Memref sig (Dev.tc nd : Thread nD τ).2.kind .vmem (⟨2, ![n, 1152]⟩ : Shape) .bf16).view.ref.isScScratch = false} {hsrc hdst hsem}
    (fs : S1024x1152.Idx → Elt F .bf16) (fd : dst.view.ty.Contents (Elt F))
    (hpay : iprop((dst.view.loc (px m c : Thread nD τ) ↦[dst.view.set]{fullShare} dst.view.write (Elt F) fd (subA n 1152 a 0 fs) Finset.univ)
        ∗ abP c (rows a n) fullShare fs) ⊢ payK V (px m c) kk 0 0)
    {L₀ : List (Fin 16 × Fin 19 × ℕ)} (l : List (Fin 16 × Fin 19 × ℕ)) (hL : L₀ = (m, kk, N) :: l) :
    iprop(recs V K ∗ OW c L₀ ∗ abP c (rows a n) fullShare fs ∗ (dst.view.loc (px m c : Thread nD τ) ↦[dst.view.set]{fullShare} fd)
        ∗ dutyTok ER (kcell c 1) r 0 ∗ reached ER (kcell c 1) r ∗ dutyTok ER (kcell (px m c) kk) 0 0)
      ⊢ iprop(((cred (tallyAt (kcell c 1) () N) ∗ OW c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((abM : Memref sig .tc .vmem S1024x1152 .bf16).slice (Rect.unit (s := S1024x1152) o (⟨2, ![n, 1152]⟩ : Shape).size inb) hs)
                (.remote (Dev.tc nd : Thread nD τ) dst (.dma sS) hsc) (.dma sR) hsrc hdst hsem) k) Q) := by
  subst hn hL
  unfold OW
  iintro ⟨#HR, ⟨%W, HO⟩, Hs, Hd, Ht1, #Hr1, Ht2⟩ Hk
  have hset := set_abs ho (inb := inb) (hs := hs)
  have h1 : 0 ∈ (Rd V).duties ((c : Thread nD τ), .dma sS) r := by
    rw [hsS, show ((c : Thread nD τ), csem 1) = kcell c 1 from rfl, duties_k]
    unfold dutiesK
    split
    · exact Finset.mem_singleton_self _
    · rw [if_pos ⟨rfl, by omega⟩]; exact Finset.mem_singleton_self _
  have h2 : 0 ∈ (Rd V).duties ((px m c : Thread nD τ), .dma sR) 0 := by
    rw [hsR, show ((px m c : Thread nD τ), csem kk) = kcell (px m c) kk from rfl, duties_k]; exact hkk
  have h3 : (Rd V).amount ((c : Thread nD τ), .dma sS) r 0 = N := by rw [hsS]; exact (amount_k V c 1 r 0).trans hk1
  have h4 : (Rd V).amount ((px m c : Thread nD τ), .dma sR) 0 0 = N := by rw [hsR]; exact (amount_k V (px m c) kk 0 0).trans hk2
  have h5 : Ow c ((m, kk, N) :: l) = Ow c l + tallyAt ((px m c : Thread nD τ), SemLoc.dma sR) () N := by rw [hsR]; rfl
  have h6 : (emp : sProp 𝕄) ⊢ (Rd V).payload ((c : Thread nD τ), .dma sS) r 0 := by
    rw [hsS]; refine (?_ : _ ⊢ payK V c 1 r 0).trans (Entails.of_eq (payload_k V c 1 r 0).symm)
    show _ ⊢ if r = 3 then _ else _
    rw [if_neg (by omega)]
  have h7 : iprop((dst.view.loc (px m c : Thread nD τ) ↦[dst.view.set]{fullShare} dst.view.write (Elt F) fd (((abM : Memref sig .tc .vmem S1024x1152 .bf16).slice (Rect.unit (s := S1024x1152) o (⟨2, ![n, 1152]⟩ : Shape).size inb) hs).view.read (Elt F) fs) Finset.univ)
      ∗ (((abM : Memref sig .tc .vmem S1024x1152 .bf16).slice (Rect.unit (s := S1024x1152) o (⟨2, ![n, 1152]⟩ : Shape).size inb) hs).view.loc (c : Thread nD τ) ↦[((abM : Memref sig .tc .vmem S1024x1152 .bf16).slice (Rect.unit (s := S1024x1152) o (⟨2, ![n, 1152]⟩ : Shape).size inb) hs).view.set]{fullShare} fs)) ⊢ (Rd V).payload ((px m c : Thread nD τ), .dma sR) 0 0 := by
    rw [hsR, hset, rd_abs ho]; exact hpay.trans (Entails.of_eq (payload_k V (px m c) kk 0 0).symm)
  iapply (Rounds.wp_send_landing_pointsTo 𝒱₀ ER (Rd V) (c : Thread nD τ) none (κ₁ := K (c, 1)) (κ₂ := K (px m c, kk))
    (c' := (px m c : Thread nD τ)) (sS := .dma sS) (sem := .dma sR) (hsc := hsc) (hsrc := hsrc) (hdst := hdst) (hsem := hsem)
    (src := (abM : Memref sig .tc .vmem S1024x1152 .bf16).slice (Rect.unit (s := S1024x1152) o (⟨2, ![n, 1152]⟩ : Shape).size inb) hs) (dst := dst)
    (r₁ := r) (r₂ := 0) (d₁ := 0) (d₂ := 0) (fs := fs) (fd := fd) (q := fullShare)
    h1 h2 () () N hN h3 h4 (Ow c l) h5 (W := W) h6 h7) $$ [HO Hs Hd Ht1 Ht2]
  · rw [hsS, hsR]
    isplitr; · iapply (inv_at V K c 1); iexact HR
    isplitr; · iapply (inv_at V K (px m c) kk); iexact HR
    isplitl [Hs]; · iapply (show abP c (rows a n) fullShare fs ⊢ (((abM : Memref sig .tc .vmem S1024x1152 .bf16).slice (Rect.unit (s := S1024x1152) o (⟨2, ![n, 1152]⟩ : Shape).size inb) hs).view.loc (c : Thread nD τ) ↦[((abM : Memref sig .tc .vmem S1024x1152 .bf16).slice (Rect.unit (s := S1024x1152) o (⟨2, ![n, 1152]⟩ : Shape).size inb) hs).view.set]{fullShare} fs) from Entails.of_eq (by rw [hset]; rfl)); iexact Hs
    isplitl [Hd]; · iexact Hd
    isplitl [HO]; · iexact HO
    isplitl [Ht1]; · iexact Ht1
    isplitr; · iexact Hr1
    isplitl [Ht2]; · iexact Ht2
    iapply (reached_at V K (px m c) kk); iexact HR
  rw [hsS]
  iintro ⟨Hc, HO⟩
  iapply Hk
  isplitl [Hc]; · iexact Hc
  iexists W; iexact HO

/-- A copy whose source share comes back with the send semaphore: the exchange over mask 8 and the all-gather. -/
theorem st_send_back {α : Type} {Q : α → sProp 𝕄} {k : PUnit → Prog (TpuEff nD τ sig (Elt F) Λ₀ .tc) α} {n : ℕ} {o : Fin 2 → ℕ} {a : ℕ} (ho : o = ![a, 0]) {inb : ∀ x, o x + (⟨2, ![n, 1152]⟩ : Shape).size x ≤ S1024x1152.size x} {hs}
    (nd : Dev nD) (m : Fin 16) (hn : nd = px m c) (dst : Memref sig .tc .vmem (⟨2, ![n, 1152]⟩ : Shape) .bf16)
    (k1 : Fin 19) (r : ℕ) (kk : Fin 19) (d : DN) (N : ℕ) {sS sR : DmaSem sig} (hsS : SemLoc.dma sS = csem k1) (hsR : SemLoc.dma sR = csem kk)
    (hN : dst.view.amount (SemLoc.dma sR) = N) (hd1 : 0 ∈ dutiesK k1 r) (hk1 : amountK k1 r = N) (hk2 : amountK kk 0 = N) (hkk : d ∈ dutiesK kk 0)
    {hsc : (dst : Memref sig (Dev.tc nd : Thread nD τ).2.kind .vmem (⟨2, ![n, 1152]⟩ : Shape) .bf16).view.ref.isScScratch = false} {hsrc hdst hsem}
    (q : PosShare TreeShare) (fs : S1024x1152.Idx → Elt F .bf16) (fd : dst.view.ty.Contents (Elt F))
    (hpay1 : abP c (rows a n) q fs ⊢ payK V c k1 r 0)
    (hpay : (dst.view.loc (px m c : Thread nD τ) ↦[dst.view.set]{fullShare} dst.view.write (Elt F) fd (subA n 1152 a 0 fs) Finset.univ)
        ⊢ payK V (px m c) kk 0 d)
    {L₀ : List (Fin 16 × Fin 19 × ℕ)} (l : List (Fin 16 × Fin 19 × ℕ)) (hL : L₀ = (m, kk, N) :: l) :
    iprop(recs V K ∗ OW c L₀ ∗ abP c (rows a n) q fs ∗ (dst.view.loc (px m c : Thread nD τ) ↦[dst.view.set]{fullShare} fd)
        ∗ dutyTok ER (kcell c k1) r 0 ∗ reached ER (kcell c k1) r ∗ dutyTok ER (kcell (px m c) kk) 0 d)
      ⊢ iprop(((cred (tallyAt (kcell c k1) () N) ∗ OW c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((abM : Memref sig .tc .vmem S1024x1152 .bf16).slice (Rect.unit (s := S1024x1152) o (⟨2, ![n, 1152]⟩ : Shape).size inb) hs)
                (.remote (Dev.tc nd : Thread nD τ) dst (.dma sS) hsc) (.dma sR) hsrc hdst hsem) k) Q) := by
  subst hn hL
  unfold OW
  iintro ⟨#HR, ⟨%W, HO⟩, Hs, Hd, Ht1, #Hr1, Ht2⟩ Hk
  have hset := set_abs ho (inb := inb) (hs := hs)
  have h1 : 0 ∈ (Rd V).duties ((c : Thread nD τ), .dma sS) r := by
    rw [hsS, show ((c : Thread nD τ), csem k1) = kcell c k1 from rfl, duties_k]; exact hd1
  have h2 : d ∈ (Rd V).duties ((px m c : Thread nD τ), .dma sR) 0 := by
    rw [hsR, show ((px m c : Thread nD τ), csem kk) = kcell (px m c) kk from rfl, duties_k]; exact hkk
  have h3 : (Rd V).amount ((c : Thread nD τ), .dma sS) r 0 = N := by rw [hsS]; exact (amount_k V c k1 r 0).trans hk1
  have h4 : (Rd V).amount ((px m c : Thread nD τ), .dma sR) 0 d = N := by rw [hsR]; exact (amount_k V (px m c) kk 0 d).trans hk2
  have h5 : Ow c ((m, kk, N) :: l) = Ow c l + tallyAt ((px m c : Thread nD τ), SemLoc.dma sR) () N := by rw [hsR]; rfl
  have h6 : (((abM : Memref sig .tc .vmem S1024x1152 .bf16).slice (Rect.unit (s := S1024x1152) o (⟨2, ![n, 1152]⟩ : Shape).size inb) hs).view.loc (c : Thread nD τ) ↦[((abM : Memref sig .tc .vmem S1024x1152 .bf16).slice (Rect.unit (s := S1024x1152) o (⟨2, ![n, 1152]⟩ : Shape).size inb) hs).view.set]{q} fs) ⊢ (Rd V).payload ((c : Thread nD τ), .dma sS) r 0 := by
    rw [hsS, hset]; exact hpay1.trans (Entails.of_eq (payload_k V c k1 r 0).symm)
  have h7 : (dst.view.loc (px m c : Thread nD τ) ↦[dst.view.set]{fullShare} dst.view.write (Elt F) fd (((abM : Memref sig .tc .vmem S1024x1152 .bf16).slice (Rect.unit (s := S1024x1152) o (⟨2, ![n, 1152]⟩ : Shape).size inb) hs).view.read (Elt F) fs) Finset.univ)
      ⊢ (Rd V).payload ((px m c : Thread nD τ), .dma sR) 0 d := by
    rw [hsR, rd_abs ho]; exact hpay.trans (Entails.of_eq (payload_k V (px m c) kk 0 d).symm)
  iapply (Rounds.wp_send_pointsTo 𝒱₀ ER (Rd V) (c : Thread nD τ) none (κ₁ := K (c, k1)) (κ₂ := K (px m c, kk))
    (c' := (px m c : Thread nD τ)) (sS := .dma sS) (sem := .dma sR) (hsc := hsc) (hsrc := hsrc) (hdst := hdst) (hsem := hsem)
    (src := (abM : Memref sig .tc .vmem S1024x1152 .bf16).slice (Rect.unit (s := S1024x1152) o (⟨2, ![n, 1152]⟩ : Shape).size inb) hs) (dst := dst)
    (r₁ := r) (r₂ := 0) (d₁ := 0) (d₂ := d) (fs := fs) (fd := fd) (q := q)
    h1 h2 () () N hN h3 h4 (Ow c l) h5 (W := W) h6 h7) $$ [HO Hs Hd Ht1 Ht2]
  · rw [hsS, hsR]
    isplitr; · iapply (inv_at V K c k1); iexact HR
    isplitr; · iapply (inv_at V K (px m c) kk); iexact HR
    isplitl [Hs]; · iapply (show abP c (rows a n) q fs ⊢ (((abM : Memref sig .tc .vmem S1024x1152 .bf16).slice (Rect.unit (s := S1024x1152) o (⟨2, ![n, 1152]⟩ : Shape).size inb) hs).view.loc (c : Thread nD τ) ↦[((abM : Memref sig .tc .vmem S1024x1152 .bf16).slice (Rect.unit (s := S1024x1152) o (⟨2, ![n, 1152]⟩ : Shape).size inb) hs).view.set]{q} fs) from Entails.of_eq (by rw [hset]; rfl)); iexact Hs
    isplitl [Hd]; · iexact Hd
    isplitl [HO]; · iexact HO
    isplitl [Ht1]; · iexact Ht1
    isplitr; · iexact Hr1
    isplitl [Ht2]; · iexact Ht2
    iapply (reached_at V K (px m c) kk); iexact HR
  rw [hsS]
  iintro ⟨Hc, HO⟩
  iapply Hk
  isplitl [Hc]; · iexact Hc
  iexists W; iexact HO

/-- A finished cell closes: its counter at zero is the device's again. -/
theorem st_close {β : Type} (kk : Fin 19) (r : ℕ) (hr : (if kk = 1 then 4 else 1) ≤ r) :
    iprop(recs V K ∗ atPos ER (kcell c kk) r ∅ 0) ⊢ (|={Set.univ}=> semVal (kcell c kk) 0 : sProp 𝕄) := by
  iintro ⟨#HR, Hat⟩
  imod (Rounds.cell_close ER (Rd V) (Set.mem_univ (K (c, kk))) (fun h => h) (R := r) (fun r' h' => duties_later V c kk r' (le_trans hr h'))) $$ [Hat] with Hz
  · isplitr; · iapply (inv_at V K c kk); iexact HR
    iexact Hat
  imodintro; iexact Hz
end Steps

end Cert.KernelIdealProof
-- ==== Proof.KI.Offs.lean ====
/-
Where each access of the kernel starts, at a device: its row and its column.
-/
module

public import proofs.«01_k».proof.Proof.KI.Sched

@[expose] public section

noncomputable section

namespace Cert.KernelIdealProof

open Cert.KernelIdeal Cert.KernelIdeal.Gen
open Idealize.ShloMosaic

/-- The first of the 256 rows that arrive last. -/
def lst (c : Dev nD) : ℕ := b0 (px 1 c) * 512 + (1 - b2 c) * 256

theorem off1 (c : Dev nD) : k0_off1 c = ![snd0 c, 0] := by revert c; decide +kernel
theorem off2 (c : Dev nD) : k0_off2 c = ![snd0 c, 0] := by revert c; decide +kernel
theorem off3 (c : Dev nD) : k0_off3 c = ![snd0 c, 128] := by revert c; decide +kernel
theorem off4 (c : Dev nD) : k0_off4 c = ![snd0 c, 128] := by revert c; decide +kernel
theorem off5 (c : Dev nD) : k0_off5 c = ![snd0 c, 256] := by revert c; decide +kernel
theorem off6 (c : Dev nD) : k0_off6 c = ![snd0 c, 256] := by revert c; decide +kernel
theorem off7 (c : Dev nD) : k0_off7 c = ![snd0 c, 384] := by revert c; decide +kernel
theorem off8 (c : Dev nD) : k0_off8 c = ![snd0 c, 384] := by revert c; decide +kernel
theorem off9 (c : Dev nD) : k0_off9 c = ![snd0 c, 512] := by revert c; decide +kernel
theorem off10 (c : Dev nD) : k0_off10 c = ![snd0 c, 512] := by revert c; decide +kernel
theorem off11 (c : Dev nD) : k0_off11 c = ![snd0 c, 640] := by revert c; decide +kernel
theorem off12 (c : Dev nD) : k0_off12 c = ![snd0 c, 640] := by revert c; decide +kernel
theorem off13 (c : Dev nD) : k0_off13 c = ![snd0 c, 768] := by revert c; decide +kernel
theorem off14 (c : Dev nD) : k0_off14 c = ![snd0 c, 768] := by revert c; decide +kernel
theorem off15 (c : Dev nD) : k0_off15 c = ![snd0 c, 896] := by revert c; decide +kernel
theorem off16 (c : Dev nD) : k0_off16 c = ![snd0 c, 896] := by revert c; decide +kernel
theorem off17 (c : Dev nD) : k0_off17 c = ![snd0 c, 1024] := by revert c; decide +kernel
theorem off18 (c : Dev nD) : k0_off18 c = ![snd0 c, 0] := by revert c; decide +kernel
theorem off19 (c : Dev nD) : k0_off19 c = ![snd0 c, 0] := by revert c; decide +kernel
theorem off20 (c : Dev nD) : k0_off20 c = ![kp0 c, 0] := by revert c; decide +kernel
theorem off21 (c : Dev nD) : k0_off21 c = ![kp0 c, 0] := by revert c; decide +kernel
theorem off22 (c : Dev nD) : k0_off22 c = ![kp0 c, 128] := by revert c; decide +kernel
theorem off23 (c : Dev nD) : k0_off23 c = ![kp0 c, 128] := by revert c; decide +kernel
theorem off24 (c : Dev nD) : k0_off24 c = ![kp0 c, 256] := by revert c; decide +kernel
theorem off25 (c : Dev nD) : k0_off25 c = ![kp0 c, 256] := by revert c; decide +kernel
theorem off26 (c : Dev nD) : k0_off26 c = ![kp0 c, 384] := by revert c; decide +kernel
theorem off27 (c : Dev nD) : k0_off27 c = ![kp0 c, 384] := by revert c; decide +kernel
theorem off28 (c : Dev nD) : k0_off28 c = ![kp0 c, 512] := by revert c; decide +kernel
theorem off29 (c : Dev nD) : k0_off29 c = ![kp0 c, 512] := by revert c; decide +kernel
theorem off30 (c : Dev nD) : k0_off30 c = ![kp0 c, 640] := by revert c; decide +kernel
theorem off31 (c : Dev nD) : k0_off31 c = ![kp0 c, 640] := by revert c; decide +kernel
theorem off32 (c : Dev nD) : k0_off32 c = ![kp0 c, 768] := by revert c; decide +kernel
theorem off33 (c : Dev nD) : k0_off33 c = ![kp0 c, 768] := by revert c; decide +kernel
theorem off34 (c : Dev nD) : k0_off34 c = ![kp0 c, 896] := by revert c; decide +kernel
theorem off35 (c : Dev nD) : k0_off35 c = ![kp0 c, 896] := by revert c; decide +kernel
theorem off36 (c : Dev nD) : k0_off36 c = ![kp0 c, 1024] := by revert c; decide +kernel
theorem off37 (c : Dev nD) : k0_off37 c = ![kp0 c, 0] := by revert c; decide +kernel
theorem off38 (c : Dev nD) : k0_off38 c = ![snd1 c, 0] := by revert c; decide +kernel
theorem off39 (c : Dev nD) : k0_off39 c = ![snd1 c, 0] := by revert c; decide +kernel
theorem off40 (c : Dev nD) : k0_off40 c = ![kp1 c, 0] := by revert c; decide +kernel
theorem off41 (c : Dev nD) : k0_off41 c = ![snd2 c, 0] := by revert c; decide +kernel
theorem off42 (c : Dev nD) : k0_off42 c = ![snd2 c, 0] := by revert c; decide +kernel
theorem off43 (c : Dev nD) : k0_off43 c = ![reg c, 0] := by revert c; decide +kernel
theorem off44 (c : Dev nD) : k0_off44 c = ![reg c, 0] := by revert c; decide +kernel
theorem off45 (c : Dev nD) : k0_off45 c = ![reg c, 0] := by revert c; decide +kernel
theorem off46 (c : Dev nD) : k0_off46 c = ![reg c, 1024] := by revert c; decide +kernel
theorem off47 (c : Dev nD) : k0_off47 c = ![reg c, 0] := by revert c; decide +kernel
theorem off48 (c : Dev nD) : k0_off48 c = ![reg c, 128] := by revert c; decide +kernel
theorem off49 (c : Dev nD) : k0_off49 c = ![reg c, 256] := by revert c; decide +kernel
theorem off50 (c : Dev nD) : k0_off50 c = ![reg c, 384] := by revert c; decide +kernel
theorem off51 (c : Dev nD) : k0_off51 c = ![reg c, 512] := by revert c; decide +kernel
theorem off52 (c : Dev nD) : k0_off52 c = ![reg c, 640] := by revert c; decide +kernel
theorem off53 (c : Dev nD) : k0_off53 c = ![reg c, 768] := by revert c; decide +kernel
theorem off54 (c : Dev nD) : k0_off54 c = ![reg c, 896] := by revert c; decide +kernel
theorem off55 (c : Dev nD) : k0_off55 c = ![reg c, 0] := by revert c; decide +kernel
theorem off56_1 (c : Dev nD) : k0_off56 c 1#32 = ![reg (px 1 c), 0] := by revert c; decide +kernel
theorem off56_2 (c : Dev nD) : k0_off56 c 2#32 = ![reg (px 2 c), 0] := by revert c; decide +kernel
theorem off56_4 (c : Dev nD) : k0_off56 c 4#32 = ![reg (px 4 c), 0] := by revert c; decide +kernel
theorem off57_1 (c : Dev nD) : k0_off57 c 1#32 = ![reg (px 1 c), 1024] := by revert c; decide +kernel
theorem off57_2 (c : Dev nD) : k0_off57 c 2#32 = ![reg (px 2 c), 1024] := by revert c; decide +kernel
theorem off57_4 (c : Dev nD) : k0_off57 c 4#32 = ![reg (px 4 c), 1024] := by revert c; decide +kernel
theorem off58_1 (c : Dev nD) : k0_off58 c 1#32 = ![reg (px 1 c), 0] := by revert c; decide +kernel
theorem off58_2 (c : Dev nD) : k0_off58 c 2#32 = ![reg (px 2 c), 0] := by revert c; decide +kernel
theorem off58_4 (c : Dev nD) : k0_off58 c 4#32 = ![reg (px 4 c), 0] := by revert c; decide +kernel
theorem off59_1 (c : Dev nD) : k0_off59 c 1#32 = ![reg (px 1 c), 128] := by revert c; decide +kernel
theorem off59_2 (c : Dev nD) : k0_off59 c 2#32 = ![reg (px 2 c), 128] := by revert c; decide +kernel
theorem off59_4 (c : Dev nD) : k0_off59 c 4#32 = ![reg (px 4 c), 128] := by revert c; decide +kernel
theorem off60_1 (c : Dev nD) : k0_off60 c 1#32 = ![reg (px 1 c), 256] := by revert c; decide +kernel
theorem off60_2 (c : Dev nD) : k0_off60 c 2#32 = ![reg (px 2 c), 256] := by revert c; decide +kernel
theorem off60_4 (c : Dev nD) : k0_off60 c 4#32 = ![reg (px 4 c), 256] := by revert c; decide +kernel
theorem off61_1 (c : Dev nD) : k0_off61 c 1#32 = ![reg (px 1 c), 384] := by revert c; decide +kernel
theorem off61_2 (c : Dev nD) : k0_off61 c 2#32 = ![reg (px 2 c), 384] := by revert c; decide +kernel
theorem off61_4 (c : Dev nD) : k0_off61 c 4#32 = ![reg (px 4 c), 384] := by revert c; decide +kernel
theorem off62_1 (c : Dev nD) : k0_off62 c 1#32 = ![reg (px 1 c), 512] := by revert c; decide +kernel
theorem off62_2 (c : Dev nD) : k0_off62 c 2#32 = ![reg (px 2 c), 512] := by revert c; decide +kernel
theorem off62_4 (c : Dev nD) : k0_off62 c 4#32 = ![reg (px 4 c), 512] := by revert c; decide +kernel
theorem off63_1 (c : Dev nD) : k0_off63 c 1#32 = ![reg (px 1 c), 640] := by revert c; decide +kernel
theorem off63_2 (c : Dev nD) : k0_off63 c 2#32 = ![reg (px 2 c), 640] := by revert c; decide +kernel
theorem off63_4 (c : Dev nD) : k0_off63 c 4#32 = ![reg (px 4 c), 640] := by revert c; decide +kernel
theorem off64_1 (c : Dev nD) : k0_off64 c 1#32 = ![reg (px 1 c), 768] := by revert c; decide +kernel
theorem off64_2 (c : Dev nD) : k0_off64 c 2#32 = ![reg (px 2 c), 768] := by revert c; decide +kernel
theorem off64_4 (c : Dev nD) : k0_off64 c 4#32 = ![reg (px 4 c), 768] := by revert c; decide +kernel
theorem off65_1 (c : Dev nD) : k0_off65 c 1#32 = ![reg (px 1 c), 896] := by revert c; decide +kernel
theorem off65_2 (c : Dev nD) : k0_off65 c 2#32 = ![reg (px 2 c), 896] := by revert c; decide +kernel
theorem off65_4 (c : Dev nD) : k0_off65 c 4#32 = ![reg (px 4 c), 896] := by revert c; decide +kernel
theorem off66_1 (c : Dev nD) : k0_off66 c 1#32 = ![reg (px 1 c), 0] := by revert c; decide +kernel
theorem off66_2 (c : Dev nD) : k0_off66 c 2#32 = ![reg (px 2 c), 0] := by revert c; decide +kernel
theorem off66_4 (c : Dev nD) : k0_off66 c 4#32 = ![reg (px 4 c), 0] := by revert c; decide +kernel
theorem off67_1 (c : Dev nD) : k0_off67 c 1#32 = ![reg (px 3 c), 0] := by revert c; decide +kernel
theorem off67_4 (c : Dev nD) : k0_off67 c 4#32 = ![reg (px 6 c), 0] := by revert c; decide +kernel
theorem off68_1 (c : Dev nD) : k0_off68 c 1#32 = ![reg (px 3 c), 1024] := by revert c; decide +kernel
theorem off68_4 (c : Dev nD) : k0_off68 c 4#32 = ![reg (px 6 c), 1024] := by revert c; decide +kernel
theorem off69_1 (c : Dev nD) : k0_off69 c 1#32 = ![reg (px 3 c), 0] := by revert c; decide +kernel
theorem off69_4 (c : Dev nD) : k0_off69 c 4#32 = ![reg (px 6 c), 0] := by revert c; decide +kernel
theorem off70_1 (c : Dev nD) : k0_off70 c 1#32 = ![reg (px 3 c), 128] := by revert c; decide +kernel
theorem off70_4 (c : Dev nD) : k0_off70 c 4#32 = ![reg (px 6 c), 128] := by revert c; decide +kernel
theorem off71_1 (c : Dev nD) : k0_off71 c 1#32 = ![reg (px 3 c), 256] := by revert c; decide +kernel
theorem off71_4 (c : Dev nD) : k0_off71 c 4#32 = ![reg (px 6 c), 256] := by revert c; decide +kernel
theorem off72_1 (c : Dev nD) : k0_off72 c 1#32 = ![reg (px 3 c), 384] := by revert c; decide +kernel
theorem off72_4 (c : Dev nD) : k0_off72 c 4#32 = ![reg (px 6 c), 384] := by revert c; decide +kernel
theorem off73_1 (c : Dev nD) : k0_off73 c 1#32 = ![reg (px 3 c), 512] := by revert c; decide +kernel
theorem off73_4 (c : Dev nD) : k0_off73 c 4#32 = ![reg (px 6 c), 512] := by revert c; decide +kernel
theorem off74_1 (c : Dev nD) : k0_off74 c 1#32 = ![reg (px 3 c), 640] := by revert c; decide +kernel
theorem off74_4 (c : Dev nD) : k0_off74 c 4#32 = ![reg (px 6 c), 640] := by revert c; decide +kernel
theorem off75_1 (c : Dev nD) : k0_off75 c 1#32 = ![reg (px 3 c), 768] := by revert c; decide +kernel
theorem off75_4 (c : Dev nD) : k0_off75 c 4#32 = ![reg (px 6 c), 768] := by revert c; decide +kernel
theorem off76_1 (c : Dev nD) : k0_off76 c 1#32 = ![reg (px 3 c), 896] := by revert c; decide +kernel
theorem off76_4 (c : Dev nD) : k0_off76 c 4#32 = ![reg (px 6 c), 896] := by revert c; decide +kernel
theorem off77_1 (c : Dev nD) : k0_off77 c 1#32 = ![reg (px 3 c), 0] := by revert c; decide +kernel
theorem off77_4 (c : Dev nD) : k0_off77 c 4#32 = ![reg (px 6 c), 0] := by revert c; decide +kernel
theorem off78 (c : Dev nD) : k0_off78 c = ![lst c, 0] := by revert c; decide +kernel
theorem off79 (c : Dev nD) : k0_off79 c = ![lst c, 1024] := by revert c; decide +kernel
theorem off80 (c : Dev nD) : k0_off80 c = ![lst c, 0] := by revert c; decide +kernel
theorem off81 (c : Dev nD) : k0_off81 c = ![lst c, 128] := by revert c; decide +kernel
theorem off82 (c : Dev nD) : k0_off82 c = ![lst c, 256] := by revert c; decide +kernel
theorem off83 (c : Dev nD) : k0_off83 c = ![lst c, 384] := by revert c; decide +kernel
theorem off84 (c : Dev nD) : k0_off84 c = ![lst c, 512] := by revert c; decide +kernel
theorem off85 (c : Dev nD) : k0_off85 c = ![lst c, 640] := by revert c; decide +kernel
theorem off86 (c : Dev nD) : k0_off86 c = ![lst c, 768] := by revert c; decide +kernel
theorem off87 (c : Dev nD) : k0_off87 c = ![lst c, 896] := by revert c; decide +kernel
theorem off88 (c : Dev nD) : k0_off88 c = ![lst c, 0] := by revert c; decide +kernel

end Cert.KernelIdealProof
-- ==== Proof.KI.Access.lean ====
/-
The kernel's loads and stores, each as one rule: what a load of a rectangle returns and what a store leaves.
-/
module

public import proofs.«01_k».proof.Proof.KI.Steps
public import proofs.«01_k».proof.Proof.KI.Offs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! What a device holds of each whole buffer. -/
def xP (c : Dev nD) (f : S1024x1024.Idx → Elt F .bf16) : sProp 𝕄 := ((c : Thread nD τ).loc cc0_stg0_0) ↦{fullShare} f
def wqP (c : Dev nD) (f : S1024x1024.Idx → Elt F .bf16) : sProp 𝕄 := ((c : Thread nD τ).loc cc0_stg1_0) ↦{fullShare} f
def kP (c : Dev nD) (f : S1024x1024.Idx → Elt F .bf16) : sProp 𝕄 := ((c : Thread nD τ).loc cc0_stg2_0) ↦{fullShare} f
def vP (c : Dev nD) (f : S1024x1024.Idx → Elt F .bf16) : sProp 𝕄 := ((c : Thread nD τ).loc cc0_stg3_0) ↦{fullShare} f
def woP (c : Dev nD) (f : S1024x1024.Idx → Elt F .bf16) : sProp 𝕄 := ((c : Thread nD τ).loc cc0_stg4_0) ↦{fullShare} f
def oP (c : Dev nD) (f : S1024x1024.Idx → Elt F .f32) : sProp 𝕄 := ((c : Thread nD τ).loc cc0_stg5_0) ↦{fullShare} f
def qP (c : Dev nD) (f : S1024x1024.Idx → Elt F .bf16) : sProp 𝕄 := ((c : Thread nD τ).loc cc0_scratch0) ↦{fullShare} f
def acP (c : Dev nD) (f : S1024x1152.Idx → Elt F .f32) : sProp 𝕄 := ((c : Thread nD τ).loc cc0_scratch1) ↦{fullShare} f

omit [FloatOps F] in
/-- A rectangle that is the whole array. -/
theorem subA_full {α : Type} {N M : ℕ} [NeZero N] [NeZero M] (f : (⟨2, ![N, M]⟩ : Shape).Idx → α) : subA N M 0 0 f = f := by
  funext i
  unfold subA
  congr 1
  funext x
  apply Fin.ext
  fin_cases x
  · show (0 + (i 0).val) % N = (i 0).val
    rw [Nat.zero_add]; exact Nat.mod_eq_of_lt (i 0).isLt
  · show (0 + (i 1).val) % M = (i 1).val
    rw [Nat.zero_add]; exact Nat.mod_eq_of_lt (i 1).isLt

/-- Reading the rectangle that is the whole array. -/
theorem emb_full {α : Type} (N M : ℕ) [NeZero N] [NeZero M] (inb : ∀ x, (![0, 0] : Fin 2 → ℕ) x + (⟨2, ![N, M]⟩ : Shape).size x ≤ (⟨2, ![N, M]⟩ : Shape).size x)
    (f : (⟨2, ![N, M]⟩ : Shape).Idx → α) : (fun j : (⟨2, ![N, M]⟩ : Shape).Idx => f ((Rect.unit (s := ⟨2, ![N, M]⟩) ![0, 0] (⟨2, ![N, M]⟩ : Shape).size inb).emb j)) = f := by
  rw [← subA_full f]
  funext j
  rw [subA_full]
  exact (congrArg f (emb_eq (N := N) (M := M) (n := N) (m := M) (a := 0) (b := 0) rfl inb j)).trans (congrFun (subA_full f) j)

omit [FloatOps F] in
theorem rd_o {n m : ℕ} {off : Fin 2 → ℕ} {a b : ℕ} (h : off = ![a, b]) {inb : ∀ x, off x + (⟨2, ![n, m]⟩ : Shape).size x ≤ S1024x1024.size x} (f : S1024x1024.Idx → Elt F .f32) :
    (oM : Memref sig .tc .vmem S1024x1024 .f32).view.readAt (Elt F) (Rect.unit (s := S1024x1024) off (⟨2, ![n, m]⟩ : Shape).size inb).toLoadRect f = subA n m a b f :=
  funext fun j => congrArg f (emb_eq h inb j)
omit [FloatOps F] in
theorem putA_full {α : Type} {N M : ℕ} (f w : (⟨2, ![N, M]⟩ : Shape).Idx → α) : putA 0 0 f w = w := by
  funext i
  have h0 : (i 0).val < N := (i 0).isLt
  have h1 : (i 1).val < M := (i 1).isLt
  unfold putA
  rw [dif_pos ⟨⟨by omega, by omega⟩, by omega, by omega⟩]
  exact congrArg w (ix2_eta i)
omit [FloatOps F] in
theorem wr_q (inb : ∀ x, (![0, 0] : Fin 2 → ℕ) x + S1024x1024.size x ≤ S1024x1024.size x) (f w : S1024x1024.Idx → Elt F .bf16) :
    ((qM : Memref sig .tc .vmem S1024x1024 .bf16).access (Rect.unit (s := S1024x1024) ![0, 0] S1024x1024.size inb)).write (Elt F) f w Finset.univ = w := by
  refine Eq.trans (put_apply (off := ![0, 0]) (N := 1024) (M := 1024) (n := 1024) (m := 1024) (a := 0) (b := 0) rfl inb f _ w ?_ ?_) (putA_full f w)
  · exact fun j => View.write_emb_of_mem (v := (qM : Memref sig .tc .vmem S1024x1024 .bf16).access (Rect.unit (s := S1024x1024) ![0, 0] S1024x1024.size inb)) f w (Finset.mem_univ j)
  · intro i hi
    refine View.write_of_not_mem _ _ _ ?_
    rw [View.setOn_univ]
    intro hm
    exact hi (by rwa [show ((qM : Memref sig .tc .vmem S1024x1024 .bf16).access (Rect.unit (s := S1024x1024) ![0, 0] S1024x1024.size inb)).set = _ from View.set_slice_whole _ _] at hm)

section Rules
variable (c : Dev nD)

/-- A load from a buffer held whole. -/
theorem ld {α : Type} {Q : α → sProp 𝕄} {cs : CoreSpace} {s : Shape} {e : EltTy} (m : Memref sig .tc cs s e) {r : LoadRect s} {hl : m.view.LoadsAt r}
    {k : (r.shape.Idx → Elt F e) → Prog (TpuEff nD τ sig (Elt F) Λ₀ .tc) α} {f : Buf (Elt F) (m.view.loc (c : Thread nD τ))} {v : r.shape.Idx → Elt F e}
    (hv : m.view.readAt (Elt F) r f = v) :
    (m.view.loc (c : Thread nD τ) ↦{fullShare} f)
      ⊢ iprop(((m.view.loc (c : Thread nD τ) ↦{fullShare} f) -∗ wp frame (wpE (defs₀ (F := F)) 𝒱₀ (c : Thread nD τ) none) Set.univ (k v) Q)
          -∗ wp frame (wpE (defs₀ (F := F)) 𝒱₀ (c : Thread nD τ) none) Set.univ (.op (.load m r hl) k) Q) := by
  subst hv
  exact wp_load 𝒱₀ (c : Thread nD τ) none Set.univ (m := m) (Finset.subset_univ _)

/-- A store to a buffer held whole. -/
theorem st {α : Type} {Q : α → sProp 𝕄} {cs : CoreSpace} {s : Shape} {e : EltTy} (m : Memref sig .tc cs s e) {r : Rect s} {w : r.shape.Idx → Elt F e}
    {hx : (m.access r).Stores Finset.univ} {hm} {k : PUnit → Prog (TpuEff nD τ sig (Elt F) Λ₀ .tc) α} {f g : Buf (Elt F) ((m.access r).loc (c : Thread nD τ))}
    (hv : (m.access r).write (Elt F) f w Finset.univ = g) :
    ((m.access r).loc (c : Thread nD τ) ↦{fullShare} f)
      ⊢ iprop((((m.access r).loc (c : Thread nD τ) ↦{fullShare} g) -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  subst hv
  exact wp_store 𝒱₀ (c : Thread nD τ) none Set.univ (m := m) (r := r) (Mk := Finset.univ) (Finset.subset_univ _)

section At
variable {n m : ℕ} {off : Fin 2 → ℕ} {a b : ℕ} (h : off = ![a, b])
include h
theorem ld_k {α : Type} {Q : α → sProp 𝕄} {inb : ∀ x, off x + (⟨2, ![n, m]⟩ : Shape).size x ≤ S1024x1024.size x} {hl}
    {k : ((⟨2, ![n, m]⟩ : Shape).Idx → Elt F .bf16) → Prog (TpuEff nD τ sig (Elt F) Λ₀ .tc) α} {f : S1024x1024.Idx → Elt F .bf16} :
    kP c f ⊢ iprop((kP c f -∗ wp frame (wpE (defs₀ (F := F)) 𝒱₀ (c : Thread nD τ) none) Set.univ (k (subA n m a b f)) Q)
      -∗ wp frame (wpE (defs₀ (F := F)) 𝒱₀ (c : Thread nD τ) none) Set.univ (.op (.load kM (Rect.unit (s := S1024x1024) off (⟨2, ![n, m]⟩ : Shape).size inb).toLoadRect hl) k) Q) :=
  ld c kM (r := (Rect.unit (s := S1024x1024) off (⟨2, ![n, m]⟩ : Shape).size inb).toLoadRect) (hl := hl) (k := k) (f := f) (v := subA n m a b f) (rd_k h f)
theorem ld_v {α : Type} {Q : α → sProp 𝕄} {inb : ∀ x, off x + (⟨2, ![n, m]⟩ : Shape).size x ≤ S1024x1024.size x} {hl}
    {k : ((⟨2, ![n, m]⟩ : Shape).Idx → Elt F .bf16) → Prog (TpuEff nD τ sig (Elt F) Λ₀ .tc) α} {f : S1024x1024.Idx → Elt F .bf16} :
    vP c f ⊢ iprop((vP c f -∗ wp frame (wpE (defs₀ (F := F)) 𝒱₀ (c : Thread nD τ) none) Set.univ (k (subA n m a b f)) Q)
      -∗ wp frame (wpE (defs₀ (F := F)) 𝒱₀ (c : Thread nD τ) none) Set.univ (.op (.load vM (Rect.unit (s := S1024x1024) off (⟨2, ![n, m]⟩ : Shape).size inb).toLoadRect hl) k) Q) :=
  ld c vM (r := (Rect.unit (s := S1024x1024) off (⟨2, ![n, m]⟩ : Shape).size inb).toLoadRect) (hl := hl) (k := k) (f := f) (v := subA n m a b f) (rd_v h f)
theorem ld_wo {α : Type} {Q : α → sProp 𝕄} {inb : ∀ x, off x + (⟨2, ![n, m]⟩ : Shape).size x ≤ S1024x1024.size x} {hl}
    {k : ((⟨2, ![n, m]⟩ : Shape).Idx → Elt F .bf16) → Prog (TpuEff nD τ sig (Elt F) Λ₀ .tc) α} {f : S1024x1024.Idx → Elt F .bf16} :
    woP c f ⊢ iprop((woP c f -∗ wp frame (wpE (defs₀ (F := F)) 𝒱₀ (c : Thread nD τ) none) Set.univ (k (subA n m a b f)) Q)
      -∗ wp frame (wpE (defs₀ (F := F)) 𝒱₀ (c : Thread nD τ) none) Set.univ (.op (.load woM (Rect.unit (s := S1024x1024) off (⟨2, ![n, m]⟩ : Shape).size inb).toLoadRect hl) k) Q) :=
  ld c woM (r := (Rect.unit (s := S1024x1024) off (⟨2, ![n, m]⟩ : Shape).size inb).toLoadRect) (hl := hl) (k := k) (f := f) (v := subA n m a b f) (rd_wo h f)
theorem ld_o {α : Type} {Q : α → sProp 𝕄} {inb : ∀ x, off x + (⟨2, ![n, m]⟩ : Shape).size x ≤ S1024x1024.size x} {hl}
    {k : ((⟨2, ![n, m]⟩ : Shape).Idx → Elt F .f32) → Prog (TpuEff nD τ sig (Elt F) Λ₀ .tc) α} {f : S1024x1024.Idx → Elt F .f32} :
    oP c f ⊢ iprop((oP c f -∗ wp frame (wpE (defs₀ (F := F)) 𝒱₀ (c : Thread nD τ) none) Set.univ (k (subA n m a b f)) Q)
      -∗ wp frame (wpE (defs₀ (F := F)) 𝒱₀ (c : Thread nD τ) none) Set.univ (.op (.load oM (Rect.unit (s := S1024x1024) off (⟨2, ![n, m]⟩ : Shape).size inb).toLoadRect hl) k) Q) :=
  ld c oM (r := (Rect.unit (s := S1024x1024) off (⟨2, ![n, m]⟩ : Shape).size inb).toLoadRect) (hl := hl) (k := k) (f := f) (v := subA n m a b f) (rd_o h f)
theorem ld_q {α : Type} {Q : α → sProp 𝕄} {inb : ∀ x, off x + (⟨2, ![n, m]⟩ : Shape).size x ≤ S1024x1024.size x} {hl}
    {k : ((⟨2, ![n, m]⟩ : Shape).Idx → Elt F .bf16) → Prog (TpuEff nD τ sig (Elt F) Λ₀ .tc) α} {f : S1024x1024.Idx → Elt F .bf16} :
    qP c f ⊢ iprop((qP c f -∗ wp frame (wpE (defs₀ (F := F)) 𝒱₀ (c : Thread nD τ) none) Set.univ (k (subA n m a b f)) Q)
      -∗ wp frame (wpE (defs₀ (F := F)) 𝒱₀ (c : Thread nD τ) none) Set.univ (.op (.load qM (Rect.unit (s := S1024x1024) off (⟨2, ![n, m]⟩ : Shape).size inb).toLoadRect hl) k) Q) :=
  ld c qM (r := (Rect.unit (s := S1024x1024) off (⟨2, ![n, m]⟩ : Shape).size inb).toLoadRect) (hl := hl) (k := k) (f := f) (v := subA n m a b f) (rd_q h f)
theorem ld_ac {α : Type} {Q : α → sProp 𝕄} {inb : ∀ x, off x + (⟨2, ![n, m]⟩ : Shape).size x ≤ S1024x1152.size x} {hl}
    {k : ((⟨2, ![n, m]⟩ : Shape).Idx → Elt F .f32) → Prog (TpuEff nD τ sig (Elt F) Λ₀ .tc) α} {f : S1024x1152.Idx → Elt F .f32} :
    acP c f ⊢ iprop((acP c f -∗ wp frame (wpE (defs₀ (F := F)) 𝒱₀ (c : Thread nD τ) none) Set.univ (k (subA n m a b f)) Q)
      -∗ wp frame (wpE (defs₀ (F := F)) 𝒱₀ (c : Thread nD τ) none) Set.univ (.op (.load acM (Rect.unit (s := S1024x1152) off (⟨2, ![n, m]⟩ : Shape).size inb).toLoadRect hl) k) Q) :=
  ld c acM (r := (Rect.unit (s := S1024x1152) off (⟨2, ![n, m]⟩ : Shape).size inb).toLoadRect) (hl := hl) (k := k) (f := f) (v := subA n m a b f) (rd_ac h f)
theorem st_o {α : Type} {Q : α → sProp 𝕄} {inb : ∀ x, off x + (⟨2, ![n, m]⟩ : Shape).size x ≤ S1024x1024.size x} {w : (⟨2, ![n, m]⟩ : Shape).Idx → Elt F .f32} {hx hm}
    {k : PUnit → Prog (TpuEff nD τ sig (Elt F) Λ₀ .tc) α} {f : S1024x1024.Idx → Elt F .f32} :
    oP c f ⊢ iprop((oP c (putA a b f w) -∗ wp frame (wpE (defs₀ (F := F)) 𝒱₀ (c : Thread nD τ) none) Set.univ (k ⟨⟩) Q)
      -∗ wp frame (wpE (defs₀ (F := F)) 𝒱₀ (c : Thread nD τ) none) Set.univ (.op (.store oM (Rect.unit (s := S1024x1024) off (⟨2, ![n, m]⟩ : Shape).size inb) w Finset.univ hx hm) k) Q) :=
  st c oM (r := Rect.unit (s := S1024x1024) off (⟨2, ![n, m]⟩ : Shape).size inb) (w := w) (hx := hx) (hm := hm) (k := k) (f := f) (g := putA a b f w) (wr_o h f w)
theorem st_ac {α : Type} {Q : α → sProp 𝕄} {inb : ∀ x, off x + (⟨2, ![n, m]⟩ : Shape).size x ≤ S1024x1152.size x} {w : (⟨2, ![n, m]⟩ : Shape).Idx → Elt F .f32} {hx hm}
    {k : PUnit → Prog (TpuEff nD τ sig (Elt F) Λ₀ .tc) α} {f : S1024x1152.Idx → Elt F .f32} :
    acP c f ⊢ iprop((acP c (putA a b f w) -∗ wp frame (wpE (defs₀ (F := F)) 𝒱₀ (c : Thread nD τ) none) Set.univ (k ⟨⟩) Q)
      -∗ wp frame (wpE (defs₀ (F := F)) 𝒱₀ (c : Thread nD τ) none) Set.univ (.op (.store acM (Rect.unit (s := S1024x1152) off (⟨2, ![n, m]⟩ : Shape).size inb) w Finset.univ hx hm) k) Q) :=
  st c acM (r := Rect.unit (s := S1024x1152) off (⟨2, ![n, m]⟩ : Shape).size inb) (w := w) (hx := hx) (hm := hm) (k := k) (f := f) (g := putA a b f w) (wr_ac h f w)
/-- A load of a rectangle of the gather buffer, at any share of rows that hold it. -/
theorem ld_ab {a' n' : ℕ} {q : PosShare TreeShare} (h₁ : a' ≤ a) (h₂ : a + n ≤ a' + n') {α : Type} {Q : α → sProp 𝕄} {inb : ∀ x, off x + (⟨2, ![n, m]⟩ : Shape).size x ≤ S1024x1152.size x} {hl}
    {k : ((⟨2, ![n, m]⟩ : Shape).Idx → Elt F .bf16) → Prog (TpuEff nD τ sig (Elt F) Λ₀ .tc) α} {f : S1024x1152.Idx → Elt F .bf16} :
    abP c (rows a' n') q f ⊢ iprop((abP c (rows a' n') q f -∗ wp frame (wpE (defs₀ (F := F)) 𝒱₀ (c : Thread nD τ) none) Set.univ (k (subA n m a b f)) Q)
      -∗ wp frame (wpE (defs₀ (F := F)) 𝒱₀ (c : Thread nD τ) none) Set.univ (.op (.load abM (Rect.unit (s := S1024x1152) off (⟨2, ![n, m]⟩ : Shape).size inb).toLoadRect hl) k) Q) := by
  have hh := wp_load (Val := Elt F) (Γ := PendingWaitsCtx.empty) (defs := defs₀ (F := F)) 𝒱₀ (c : Thread nD τ) none Set.univ (m := abM) (hl := hl) (k := k) (Q := Q) (q := q) (f := f) (sub_ab h (inb := inb) h₁ h₂)
  rw [rd_ab h] at hh
  exact hh
/-- A store to a rectangle of the gather buffer, on rows that hold it. -/
theorem st_ab {a' n' : ℕ} (h₁ : a' ≤ a) (h₂ : a + n ≤ a' + n') {α : Type} {Q : α → sProp 𝕄} {inb : ∀ x, off x + (⟨2, ![n, m]⟩ : Shape).size x ≤ S1024x1152.size x} {w : (⟨2, ![n, m]⟩ : Shape).Idx → Elt F .bf16} {hx hm}
    {k : PUnit → Prog (TpuEff nD τ sig (Elt F) Λ₀ .tc) α} {f : S1024x1152.Idx → Elt F .bf16} :
    abP c (rows a' n') fullShare f ⊢ iprop((abP c (rows a' n') fullShare (putA a b f w) -∗ wp frame (wpE (defs₀ (F := F)) 𝒱₀ (c : Thread nD τ) none) Set.univ (k ⟨⟩) Q)
      -∗ wp frame (wpE (defs₀ (F := F)) 𝒱₀ (c : Thread nD τ) none) Set.univ (.op (.store abM (Rect.unit (s := S1024x1152) off (⟨2, ![n, m]⟩ : Shape).size inb) w Finset.univ hx hm) k) Q) := by
  have hh := wp_store (Val := Elt F) (Γ := PendingWaitsCtx.empty) (defs := defs₀ (F := F)) 𝒱₀ (c : Thread nD τ) none Set.univ (m := abM) (r := Rect.unit (s := S1024x1152) off (⟨2, ![n, m]⟩ : Shape).size inb) (Mk := Finset.univ) (w := w) (hx := hx) (hm := hm) (k := k) (Q := Q) (f := f) (sub_abw h (inb := inb) h₁ h₂)
  rw [wr_ab h] at hh
  exact hh
end At
theorem ld_l0 {α : Type} {Q : α → sProp 𝕄} {inb : ∀ x, (![0, 0] : Fin 2 → ℕ) x + S512x1152.size x ≤ S512x1152.size x} {hl}
    {k : (S512x1152.Idx → Elt F .bf16) → Prog (TpuEff nD τ sig (Elt F) Λ₀ .tc) α} {f : S512x1152.Idx → Elt F .bf16} :
    l0P c f ⊢ iprop((l0P c f -∗ wp frame (wpE (defs₀ (F := F)) 𝒱₀ (c : Thread nD τ) none) Set.univ (k f) Q)
      -∗ wp frame (wpE (defs₀ (F := F)) 𝒱₀ (c : Thread nD τ) none) Set.univ (.op (.load l0M (Rect.unit (s := S512x1152) ![0, 0] S512x1152.size inb).toLoadRect hl) k) Q) :=
  ld c l0M (r := (Rect.unit (s := S512x1152) ![0, 0] S512x1152.size inb).toLoadRect) (hl := hl) (k := k) (f := f) (v := f) (emb_full 512 1152 inb f)
theorem ld_l1 {α : Type} {Q : α → sProp 𝕄} {inb : ∀ x, (![0, 0] : Fin 2 → ℕ) x + S256x1152.size x ≤ S256x1152.size x} {hl}
    {k : (S256x1152.Idx → Elt F .bf16) → Prog (TpuEff nD τ sig (Elt F) Λ₀ .tc) α} {f : S256x1152.Idx → Elt F .bf16} :
    l1P c f ⊢ iprop((l1P c f -∗ wp frame (wpE (defs₀ (F := F)) 𝒱₀ (c : Thread nD τ) none) Set.univ (k f) Q)
      -∗ wp frame (wpE (defs₀ (F := F)) 𝒱₀ (c : Thread nD τ) none) Set.univ (.op (.load l1M (Rect.unit (s := S256x1152) ![0, 0] S256x1152.size inb).toLoadRect hl) k) Q) :=
  ld c l1M (r := (Rect.unit (s := S256x1152) ![0, 0] S256x1152.size inb).toLoadRect) (hl := hl) (k := k) (f := f) (v := f) (emb_full 256 1152 inb f)
theorem ld_l2 {α : Type} {Q : α → sProp 𝕄} {inb : ∀ x, (![0, 0] : Fin 2 → ℕ) x + S128x1152.size x ≤ S128x1152.size x} {hl}
    {k : (S128x1152.Idx → Elt F .bf16) → Prog (TpuEff nD τ sig (Elt F) Λ₀ .tc) α} {f : S128x1152.Idx → Elt F .bf16} :
    l2P c f ⊢ iprop((l2P c f -∗ wp frame (wpE (defs₀ (F := F)) 𝒱₀ (c : Thread nD τ) none) Set.univ (k f) Q)
      -∗ wp frame (wpE (defs₀ (F := F)) 𝒱₀ (c : Thread nD τ) none) Set.univ (.op (.load l2M (Rect.unit (s := S128x1152) ![0, 0] S128x1152.size inb).toLoadRect hl) k) Q) :=
  ld c l2M (r := (Rect.unit (s := S128x1152) ![0, 0] S128x1152.size inb).toLoadRect) (hl := hl) (k := k) (f := f) (v := f) (emb_full 128 1152 inb f)
theorem ld_l3 {α : Type} {Q : α → sProp 𝕄} {inb : ∀ x, (![0, 0] : Fin 2 → ℕ) x + S128x1152.size x ≤ S128x1152.size x} {hl}
    {k : (S128x1152.Idx → Elt F .bf16) → Prog (TpuEff nD τ sig (Elt F) Λ₀ .tc) α} {f : S128x1152.Idx → Elt F .bf16} :
    l3P c f ⊢ iprop((l3P c f -∗ wp frame (wpE (defs₀ (F := F)) 𝒱₀ (c : Thread nD τ) none) Set.univ (k f) Q)
      -∗ wp frame (wpE (defs₀ (F := F)) 𝒱₀ (c : Thread nD τ) none) Set.univ (.op (.load l3M (Rect.unit (s := S128x1152) ![0, 0] S128x1152.size inb).toLoadRect hl) k) Q) :=
  ld c l3M (r := (Rect.unit (s := S128x1152) ![0, 0] S128x1152.size inb).toLoadRect) (hl := hl) (k := k) (f := f) (v := f) (emb_full 128 1152 inb f)
theorem ldw_x {α : Type} {Q : α → sProp 𝕄} {inb : ∀ x, (![0, 0] : Fin 2 → ℕ) x + S1024x1024.size x ≤ S1024x1024.size x} {hl}
    {k : (S1024x1024.Idx → Elt F .bf16) → Prog (TpuEff nD τ sig (Elt F) Λ₀ .tc) α} {f : S1024x1024.Idx → Elt F .bf16} :
    xP c f ⊢ iprop((xP c f -∗ wp frame (wpE (defs₀ (F := F)) 𝒱₀ (c : Thread nD τ) none) Set.univ (k f) Q)
      -∗ wp frame (wpE (defs₀ (F := F)) 𝒱₀ (c : Thread nD τ) none) Set.univ (.op (.load xM (Rect.unit (s := S1024x1024) ![0, 0] S1024x1024.size inb).toLoadRect hl) k) Q) :=
  ld c xM (r := (Rect.unit (s := S1024x1024) ![0, 0] S1024x1024.size inb).toLoadRect) (hl := hl) (k := k) (f := f) (v := f) (emb_full 1024 1024 inb f)
theorem ldw_wq {α : Type} {Q : α → sProp 𝕄} {inb : ∀ x, (![0, 0] : Fin 2 → ℕ) x + S1024x1024.size x ≤ S1024x1024.size x} {hl}
    {k : (S1024x1024.Idx → Elt F .bf16) → Prog (TpuEff nD τ sig (Elt F) Λ₀ .tc) α} {f : S1024x1024.Idx → Elt F .bf16} :
    wqP c f ⊢ iprop((wqP c f -∗ wp frame (wpE (defs₀ (F := F)) 𝒱₀ (c : Thread nD τ) none) Set.univ (k f) Q)
      -∗ wp frame (wpE (defs₀ (F := F)) 𝒱₀ (c : Thread nD τ) none) Set.univ (.op (.load wqM (Rect.unit (s := S1024x1024) ![0, 0] S1024x1024.size inb).toLoadRect hl) k) Q) :=
  ld c wqM (r := (Rect.unit (s := S1024x1024) ![0, 0] S1024x1024.size inb).toLoadRect) (hl := hl) (k := k) (f := f) (v := f) (emb_full 1024 1024 inb f)
theorem ldw_q {α : Type} {Q : α → sProp 𝕄} {inb : ∀ x, (![0, 0] : Fin 2 → ℕ) x + S1024x1024.size x ≤ S1024x1024.size x} {hl}
    {k : (S1024x1024.Idx → Elt F .bf16) → Prog (TpuEff nD τ sig (Elt F) Λ₀ .tc) α} {f : S1024x1024.Idx → Elt F .bf16} :
    qP c f ⊢ iprop((qP c f -∗ wp frame (wpE (defs₀ (F := F)) 𝒱₀ (c : Thread nD τ) none) Set.univ (k f) Q)
      -∗ wp frame (wpE (defs₀ (F := F)) 𝒱₀ (c : Thread nD τ) none) Set.univ (.op (.load qM (Rect.unit (s := S1024x1024) ![0, 0] S1024x1024.size inb).toLoadRect hl) k) Q) :=
  ld c qM (r := (Rect.unit (s := S1024x1024) ![0, 0] S1024x1024.size inb).toLoadRect) (hl := hl) (k := k) (f := f) (v := f) (emb_full 1024 1024 inb f)
/-- The store of the whole query buffer. -/
theorem stw_q {α : Type} {Q : α → sProp 𝕄} {inb : ∀ x, (![0, 0] : Fin 2 → ℕ) x + S1024x1024.size x ≤ S1024x1024.size x} {w : S1024x1024.Idx → Elt F .bf16} {hx hm}
    {k : PUnit → Prog (TpuEff nD τ sig (Elt F) Λ₀ .tc) α} {f : S1024x1024.Idx → Elt F .bf16} :
    qP c f ⊢ iprop((qP c w -∗ wp frame (wpE (defs₀ (F := F)) 𝒱₀ (c : Thread nD τ) none) Set.univ (k ⟨⟩) Q)
      -∗ wp frame (wpE (defs₀ (F := F)) 𝒱₀ (c : Thread nD τ) none) Set.univ (.op (.store qM (Rect.unit (s := S1024x1024) ![0, 0] S1024x1024.size inb) w Finset.univ hx hm) k) Q) :=
  st c qM (r := Rect.unit (s := S1024x1024) ![0, 0] S1024x1024.size inb) (w := w) (hx := hx) (hm := hm) (k := k) (f := f) (g := w) (wr_q inb f w)
end Rules

end Cert.KernelIdealProof
-- ==== Proof.KI.Sends.lean ====
/-
The waits and copies of the kernel, each cell's own: what a wait hands over, what a copy's landing pays, and the rows
of the gather buffer cut in two and joined again.
-/
module

public import proofs.«01_k».proof.Proof.KI.Steps
public import proofs.«01_k».proof.Proof.KI.Access

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rows -/

section RowFacts
variable (c : Dev nD)
theorem at_kp0 : (kp0 c = 0 ∧ snd0 c = 0 + 512) ∨ (kp0 c = 0 + 512 ∧ snd0 c = 0) := by revert c; decide +kernel
theorem at_kp1 : (kp1 c = kp0 c ∧ snd1 c = kp0 c + 256) ∨ (kp1 c = kp0 c + 256 ∧ snd1 c = kp0 c) := by revert c; decide +kernel
theorem at_reg : (reg c = kp1 c ∧ snd2 c = kp1 c + 128) ∨ (reg c = kp1 c + 128 ∧ snd2 c = kp1 c) := by revert c; decide +kernel
theorem kp0_px1 : kp0 (px 1 c) = snd0 c := by revert c; decide +kernel
theorem kp1_px4 : kp1 (px 4 c) = snd1 c := by revert c; decide +kernel
theorem reg_px2 : reg (px 2 c) = snd2 c := by revert c; decide +kernel
theorem reg_px8 : reg (px 8 c) = reg c := by revert c; decide +kernel
theorem snd0_px1 : snd0 (px 1 c) = kp0 c := by revert c; decide +kernel
theorem snd1_px4 : snd1 (px 4 c) = kp1 c := by revert c; decide +kernel
theorem kp0_px4 : kp0 (px 4 c) = kp0 c := by revert c; decide +kernel
theorem px24 : px 2 (px 4 c) = px 6 c := by revert c; decide +kernel
theorem px42 : px 4 (px 2 c) = px 6 c := by revert c; decide +kernel
theorem px64 : px 6 (px 4 c) = px 2 c := by revert c; decide +kernel
theorem px31 : px 3 (px 1 c) = px 2 c := by revert c; decide +kernel
theorem px51 : px 5 (px 1 c) = px 4 c := by revert c; decide +kernel
theorem px71 : px 7 (px 1 c) = px 6 c := by revert c; decide +kernel
theorem px21 : px 2 (px 1 c) = px 3 c := by revert c; decide +kernel
theorem px41 : px 4 (px 1 c) = px 5 c := by revert c; decide +kernel
theorem px61 : px 6 (px 1 c) = px 7 c := by revert c; decide +kernel
theorem own_px1 (j : Fin 8) : own (px 1 c) j.val = own c j.val := by revert c j; decide +kernel
theorem own_px2 (j : Fin 8) : own (px 2 c) j.val = own c j.val := by revert c j; decide +kernel
theorem own_px4 (j : Fin 8) : own (px 4 c) j.val = own c j.val := by revert c j; decide +kernel
theorem own_reg : own c (reg c / 128) = c := by revert c; decide +kernel
theorem reg_mod : reg c % 128 = 0 := by revert c; decide +kernel
theorem reg_le : reg c + 128 ≤ 1024 := by revert c; decide +kernel
theorem snd0_le : snd0 c + 512 ≤ 1024 := by revert c; decide +kernel
theorem kp0_le : kp0 c + 512 ≤ 1024 := by revert c; decide +kernel
theorem snd1_le : snd1 c + 256 ≤ 1024 := by revert c; decide +kernel
theorem kp1_le : kp1 c + 256 ≤ 1024 := by revert c; decide +kernel
theorem snd2_le : snd2 c + 128 ≤ 1024 := by revert c; decide +kernel
end RowFacts

section Ab
variable (V : Vals F) (c : Dev nD)
omit [FloatOps F]
theorem ab_px (m : Fin 16) (hm : ∀ j : Fin 8, own (px m c) j.val = own c j.val) : V.ab (px m c) = V.ab c := by
  funext i
  have h0 : (i 0).val < 1024 := (i 0).isLt
  unfold Vals.ab
  rw [hm ⟨(i 0).val / 128, by omega⟩]
theorem ab_px1 : V.ab (px 1 c) = V.ab c := ab_px V c 1 (own_px1 c)
theorem ab_px2 : V.ab (px 2 c) = V.ab c := ab_px V c 2 (own_px2 c)
theorem ab_px4 : V.ab (px 4 c) = V.ab c := ab_px V c 4 (own_px4 c)

/-- The buffer's own rows, once stored, are the gathered buffer's. -/
theorem ab_put (f : S1024x1152.Idx → Elt F .bf16) : ∀ i ∈ rows (reg c) 128, putA (reg c) 0 f (V.fin c) i = V.ab c i := by
  intro i hi
  rw [mem_rows] at hi
  have h1 : (i 1).val < 1152 := (i 1).isLt
  have hm := reg_mod c
  have hd : (i 0).val / 128 = reg c / 128 := by omega
  unfold putA
  rw [dif_pos ⟨hi, by omega, by omega⟩]
  unfold Vals.ab
  rw [hd, own_reg]
  congr 1
  funext x
  apply Fin.ext
  fin_cases x
  · show (i 0).val - reg c = (i 0).val % 128
    omega
  · show (i 1).val - 0 = (i 1).val
    omega

/-- Rows copied from the gathered buffer are the gathered buffer's. -/
theorem ab_cp {a n : ℕ} (ha : a + n ≤ 1024) (f g : S1024x1152.Idx → Elt F .bf16) : ∀ i ∈ rows a n, putA a 0 f (subA n 1152 a 0 g) i = g i := by
  intro i hi
  rw [mem_rows] at hi
  have h1 : (i 1).val < 1152 := (i 1).isLt
  unfold putA
  rw [dif_pos ⟨hi, by omega, by omega⟩]
  unfold subA
  congr 1
  funext x
  apply Fin.ext
  fin_cases x
  · show (Fin.ofNat 1024 (a + ((i 0).val - a))).val = (i 0).val
    rw [show a + ((i 0).val - a) = (i 0).val by omega]
    exact Nat.mod_eq_of_lt (by omega)
  · show (Fin.ofNat 1152 (0 + ((i 1).val - 0))).val = (i 1).val
    rw [show 0 + ((i 1).val - 0) = (i 1).val by omega]
    exact Nat.mod_eq_of_lt (by omega)

theorem abP_congr {a n : ℕ} {q : PosShare TreeShare} {f g : S1024x1152.Idx → Elt F .bf16} (h : ∀ i ∈ rows a n, f i = g i) :
    (abP c (rows a n) q f : sProp 𝕄) = abP c (rows a n) q g := pointsTo_congr h

/-- A block of rows and its two halves. -/
theorem ab_halves {a n x y : ℕ} (h : (x = a ∧ y = a + n) ∨ (x = a + n ∧ y = a)) (q : PosShare TreeShare) (f : S1024x1152.Idx → Elt F .bf16) :
    (abP c (rows a (n + n)) q f : sProp 𝕄) ⊣⊢ iprop(abP c (rows x n) q f ∗ abP c (rows y n) q f) := by
  have hd : Disjoint (rows x n) (rows y n) := by
    rw [Finset.disjoint_left]
    intro i h1 h2
    rw [mem_rows] at h1 h2
    omega
  have hu : rows a (n + n) = rows x n ∪ rows y n := by
    ext i
    rw [Finset.mem_union, mem_rows, mem_rows, mem_rows]
    omega
  unfold abP
  rw [hu]
  exact pointsTo_union hd
theorem abP_share {a n : ℕ} (q : PosShare TreeShare) (f : S1024x1152.Idx → Elt F .bf16) :
    (abP c (rows a n) q f : sProp 𝕄) ⊣⊢ iprop(abP c (rows a n) q.left f ∗ abP c (rows a n) q.right f) :=
  pointsTo_share (PosShare.mem_left_op_right q)
theorem rows_univ : rows 0 (512 + 512) = Finset.univ := by
  ext i
  rw [mem_rows]
  have : (i 0).val < 1024 := (i 0).isLt
  exact ⟨fun _ => Finset.mem_univ _, fun _ => ⟨Nat.zero_le _, by omega⟩⟩
end Ab

/-! ## The waits -/

omit [FloatOps F] in
theorem bsi {s : Finset DN} {i : DN} (hi : i ∉ s) {Φ : DN → sProp 𝕄} : bigSep (insert i s) Φ = iprop(Φ i ∗ bigSep s Φ) := BI.bigSep_insert hi

variable (V : Vals F) (K : Dev nD × Fin 19 → ℕ) (c : Dev nD)

/-- A wait for the one duty of a cell's round. -/
theorem wt {α : Type} {Q : α → sProp 𝕄} {k : PUnit → Prog (TpuEff nD τ sig (Elt F) Λ₀ .tc) α} {w : TpuEff nD τ sig (Elt F) Λ₀ .tc PUnit} (kk : Fin 19) (r : ℕ) (n : ℕ) (sm : SemLoc sig) (hs : sm = csem kk)
    (hw : ∀ K' : PUnit → sProp 𝕄, wpE (defs₀ (F := F)) 𝒱₀ (c : Thread nD τ) none Set.univ w K' = waitSpec (c : Thread nD τ) Set.univ sm n K')
    (hd : dutiesK kk r = {0}) (hn : n = amountK kk r) (l : List (Fin 16 × Fin 19 × ℕ)) (hl : ∀ e ∈ l, lvK kk < lvK e.2.1) :
    iprop(recs V K ∗ levAts L lv ∗ cred (tallyAt (kcell c kk) () n) ∗ OW c l ∗ atPos ER (kcell c kk) r ∅ 0)
      ⊢ iprop(((OW c l ∗ atPos ER (kcell c kk) (r + 1) ∅ 0 ∗ reached ER (kcell c kk) (r + 1) ∗ payK V c kk r 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := st_wait V K c (Q := Q) (k := k) kk r n sm hs hw (by rw [hd, Finset.card_singleton, Nat.one_mul]; exact hn) l hl
  rw [hd, bigSep_singleton] at h
  exact h
omit [FloatOps F] in
theorem cr_512 {o : Fin 2 → ℕ} {inb : ∀ x, o x + (⟨2, ![512, 1152]⟩ : Shape).size x ≤ S1024x1152.size x} {hs} :
    ((abM : Memref sig .tc .vmem S1024x1152 .bf16).slice (Rect.unit (s := S1024x1152) o (⟨2, ![512, 1152]⟩ : Shape).size inb) hs).view.dmaCredit = n512 :=
  View.dmaCredit_closed _ ⟨2, ![512, 1152]⟩ rfl (abM : Memref sig .tc .vmem S1024x1152 .bf16).view.buf rfl _ (by decide +kernel)
omit [FloatOps F] in
theorem cr_256 {o : Fin 2 → ℕ} {inb : ∀ x, o x + (⟨2, ![256, 1152]⟩ : Shape).size x ≤ S1024x1152.size x} {hs} :
    ((abM : Memref sig .tc .vmem S1024x1152 .bf16).slice (Rect.unit (s := S1024x1152) o (⟨2, ![256, 1152]⟩ : Shape).size inb) hs).view.dmaCredit = n256 :=
  View.dmaCredit_closed _ ⟨2, ![256, 1152]⟩ rfl (abM : Memref sig .tc .vmem S1024x1152 .bf16).view.buf rfl _ (by decide +kernel)
omit [FloatOps F] in
theorem cr_128 {o : Fin 2 → ℕ} {inb : ∀ x, o x + (⟨2, ![128, 1152]⟩ : Shape).size x ≤ S1024x1152.size x} {hs} :
    ((abM : Memref sig .tc .vmem S1024x1152 .bf16).slice (Rect.unit (s := S1024x1152) o (⟨2, ![128, 1152]⟩ : Shape).size inb) hs).view.dmaCredit = n128 :=
  View.dmaCredit_closed _ ⟨2, ![128, 1152]⟩ rfl (abM : Memref sig .tc .vmem S1024x1152 .bf16).view.buf rfl _ (by decide +kernel)
omit [FloatOps F] in
theorem cr_l3 : (l3M : Memref sig .tc .vmem S128x1152 .bf16).view.dmaCredit = n128 := by decide +kernel
/-- The wait of a copy, at the units its destination's size gives. -/
theorem wpw {sp sp' : Space} {s s' : Shape} {e e' : EltTy} {sem : DmaSem sig} {src : Memref sig .tc sp' s' e'} {κ' : Kind} {dst : Memref sig κ' sp s e} {hsrc hdst} {N : ℕ}
    (hN : dst.view.dmaCredit = N) (K' : PUnit → sProp 𝕄) :
    wpE (defs₀ (F := F)) 𝒱₀ (c : Thread nD τ) none Set.univ (.waitDma2 sem src dst hsrc hdst) K' = waitSpec (c : Thread nD τ) Set.univ (.dma sem) N K' := by
  subst hN; exact wpE_waitDma2_eq (defs := defs₀ (F := F)) 𝒱₀ (c : Thread nD τ) none Set.univ K'
/-- The wait for the last cell's two duties. -/
theorem wt18 {α : Type} {Q : α → sProp 𝕄} {k : PUnit → Prog (TpuEff nD τ sig (Elt F) Λ₀ .tc) α} {w : TpuEff nD τ sig (Elt F) Λ₀ .tc PUnit} (n : ℕ) (sm : SemLoc sig) (hs : sm = csem 18)
    (hw : ∀ K' : PUnit → sProp 𝕄, wpE (defs₀ (F := F)) 𝒱₀ (c : Thread nD τ) none Set.univ w K' = waitSpec (c : Thread nD τ) Set.univ sm n K')
    (hn : n = n256) (l : List (Fin 16 × Fin 19 × ℕ)) (hl : ∀ e ∈ l, lvK 18 < lvK e.2.1) :
    iprop(recs V K ∗ levAts L lv ∗ cred (tallyAt (kcell c 18) () n) ∗ OW c l ∗ atPos ER (kcell c 18) 0 ∅ 0)
      ⊢ iprop(((OW c l ∗ atPos ER (kcell c 18) 1 ∅ 0 ∗ abP c (rows (reg (px 5 c)) 128) fullShare (V.ab c) ∗ abP c (rows (reg (px 7 c)) 128) fullShare (V.ab c))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := st_wait V K c (Q := Q) (k := k) 18 0 n sm hs hw (by rw [hn, n256_eq]; rw [show dutiesK 18 0 = {0, 1} from rfl, show amountK 18 0 = n128 from rfl, show (({0, 1} : Finset DN)).card = 2 from rfl]; omega) l hl
  rw [show dutiesK 18 0 = insert 0 {1} from rfl, bsi (by decide), bigSep_singleton,
    show payK V c 18 0 0 = abP c (rows (reg (px 5 c)) 128) fullShare (V.ab c) from rfl, show payK V c 18 0 1 = abP c (rows (reg (px 7 c)) 128) fullShare (V.ab c) from rfl] at h
  refine h.trans (wand_mono_left ?_)
  iintro H ⟨HO, HA, -, H5, H7⟩
  iapply H
  isplitl [HO]; · iexact HO
  isplitl [HA]; · iexact HA
  isplitl [H5]; · iexact H5
  iexact H7
/-- The wait at the barrier. -/
theorem wt0 {α : Type} {Q : α → sProp 𝕄} {k : PUnit → Prog (TpuEff nD τ sig (Elt F) Λ₀ .tc) α} {w : TpuEff nD τ sig (Elt F) Λ₀ .tc PUnit} (sm : SemLoc sig) (hs : sm = csem 0)
    (hw : ∀ K' : PUnit → sProp 𝕄, wpE (defs₀ (F := F)) 𝒱₀ (c : Thread nD τ) none Set.univ w K' = waitSpec (c : Thread nD τ) Set.univ sm 4 K')
    (l : List (Fin 16 × Fin 19 × ℕ)) (hl : ∀ e ∈ l, lvK 0 < lvK e.2.1) :
    iprop(recs V K ∗ levAts L lv ∗ cred (tallyAt (kcell c 0) () 4) ∗ OW c l ∗ atPos ER (kcell c 0) 0 ∅ 0)
      ⊢ iprop(((OW c l ∗ atPos ER (kcell c 0) 1 ∅ 0 ∗ (∃ f, l0P (px 1 c) f) ∗ (∃ f, l2P (px 2 c) f) ∗ (∃ f, l1P (px 4 c) f) ∗ (∃ f, l3P (px 8 c) f))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := st_wait V K c (Q := Q) (k := k) 0 0 4 sm hs hw rfl l hl
  rw [show dutiesK 0 0 = insert 0 (insert 1 (insert 2 {3})) from by decide, bsi (by decide), bsi (by decide), bsi (by decide), bigSep_singleton,
    show payK V c 0 0 0 = iprop(∃ f, l0P (px 1 c) f) from rfl, show payK V c 0 0 1 = iprop(∃ f, l2P (px 2 c) f) from rfl,
    show payK V c 0 0 2 = iprop(∃ f, l1P (px 4 c) f) from rfl, show payK V c 0 0 3 = iprop(∃ f, l3P (px 8 c) f) from rfl] at h
  refine h.trans (wand_mono_left ?_)
  iintro H ⟨HO, HA, -, H0, H1, H2, H3⟩
  iapply H
  isplitl [HO]; · iexact HO
  isplitl [HA]; · iexact HA
  isplitl [H0]; · iexact H0
  isplitl [H1]; · iexact H1
  isplitl [H2]; · iexact H2
  iexact H3

/-! ## What the copies pay -/

omit [FloatOps F] in
theorem l0_eq (c : Dev nD) (f : S512x1152.Idx → Elt F .bf16) : ((l0M : Memref sig .tc .vmem S512x1152 .bf16).view.loc (c : Thread nD τ) ↦{fullShare} f : sProp 𝕄) = l0P c f := rfl
omit [FloatOps F] in
theorem l1_eq (c : Dev nD) (f : S256x1152.Idx → Elt F .bf16) : ((l1M : Memref sig .tc .vmem S256x1152 .bf16).view.loc (c : Thread nD τ) ↦{fullShare} f : sProp 𝕄) = l1P c f := rfl
omit [FloatOps F] in
theorem l2_eq (c : Dev nD) (f : S128x1152.Idx → Elt F .bf16) : ((l2M : Memref sig .tc .vmem S128x1152 .bf16).view.loc (c : Thread nD τ) ↦{fullShare} f : sProp 𝕄) = l2P c f := rfl
omit [FloatOps F] in
theorem l3_eq (c : Dev nD) (f : S128x1152.Idx → Elt F .bf16) : ((l3M : Memref sig .tc .vmem S128x1152 .bf16).view.loc (c : Thread nD τ) ↦{fullShare} f : sProp 𝕄) = l3P c f := rfl

omit [FloatOps F] in
theorem write_l0 (f w : S512x1152.Idx → Elt F .bf16) : (l0M : Memref sig .tc .vmem S512x1152 .bf16).view.write (Elt F) f w Finset.univ = w := View.write_whole_univ _ _ _
omit [FloatOps F] in
theorem write_l1 (f w : S256x1152.Idx → Elt F .bf16) : (l1M : Memref sig .tc .vmem S256x1152 .bf16).view.write (Elt F) f w Finset.univ = w := View.write_whole_univ _ _ _
omit [FloatOps F] in
theorem write_l2 (f w : S128x1152.Idx → Elt F .bf16) : (l2M : Memref sig .tc .vmem S128x1152 .bf16).view.write (Elt F) f w Finset.univ = w := View.write_whole_univ _ _ _
omit [FloatOps F] in
theorem write_l3 (f w : S128x1152.Idx → Elt F .bf16) : (l3M : Memref sig .tc .vmem S128x1152 .bf16).view.write (Elt F) f w Finset.univ = w := View.write_whole_univ _ _ _
/-- The reduce-scatter's copy number 0: the landing is paid, and the rows sent go with it. -/
theorem snd9 {α : Type} {Q : α → sProp 𝕄} {k : PUnit → Prog (TpuEff nD τ sig (Elt F) Λ₀ .tc) α} {o : Fin 2 → ℕ} (ho : o = ![snd0 c, 0]) {inb : ∀ x, o x + (⟨2, ![512, 1152]⟩ : Shape).size x ≤ S1024x1152.size x} {hs}
    (nd : Dev nD) (hn : nd = px 1 c) {sS sR : DmaSem sig} (hsS : SemLoc.dma sS = csem 1) (hsR : SemLoc.dma sR = csem 9)
    {hsc : (l0M : Memref sig (Dev.tc nd : Thread nD τ).2.kind .vmem (⟨2, ![512, 1152]⟩ : Shape) .bf16).view.ref.isScScratch = false} {hsrc hdst hsem}
    (fs : S1024x1152.Idx → Elt F .bf16) (hv : subA 512 1152 (snd0 c) 0 fs = V.l0 (px 1 c))
    {L₀ : List (Fin 16 × Fin 19 × ℕ)} (l : List (Fin 16 × Fin 19 × ℕ)) (hL : L₀ = (1, 9, n512) :: l) :
    iprop(recs V K ∗ OW c L₀ ∗ abP c (rows (snd0 c) 512) fullShare fs ∗ (∃ f, l0P (px 1 c) f)
        ∗ dutyTok ER (kcell c 1) 0 0 ∗ reached ER (kcell c 1) 0 ∗ dutyTok ER (kcell (px 1 c) 9) 0 0)
      ⊢ iprop(((cred (tallyAt (kcell c 1) () n512) ∗ OW c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((abM : Memref sig .tc .vmem S1024x1152 .bf16).slice (Rect.unit (s := S1024x1152) o (⟨2, ![512, 1152]⟩ : Shape).size inb) hs)
                (.remote (Dev.tc nd : Thread nD τ) l0M (.dma sS) hsc) (.dma sR) hsrc hdst hsem) k) Q) := by
  iintro ⟨#HR, HO, Hs, ⟨%f, Hd⟩, Ht1, #Hr1, Ht2⟩ Hk
  have hpay : iprop(((l0M : Memref sig .tc .vmem S512x1152 .bf16).view.loc (px 1 c : Thread nD τ) ↦[(l0M : Memref sig .tc .vmem S512x1152 .bf16).view.set]{fullShare} (l0M : Memref sig .tc .vmem S512x1152 .bf16).view.write (Elt F) f (subA 512 1152 (snd0 c) 0 fs) Finset.univ)
      ∗ abP c (rows (snd0 c) 512) fullShare fs) ⊢ payK V (px 1 c) 9 0 0 := by
    show _ ⊢ iprop(l0P (px 1 c) (V.l0 (px 1 c)) ∗ ∃ f, abP (px 1 (px 1 c)) (rows (kp0 (px 1 c)) 512) fullShare f)
    rw [px_px, kp0_px1, hv, write_l0, View.set_whole, l0_eq]
    iintro ⟨H1, H2⟩
    isplitl [H1]; · iexact H1
    iexists fs; iexact H2
  have H := st_send_rs V K c (Q := Q) (k := k) ho (inb := inb) (hs := hs) nd 1 hn l0M 9 0 n512 hsS hsR rfl (by decide) rfl rfl (by decide) (hsc := hsc) (hsrc := hsrc) (hdst := hdst) (hsem := hsem) fs f hpay l hL
  iapply H $$ [HO Hs Hd Ht1 Ht2]
  · isplitr; · iexact HR
    isplitl [HO]; · iexact HO
    isplitl [Hs]; · iexact Hs
    isplitl [Hd]
    · rw [View.set_whole, l0_eq]; iexact Hd
    isplitl [Ht1]; · iexact Ht1
    isplitr; · iexact Hr1
    iexact Ht2
  iexact Hk

/-- The reduce-scatter's copy number 1: the landing is paid, and the rows sent go with it. -/
theorem snd10 {α : Type} {Q : α → sProp 𝕄} {k : PUnit → Prog (TpuEff nD τ sig (Elt F) Λ₀ .tc) α} {o : Fin 2 → ℕ} (ho : o = ![snd1 c, 0]) {inb : ∀ x, o x + (⟨2, ![256, 1152]⟩ : Shape).size x ≤ S1024x1152.size x} {hs}
    (nd : Dev nD) (hn : nd = px 4 c) {sS sR : DmaSem sig} (hsS : SemLoc.dma sS = csem 1) (hsR : SemLoc.dma sR = csem 10)
    {hsc : (l1M : Memref sig (Dev.tc nd : Thread nD τ).2.kind .vmem (⟨2, ![256, 1152]⟩ : Shape) .bf16).view.ref.isScScratch = false} {hsrc hdst hsem}
    (fs : S1024x1152.Idx → Elt F .bf16) (hv : subA 256 1152 (snd1 c) 0 fs = V.l1 (px 4 c))
    {L₀ : List (Fin 16 × Fin 19 × ℕ)} (l : List (Fin 16 × Fin 19 × ℕ)) (hL : L₀ = (4, 10, n256) :: l) :
    iprop(recs V K ∗ OW c L₀ ∗ abP c (rows (snd1 c) 256) fullShare fs ∗ (∃ f, l1P (px 4 c) f)
        ∗ dutyTok ER (kcell c 1) 1 0 ∗ reached ER (kcell c 1) 1 ∗ dutyTok ER (kcell (px 4 c) 10) 0 0)
      ⊢ iprop(((cred (tallyAt (kcell c 1) () n256) ∗ OW c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((abM : Memref sig .tc .vmem S1024x1152 .bf16).slice (Rect.unit (s := S1024x1152) o (⟨2, ![256, 1152]⟩ : Shape).size inb) hs)
                (.remote (Dev.tc nd : Thread nD τ) l1M (.dma sS) hsc) (.dma sR) hsrc hdst hsem) k) Q) := by
  iintro ⟨#HR, HO, Hs, ⟨%f, Hd⟩, Ht1, #Hr1, Ht2⟩ Hk
  have hpay : iprop(((l1M : Memref sig .tc .vmem S256x1152 .bf16).view.loc (px 4 c : Thread nD τ) ↦[(l1M : Memref sig .tc .vmem S256x1152 .bf16).view.set]{fullShare} (l1M : Memref sig .tc .vmem S256x1152 .bf16).view.write (Elt F) f (subA 256 1152 (snd1 c) 0 fs) Finset.univ)
      ∗ abP c (rows (snd1 c) 256) fullShare fs) ⊢ payK V (px 4 c) 10 0 0 := by
    show _ ⊢ iprop(l1P (px 4 c) (V.l1 (px 4 c)) ∗ ∃ f, abP (px 4 (px 4 c)) (rows (kp1 (px 4 c)) 256) fullShare f)
    rw [px_px, kp1_px4, hv, write_l1, View.set_whole, l1_eq]
    iintro ⟨H1, H2⟩
    isplitl [H1]; · iexact H1
    iexists fs; iexact H2
  have H := st_send_rs V K c (Q := Q) (k := k) ho (inb := inb) (hs := hs) nd 4 hn l1M 10 1 n256 hsS hsR rfl (by decide) rfl rfl (by decide) (hsc := hsc) (hsrc := hsrc) (hdst := hdst) (hsem := hsem) fs f hpay l hL
  iapply H $$ [HO Hs Hd Ht1 Ht2]
  · isplitr; · iexact HR
    isplitl [HO]; · iexact HO
    isplitl [Hs]; · iexact Hs
    isplitl [Hd]
    · rw [View.set_whole, l1_eq]; iexact Hd
    isplitl [Ht1]; · iexact Ht1
    isplitr; · iexact Hr1
    iexact Ht2
  iexact Hk

/-- The reduce-scatter's copy number 2: the landing is paid, and the rows sent go with it. -/
theorem snd11 {α : Type} {Q : α → sProp 𝕄} {k : PUnit → Prog (TpuEff nD τ sig (Elt F) Λ₀ .tc) α} {o : Fin 2 → ℕ} (ho : o = ![snd2 c, 0]) {inb : ∀ x, o x + (⟨2, ![128, 1152]⟩ : Shape).size x ≤ S1024x1152.size x} {hs}
    (nd : Dev nD) (hn : nd = px 2 c) {sS sR : DmaSem sig} (hsS : SemLoc.dma sS = csem 1) (hsR : SemLoc.dma sR = csem 11)
    {hsc : (l2M : Memref sig (Dev.tc nd : Thread nD τ).2.kind .vmem (⟨2, ![128, 1152]⟩ : Shape) .bf16).view.ref.isScScratch = false} {hsrc hdst hsem}
    (fs : S1024x1152.Idx → Elt F .bf16) (hv : subA 128 1152 (snd2 c) 0 fs = V.l2 (px 2 c))
    {L₀ : List (Fin 16 × Fin 19 × ℕ)} (l : List (Fin 16 × Fin 19 × ℕ)) (hL : L₀ = (2, 11, n128) :: l) :
    iprop(recs V K ∗ OW c L₀ ∗ abP c (rows (snd2 c) 128) fullShare fs ∗ (∃ f, l2P (px 2 c) f)
        ∗ dutyTok ER (kcell c 1) 2 0 ∗ reached ER (kcell c 1) 2 ∗ dutyTok ER (kcell (px 2 c) 11) 0 0)
      ⊢ iprop(((cred (tallyAt (kcell c 1) () n128) ∗ OW c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((abM : Memref sig .tc .vmem S1024x1152 .bf16).slice (Rect.unit (s := S1024x1152) o (⟨2, ![128, 1152]⟩ : Shape).size inb) hs)
                (.remote (Dev.tc nd : Thread nD τ) l2M (.dma sS) hsc) (.dma sR) hsrc hdst hsem) k) Q) := by
  iintro ⟨#HR, HO, Hs, ⟨%f, Hd⟩, Ht1, #Hr1, Ht2⟩ Hk
  have hpay : iprop(((l2M : Memref sig .tc .vmem S128x1152 .bf16).view.loc (px 2 c : Thread nD τ) ↦[(l2M : Memref sig .tc .vmem S128x1152 .bf16).view.set]{fullShare} (l2M : Memref sig .tc .vmem S128x1152 .bf16).view.write (Elt F) f (subA 128 1152 (snd2 c) 0 fs) Finset.univ)
      ∗ abP c (rows (snd2 c) 128) fullShare fs) ⊢ payK V (px 2 c) 11 0 0 := by
    show _ ⊢ iprop(l2P (px 2 c) (V.l2 (px 2 c)) ∗ ∃ f, abP (px 2 (px 2 c)) (rows (reg (px 2 c)) 128) fullShare f)
    rw [px_px, reg_px2, hv, write_l2, View.set_whole, l2_eq]
    iintro ⟨H1, H2⟩
    isplitl [H1]; · iexact H1
    iexists fs; iexact H2
  have H := st_send_rs V K c (Q := Q) (k := k) ho (inb := inb) (hs := hs) nd 2 hn l2M 11 2 n128 hsS hsR rfl (by decide) rfl rfl (by decide) (hsc := hsc) (hsrc := hsrc) (hdst := hdst) (hsem := hsem) fs f hpay l hL
  iapply H $$ [HO Hs Hd Ht1 Ht2]
  · isplitr; · iexact HR
    isplitl [HO]; · iexact HO
    isplitl [Hs]; · iexact Hs
    isplitl [Hd]
    · rw [View.set_whole, l2_eq]; iexact Hd
    isplitl [Ht1]; · iexact Ht1
    isplitr; · iexact Hr1
    iexact Ht2
  iexact Hk

/-- The exchange's copy: the source rows come back with the send semaphore's last round. -/
theorem snd12 {α : Type} {Q : α → sProp 𝕄} {k : PUnit → Prog (TpuEff nD τ sig (Elt F) Λ₀ .tc) α} {o : Fin 2 → ℕ} (ho : o = ![reg c, 0]) {inb : ∀ x, o x + (⟨2, ![128, 1152]⟩ : Shape).size x ≤ S1024x1152.size x} {hs}
    (nd : Dev nD) (hn : nd = px 8 c) {sS sR : DmaSem sig} (hsS : SemLoc.dma sS = csem 1) (hsR : SemLoc.dma sR = csem 12)
    {hsc : (l3M : Memref sig (Dev.tc nd : Thread nD τ).2.kind .vmem (⟨2, ![128, 1152]⟩ : Shape) .bf16).view.ref.isScScratch = false} {hsrc hdst hsem}
    (fs : S1024x1152.Idx → Elt F .bf16) (hv : subA 128 1152 (reg c) 0 fs = V.l3 (px 8 c))
    {L₀ : List (Fin 16 × Fin 19 × ℕ)} (l : List (Fin 16 × Fin 19 × ℕ)) (hL : L₀ = (8, 12, n128) :: l) :
    iprop(recs V K ∗ OW c L₀ ∗ abP c (rows (reg c) 128) fullShare fs ∗ (∃ f, l3P (px 8 c) f)
        ∗ dutyTok ER (kcell c 1) 3 0 ∗ reached ER (kcell c 1) 3 ∗ dutyTok ER (kcell (px 8 c) 12) 0 0)
      ⊢ iprop(((cred (tallyAt (kcell c 1) () n128) ∗ OW c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((abM : Memref sig .tc .vmem S1024x1152 .bf16).slice (Rect.unit (s := S1024x1152) o (⟨2, ![128, 1152]⟩ : Shape).size inb) hs)
                (.remote (Dev.tc nd : Thread nD τ) l3M (.dma sS) hsc) (.dma sR) hsrc hdst hsem) k) Q) := by
  iintro ⟨#HR, HO, Hs, ⟨%f, Hd⟩, Ht1, #Hr1, Ht2⟩ Hk
  have hpay1 : abP c (rows (reg c) 128) fullShare fs ⊢ payK V c 1 3 0 := by
    show _ ⊢ iprop(∃ f, abP c (rows (reg c) 128) fullShare f)
    iintro H; iexists fs; iexact H
  have hpay : ((l3M : Memref sig .tc .vmem S128x1152 .bf16).view.loc (px 8 c : Thread nD τ) ↦[(l3M : Memref sig .tc .vmem S128x1152 .bf16).view.set]{fullShare} (l3M : Memref sig .tc .vmem S128x1152 .bf16).view.write (Elt F) f (subA 128 1152 (reg c) 0 fs) Finset.univ : sProp 𝕄)
      ⊢ payK V (px 8 c) 12 0 0 := by
    show _ ⊢ l3P (px 8 c) (V.l3 (px 8 c))
    rw [hv, write_l3, View.set_whole, l3_eq]
  have H := st_send_back V K c (Q := Q) (k := k) ho (inb := inb) (hs := hs) nd 8 hn l3M 1 3 12 0 n128 hsS hsR rfl (by decide) rfl rfl (by decide) (hsc := hsc) (hsrc := hsrc) (hdst := hdst) (hsem := hsem) fullShare fs f hpay1 hpay l hL
  iapply H $$ [HO Hs Hd Ht1 Ht2]
  · isplitr; · iexact HR
    isplitl [HO]; · iexact HO
    isplitl [Hs]; · iexact Hs
    isplitl [Hd]
    · rw [View.set_whole, l3_eq]; iexact Hd
    isplitl [Ht1]; · iexact Ht1
    isplitr; · iexact Hr1
    iexact Ht2
  iexact Hk

omit [FloatOps F] in
theorem abs_eq (c : Dev nD) {n : ℕ} {o' : Fin 2 → ℕ} {inb' : ∀ x, o' x + (⟨2, ![n, 1152]⟩ : Shape).size x ≤ S1024x1152.size x} {hs'} (S : Finset S1024x1152.Idx) (f : S1024x1152.Idx → Elt F .bf16) :
    (((abM : Memref sig .tc .vmem S1024x1152 .bf16).slice (Rect.unit (s := S1024x1152) o' (⟨2, ![n, 1152]⟩ : Shape).size inb') hs').view.loc (c : Thread nD τ) ↦[S]{fullShare} f : sProp 𝕄) = abP c S fullShare f := rfl

/-- A copy of the all-gather: 128 rows of the gathered buffer at `a`, to the same rows of the peer. -/
theorem sndAG {α : Type} {Q : α → sProp 𝕄} {k : PUnit → Prog (TpuEff nD τ sig (Elt F) Λ₀ .tc) α} {a : ℕ} {o o' : Fin 2 → ℕ} (ho : o = ![a, 0]) (ho' : o' = ![a, 0]) (ha : a + 128 ≤ 1024)
    {inb : ∀ x, o x + (⟨2, ![128, 1152]⟩ : Shape).size x ≤ S1024x1152.size x} {hs}
    {inb' : ∀ x, o' x + (⟨2, ![128, 1152]⟩ : Shape).size x ≤ S1024x1152.size x} {hs'}
    (nd : Dev nD) (m : Fin 16) (hn : nd = px m c) (k1 kk : Fin 19) (d : DN) {sS sR : DmaSem sig} (hsS : SemLoc.dma sS = csem k1) (hsR : SemLoc.dma sR = csem kk)
    (hd1 : 0 ∈ dutiesK k1 0) (hk1 : amountK k1 0 = n128) (hk2 : amountK kk 0 = n128) (hkk : d ∈ dutiesK kk 0)
    {hsc : (((abM : Memref sig .tc .vmem S1024x1152 .bf16).slice (Rect.unit (s := S1024x1152) o' (⟨2, ![128, 1152]⟩ : Shape).size inb') hs') : Memref sig (Dev.tc nd : Thread nD τ).2.kind .vmem (⟨2, ![128, 1152]⟩ : Shape) .bf16).view.ref.isScScratch = false} {hsrc hdst hsem}
    (q : PosShare TreeShare) (hm : V.ab (px m c) = V.ab c)
    (hpay1 : payK V c k1 0 0 = abP c (rows a 128) q (V.ab c))
    (hpay : payK V (px m c) kk 0 d = abP (px m c) (rows a 128) fullShare (V.ab (px m c)))
    {L₀ : List (Fin 16 × Fin 19 × ℕ)} (l : List (Fin 16 × Fin 19 × ℕ)) (hL : L₀ = (m, kk, n128) :: l) :
    iprop(recs V K ∗ OW c L₀ ∗ abP c (rows a 128) q (V.ab c) ∗ (∃ f, abP (px m c) (rows a 128) fullShare f)
        ∗ dutyTok ER (kcell c k1) 0 0 ∗ dutyTok ER (kcell (px m c) kk) 0 d)
      ⊢ iprop(((cred (tallyAt (kcell c k1) () n128) ∗ OW c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((abM : Memref sig .tc .vmem S1024x1152 .bf16).slice (Rect.unit (s := S1024x1152) o (⟨2, ![128, 1152]⟩ : Shape).size inb) hs)
                (.remote (Dev.tc nd : Thread nD τ) ((abM : Memref sig .tc .vmem S1024x1152 .bf16).slice (Rect.unit (s := S1024x1152) o' (⟨2, ![128, 1152]⟩ : Shape).size inb') hs') (.dma sS) hsc) (.dma sR) hsrc hdst hsem) k) Q) := by
  iintro ⟨#HR, HO, Hs, ⟨%f, Hd⟩, Ht1, Ht2⟩ Hk
  ihave #Hr1 := (reached_at V K c k1) $$ HR
  have hset := set_abs ho' (inb := inb') (hs := hs')
  have H := st_send_back V K c (Q := Q) (k := k) ho (inb := inb) (hs := hs) nd m hn
    ((abM : Memref sig .tc .vmem S1024x1152 .bf16).slice (Rect.unit (s := S1024x1152) o' (⟨2, ![128, 1152]⟩ : Shape).size inb') hs')
    k1 0 kk d n128 hsS hsR rfl hd1 hk1 hk2 hkk (hsc := hsc) (hsrc := hsrc) (hdst := hdst) (hsem := hsem) q (V.ab c) f
    (by rw [hpay1]) (by
      rw [hpay, hm, wr_abs ho', hset]
      exact Entails.of_eq (abP_congr (px m c) (ab_cp ha f (V.ab c)))) l hL
  iapply H $$ [HO Hs Hd Ht1 Ht2]
  · isplitr; · iexact HR
    isplitl [HO]; · iexact HO
    isplitl [Hs]; · iexact Hs
    isplitl [Hd]
    · rw [hset, abs_eq]; iexact Hd
    isplitl [Ht1]; · iexact Ht1
    isplitr; · iexact Hr1
    iexact Ht2
  iexact Hk

end Cert.KernelIdealProof
-- ==== Proof.KI.Contents.lean ====
/-
What every buffer holds as the kernel runs, as functions of the devices' argument blocks: the two score bands, the four
landings, the reduced rows and the output.
-/
module

public import proofs.«01_k».proof.Proof.KI.Access

@[expose] public section

noncomputable section

namespace Cert.KernelIdealProof

open Cert.KernelIdeal Cert.KernelIdeal.Gen

open Idealize.ShloMosaic
open Idealize.ShloMosaic.TcCoe

variable {F : FTy → Type} [FloatOps F]

/-- The five argument blocks of every device. -/
structure Ins (F : FTy → Type) where
  x : Dev nD → S1024x1024.Idx → Elt F .bf16
  wq : Dev nD → S1024x1024.Idx → Elt F .bf16
  k : Dev nD → S1024x1024.Idx → Elt F .bf16
  v : Dev nD → S1024x1024.Idx → Elt F .bf16
  wo : Dev nD → S1024x1024.Idx → Elt F .bf16

variable (I : Ins F)

/-- The scaled queries. -/
def qb (c : Dev nD) : S1024x1024.Idx → Elt F .bf16 := k0_pay1 (I.x c) (I.wq c)

/-- The device's number as the kernel computes it. -/
def W2 (c : Dev nD) : BitVec 32 := Scalar.remsi (Scalar.divsi (Dev.word c) 1#32) 16#32

/-- The masks of the band a device sends and of the band it keeps. -/
def mS (c : Dev nD) : IVec S512x1024 1 :=
  k0_pay5 (iota .tc S512x1024 32 [1] iota_S512x1024_d1_w32) (k0_pay2 (W2 c) 1#32) (Scalar.muli (W2 c) 16#32) 64#32 k0_pay3 k0_pay4 (Scalar.cmpi .sgt 64#32 0#32)
def mK (c : Dev nD) : IVec S512x1024 1 :=
  k0_pay37 (k0_pay32 (iota .tc S512x1024 32 [0] iota_S512x1024_d0_w32) (k0_pay31 (Scalar.muli (Scalar.andi (W2 c) 1#32) 512#32)))
    (Scalar.muli (W2 c) 16#32) k0_pay33 k0_pay34 k0_pay35 k0_pay36

def qH (c : Dev nD) (row h : ℕ) : S512x128.Idx → Elt F .bf16 := subA 512 128 row (128 * h) (qb I c)
def kH (c : Dev nD) (h : ℕ) : S1024x128.Idx → Elt F .bf16 := subA 1024 128 0 (128 * h) (I.k c)
def vH (c : Dev nD) (h : ℕ) : S1024x128.Idx → Elt F .bf16 := subA 1024 128 0 (128 * h) (I.v c)

/-- One head's weighted values over a band's rows. -/
def hd (c : Dev nD) (row : ℕ) (m : IVec S512x1024 1) (h : ℕ) : S512x128.Idx → Elt F .f32 := k0_pay11 m (qH I c row h) (kH I c h) (vH I c h)
/-- One head's row sums. -/
def rs (c : Dev nD) (row : ℕ) (m : IVec S512x1024 1) (h : ℕ) : S512x1.Idx → Elt F .f32 := k0_pay10 m (qH I c row h) (kH I c h)
/-- The row sums of the eight heads, and zeros. -/
def rsAll (c : Dev nD) (row : ℕ) (m : IVec S512x1024 1) : S512x128.Idx → Elt F .f32 :=
  k0_pay29 m (rs I c row m 0) (rs I c row m 1) (rs I c row m 2) (rs I c row m 3) (rs I c row m 4) (rs I c row m 5) (rs I c row m 6) (qH I c row 7) (kH I c 7)
/-- A band: eight heads of 128 columns, then the row sums. -/
def band (c : Dev nD) (row : ℕ) (m : IVec S512x1024 1) : S512x1152.Idx → Elt F .f32 := fun i =>
  if (i 1).val < 1024 then hd I c row m ((i 1).val / 128) (ix2 (i 0) ⟨(i 1).val % 128, Nat.mod_lt _ (by decide)⟩)
  else rsAll I c row m (ix2 (i 0) ⟨((i 1).val - 1024) % 128, Nat.mod_lt _ (by decide)⟩)

/-- The landings of the three steps of the reduce-scatter and of the exchange, and the partial sums between them. -/
def land0 (c : Dev nD) : S512x1152.Idx → Elt F .bf16 := k0_pay30 (band I (px 1 c) (snd0 (px 1 c)) (mS (px 1 c)))
def sum1 (c : Dev nD) : S512x1152.Idx → Elt F .f32 := k0_pay70 (band I c (kp0 c) (mK c)) (land0 I c)
def out1 (c : Dev nD) : S256x1152.Idx → Elt F .bf16 := k0_pay71 (subA 256 1152 ((1 - b2 c) * 256) 0 (sum1 I c))
def land1 (c : Dev nD) : S256x1152.Idx → Elt F .bf16 := out1 I (px 4 c)
def sum2 (c : Dev nD) : S256x1152.Idx → Elt F .f32 := k0_pay72 (subA 256 1152 (b2 c * 256) 0 (sum1 I c)) (land1 I c)
def out2 (c : Dev nD) : S128x1152.Idx → Elt F .bf16 := k0_pay73 (subA 128 1152 ((1 - b1 c) * 128) 0 (sum2 I c))
def land2 (c : Dev nD) : S128x1152.Idx → Elt F .bf16 := out2 I (px 2 c)
def sum3 (c : Dev nD) : S128x1152.Idx → Elt F .f32 := k0_pay74 (subA 128 1152 (b1 c * 128) 0 (sum2 I c)) (land2 I c)
def land3 (c : Dev nD) : S128x1152.Idx → Elt F .bf16 := k0_pay75 (sum3 I (px 8 c))
def fin (c : Dev nD) : S128x1152.Idx → Elt F .bf16 := k0_pay76 (sum3 I c) (land3 I c)

def vals : Vals F := ⟨land0 I, land1 I, land2 I, land3 I, fin I⟩
/-- The gathered buffer. -/
abbrev AB (c : Dev nD) : S1024x1152.Idx → Elt F .bf16 := (vals I).ab c

/-- 128 rows of the output, from the gathered rows at `r`. -/
def o128 (ab : S1024x1152.Idx → Elt F .bf16) (wo : S1024x1024.Idx → Elt F .bf16) (r : ℕ) : S128x1024.Idx → Elt F .f32 :=
  k0_pay82 (k0_pay77 (subA 128 128 r 1024 ab))
    (k0_pay80 (k0_pay77 (subA 128 128 r 1024 ab)) k0_pay78 (k0_pay79 (subA 128 128 r 0 ab)) (subA 128 1024 0 0 wo)
      (subA 128 128 r 128 ab) (subA 128 1024 128 0 wo) (subA 128 128 r 256 ab) (subA 128 1024 256 0 wo) (subA 128 128 r 384 ab) (subA 128 1024 384 0 wo))
    (k0_pay81 (subA 128 128 r 512 ab)) (subA 128 1024 512 0 wo)
    (subA 128 128 r 640 ab) (subA 128 1024 640 0 wo) (subA 128 128 r 768 ab) (subA 128 1024 768 0 wo) (subA 128 128 r 896 ab) (subA 128 1024 896 0 wo)

section Rects
omit [FloatOps F]
variable {α : Type}

/-- An index inside a stored rectangle. -/
theorem putA_in {N M n m : ℕ} {a b : ℕ} (f : (⟨2, ![N, M]⟩ : Shape).Idx → α) (v : (⟨2, ![n, m]⟩ : Shape).Idx → α) (i : (⟨2, ![N, M]⟩ : Shape).Idx)
    (j : (⟨2, ![n, m]⟩ : Shape).Idx) (h0 : (i 0).val = a + (j 0).val) (h1 : (i 1).val = b + (j 1).val) : putA a b f v i = v j := by
  have j0 : (j 0).val < n := (j 0).isLt
  have j1 : (j 1).val < m := (j 1).isLt
  unfold putA
  rw [dif_pos ⟨⟨by omega, by omega⟩, by omega, by omega⟩]
  congr 1
  funext x
  apply Fin.ext
  fin_cases x
  · show (i 0).val - a = (j 0).val
    omega
  · show (i 1).val - b = (j 1).val
    omega
/-- An index outside it. -/
theorem putA_out {N M n m : ℕ} {a b : ℕ} (f : (⟨2, ![N, M]⟩ : Shape).Idx → α) (v : (⟨2, ![n, m]⟩ : Shape).Idx → α) (i : (⟨2, ![N, M]⟩ : Shape).Idx)
    (h : ¬ ((a ≤ (i 0).val ∧ (i 0).val < a + n) ∧ (b ≤ (i 1).val ∧ (i 1).val < b + m))) : putA a b f v i = f i := dif_neg h

/-- A full-width rectangle of a buffer after a store of some of its columns. -/
theorem subA_putA_col {N M n m : ℕ} [NeZero N] [NeZero M] {a b : ℕ} (ha : a + n ≤ N) (f : (⟨2, ![N, M]⟩ : Shape).Idx → α)
    (w : (⟨2, ![n, m]⟩ : Shape).Idx → α) : subA n M a 0 (putA a b f w) = putA 0 b (subA n M a 0 f) w := by
  funext i
  have h0 : (i 0).val < n := (i 0).isLt
  have h1 : (i 1).val < M := (i 1).isLt
  have e0 : (Fin.ofNat N (a + (i 0).val)).val = a + (i 0).val := Nat.mod_eq_of_lt (by omega)
  have e1 : (Fin.ofNat M (0 + (i 1).val)).val = (i 1).val := by rw [Nat.zero_add]; exact Nat.mod_eq_of_lt h1
  by_cases h : b ≤ (i 1).val ∧ (i 1).val < b + m
  · rw [putA_in (a := 0) (b := b) (subA n M a 0 f) w i (ix2 ⟨(i 0).val, h0⟩ ⟨(i 1).val - b, by omega⟩) (by show _ = 0 + (i 0).val; omega) (by show _ = b + ((i 1).val - b); omega)]
    exact putA_in f w _ _ e0 (e1.trans (by show _ = b + ((i 1).val - b); omega))
  · rw [putA_out (subA n M a 0 f) w i (fun hh => h hh.2)]
    exact putA_out f w _ (fun hh => h (by have h2 := hh.2; rw [show ((ix2 (Fin.ofNat N (a + (i 0).val)) (Fin.ofNat M (0 + (i 1).val)) : (⟨2, ![N, M]⟩ : Shape).Idx) 1).val = (i 1).val from e1] at h2; exact h2))

/-- A rectangle inside the rows just stored. -/
theorem subA_putA_in {N M n n' : ℕ} [NeZero N] [NeZero M] [NeZero n] {a r : ℕ} (hr : a ≤ r) (hn : r + n' ≤ a + n) (ha : a + n ≤ N)
    (f : (⟨2, ![N, M]⟩ : Shape).Idx → α) (w : (⟨2, ![n, M]⟩ : Shape).Idx → α) : subA n' M r 0 (putA a 0 f w) = subA n' M (r - a) 0 w := by
  funext i
  have h0 : (i 0).val < n' := (i 0).isLt
  have h1 : (i 1).val < M := (i 1).isLt
  have e0 : (Fin.ofNat N (r + (i 0).val)).val = r + (i 0).val := Nat.mod_eq_of_lt (by omega)
  have e1 : (Fin.ofNat M (0 + (i 1).val)).val = (i 1).val := by rw [Nat.zero_add]; exact Nat.mod_eq_of_lt h1
  have e2 : (Fin.ofNat n (r - a + (i 0).val)).val = r - a + (i 0).val := Nat.mod_eq_of_lt (by omega)
  refine putA_in f w _ _ ?_ ?_
  · show (Fin.ofNat N (r + (i 0).val)).val = a + (Fin.ofNat n (r - a + (i 0).val)).val
    omega
  · show (Fin.ofNat M (0 + (i 1).val)).val = 0 + (Fin.ofNat M (0 + (i 1).val)).val
    omega

/-- A rectangle of a rectangle. -/
theorem subA_subA {N M n n' : ℕ} [NeZero N] [NeZero M] [NeZero n] {a r : ℕ} (hn : r + n' ≤ n) (f : (⟨2, ![N, M]⟩ : Shape).Idx → α) :
    subA n' M r 0 (subA n M a 0 f) = subA n' M (a + r) 0 f := by
  funext i
  have h0 : (i 0).val < n' := (i 0).isLt
  have h1 : (i 1).val < M := (i 1).isLt
  have e1 : (Fin.ofNat M (0 + (i 1).val)).val = (i 1).val := by rw [Nat.zero_add]; exact Nat.mod_eq_of_lt h1
  have e2 : (Fin.ofNat n (r + (i 0).val)).val = r + (i 0).val := Nat.mod_eq_of_lt (by omega)
  unfold subA
  congr 1
  have g0 : a + (Fin.ofNat n (r + (i 0).val)).val = a + r + (i 0).val := by omega
  have g1 : (0 + (Fin.ofNat M (0 + (i 1).val)).val) = 0 + (i 1).val := by omega
  show ix2 (Fin.ofNat N (a + (Fin.ofNat n (r + (i 0).val)).val)) (Fin.ofNat M (0 + (Fin.ofNat M (0 + (i 1).val)).val)) = _
  rw [g0, g1]
end Rects

/-- Nine stores of columns leave a band. -/
theorem band_put (c : Dev nD) (row : ℕ) (m : IVec S512x1024 1) (hr : row + 512 ≤ 1024) (f : S1024x1152.Idx → Elt F .f32) :
    subA 512 1152 row 0 (putA row 1024 (putA row 896 (putA row 768 (putA row 640 (putA row 512 (putA row 384 (putA row 256 (putA row 128 (putA row 0 f
      (hd I c row m 0)) (hd I c row m 1)) (hd I c row m 2)) (hd I c row m 3)) (hd I c row m 4)) (hd I c row m 5)) (hd I c row m 6)) (hd I c row m 7)) (rsAll I c row m))
      = band I c row m := by
  rw [subA_putA_col hr, subA_putA_col hr, subA_putA_col hr, subA_putA_col hr, subA_putA_col hr, subA_putA_col hr, subA_putA_col hr, subA_putA_col hr, subA_putA_col hr]
  funext i
  have h0 : (i 0).val < 512 := (i 0).isLt
  have h1 : (i 1).val < 1152 := (i 1).isLt
  have key : ∀ (b k : ℕ) (hb : b = 128 * k) (hk : k < 8) (g : S512x1152.Idx → Elt F .f32),
      (¬ (b ≤ (i 1).val ∧ (i 1).val < b + 128) → g i = band I c row m i) → putA 0 b g (hd I c row m k) i = band I c row m i := by
    intro b k hb hk g hg
    unfold putA
    split
    · rename_i h
      unfold band
      have hk' : (i 1).val / 128 = k := by omega
      rw [if_pos (by omega), hk']
      congr 1
      funext x
      apply Fin.ext
      fin_cases x
      · show (i 0).val - 0 = (i 0).val
        omega
      · show (i 1).val - b = (i 1).val % 128
        omega
    · rename_i h
      exact hg (fun hh => h ⟨⟨by omega, by omega⟩, hh⟩)
  have last : ∀ g : S512x1152.Idx → Elt F .f32, ((i 1).val < 1024 → g i = band I c row m i) → putA 0 1024 g (rsAll I c row m) i = band I c row m i := by
    intro g hg
    unfold putA
    split
    · rename_i h
      unfold band
      rw [if_neg (by omega)]
      congr 1
      funext x
      apply Fin.ext
      fin_cases x
      · show (i 0).val - 0 = (i 0).val
        omega
      · show (i 1).val - 1024 = ((i 1).val - 1024) % 128
        omega
    · rename_i h
      exact hg (by omega)
  refine last _ fun l => ?_
  refine key 896 7 rfl (by omega) _ fun h7 => ?_
  refine key 768 6 rfl (by omega) _ fun h6 => ?_
  refine key 640 5 rfl (by omega) _ fun h5 => ?_
  refine key 512 4 rfl (by omega) _ fun h4 => ?_
  refine key 384 3 rfl (by omega) _ fun h3 => ?_
  refine key 256 2 rfl (by omega) _ fun h2 => ?_
  refine key 128 1 rfl (by omega) _ fun h1' => ?_
  refine key 0 0 rfl (by omega) _ fun h0' => ?_
  omega

end Cert.KernelIdealProof
-- ==== Proof.KI.PartsA.lean ====
/-
The parts of the body that compute the two bands of rows, without the copies: each as one rule from what it reads and
writes to what it leaves.
-/
module

public import proofs.«01_k».proof.Proof.KI.Sends
public import proofs.«01_k».proof.Proof.KI.Offs
public import proofs.«01_k».proof.Proof.KI.Contents

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Part 3 of the body, over the buffers of the call. -/
abbrev P3 (c : Dev nD) (v30 : BitVec 32) (v36 : IVec S512x1024 32) (v60 : IVec S512x1024 32) (v61 : BitVec 32) (c64_i32_28 : BitVec 32) (v63 : IVec S512x1024 32) (v70 : IVec S512x1024 32) (v71 : BitVec 1) :=
  k0_part3 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v30 v36 v60 v61 c64_i32_28 v63 v70 v71
theorem p3 (c : Dev nD) (v30 : BitVec 32) (v36 : IVec S512x1024 32) (v60 : IVec S512x1024 32) (v61 : BitVec 32) (c64_i32_28 : BitVec 32) (v63 : IVec S512x1024 32) (v70 : IVec S512x1024 32) (v71 : BitVec 1) (fq : S1024x1024.Idx → Elt F .bf16) (fk : S1024x1024.Idx → Elt F .bf16) (fv : S1024x1024.Idx → Elt F .bf16) (fac : S1024x1152.Idx → Elt F .f32)
    {Q : (Σ' (v97 : IVec S512x1024 1) (v109 : FVec F S512x1 .f32), FVec F S512x128 .f32) → sProp 𝕄} :
    iprop(qP c fq ∗ kP c fk ∗ vP c fv ∗ acP c fac)
      ⊢ iprop(((qP c fq ∗ kP c fk ∗ vP c fv ∗ acP c fac)
          -∗ Q ⟨k0_pay5 v36 v60 v61 c64_i32_28 v63 v70 v71, k0_pay7 v36 v60 v61 c64_i32_28 v63 v70 v71 (subA 512 128 (snd0 c) 0 fq) (subA 1024 128 (0) 0 fk), k0_pay8 v36 v60 v61 c64_i32_28 v63 v70 v71 (subA 512 128 (snd0 c) 0 fq) (subA 1024 128 (0) 0 fk) (subA 1024 128 (0) 0 fv)⟩)
        -∗ wp frame (wpE (defs₀ (F := F)) 𝒱₀ (c : Thread nD τ) none) Set.univ (P3 (F := F) c v30 v36 v60 v61 c64_i32_28 v63 v70 v71) Q) := by
  iintro ⟨Hq, HK, Hv, Hac⟩ Hk
  unfold P3
  rw [k0_part3_eq_skeleton]
  unfold k0_part3_skel
  simp only [semSignalWord, semWaitWord, Prog.lift, Prog.bind_op, Prog.bind_ret, Prog.pure_eq_ret]
  iapply (ld_q c (off1 c)) $$ Hq; iintro Hq
  iapply (ld_k c rfl) $$ HK; iintro HK
  iapply (ld_v c rfl) $$ Hv; iintro Hv
  iapply (ld_ac c (off2 c)) $$ Hac; iintro Hac
  rw [wp_ret]
  imodintro
  iapply Hk
  isplitl [Hq]; · iexact Hq
  isplitl [HK]; · iexact HK
  isplitl [Hv]; · iexact Hv
  iexact Hac

/-- Part 4 of the body, over the buffers of the call. -/
abbrev P4 (c : Dev nD) (v30 : BitVec 32) (v97 : IVec S512x1024 1) (v115 : FVec F S512x128 .f32) :=
  k0_part4 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v30 v97 v115
theorem p4 (c : Dev nD) (v30 : BitVec 32) (v97 : IVec S512x1024 1) (v115 : FVec F S512x128 .f32) (fq : S1024x1024.Idx → Elt F .bf16) (fk : S1024x1024.Idx → Elt F .bf16) (fv : S1024x1024.Idx → Elt F .bf16) (fac : S1024x1152.Idx → Elt F .f32)
    {Q : (Σ' (v127 : FVec F S512x1 .f32), FVec F S512x1 .f32) → sProp 𝕄} :
    iprop(qP c fq ∗ kP c fk ∗ vP c fv ∗ acP c fac)
      ⊢ iprop(((qP c fq ∗ kP c fk ∗ vP c fv ∗ acP c (putA (snd0 c) 256 (putA (snd0 c) 128 (putA (snd0 c) 0 fac v115) (k0_pay11 v97 (subA 512 128 (snd0 c) 128 fq) (subA 1024 128 (0) 128 fk) (subA 1024 128 (0) 128 fv))) (k0_pay14 v97 (subA 512 128 (snd0 c) 256 fq) (subA 1024 128 (0) 256 fk) (subA 1024 128 (0) 256 fv))))
          -∗ Q ⟨k0_pay10 v97 (subA 512 128 (snd0 c) 128 fq) (subA 1024 128 (0) 128 fk), k0_pay13 v97 (subA 512 128 (snd0 c) 256 fq) (subA 1024 128 (0) 256 fk)⟩)
        -∗ wp frame (wpE (defs₀ (F := F)) 𝒱₀ (c : Thread nD τ) none) Set.univ (P4 (F := F) c v30 v97 v115) Q) := by
  iintro ⟨Hq, HK, Hv, Hac⟩ Hk
  unfold P4
  rw [k0_part4_eq_skeleton]
  unfold k0_part4_skel
  simp only [semSignalWord, semWaitWord, Prog.lift, Prog.bind_op, Prog.bind_ret, Prog.pure_eq_ret]
  iapply (st_ac c (off2 c)) $$ Hac; iintro Hac
  iapply (ld_q c (off3 c)) $$ Hq; iintro Hq
  iapply (ld_k c rfl) $$ HK; iintro HK
  iapply (ld_v c rfl) $$ Hv; iintro Hv
  iapply (ld_ac c (off4 c)) $$ Hac; iintro Hac
  iapply (st_ac c (off4 c)) $$ Hac; iintro Hac
  iapply (ld_q c (off5 c)) $$ Hq; iintro Hq
  iapply (ld_k c rfl) $$ HK; iintro HK
  iapply (ld_v c rfl) $$ Hv; iintro Hv
  iapply (ld_ac c (off6 c)) $$ Hac; iintro Hac
  iapply (st_ac c (off6 c)) $$ Hac; iintro Hac
  rw [wp_ret]
  imodintro
  iapply Hk
  isplitl [Hq]; · iexact Hq
  isplitl [HK]; · iexact HK
  isplitl [Hv]; · iexact Hv
  iexact Hac

/-- Part 5 of the body, over the buffers of the call. -/
abbrev P5 (c : Dev nD) (v30 : BitVec 32) (v97 : IVec S512x1024 1) :=
  k0_part5 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v30 v97
theorem p5 (c : Dev nD) (v30 : BitVec 32) (v97 : IVec S512x1024 1) (fq : S1024x1024.Idx → Elt F .bf16) (fk : S1024x1024.Idx → Elt F .bf16) (fv : S1024x1024.Idx → Elt F .bf16) (fac : S1024x1152.Idx → Elt F .f32)
    {Q : (Σ' (v163 : FVec F S512x1 .f32) (v181 : FVec F S512x1 .f32), Vec F S512x128 .bf16) → sProp 𝕄} :
    iprop(qP c fq ∗ kP c fk ∗ vP c fv ∗ acP c fac)
      ⊢ iprop(((qP c fq ∗ kP c fk ∗ vP c fv ∗ acP c (putA (snd0 c) 512 (putA (snd0 c) 384 fac (k0_pay17 v97 (subA 512 128 (snd0 c) 384 fq) (subA 1024 128 (0) 384 fk) (subA 1024 128 (0) 384 fv))) (k0_pay20 v97 (subA 512 128 (snd0 c) 512 fq) (subA 1024 128 (0) 512 fk) (subA 1024 128 (0) 512 fv))))
          -∗ Q ⟨k0_pay16 v97 (subA 512 128 (snd0 c) 384 fq) (subA 1024 128 (0) 384 fk), k0_pay19 v97 (subA 512 128 (snd0 c) 512 fq) (subA 1024 128 (0) 512 fk), (subA 512 128 (snd0 c) 640 fq)⟩)
        -∗ wp frame (wpE (defs₀ (F := F)) 𝒱₀ (c : Thread nD τ) none) Set.univ (P5 (F := F) c v30 v97) Q) := by
  iintro ⟨Hq, HK, Hv, Hac⟩ Hk
  unfold P5
  rw [k0_part5_eq_skeleton]
  unfold k0_part5_skel
  simp only [semSignalWord, semWaitWord, Prog.lift, Prog.bind_op, Prog.bind_ret, Prog.pure_eq_ret]
  iapply (ld_q c (off7 c)) $$ Hq; iintro Hq
  iapply (ld_k c rfl) $$ HK; iintro HK
  iapply (ld_v c rfl) $$ Hv; iintro Hv
  iapply (ld_ac c (off8 c)) $$ Hac; iintro Hac
  iapply (st_ac c (off8 c)) $$ Hac; iintro Hac
  iapply (ld_q c (off9 c)) $$ Hq; iintro Hq
  iapply (ld_k c rfl) $$ HK; iintro HK
  iapply (ld_v c rfl) $$ Hv; iintro Hv
  iapply (ld_ac c (off10 c)) $$ Hac; iintro Hac
  iapply (st_ac c (off10 c)) $$ Hac; iintro Hac
  iapply (ld_q c (off11 c)) $$ Hq; iintro Hq
  rw [wp_ret]
  imodintro
  iapply Hk
  isplitl [Hq]; · iexact Hq
  isplitl [HK]; · iexact HK
  isplitl [Hv]; · iexact Hv
  iexact Hac

/-- Part 6 of the body, over the buffers of the call. -/
abbrev P6 (c : Dev nD) (v30 : BitVec 32) (v97 : IVec S512x1024 1) (v189 : Vec F S512x128 .bf16) :=
  k0_part6 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v30 v97 v189
theorem p6 (c : Dev nD) (v30 : BitVec 32) (v97 : IVec S512x1024 1) (v189 : Vec F S512x128 .bf16) (fq : S1024x1024.Idx → Elt F .bf16) (fk : S1024x1024.Idx → Elt F .bf16) (fv : S1024x1024.Idx → Elt F .bf16) (fac : S1024x1152.Idx → Elt F .f32)
    {Q : (Σ' (v199 : FVec F S512x1 .f32) (v217 : FVec F S512x1 .f32), Vec F S512x128 .bf16) → sProp 𝕄} :
    iprop(qP c fq ∗ kP c fk ∗ vP c fv ∗ acP c fac)
      ⊢ iprop(((qP c fq ∗ kP c fk ∗ vP c fv ∗ acP c (putA (snd0 c) 768 (putA (snd0 c) 640 fac (k0_pay23 v97 v189 (subA 1024 128 (0) 640 fk) (subA 1024 128 (0) 640 fv))) (k0_pay26 v97 (subA 512 128 (snd0 c) 768 fq) (subA 1024 128 (0) 768 fk) (subA 1024 128 (0) 768 fv))))
          -∗ Q ⟨k0_pay22 v97 v189 (subA 1024 128 (0) 640 fk), k0_pay25 v97 (subA 512 128 (snd0 c) 768 fq) (subA 1024 128 (0) 768 fk), (subA 512 128 (snd0 c) 896 fq)⟩)
        -∗ wp frame (wpE (defs₀ (F := F)) 𝒱₀ (c : Thread nD τ) none) Set.univ (P6 (F := F) c v30 v97 v189) Q) := by
  iintro ⟨Hq, HK, Hv, Hac⟩ Hk
  unfold P6
  rw [k0_part6_eq_skeleton]
  unfold k0_part6_skel
  simp only [semSignalWord, semWaitWord, Prog.lift, Prog.bind_op, Prog.bind_ret, Prog.pure_eq_ret]
  iapply (ld_k c rfl) $$ HK; iintro HK
  iapply (ld_v c rfl) $$ Hv; iintro Hv
  iapply (ld_ac c (off12 c)) $$ Hac; iintro Hac
  iapply (st_ac c (off12 c)) $$ Hac; iintro Hac
  iapply (ld_q c (off13 c)) $$ Hq; iintro Hq
  iapply (ld_k c rfl) $$ HK; iintro HK
  iapply (ld_v c rfl) $$ Hv; iintro Hv
  iapply (ld_ac c (off14 c)) $$ Hac; iintro Hac
  iapply (st_ac c (off14 c)) $$ Hac; iintro Hac
  iapply (ld_q c (off15 c)) $$ Hq; iintro Hq
  rw [wp_ret]
  imodintro
  iapply Hk
  isplitl [Hq]; · iexact Hq
  isplitl [HK]; · iexact HK
  isplitl [Hv]; · iexact Hv
  iexact Hac

/-- Part 9 of the body, over the buffers of the call. -/
abbrev P9 (c : Dev nD) (v32 : BitVec 32) (v288 : IVec S512x1024 32) (v289 : BitVec 32) (v291 : IVec S512x1024 32) (v305 : IVec S512x1024 1) (v307 : IVec S512x1024 32) (v308 : IVec S512x1024 32) :=
  k0_part9 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v32 v288 v289 v291 v305 v307 v308
theorem p9 (c : Dev nD) (v32 : BitVec 32) (v288 : IVec S512x1024 32) (v289 : BitVec 32) (v291 : IVec S512x1024 32) (v305 : IVec S512x1024 1) (v307 : IVec S512x1024 32) (v308 : IVec S512x1024 32) (fq : S1024x1024.Idx → Elt F .bf16) (fk : S1024x1024.Idx → Elt F .bf16) (fv : S1024x1024.Idx → Elt F .bf16) (fac : S1024x1152.Idx → Elt F .f32)
    {Q : (Σ' (v325 : IVec S512x1024 1) (v337 : FVec F S512x1 .f32) (v345 : Vec F S512x128 .bf16) (v347 : FVec F S1024x128 .bf16), Vec F S1024x128 .bf16) → sProp 𝕄} :
    iprop(qP c fq ∗ kP c fk ∗ vP c fv ∗ acP c fac)
      ⊢ iprop(((qP c fq ∗ kP c fk ∗ vP c fv ∗ acP c (putA (kp0 c) 0 fac (k0_pay40 v288 v289 v291 v305 v307 v308 (subA 512 128 (kp0 c) 0 fq) (subA 1024 128 (0) 0 fk) (subA 1024 128 (0) 0 fv))))
          -∗ Q ⟨k0_pay37 v288 v289 v291 v305 v307 v308, k0_pay39 v288 v289 v291 v305 v307 v308 (subA 512 128 (kp0 c) 0 fq) (subA 1024 128 (0) 0 fk), (subA 512 128 (kp0 c) 128 fq), k0_pay41 (subA 1024 128 (0) 128 fk), (subA 1024 128 (0) 128 fv)⟩)
        -∗ wp frame (wpE (defs₀ (F := F)) 𝒱₀ (c : Thread nD τ) none) Set.univ (P9 (F := F) c v32 v288 v289 v291 v305 v307 v308) Q) := by
  iintro ⟨Hq, HK, Hv, Hac⟩ Hk
  unfold P9
  rw [k0_part9_eq_skeleton]
  unfold k0_part9_skel
  simp only [semSignalWord, semWaitWord, Prog.lift, Prog.bind_op, Prog.bind_ret, Prog.pure_eq_ret]
  iapply (ld_q c (off20 c)) $$ Hq; iintro Hq
  iapply (ld_k c rfl) $$ HK; iintro HK
  iapply (ld_v c rfl) $$ Hv; iintro Hv
  iapply (ld_ac c (off21 c)) $$ Hac; iintro Hac
  iapply (st_ac c (off21 c)) $$ Hac; iintro Hac
  iapply (ld_q c (off22 c)) $$ Hq; iintro Hq
  iapply (ld_k c rfl) $$ HK; iintro HK
  iapply (ld_v c rfl) $$ Hv; iintro Hv
  rw [wp_ret]
  imodintro
  iapply Hk
  isplitl [Hq]; · iexact Hq
  isplitl [HK]; · iexact HK
  isplitl [Hv]; · iexact Hv
  iexact Hac

/-- Part 10 of the body, over the buffers of the call. -/
abbrev P10 (c : Dev nD) (v32 : BitVec 32) (v325 : IVec S512x1024 1) (v345 : Vec F S512x128 .bf16) (v347 : FVec F S1024x128 .bf16) (v348 : Vec F S1024x128 .bf16) :=
  k0_part10 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v32 v325 v345 v347 v348
theorem p10 (c : Dev nD) (v32 : BitVec 32) (v325 : IVec S512x1024 1) (v345 : Vec F S512x128 .bf16) (v347 : FVec F S1024x128 .bf16) (v348 : Vec F S1024x128 .bf16) (fq : S1024x1024.Idx → Elt F .bf16) (fk : S1024x1024.Idx → Elt F .bf16) (fv : S1024x1024.Idx → Elt F .bf16) (fac : S1024x1152.Idx → Elt F .f32)
    {Q : (Σ' (v355 : FVec F S512x1 .f32) (v373 : FVec F S512x1 .f32) (v381 : Vec F S512x128 .bf16) (v383 : FVec F S1024x128 .bf16) (v385 : FVec F S1024x128 .bf16), FVec F S512x1024 .f32) → sProp 𝕄} :
    iprop(qP c fq ∗ kP c fk ∗ vP c fv ∗ acP c fac)
      ⊢ iprop(((qP c fq ∗ kP c fk ∗ vP c fv ∗ acP c (putA (kp0 c) 256 (putA (kp0 c) 128 fac (k0_pay44 v325 v345 v347 v348)) (k0_pay47 v325 (subA 512 128 (kp0 c) 256 fq) (subA 1024 128 (0) 256 fk) (subA 1024 128 (0) 256 fv))))
          -∗ Q ⟨k0_pay43 v325 v345 v347, k0_pay46 v325 (subA 512 128 (kp0 c) 256 fq) (subA 1024 128 (0) 256 fk), (subA 512 128 (kp0 c) 384 fq), k0_pay48 (subA 1024 128 (0) 384 fk), k0_pay49 (subA 1024 128 (0) 384 fv), (constant S512x1024 .f32 0x00000000#32 : FVec F S512x1024 .f32)⟩)
        -∗ wp frame (wpE (defs₀ (F := F)) 𝒱₀ (c : Thread nD τ) none) Set.univ (P10 (F := F) c v32 v325 v345 v347 v348) Q) := by
  iintro ⟨Hq, HK, Hv, Hac⟩ Hk
  unfold P10
  rw [k0_part10_eq_skeleton]
  unfold k0_part10_skel
  simp only [semSignalWord, semWaitWord, Prog.lift, Prog.bind_op, Prog.bind_ret, Prog.pure_eq_ret]
  iapply (ld_ac c (off23 c)) $$ Hac; iintro Hac
  iapply (st_ac c (off23 c)) $$ Hac; iintro Hac
  iapply (ld_q c (off24 c)) $$ Hq; iintro Hq
  iapply (ld_k c rfl) $$ HK; iintro HK
  iapply (ld_v c rfl) $$ Hv; iintro Hv
  iapply (ld_ac c (off25 c)) $$ Hac; iintro Hac
  iapply (st_ac c (off25 c)) $$ Hac; iintro Hac
  iapply (ld_q c (off26 c)) $$ Hq; iintro Hq
  iapply (ld_k c rfl) $$ HK; iintro HK
  iapply (ld_v c rfl) $$ Hv; iintro Hv
  rw [wp_ret]
  imodintro
  iapply Hk
  isplitl [Hq]; · iexact Hq
  isplitl [HK]; · iexact HK
  isplitl [Hv]; · iexact Hv
  iexact Hac

/-- Part 11 of the body, over the buffers of the call. -/
abbrev P11 (c : Dev nD) (v32 : BitVec 32) (v325 : IVec S512x1024 1) (v381 : Vec F S512x128 .bf16) (v383 : FVec F S1024x128 .bf16) (v385 : FVec F S1024x128 .bf16) (cst_172 : FVec F S512x1024 .f32) :=
  k0_part11 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v32 v325 v381 v383 v385 cst_172
theorem p11 (c : Dev nD) (v32 : BitVec 32) (v325 : IVec S512x1024 1) (v381 : Vec F S512x128 .bf16) (v383 : FVec F S1024x128 .bf16) (v385 : FVec F S1024x128 .bf16) (cst_172 : FVec F S512x1024 .f32) (fq : S1024x1024.Idx → Elt F .bf16) (fk : S1024x1024.Idx → Elt F .bf16) (fv : S1024x1024.Idx → Elt F .bf16) (fac : S1024x1152.Idx → Elt F .f32)
    {Q : (Σ' (v391 : FVec F S512x1 .f32) (v409 : FVec F S512x1 .f32) (v421 : FVec F S1024x128 .bf16), FVec F S512x1024 .f32) → sProp 𝕄} :
    iprop(qP c fq ∗ kP c fk ∗ vP c fv ∗ acP c fac)
      ⊢ iprop(((qP c fq ∗ kP c fk ∗ vP c fv ∗ acP c (putA (kp0 c) 512 (putA (kp0 c) 384 fac (k0_pay52 v325 v381 v383 v385 cst_172)) (k0_pay55 v325 (subA 512 128 (kp0 c) 512 fq) (subA 1024 128 (0) 512 fk) (subA 1024 128 (0) 512 fv))))
          -∗ Q ⟨k0_pay51 v325 v381 v383 cst_172, k0_pay54 v325 (subA 512 128 (kp0 c) 512 fq) (subA 1024 128 (0) 512 fk), k0_pay56 (subA 1024 128 (0) 640 fv), k0_pay57 (subA 512 128 (kp0 c) 640 fq) (subA 1024 128 (0) 640 fk)⟩)
        -∗ wp frame (wpE (defs₀ (F := F)) 𝒱₀ (c : Thread nD τ) none) Set.univ (P11 (F := F) c v32 v325 v381 v383 v385 cst_172) Q) := by
  iintro ⟨Hq, HK, Hv, Hac⟩ Hk
  unfold P11
  rw [k0_part11_eq_skeleton]
  unfold k0_part11_skel
  simp only [semSignalWord, semWaitWord, Prog.lift, Prog.bind_op, Prog.bind_ret, Prog.pure_eq_ret]
  iapply (ld_ac c (off27 c)) $$ Hac; iintro Hac
  iapply (st_ac c (off27 c)) $$ Hac; iintro Hac
  iapply (ld_q c (off28 c)) $$ Hq; iintro Hq
  iapply (ld_k c rfl) $$ HK; iintro HK
  iapply (ld_v c rfl) $$ Hv; iintro Hv
  iapply (ld_ac c (off29 c)) $$ Hac; iintro Hac
  iapply (st_ac c (off29 c)) $$ Hac; iintro Hac
  iapply (ld_q c (off30 c)) $$ Hq; iintro Hq
  iapply (ld_k c rfl) $$ HK; iintro HK
  iapply (ld_v c rfl) $$ Hv; iintro Hv
  rw [wp_ret]
  imodintro
  iapply Hk
  isplitl [Hq]; · iexact Hq
  isplitl [HK]; · iexact HK
  isplitl [Hv]; · iexact Hv
  iexact Hac

/-- Part 12 of the body, over the buffers of the call. -/
abbrev P12 (c : Dev nD) (v32 : BitVec 32) (v325 : IVec S512x1024 1) (v421 : FVec F S1024x128 .bf16) (v423 : FVec F S512x1024 .f32) :=
  k0_part12 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v32 v325 v421 v423
theorem p12 (c : Dev nD) (v32 : BitVec 32) (v325 : IVec S512x1024 1) (v421 : FVec F S1024x128 .bf16) (v423 : FVec F S512x1024 .f32) (fq : S1024x1024.Idx → Elt F .bf16) (fk : S1024x1024.Idx → Elt F .bf16) (fv : S1024x1024.Idx → Elt F .bf16) (fac : S1024x1152.Idx → Elt F .f32)
    {Q : (Σ' (v427 : FVec F S512x1 .f32) (v445 : FVec F S512x1 .f32) (v457 : FVec F S1024x128 .bf16) (v459 : FVec F S512x1024 .f32), FVec F S512x1024 .f32) → sProp 𝕄} :
    iprop(qP c fq ∗ kP c fk ∗ vP c fv ∗ acP c fac)
      ⊢ iprop(((qP c fq ∗ kP c fk ∗ vP c fv ∗ acP c (putA (kp0 c) 768 (putA (kp0 c) 640 fac (k0_pay60 v325 v421 v423)) (k0_pay63 v325 (subA 512 128 (kp0 c) 768 fq) (subA 1024 128 (0) 768 fk) (subA 1024 128 (0) 768 fv))))
          -∗ Q ⟨k0_pay59 v325 v423, k0_pay62 v325 (subA 512 128 (kp0 c) 768 fq) (subA 1024 128 (0) 768 fk), k0_pay64 (subA 1024 128 (0) 896 fv), k0_pay65 (subA 512 128 (kp0 c) 896 fq) (subA 1024 128 (0) 896 fk), k0_pay66 (F := F)⟩)
        -∗ wp frame (wpE (defs₀ (F := F)) 𝒱₀ (c : Thread nD τ) none) Set.univ (P12 (F := F) c v32 v325 v421 v423) Q) := by
  iintro ⟨Hq, HK, Hv, Hac⟩ Hk
  unfold P12
  rw [k0_part12_eq_skeleton]
  unfold k0_part12_skel
  simp only [semSignalWord, semWaitWord, Prog.lift, Prog.bind_op, Prog.bind_ret, Prog.pure_eq_ret]
  iapply (ld_ac c (off31 c)) $$ Hac; iintro Hac
  iapply (st_ac c (off31 c)) $$ Hac; iintro Hac
  iapply (ld_q c (off32 c)) $$ Hq; iintro Hq
  iapply (ld_k c rfl) $$ HK; iintro HK
  iapply (ld_v c rfl) $$ Hv; iintro Hv
  iapply (ld_ac c (off33 c)) $$ Hac; iintro Hac
  iapply (st_ac c (off33 c)) $$ Hac; iintro Hac
  iapply (ld_q c (off34 c)) $$ Hq; iintro Hq
  iapply (ld_k c rfl) $$ HK; iintro HK
  iapply (ld_v c rfl) $$ Hv; iintro Hv
  rw [wp_ret]
  imodintro
  iapply Hk
  isplitl [Hq]; · iexact Hq
  isplitl [HK]; · iexact HK
  isplitl [Hv]; · iexact Hv
  iexact Hac

end Cert.KernelIdealProof
-- ==== Proof.KI.PartsB.lean ====
/-
The parts of the body that reduce: the barrier, the three steps of the reduce-scatter and the exchange.
-/
module

public import proofs.«01_k».proof.Proof.KI.Sends
public import proofs.«01_k».proof.Proof.KI.Offs
public import proofs.«01_k».proof.Proof.KI.Contents

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- A block of rows just stored. -/
theorem subA_putA_eq {n a : ℕ} [NeZero n] (f : S1024x1152.Idx → Elt F .bf16) (w : (⟨2, ![n, 1152]⟩ : Shape).Idx → Elt F .bf16) (ha : a + n ≤ 1024) :
    subA n 1152 a 0 (putA a 0 f w) = w := by
  rw [subA_putA_in (N := 1024) (M := 1152) (n := n) (n' := n) le_rfl le_rfl ha, Nat.sub_self, subA_full]

/-- Part 7 of the body, over the buffers of the call. -/
abbrev P7 (c : Dev nD) (v2 : BitVec 32) (v3 : Sems sig S_) (v30 : BitVec 32) (v32 : BitVec 32) (v97 : IVec S512x1024 1) (v109 : FVec F S512x1 .f32) (v127 : FVec F S512x1 .f32) (v145 : FVec F S512x1 .f32) (v163 : FVec F S512x1 .f32) (v181 : FVec F S512x1 .f32) (v199 : FVec F S512x1 .f32) (v217 : FVec F S512x1 .f32) (v225 : Vec F S512x128 .bf16) :=
  k0_part7 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v2 v3 v30 v32 v97 v109 v127 v145 v163 v181 v199 v217 v225
theorem p7 (V : Vals F) (K : Dev nD × Fin 19 → ℕ) (c : Dev nD) (v2 : BitVec 32) (v3 : Sems sig S_) (v30 : BitVec 32) (v32 : BitVec 32) (v97 : IVec S512x1024 1) (v109 : FVec F S512x1 .f32) (v127 : FVec F S512x1 .f32) (v145 : FVec F S512x1 .f32) (v163 : FVec F S512x1 .f32) (v181 : FVec F S512x1 .f32) (v199 : FVec F S512x1 .f32) (v217 : FVec F S512x1 .f32) (v225 : Vec F S512x128 .bf16) (fk : S1024x1024.Idx → Elt F .bf16) (fv : S1024x1024.Idx → Elt F .bf16) (fac : S1024x1152.Idx → Elt F .f32) (fs : S1024x1152.Idx → Elt F .bf16) (h3 : v3.sem = barS) (hv : k0_pay30 (subA 512 1152 (snd0 c) 0 (putA (snd0 c) 1024 (putA (snd0 c) 896 fac (k0_pay28 v97 v225 (subA 1024 128 (0) 896 fk) (subA 1024 128 (0) 896 fv))) (k0_pay29 v97 v109 v127 v145 v163 v181 v199 v217 v225 (subA 1024 128 (0) 896 fk)))) = V.l0 (px 1 c))
    {Q : (Σ' (v255 : BitVec 32) (v261 : IVec S512x1024 32), IVec S512x1024 32) → sProp 𝕄} :
    iprop(recs V K ∗ levAts L lv ∗ kP c fk ∗ vP c fv ∗ acP c fac ∗ abP c (rows (snd0 c) 512) fullShare fs ∗ OW c (pays.drop 4) ∗ cred (tallyAt (kcell c 0) () 4) ∗ atPos ER (kcell c 0) 0 ∅ 0 ∗ dutyTok ER (kcell c 1) 0 0 ∗ dutyTok ER (kcell (px 1 c) 9) 0 0)
      ⊢ iprop(((kP c fk ∗ vP c fv ∗ acP c (putA (snd0 c) 1024 (putA (snd0 c) 896 fac (k0_pay28 v97 v225 (subA 1024 128 (0) 896 fk) (subA 1024 128 (0) 896 fv))) (k0_pay29 v97 v109 v127 v145 v163 v181 v199 v217 v225 (subA 1024 128 (0) 896 fk))) ∗ OW c (pays.drop 5) ∗ atPos ER (kcell c 0) 1 ∅ 0 ∗ (∃ f, l1P (px 4 c) f) ∗ (∃ f, l2P (px 2 c) f) ∗ (∃ f, l3P (px 8 c) f) ∗ cred (tallyAt (kcell c 1) () n512))
          -∗ Q ⟨(Scalar.xori v2 1#32 : BitVec 32), (iota .tc S512x1024 32 [0] iota_S512x1024_d0_w32 : IVec S512x1024 32), k0_pay31 v32⟩)
        -∗ wp frame (wpE (defs₀ (F := F)) 𝒱₀ (c : Thread nD τ) none) Set.univ (P7 (F := F) c v2 v3 v30 v32 v97 v109 v127 v145 v163 v181 v199 v217 v225) Q) := by
  iintro ⟨#HR, #HL, HK, Hv, Hac, HS0, HO, HC0, HA0, HT1, HT9⟩ Hk
  unfold P7
  rw [k0_part7_eq_skeleton]
  unfold k0_part7_skel
  simp only [semSignalWord, semWaitWord, Prog.lift, Prog.bind_op, Prog.bind_ret, Prog.pure_eq_ret]
  iapply (ld_k c rfl) $$ HK; iintro HK
  iapply (ld_v c rfl) $$ Hv; iintro Hv
  iapply (ld_ac c (off16 c)) $$ Hac; iintro Hac
  iapply (st_ac c (off16 c)) $$ Hac; iintro Hac
  iapply (ld_ac c (off17 c)) $$ Hac; iintro Hac
  iapply (st_ac c (off17 c)) $$ Hac; iintro Hac
  iapply (ld_ac c (off18 c)) $$ Hac; iintro Hac
  iapply (ld_ab c (off18 c) (a' := snd0 c) (n' := 512) le_rfl le_rfl) $$ HS0; iintro HS0
  iapply (st_ab c (off18 c) (a' := snd0 c) (n' := 512) le_rfl le_rfl) $$ HS0; iintro HS0
  iapply (wt0 V K c _ (congrArg SemLoc.reg h3) (fun K' => wpE_semWait_eq ..) (pays.drop 4) (by decide)) $$ [HC0 HO HA0]
  · isplitr; · iexact HR
    isplitr; · iexact HL
    isplitl [HC0]; · iexact HC0
    isplitl [HO]; · iexact HO
    iexact HA0
  iintro ⟨HO, HA0, HD0, HD2, HD1, HD3⟩
  ihave #HR0 := (reached_at V K c 1) $$ HR
  iapply (snd9 V K c (off19 c) _ (dev5_eq c) (by rfl) (by rfl) _ ((subA_putA_eq _ _ (snd0_le c)).trans hv) (pays.drop 5) rfl) $$ [HO HS0 HD0 HT1 HT9]
  · isplitr; · iexact HR
    isplitl [HO]; · iexact HO
    isplitl [HS0]; · iexact HS0
    isplitl [HD0]; · iexact HD0
    isplitl [HT1]; · iexact HT1
    isplitr; · iexact HR0
    iexact HT9
  iintro ⟨HC1, HO⟩
  rw [wp_ret]
  imodintro
  iapply Hk
  isplitl [HK]; · iexact HK
  isplitl [Hv]; · iexact Hv
  isplitl [Hac]; · iexact Hac
  isplitl [HO]; · iexact HO
  isplitl [HA0]; · iexact HA0
  isplitl [HD1]; · iexact HD1
  isplitl [HD2]; · iexact HD2
  isplitl [HD3]; · iexact HD3
  iexact HC1

/-- Part 13 of the body, over the buffers of the call. -/
abbrev P13 (c : Dev nD) (v2 : BitVec 32) (v32 : BitVec 32) (v255 : BitVec 32) (v325 : IVec S512x1024 1) (v337 : FVec F S512x1 .f32) (v355 : FVec F S512x1 .f32) (v373 : FVec F S512x1 .f32) (v391 : FVec F S512x1 .f32) (v409 : FVec F S512x1 .f32) (v427 : FVec F S512x1 .f32) (v445 : FVec F S512x1 .f32) (v457 : FVec F S1024x128 .bf16) (v459 : FVec F S512x1024 .f32) (v460 : FVec F S512x1024 .f32) :=
  k0_part13 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v2 v32 v255 v325 v337 v355 v373 v391 v409 v427 v445 v457 v459 v460
theorem p13 (V : Vals F) (K : Dev nD × Fin 19 → ℕ) (c : Dev nD) (v2 : BitVec 32) (v32 : BitVec 32) (v255 : BitVec 32) (v325 : IVec S512x1024 1) (v337 : FVec F S512x1 .f32) (v355 : FVec F S512x1 .f32) (v373 : FVec F S512x1 .f32) (v391 : FVec F S512x1 .f32) (v409 : FVec F S512x1 .f32) (v427 : FVec F S512x1 .f32) (v445 : FVec F S512x1 .f32) (v457 : FVec F S1024x128 .bf16) (v459 : FVec F S512x1024 .f32) (v460 : FVec F S512x1024 .f32) (fq : S1024x1024.Idx → Elt F .bf16) (fk : S1024x1024.Idx → Elt F .bf16) (fv : S1024x1024.Idx → Elt F .bf16) (fac : S1024x1152.Idx → Elt F .f32)
    {Q : (Σ' (v494 : BitVec 32), BitVec 32) → sProp 𝕄} :
    iprop(recs V K ∗ levAts L lv ∗ qP c fq ∗ kP c fk ∗ vP c fv ∗ acP c fac ∗ OW c (pays.drop 5) ∗ cred (tallyAt (kcell c 9) () n512) ∗ atPos ER (kcell c 9) 0 ∅ 0)
      ⊢ iprop(((qP c fq ∗ kP c fk ∗ vP c fv ∗ acP c (putA (kp0 c) 0 (putA (kp0 c) 1024 (putA (kp0 c) 896 fac (k0_pay68 v325 v457 v459 v460)) (k0_pay69 v325 v337 v355 v373 v391 v409 v427 v445 v459 v460)) (k0_pay70 (subA 512 1152 (kp0 c) 0 (putA (kp0 c) 1024 (putA (kp0 c) 896 fac (k0_pay68 v325 v457 v459 v460)) (k0_pay69 v325 v337 v355 v373 v391 v409 v427 v445 v459 v460))) ((V.l0 c)))) ∗ OW c (pays.drop 5) ∗ atPos ER (kcell c 9) 1 ∅ 0 ∗ l0P c (V.l0 c) ∗ (∃ f, abP (px 1 c) (rows (kp0 c) 512) fullShare f))
          -∗ Q ⟨((Scalar.addi v32 (Scalar.muli (Scalar.andi (Scalar.shrsi v2 2#32 : BitVec 32) 1#32 : BitVec 32) 256#32 : BitVec 32) : BitVec 32) : BitVec 32), ((Scalar.addi v32 (Scalar.muli (Scalar.subi 1#32 (Scalar.andi (Scalar.shrsi v2 2#32 : BitVec 32) 1#32 : BitVec 32) : BitVec 32) 256#32 : BitVec 32) : BitVec 32) : BitVec 32)⟩)
        -∗ wp frame (wpE (defs₀ (F := F)) 𝒱₀ (c : Thread nD τ) none) Set.univ (P13 (F := F) c v2 v32 v255 v325 v337 v355 v373 v391 v409 v427 v445 v457 v459 v460) Q) := by
  iintro ⟨#HR, #HL, Hq, HK, Hv, Hac, HO, HC9, HA9⟩ Hk
  unfold P13
  rw [k0_part13_eq_skeleton]
  unfold k0_part13_skel
  simp only [semSignalWord, semWaitWord, Prog.lift, Prog.bind_op, Prog.bind_ret, Prog.pure_eq_ret]
  iapply (ld_ac c (off35 c)) $$ Hac; iintro Hac
  iapply (st_ac c (off35 c)) $$ Hac; iintro Hac
  iapply (ld_ac c (off36 c)) $$ Hac; iintro Hac
  iapply (st_ac c (off36 c)) $$ Hac; iintro Hac
  iapply (wt V K c 9 0 n512 _ (by rfl) (fun K' => wpw c rfl K') (by decide) (by rfl) (pays.drop 5) (by decide)) $$ [HC9 HO HA9]
  · isplitr; · iexact HR
    isplitr; · iexact HL
    isplitl [HC9]; · iexact HC9
    isplitl [HO]; · iexact HO
    iexact HA9
  iintro ⟨HO, HA9, -, HP⟩
  ihave HP := (show payK V c 9 0 0 ⊢ iprop(l0P c (V.l0 c) ∗ ∃ f, abP (px 1 c) (rows (kp0 c) 512) fullShare f) from Entails.rfl) $$ HP
  icases HP with ⟨Hl0, HG0⟩
  iapply (ld_ac c (off37 c)) $$ Hac; iintro Hac
  iapply (ld_l0 c) $$ Hl0; iintro Hl0
  iapply (ld_ac c (off37 c)) $$ Hac; iintro Hac
  iapply (st_ac c (off37 c)) $$ Hac; iintro Hac
  rw [wp_ret]
  imodintro
  iapply Hk
  isplitl [Hq]; · iexact Hq
  isplitl [HK]; · iexact HK
  isplitl [Hv]; · iexact Hv
  isplitl [Hac]; · iexact Hac
  isplitl [HO]; · iexact HO
  isplitl [HA9]; · iexact HA9
  isplitl [Hl0]; · iexact Hl0
  iexact HG0

/-- Part 14 of the body, over the buffers of the call. -/
abbrev P14 (c : Dev nD) (v2 : BitVec 32) (v494 : BitVec 32) (v498 : BitVec 32) :=
  k0_part14 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v2 v494 v498
theorem p14 (V : Vals F) (K : Dev nD × Fin 19 → ℕ) (c : Dev nD) (v2 : BitVec 32) (v494 : BitVec 32) (v498 : BitVec 32) (fac : S1024x1152.Idx → Elt F .f32) (fs : S1024x1152.Idx → Elt F .bf16) (hv : k0_pay71 (subA 256 1152 (snd1 c) 0 fac) = V.l1 (px 4 c))
    {Q : (Σ' (v528 : BitVec 32) (v531 : BitVec 32), BitVec 32) → sProp 𝕄} :
    iprop(recs V K ∗ levAts L lv ∗ acP c fac ∗ abP c (rows (snd1 c) 256) fullShare fs ∗ OW c (pays.drop 5) ∗ cred (tallyAt (kcell c 1) () n512) ∗ atPos ER (kcell c 1) 0 ∅ 0 ∗ (∃ f, l1P (px 4 c) f) ∗ dutyTok ER (kcell c 1) 1 0 ∗ dutyTok ER (kcell (px 4 c) 10) 0 0 ∗ cred (tallyAt (kcell c 10) () n256) ∗ atPos ER (kcell c 10) 0 ∅ 0)
      ⊢ iprop(((acP c (putA (kp1 c) 0 fac (k0_pay72 (subA 256 1152 (kp1 c) 0 fac) ((V.l1 c)))) ∗ OW c (pays.drop 6) ∗ atPos ER (kcell c 1) 1 ∅ 0 ∗ atPos ER (kcell c 10) 1 ∅ 0 ∗ reached ER (kcell c 1) 1 ∗ cred (tallyAt (kcell c 1) () n256) ∗ l1P c (V.l1 c) ∗ (∃ f, abP (px 4 c) (rows (kp1 c) 256) fullShare f))
          -∗ Q ⟨(Scalar.andi (Scalar.shrsi v2 1#32 : BitVec 32) 1#32 : BitVec 32), ((Scalar.addi v494 (Scalar.muli (Scalar.andi (Scalar.shrsi v2 1#32 : BitVec 32) 1#32 : BitVec 32) 128#32 : BitVec 32) : BitVec 32) : BitVec 32), 1#32⟩)
        -∗ wp frame (wpE (defs₀ (F := F)) 𝒱₀ (c : Thread nD τ) none) Set.univ (P14 (F := F) c v2 v494 v498) Q) := by
  iintro ⟨#HR, #HL, Hac, HS1, HO, HC1, HA1, HD1, HT1, HT10, HC10, HA10⟩ Hk
  unfold P14
  rw [k0_part14_eq_skeleton]
  unfold k0_part14_skel
  simp only [semSignalWord, semWaitWord, Prog.lift, Prog.bind_op, Prog.bind_ret, Prog.pure_eq_ret]
  iapply (ld_ac c (off38 c)) $$ Hac; iintro Hac
  iapply (ld_ab c (off38 c) (a' := snd1 c) (n' := 256) le_rfl le_rfl) $$ HS1; iintro HS1
  iapply (st_ab c (off38 c) (a' := snd1 c) (n' := 256) le_rfl le_rfl) $$ HS1; iintro HS1
  iapply (wt V K c 1 0 n512 _ (by rfl) (fun K' => wpw c cr_512 K') (by decide) (by rfl) (pays.drop 5) (by decide)) $$ [HC1 HO HA1]
  · isplitr; · iexact HR
    isplitr; · iexact HL
    isplitl [HC1]; · iexact HC1
    isplitl [HO]; · iexact HO
    iexact HA1
  iintro ⟨HO, HA1, #HR1, HP⟩
  iclear HP
  iapply (snd10 V K c (off39 c) _ (dev6_eq c) (by rfl) (by rfl) _ ((subA_putA_eq _ _ (snd1_le c)).trans hv) (pays.drop 6) rfl) $$ [HO HS1 HD1 HT1 HT10]
  · isplitr; · iexact HR
    isplitl [HO]; · iexact HO
    isplitl [HS1]; · iexact HS1
    isplitl [HD1]; · iexact HD1
    isplitl [HT1]; · iexact HT1
    isplitr; · iexact HR1
    iexact HT10
  iintro ⟨HC1, HO⟩
  iapply (wt V K c 10 0 n256 _ (by rfl) (fun K' => wpw c rfl K') (by decide) (by rfl) (pays.drop 6) (by decide)) $$ [HC10 HO HA10]
  · isplitr; · iexact HR
    isplitr; · iexact HL
    isplitl [HC10]; · iexact HC10
    isplitl [HO]; · iexact HO
    iexact HA10
  iintro ⟨HO, HA10, -, HP⟩
  ihave HP := (show payK V c 10 0 0 ⊢ iprop(l1P c (V.l1 c) ∗ ∃ f, abP (px 4 c) (rows (kp1 c) 256) fullShare f) from Entails.rfl) $$ HP
  icases HP with ⟨Hl1, HG1⟩
  iapply (ld_ac c (off40 c)) $$ Hac; iintro Hac
  iapply (ld_l1 c) $$ Hl1; iintro Hl1
  iapply (ld_ac c (off40 c)) $$ Hac; iintro Hac
  iapply (st_ac c (off40 c)) $$ Hac; iintro Hac
  rw [wp_ret]
  imodintro
  iapply Hk
  isplitl [Hac]; · iexact Hac
  isplitl [HO]; · iexact HO
  isplitl [HA1]; · iexact HA1
  isplitl [HA10]; · iexact HA10
  isplitr; · iexact HR1
  isplitl [HC1]; · iexact HC1
  isplitl [Hl1]; · iexact Hl1
  iexact HG1

/-- Part 15 of the body, over the buffers of the call. -/
abbrev P15 (c : Dev nD) (v2 : BitVec 32) (v494 : BitVec 32) (v528 : BitVec 32) (v531 : BitVec 32) (c1_i32_251 : BitVec 32) :=
  k0_part15 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v2 v494 v528 v531 c1_i32_251
theorem p15 (V : Vals F) (K : Dev nD × Fin 19 → ℕ) (c : Dev nD) (v2 : BitVec 32) (v494 : BitVec 32) (v528 : BitVec 32) (v531 : BitVec 32) (c1_i32_251 : BitVec 32) (fac : S1024x1152.Idx → Elt F .f32) (fs : S1024x1152.Idx → Elt F .bf16) (hv : k0_pay73 (subA 128 1152 (snd2 c) 0 fac) = V.l2 (px 2 c))
    {Q : (Σ' (v564 : BitVec 32), Vec F S128x1152 .f32) → sProp 𝕄} :
    iprop(recs V K ∗ levAts L lv ∗ acP c fac ∗ abP c (rows (snd2 c) 128) fullShare fs ∗ OW c (pays.drop 6) ∗ cred (tallyAt (kcell c 1) () n256) ∗ atPos ER (kcell c 1) 1 ∅ 0 ∗ (∃ f, l2P (px 2 c) f) ∗ dutyTok ER (kcell c 1) 2 0 ∗ dutyTok ER (kcell (px 2 c) 11) 0 0 ∗ cred (tallyAt (kcell c 11) () n128) ∗ atPos ER (kcell c 11) 0 ∅ 0)
      ⊢ iprop(((acP c (putA (reg c) 0 fac (k0_pay74 (subA 128 1152 (reg c) 0 fac) ((V.l2 c)))) ∗ OW c (pays.drop 7) ∗ atPos ER (kcell c 1) 2 ∅ 0 ∗ atPos ER (kcell c 11) 1 ∅ 0 ∗ reached ER (kcell c 1) 2 ∗ cred (tallyAt (kcell c 1) () n128) ∗ l2P c (V.l2 c) ∗ (∃ f, abP (px 2 c) (rows (reg c) 128) fullShare f))
          -∗ Q ⟨(v531 : BitVec 32), (subA 128 1152 (reg c) 0 (putA (reg c) 0 fac (k0_pay74 (subA 128 1152 (reg c) 0 fac) ((V.l2 c)))))⟩)
        -∗ wp frame (wpE (defs₀ (F := F)) 𝒱₀ (c : Thread nD τ) none) Set.univ (P15 (F := F) c v2 v494 v528 v531 c1_i32_251) Q) := by
  iintro ⟨#HR, #HL, Hac, HS2, HO, HC1, HA1, HD2, HT1, HT11, HC11, HA11⟩ Hk
  unfold P15
  rw [k0_part15_eq_skeleton]
  unfold k0_part15_skel
  simp only [semSignalWord, semWaitWord, Prog.lift, Prog.bind_op, Prog.bind_ret, Prog.pure_eq_ret]
  iapply (ld_ac c (off41 c)) $$ Hac; iintro Hac
  iapply (ld_ab c (off41 c) (a' := snd2 c) (n' := 128) le_rfl le_rfl) $$ HS2; iintro HS2
  iapply (st_ab c (off41 c) (a' := snd2 c) (n' := 128) le_rfl le_rfl) $$ HS2; iintro HS2
  iapply (wt V K c 1 1 n256 _ (by rfl) (fun K' => wpw c cr_256 K') (by decide) (by rfl) (pays.drop 6) (by decide)) $$ [HC1 HO HA1]
  · isplitr; · iexact HR
    isplitr; · iexact HL
    isplitl [HC1]; · iexact HC1
    isplitl [HO]; · iexact HO
    iexact HA1
  iintro ⟨HO, HA1, #HR2, HP⟩
  iclear HP
  iapply (snd11 V K c (off42 c) _ (dev7_eq c) (by rfl) (by rfl) _ ((subA_putA_eq _ _ (snd2_le c)).trans hv) (pays.drop 7) rfl) $$ [HO HS2 HD2 HT1 HT11]
  · isplitr; · iexact HR
    isplitl [HO]; · iexact HO
    isplitl [HS2]; · iexact HS2
    isplitl [HD2]; · iexact HD2
    isplitl [HT1]; · iexact HT1
    isplitr; · iexact HR2
    iexact HT11
  iintro ⟨HC1, HO⟩
  iapply (wt V K c 11 0 n128 _ (by rfl) (fun K' => wpw c rfl K') (by decide) (by rfl) (pays.drop 7) (by decide)) $$ [HC11 HO HA11]
  · isplitr; · iexact HR
    isplitr; · iexact HL
    isplitl [HC11]; · iexact HC11
    isplitl [HO]; · iexact HO
    iexact HA11
  iintro ⟨HO, HA11, -, HP⟩
  ihave HP := (show payK V c 11 0 0 ⊢ iprop(l2P c (V.l2 c) ∗ ∃ f, abP (px 2 c) (rows (reg c) 128) fullShare f) from Entails.rfl) $$ HP
  icases HP with ⟨Hl2, HG2⟩
  iapply (ld_ac c (off43 c)) $$ Hac; iintro Hac
  iapply (ld_l2 c) $$ Hl2; iintro Hl2
  iapply (ld_ac c (off43 c)) $$ Hac; iintro Hac
  iapply (st_ac c (off43 c)) $$ Hac; iintro Hac
  iapply (ld_ac c (off44 c)) $$ Hac; iintro Hac
  rw [wp_ret]
  imodintro
  iapply Hk
  isplitl [Hac]; · iexact Hac
  isplitl [HO]; · iexact HO
  isplitl [HA1]; · iexact HA1
  isplitl [HA11]; · iexact HA11
  isplitr; · iexact HR2
  isplitl [HC1]; · iexact HC1
  isplitl [Hl2]; · iexact Hl2
  iexact HG2

/-- Part 16 of the body, over the buffers of the call. -/
abbrev P16 (c : Dev nD) (v2 : BitVec 32) (v564 : BitVec 32) (v566 : Vec F S128x1152 .f32) :=
  k0_part16 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v2 v564 v566
theorem p16 (V : Vals F) (K : Dev nD × Fin 19 → ℕ) (c : Dev nD) (v2 : BitVec 32) (v564 : BitVec 32) (v566 : Vec F S128x1152 .f32) (fac : S1024x1152.Idx → Elt F .f32) (fs : S1024x1152.Idx → Elt F .bf16) (hv : k0_pay75 v566 = V.l3 (px 8 c)) (hfin : k0_pay76 (subA 128 1152 (reg c) 0 fac) (V.l3 c) = V.fin c)
    {Q : (Σ' (v595 : BitVec 32), BitVec 32) → sProp 𝕄} :
    iprop(recs V K ∗ levAts L lv ∗ acP c fac ∗ abP c (rows (reg c) 128) fullShare fs ∗ OW c (pays.drop 7) ∗ cred (tallyAt (kcell c 1) () n128) ∗ atPos ER (kcell c 1) 2 ∅ 0 ∗ (∃ f, l3P (px 8 c) f) ∗ dutyTok ER (kcell c 1) 3 0 ∗ dutyTok ER (kcell (px 8 c) 12) 0 0 ∗ cred (tallyAt (kcell c 12) () n128) ∗ atPos ER (kcell c 12) 0 ∅ 0)
      ⊢ iprop(((acP c fac ∗ OW c (pays.drop 8) ∗ atPos ER (kcell c 1) 4 ∅ 0 ∗ atPos ER (kcell c 12) 1 ∅ 0 ∗ reached ER (kcell c 1) 3 ∗ l3P c (V.l3 c) ∗ reached ER (kcell c 1) 4 ∗ abP c (rows (reg c) 128) fullShare (V.ab c))
          -∗ Q ⟨(Scalar.xori v2 2#32 : BitVec 32), (Scalar.muli (Scalar.andi (Scalar.xori v2 2#32 : BitVec 32) 1#32 : BitVec 32) 512#32 : BitVec 32)⟩)
        -∗ wp frame (wpE (defs₀ (F := F)) 𝒱₀ (c : Thread nD τ) none) Set.univ (P16 (F := F) c v2 v564 v566) Q) := by
  iintro ⟨#HR, #HL, Hac, HS3, HO, HC1, HA1, HD3, HT1, HT12, HC12, HA12⟩ Hk
  unfold P16
  rw [k0_part16_eq_skeleton]
  unfold k0_part16_skel
  simp only [semSignalWord, semWaitWord, Prog.lift, Prog.bind_op, Prog.bind_ret, Prog.pure_eq_ret]
  iapply (ld_ab c (off44 c) (a' := reg c) (n' := 128) le_rfl le_rfl) $$ HS3; iintro HS3
  iapply (st_ab c (off44 c) (a' := reg c) (n' := 128) le_rfl le_rfl) $$ HS3; iintro HS3
  iapply (wt V K c 1 2 n128 _ (by rfl) (fun K' => wpw c cr_128 K') (by decide) (by rfl) (pays.drop 7) (by decide)) $$ [HC1 HO HA1]
  · isplitr; · iexact HR
    isplitr; · iexact HL
    isplitl [HC1]; · iexact HC1
    isplitl [HO]; · iexact HO
    iexact HA1
  iintro ⟨HO, HA1, #HR3, HP⟩
  iclear HP
  iapply (snd12 V K c (off45 c) _ (dev8_eq c) (by rfl) (by rfl) _ ((subA_putA_eq _ _ (reg_le c)).trans hv) (pays.drop 8) rfl) $$ [HO HS3 HD3 HT1 HT12]
  · isplitr; · iexact HR
    isplitl [HO]; · iexact HO
    isplitl [HS3]; · iexact HS3
    isplitl [HD3]; · iexact HD3
    isplitl [HT1]; · iexact HT1
    isplitr; · iexact HR3
    iexact HT12
  iintro ⟨HC1, HO⟩
  iapply (wt V K c 12 0 n128 _ (by rfl) (fun K' => wpw c cr_l3 K') (by decide) (by rfl) (pays.drop 8) (by decide)) $$ [HC12 HO HA12]
  · isplitr; · iexact HR
    isplitr; · iexact HL
    isplitl [HC12]; · iexact HC12
    isplitl [HO]; · iexact HO
    iexact HA12
  iintro ⟨HO, HA12, -, HP⟩
  ihave HP := (show payK V c 12 0 0 ⊢ iprop(l3P c (V.l3 c)) from Entails.rfl) $$ HP
  icases HP with Hl3
  iapply (wt V K c 1 3 n128 _ (by rfl) (fun K' => wpw c cr_128 K') (by decide) (by rfl) (pays.drop 8) (by decide)) $$ [HC1 HO HA1]
  · isplitr; · iexact HR
    isplitr; · iexact HL
    isplitl [HC1]; · iexact HC1
    isplitl [HO]; · iexact HO
    iexact HA1
  iintro ⟨HO, HA1, #HR4, HP⟩
  ihave HP := (show payK V c 1 3 0 ⊢ iprop(∃ f, abP c (rows (reg c) 128) fullShare f) from Entails.rfl) $$ HP
  icases HP with ⟨%fb, HS3⟩
  iapply (ld_ac c (off44 c)) $$ Hac; iintro Hac
  iapply (ld_l3 c) $$ Hl3; iintro Hl3
  iapply (ld_ab c (off44 c) (a' := reg c) (n' := 128) le_rfl le_rfl) $$ HS3; iintro HS3
  iapply (st_ab c (off44 c) (a' := reg c) (n' := 128) le_rfl le_rfl) $$ HS3; iintro HS3
  have hfb : (abP c (rows (reg c) 128) fullShare (putA (reg c) 0 fb (k0_pay76 (subA 128 1152 (reg c) 0 fac) (V.l3 c))) : sProp 𝕄) ⊢ abP c (rows (reg c) 128) fullShare (V.ab c) := by
    rw [hfin]; exact Entails.of_eq (abP_congr c (ab_put V c _))
  ihave HS3 := hfb $$ HS3
  rw [wp_ret]
  imodintro
  iapply Hk
  isplitl [Hac]; · iexact Hac
  isplitl [HO]; · iexact HO
  isplitl [HA1]; · iexact HA1
  isplitl [HA12]; · iexact HA12
  isplitr; · iexact HR3
  isplitl [Hl3]; · iexact Hl3
  isplitr; · iexact HR4
  iexact HS3

end Cert.KernelIdealProof
-- ==== Proof.KI.PartsC.lean ====
/-
The parts of the body that gather: the copies of the all-gather, and the output's rows from the gathered buffer.
-/
module

public import proofs.«01_k».proof.Proof.KI.Sends
public import proofs.«01_k».proof.Proof.KI.Offs
public import proofs.«01_k».proof.Proof.KI.Contents

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem at_lst (c : Dev nD) : (reg (px 5 c) = lst c ∧ reg (px 7 c) = lst c + 128) ∨ (reg (px 5 c) = lst c + 128 ∧ reg (px 7 c) = lst c) := by revert c; decide +kernel

/-- Part 19 of the body, over the buffers of the call. -/
abbrev P19 (c : Dev nD) (v2 : BitVec 32) (v564 : BitVec 32) (c2_i32_346 : BitVec 32) :=
  k0_part19 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v2 v564 c2_i32_346
theorem p19 (V : Vals F) (K : Dev nD × Fin 19 → ℕ) (c : Dev nD) (v2 : BitVec 32) (v564 : BitVec 32) (c2_i32_346 : BitVec 32)
    {Q : (Σ' (v695 : FVec F S128x128 .f32) (v696 : FVec F S128x1024 .f32), FVec F S128x128 .f32) → sProp 𝕄} :
    iprop(recs V K ∗ levAts L lv ∗ OW c (pays.drop 8) ∗ abP c (rows (reg c) 128) qA (V.ab c) ∗ abP c (rows (reg c) 128) qB (V.ab c) ∗ abP c (rows (reg c) 128) qC (V.ab c) ∗ abP c (rows (reg c) 128) fullShare.right.right.right (V.ab c) ∗ (∃ f, abP (px 2 c) (rows (reg c) 128) fullShare f) ∗ (∃ f, abP (px 4 c) (rows (reg c) 128) fullShare f) ∗ (∃ f, abP (px 1 c) (rows (reg c) 128) fullShare f) ∗ dutyTok ER (kcell c 2) 0 0 ∗ dutyTok ER (kcell c 3) 0 0 ∗ dutyTok ER (kcell c 4) 0 0 ∗ dutyTok ER (kcell (px 2 c) 13) 0 0 ∗ dutyTok ER (kcell (px 4 c) 14) 0 0 ∗ dutyTok ER (kcell (px 1 c) 16) 0 0)
      ⊢ iprop(((OW c (pays.drop 11) ∗ abP c (rows (reg c) 128) fullShare.right.right.right (V.ab c) ∗ cred (tallyAt (kcell c 2) () n128) ∗ cred (tallyAt (kcell c 3) () n128) ∗ cred (tallyAt (kcell c 4) () n128))
          -∗ Q ⟨k0_pay77 (subA 128 128 (reg c) 1024 (V.ab c)), k0_pay78 (F := F), k0_pay79 (subA 128 128 (reg c) 0 (V.ab c))⟩)
        -∗ wp frame (wpE (defs₀ (F := F)) 𝒱₀ (c : Thread nD τ) none) Set.univ (P19 (F := F) c v2 v564 c2_i32_346) Q) := by
  iintro ⟨#HR, #HL, HO, HX2, HX3, HX4, HB, HD13, HD14, HD16, HT2, HT3, HT4, HT13, HT14, HT16⟩ Hk
  unfold P19
  rw [k0_part19_eq_skeleton]
  unfold k0_part19_skel
  simp only [semSignalWord, semWaitWord, Prog.lift, Prog.bind_op, Prog.bind_ret, Prog.pure_eq_ret]
  iapply (sndAG V K c (off45 c) (off45 c) (reg_le c) _ 2 (dev9_eq c) 2 13 0 (by rfl) (by rfl) (by decide) rfl rfl (by decide) qA (ab_px2 V c) rfl (show abP (px 2 c) (rows (reg (px 2 (px 2 c))) 128) fullShare (V.ab (px 2 c)) = _ by rw [px_px]) (pays.drop 9) rfl) $$ [HO HX2 HD13 HT2 HT13]
  · isplitr; · iexact HR
    isplitl [HO]; · iexact HO
    isplitl [HX2]; · iexact HX2
    isplitl [HD13]; · iexact HD13
    isplitl [HT2]; · iexact HT2
    iexact HT13
  iintro ⟨HC2, HO⟩
  iapply (sndAG V K c (off45 c) (off45 c) (reg_le c) _ 4 (dev10_eq c) 3 14 0 (by rfl) (by rfl) (by decide) rfl rfl (by decide) qB (ab_px4 V c) rfl (show abP (px 4 c) (rows (reg (px 4 (px 4 c))) 128) fullShare (V.ab (px 4 c)) = _ by rw [px_px]) (pays.drop 10) rfl) $$ [HO HX3 HD14 HT3 HT14]
  · isplitr; · iexact HR
    isplitl [HO]; · iexact HO
    isplitl [HX3]; · iexact HX3
    isplitl [HD14]; · iexact HD14
    isplitl [HT3]; · iexact HT3
    iexact HT14
  iintro ⟨HC3, HO⟩
  iapply (sndAG V K c (off45 c) (off45 c) (reg_le c) _ 1 (dev11_eq c) 4 16 0 (by rfl) (by rfl) (by decide) rfl rfl (by decide) qC (ab_px1 V c) rfl (show abP (px 1 c) (rows (reg (px 1 (px 1 c))) 128) fullShare (V.ab (px 1 c)) = _ by rw [px_px]) (pays.drop 11) rfl) $$ [HO HX4 HD16 HT4 HT16]
  · isplitr; · iexact HR
    isplitl [HO]; · iexact HO
    isplitl [HX4]; · iexact HX4
    isplitl [HD16]; · iexact HD16
    isplitl [HT4]; · iexact HT4
    iexact HT16
  iintro ⟨HC4, HO⟩
  iapply (ld_ab c (off46 c) (a' := reg c) (n' := 128) le_rfl le_rfl) $$ HB; iintro HB
  iapply (ld_ab c (off47 c) (a' := reg c) (n' := 128) le_rfl le_rfl) $$ HB; iintro HB
  rw [wp_ret]
  imodintro
  iapply Hk
  isplitl [HO]; · iexact HO
  isplitl [HB]; · iexact HB
  isplitl [HC2]; · iexact HC2
  isplitl [HC3]; · iexact HC3
  iexact HC4

/-- Part 20 of the body, over the buffers of the call. -/
abbrev P20 (c : Dev nD) (v564 : BitVec 32) (v695 : FVec F S128x128 .f32) (v696 : FVec F S128x1024 .f32) (v699 : FVec F S128x128 .f32) :=
  k0_part20 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v564 v695 v696 v699
theorem p20 (c : Dev nD) (v564 : BitVec 32) (v695 : FVec F S128x128 .f32) (v696 : FVec F S128x1024 .f32) (v699 : FVec F S128x128 .f32) (V : Vals F)  (fwo : S1024x1024.Idx → Elt F .bf16)
    {Q : (Σ' (v740 : FVec F S128x1024 .f32), FVec F S128x128 .f32) → sProp 𝕄} :
    iprop(abP c (rows (reg c) 128) fullShare.right.right.right (V.ab c) ∗ woP c fwo)
      ⊢ iprop(((abP c (rows (reg c) 128) fullShare.right.right.right (V.ab c) ∗ woP c fwo)
          -∗ Q ⟨k0_pay80 v695 v696 v699 (subA 128 1024 (0) 0 fwo) (subA 128 128 (reg c) 128 (V.ab c)) (subA 128 1024 (128) 0 fwo) (subA 128 128 (reg c) 256 (V.ab c)) (subA 128 1024 (256) 0 fwo) (subA 128 128 (reg c) 384 (V.ab c)) (subA 128 1024 (384) 0 fwo), k0_pay81 (subA 128 128 (reg c) 512 (V.ab c))⟩)
        -∗ wp frame (wpE (defs₀ (F := F)) 𝒱₀ (c : Thread nD τ) none) Set.univ (P20 (F := F) c v564 v695 v696 v699) Q) := by
  iintro ⟨HB, Hwo⟩ Hk
  unfold P20
  rw [k0_part20_eq_skeleton]
  unfold k0_part20_skel
  simp only [semSignalWord, semWaitWord, Prog.lift, Prog.bind_op, Prog.bind_ret, Prog.pure_eq_ret]
  iapply (ld_wo c rfl) $$ Hwo; iintro Hwo
  iapply (ld_ab c (off48 c) (a' := reg c) (n' := 128) le_rfl le_rfl) $$ HB; iintro HB
  iapply (ld_wo c rfl) $$ Hwo; iintro Hwo
  iapply (ld_ab c (off49 c) (a' := reg c) (n' := 128) le_rfl le_rfl) $$ HB; iintro HB
  iapply (ld_wo c rfl) $$ Hwo; iintro Hwo
  iapply (ld_ab c (off50 c) (a' := reg c) (n' := 128) le_rfl le_rfl) $$ HB; iintro HB
  iapply (ld_wo c rfl) $$ Hwo; iintro Hwo
  iapply (ld_ab c (off51 c) (a' := reg c) (n' := 128) le_rfl le_rfl) $$ HB; iintro HB
  rw [wp_ret]
  imodintro
  iapply Hk
  isplitl [HB]; · iexact HB
  iexact Hwo

/-- Part 21 of the body, over the buffers of the call. -/
abbrev P21 (c : Dev nD) (v564 : BitVec 32) (v695 : FVec F S128x128 .f32) (v740 : FVec F S128x1024 .f32) (v743 : FVec F S128x128 .f32) :=
  k0_part21 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v564 v695 v740 v743
theorem p21 (c : Dev nD) (v564 : BitVec 32) (v695 : FVec F S128x128 .f32) (v740 : FVec F S128x1024 .f32) (v743 : FVec F S128x128 .f32) (V : Vals F)  (fwo : S1024x1024.Idx → Elt F .bf16) (fo : S1024x1024.Idx → Elt F .f32)
    {Q : (PUnit) → sProp 𝕄} :
    iprop(abP c (rows (reg c) 128) fullShare.right.right.right (V.ab c) ∗ woP c fwo ∗ oP c fo)
      ⊢ iprop(((abP c (rows (reg c) 128) fullShare.right.right.right (V.ab c) ∗ woP c fwo ∗ oP c (putA (reg c) 0 fo (k0_pay82 v695 v740 v743 (subA 128 1024 (512) 0 fwo) (subA 128 128 (reg c) 640 (V.ab c)) (subA 128 1024 (640) 0 fwo) (subA 128 128 (reg c) 768 (V.ab c)) (subA 128 1024 (768) 0 fwo) (subA 128 128 (reg c) 896 (V.ab c)) (subA 128 1024 (896) 0 fwo))))
          -∗ Q ⟨⟩)
        -∗ wp frame (wpE (defs₀ (F := F)) 𝒱₀ (c : Thread nD τ) none) Set.univ (P21 (F := F) c v564 v695 v740 v743) Q) := by
  iintro ⟨HB, Hwo, Ho⟩ Hk
  unfold P21
  rw [k0_part21_eq_skeleton]
  unfold k0_part21_skel
  simp only [semSignalWord, semWaitWord, Prog.lift, Prog.bind_op, Prog.bind_ret, Prog.pure_eq_ret]
  iapply (ld_wo c rfl) $$ Hwo; iintro Hwo
  iapply (ld_ab c (off52 c) (a' := reg c) (n' := 128) le_rfl le_rfl) $$ HB; iintro HB
  iapply (ld_wo c rfl) $$ Hwo; iintro Hwo
  iapply (ld_ab c (off53 c) (a' := reg c) (n' := 128) le_rfl le_rfl) $$ HB; iintro HB
  iapply (ld_wo c rfl) $$ Hwo; iintro Hwo
  iapply (ld_ab c (off54 c) (a' := reg c) (n' := 128) le_rfl le_rfl) $$ HB; iintro HB
  iapply (ld_wo c rfl) $$ Hwo; iintro Hwo
  iapply (ld_o c (off55 c)) $$ Ho; iintro Ho
  iapply (st_o c (off55 c)) $$ Ho; iintro Ho
  rw [wp_ret]
  imodintro
  iapply Hk
  isplitl [HB]; · iexact HB
  isplitl [Hwo]; · iexact Hwo
  iexact Ho

/-- Part 22 of the body, over the buffers of the call. -/
abbrev P22 (c : Dev nD) (v2 : BitVec 32) (v606 : BitVec 32) :=
  k0_part22 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v2 v606
theorem p22 (V : Vals F) (K : Dev nD × Fin 19 → ℕ) (c : Dev nD) (v2 : BitVec 32) (v606 : BitVec 32)
    {Q : (Σ' (v813 : FVec F S128x128 .f32) (v814 : FVec F S128x1024 .f32), FVec F S128x128 .bf16) → sProp 𝕄} :
    iprop(recs V K ∗ levAts L lv ∗ OW c (pays.drop 11) ∗ cred (tallyAt (kcell c 13) () n128) ∗ atPos ER (kcell c 13) 0 ∅ 0 ∗ (∃ f, abP (px 4 c) (rows (reg (px 2 c)) 128) fullShare f) ∗ (∃ f, abP (px 1 c) (rows (reg (px 2 c)) 128) fullShare f) ∗ dutyTok ER (kcell c 5) 0 0 ∗ dutyTok ER (kcell c 6) 0 0 ∗ dutyTok ER (kcell (px 4 c) 15) 0 0 ∗ dutyTok ER (kcell (px 1 c) 17) 0 0)
      ⊢ iprop(((OW c (pays.drop 13) ∗ atPos ER (kcell c 13) 1 ∅ 0 ∗ abP c (rows (reg (px 2 c)) 128) fullShare.right.right (V.ab c) ∗ cred (tallyAt (kcell c 5) () n128) ∗ cred (tallyAt (kcell c 6) () n128))
          -∗ Q ⟨k0_pay83 (subA 128 128 (reg (px 2 c)) 1024 (V.ab c)), k0_pay84 (F := F), k0_pay85 (subA 128 128 (reg (px 2 c)) 1024 (V.ab c)) (subA 128 128 (reg (px 2 c)) 0 (V.ab c))⟩)
        -∗ wp frame (wpE (defs₀ (F := F)) 𝒱₀ (c : Thread nD τ) none) Set.univ (P22 (F := F) c v2 v606) Q) := by
  iintro ⟨#HR, #HL, HO, HC13, HA13, HD15, HD17, HT5, HT6, HT15, HT17⟩ Hk
  unfold P22
  rw [k0_part22_eq_skeleton]
  unfold k0_part22_skel
  simp only [semSignalWord, semWaitWord, Prog.lift, Prog.bind_op, Prog.bind_ret, Prog.pure_eq_ret]
  iapply (wt V K c 13 0 n128 _ (by rfl) (fun K' => wpw c cr_128 K') (by decide) (by rfl) (pays.drop 11) (by decide)) $$ [HC13 HO HA13]
  · isplitr; · iexact HR
    isplitr; · iexact HL
    isplitl [HC13]; · iexact HC13
    isplitl [HO]; · iexact HO
    iexact HA13
  iintro ⟨HO, HA13, -, HP⟩
  ihave HP := (show payK V c 13 0 0 ⊢ iprop(abP c (rows (reg (px 2 c)) 128) fullShare (V.ab c)) from Entails.rfl) $$ HP
  icases HP with HE
  ihave HE := (show abP c (rows (reg (px 2 c)) 128) fullShare (V.ab c) ⊢ iprop(abP c (rows (reg (px 2 c)) 128) fullShare.left (V.ab c) ∗ abP c (rows (reg (px 2 c)) 128) fullShare.right (V.ab c)) from (abP_share c fullShare (V.ab c)).1) $$ HE
  icases HE with ⟨HX5, HE⟩
  ihave HE := (show abP c (rows (reg (px 2 c)) 128) fullShare.right (V.ab c) ⊢ iprop(abP c (rows (reg (px 2 c)) 128) fullShare.right.left (V.ab c) ∗ abP c (rows (reg (px 2 c)) 128) fullShare.right.right (V.ab c)) from (abP_share c fullShare.right (V.ab c)).1) $$ HE
  icases HE with ⟨HX6, HE⟩
  iapply (sndAG V K c (off56_2 c) (off56_2 c) (reg_le (px 2 c)) _ 4 (dev12_eq c) 5 15 0 (by rfl) (by rfl) (by decide) rfl rfl (by decide) qA (ab_px4 V c) rfl (show abP (px 4 c) (rows (reg (px 6 (px 4 c))) 128) fullShare (V.ab (px 4 c)) = _ by rw [px64]) (pays.drop 12) rfl) $$ [HO HX5 HD15 HT5 HT15]
  · isplitr; · iexact HR
    isplitl [HO]; · iexact HO
    isplitl [HX5]; · iexact HX5
    isplitl [HD15]; · iexact HD15
    isplitl [HT5]; · iexact HT5
    iexact HT15
  iintro ⟨HC5, HO⟩
  iapply (sndAG V K c (off56_2 c) (off56_2 c) (reg_le (px 2 c)) _ 1 (dev13_eq c) 6 17 0 (by rfl) (by rfl) (by decide) rfl rfl (by decide) qB (ab_px1 V c) rfl (show abP (px 1 c) (rows (reg (px 3 (px 1 c))) 128) fullShare (V.ab (px 1 c)) = _ by rw [px31]) (pays.drop 13) rfl) $$ [HO HX6 HD17 HT6 HT17]
  · isplitr; · iexact HR
    isplitl [HO]; · iexact HO
    isplitl [HX6]; · iexact HX6
    isplitl [HD17]; · iexact HD17
    isplitl [HT6]; · iexact HT6
    iexact HT17
  iintro ⟨HC6, HO⟩
  iapply (ld_ab c (off57_2 c) (a' := reg (px 2 c)) (n' := 128) le_rfl le_rfl) $$ HE; iintro HE
  iapply (ld_ab c (off58_2 c) (a' := reg (px 2 c)) (n' := 128) le_rfl le_rfl) $$ HE; iintro HE
  rw [wp_ret]
  imodintro
  iapply Hk
  isplitl [HO]; · iexact HO
  isplitl [HA13]; · iexact HA13
  isplitl [HE]; · iexact HE
  isplitl [HC5]; · iexact HC5
  iexact HC6

/-- Part 23 of the body, over the buffers of the call. -/
abbrev P23 (c : Dev nD) (v606 : BitVec 32) (v813 : FVec F S128x128 .f32) (v814 : FVec F S128x1024 .f32) (v821 : FVec F S128x128 .bf16) :=
  k0_part23 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v606 v813 v814 v821
theorem p23 (c : Dev nD) (v606 : BitVec 32) (v813 : FVec F S128x128 .f32) (v814 : FVec F S128x1024 .f32) (v821 : FVec F S128x128 .bf16) (V : Vals F)  (fwo : S1024x1024.Idx → Elt F .bf16)
    {Q : (Σ' (v858 : FVec F S128x1024 .f32), FVec F S128x128 .bf16) → sProp 𝕄} :
    iprop(abP c (rows (reg (px 2 c)) 128) fullShare.right.right (V.ab c) ∗ woP c fwo)
      ⊢ iprop(((abP c (rows (reg (px 2 c)) 128) fullShare.right.right (V.ab c) ∗ woP c fwo)
          -∗ Q ⟨k0_pay86 v813 v814 v821 (subA 128 1024 (0) 0 fwo) (subA 128 128 (reg (px 2 c)) 128 (V.ab c)) (subA 128 1024 (128) 0 fwo) (subA 128 128 (reg (px 2 c)) 256 (V.ab c)) (subA 128 1024 (256) 0 fwo) (subA 128 128 (reg (px 2 c)) 384 (V.ab c)) (subA 128 1024 (384) 0 fwo), k0_pay87 v813 (subA 128 128 (reg (px 2 c)) 512 (V.ab c))⟩)
        -∗ wp frame (wpE (defs₀ (F := F)) 𝒱₀ (c : Thread nD τ) none) Set.univ (P23 (F := F) c v606 v813 v814 v821) Q) := by
  iintro ⟨HE, Hwo⟩ Hk
  unfold P23
  rw [k0_part23_eq_skeleton]
  unfold k0_part23_skel
  simp only [semSignalWord, semWaitWord, Prog.lift, Prog.bind_op, Prog.bind_ret, Prog.pure_eq_ret]
  iapply (ld_wo c rfl) $$ Hwo; iintro Hwo
  iapply (ld_ab c (off59_2 c) (a' := reg (px 2 c)) (n' := 128) le_rfl le_rfl) $$ HE; iintro HE
  iapply (ld_wo c rfl) $$ Hwo; iintro Hwo
  iapply (ld_ab c (off60_2 c) (a' := reg (px 2 c)) (n' := 128) le_rfl le_rfl) $$ HE; iintro HE
  iapply (ld_wo c rfl) $$ Hwo; iintro Hwo
  iapply (ld_ab c (off61_2 c) (a' := reg (px 2 c)) (n' := 128) le_rfl le_rfl) $$ HE; iintro HE
  iapply (ld_wo c rfl) $$ Hwo; iintro Hwo
  iapply (ld_ab c (off62_2 c) (a' := reg (px 2 c)) (n' := 128) le_rfl le_rfl) $$ HE; iintro HE
  rw [wp_ret]
  imodintro
  iapply Hk
  isplitl [HE]; · iexact HE
  iexact Hwo

/-- Part 24 of the body, over the buffers of the call. -/
abbrev P24 (c : Dev nD) (v2 : BitVec 32) (v606 : BitVec 32) (v813 : FVec F S128x128 .f32) (v858 : FVec F S128x1024 .f32) (v865 : FVec F S128x128 .bf16) :=
  k0_part24 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v2 v606 v813 v858 v865
theorem p24 (c : Dev nD) (v2 : BitVec 32) (v606 : BitVec 32) (v813 : FVec F S128x128 .f32) (v858 : FVec F S128x1024 .f32) (v865 : FVec F S128x128 .bf16) (V : Vals F)  (fwo : S1024x1024.Idx → Elt F .bf16) (fo : S1024x1024.Idx → Elt F .f32)
    {Q : (Σ' (v905 : BitVec 32), BitVec 32) → sProp 𝕄} :
    iprop(abP c (rows (reg (px 2 c)) 128) fullShare.right.right (V.ab c) ∗ woP c fwo ∗ oP c fo)
      ⊢ iprop(((abP c (rows (reg (px 2 c)) 128) fullShare.right.right (V.ab c) ∗ woP c fwo ∗ oP c (putA (reg (px 2 c)) 0 fo (k0_pay88 v813 v858 v865 (subA 128 1024 (512) 0 fwo) (subA 128 128 (reg (px 2 c)) 640 (V.ab c)) (subA 128 1024 (640) 0 fwo) (subA 128 128 (reg (px 2 c)) 768 (V.ab c)) (subA 128 1024 (768) 0 fwo) (subA 128 128 (reg (px 2 c)) 896 (V.ab c)) (subA 128 1024 (896) 0 fwo))))
          -∗ Q ⟨(Scalar.muli v2 1#32 : BitVec 32), 0#32⟩)
        -∗ wp frame (wpE (defs₀ (F := F)) 𝒱₀ (c : Thread nD τ) none) Set.univ (P24 (F := F) c v2 v606 v813 v858 v865) Q) := by
  iintro ⟨HE, Hwo, Ho⟩ Hk
  unfold P24
  rw [k0_part24_eq_skeleton]
  unfold k0_part24_skel
  simp only [semSignalWord, semWaitWord, Prog.lift, Prog.bind_op, Prog.bind_ret, Prog.pure_eq_ret]
  iapply (ld_wo c rfl) $$ Hwo; iintro Hwo
  iapply (ld_ab c (off63_2 c) (a' := reg (px 2 c)) (n' := 128) le_rfl le_rfl) $$ HE; iintro HE
  iapply (ld_wo c rfl) $$ Hwo; iintro Hwo
  iapply (ld_ab c (off64_2 c) (a' := reg (px 2 c)) (n' := 128) le_rfl le_rfl) $$ HE; iintro HE
  iapply (ld_wo c rfl) $$ Hwo; iintro Hwo
  iapply (ld_ab c (off65_2 c) (a' := reg (px 2 c)) (n' := 128) le_rfl le_rfl) $$ HE; iintro HE
  iapply (ld_wo c rfl) $$ Hwo; iintro Hwo
  iapply (ld_o c (off66_2 c)) $$ Ho; iintro Ho
  iapply (st_o c (off66_2 c)) $$ Ho; iintro Ho
  rw [wp_ret]
  imodintro
  iapply Hk
  isplitl [HE]; · iexact HE
  isplitl [Hwo]; · iexact Hwo
  iexact Ho

/-- Part 25 of the body, over the buffers of the call. -/
abbrev P25 (c : Dev nD) (v2 : BitVec 32) (v618 : BitVec 32) (v905 : BitVec 32) (c0_i32_455 : BitVec 32) :=
  k0_part25 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v2 v618 v905 c0_i32_455
theorem p25 (V : Vals F) (K : Dev nD × Fin 19 → ℕ) (c : Dev nD) (v2 : BitVec 32) (v618 : BitVec 32) (v905 : BitVec 32) (c0_i32_455 : BitVec 32) (fwo : S1024x1024.Idx → Elt F .bf16)
    {Q : (Σ' (v922 : FVec F S128x128 .f32) (v934 : FVec F S128x1024 .f32), FVec F S128x1024 .f32) → sProp 𝕄} :
    iprop(recs V K ∗ levAts L lv ∗ OW c (pays.drop 13) ∗ cred (tallyAt (kcell c 14) () n128) ∗ atPos ER (kcell c 14) 0 ∅ 0 ∗ (∃ f, abP (px 1 c) (rows (reg (px 4 c)) 128) fullShare f) ∗ dutyTok ER (kcell c 7) 0 0 ∗ dutyTok ER (kcell (px 1 c) 18) 0 0 ∗ woP c fwo)
      ⊢ iprop(((OW c (pays.drop 14) ∗ atPos ER (kcell c 14) 1 ∅ 0 ∗ woP c fwo ∗ abP c (rows (reg (px 4 c)) 128) fullShare.right (V.ab c) ∗ cred (tallyAt (kcell c 7) () n128))
          -∗ Q ⟨k0_pay89 (subA 128 128 (reg (px 4 c)) 1024 (V.ab c)), k0_pay90 (subA 128 128 (reg (px 4 c)) 1024 (V.ab c)) (subA 128 128 (reg (px 4 c)) 0 (V.ab c)) (subA 128 1024 (0) 0 fwo), k0_pay91 (subA 128 128 (reg (px 4 c)) 1024 (V.ab c)) (subA 128 128 (reg (px 4 c)) 128 (V.ab c)) (subA 128 1024 (128) 0 fwo)⟩)
        -∗ wp frame (wpE (defs₀ (F := F)) 𝒱₀ (c : Thread nD τ) none) Set.univ (P25 (F := F) c v2 v618 v905 c0_i32_455) Q) := by
  iintro ⟨#HR, #HL, HO, HC14, HA14, HD18, HT7, HT18, Hwo⟩ Hk
  unfold P25
  rw [k0_part25_eq_skeleton]
  unfold k0_part25_skel
  simp only [semSignalWord, semWaitWord, Prog.lift, Prog.bind_op, Prog.bind_ret, Prog.pure_eq_ret]
  iapply (wt V K c 14 0 n128 _ (by rfl) (fun K' => wpw c cr_128 K') (by decide) (by rfl) (pays.drop 13) (by decide)) $$ [HC14 HO HA14]
  · isplitr; · iexact HR
    isplitr; · iexact HL
    isplitl [HC14]; · iexact HC14
    isplitl [HO]; · iexact HO
    iexact HA14
  iintro ⟨HO, HA14, -, HP⟩
  ihave HP := (show payK V c 14 0 0 ⊢ iprop(abP c (rows (reg (px 4 c)) 128) fullShare (V.ab c)) from Entails.rfl) $$ HP
  icases HP with HF
  ihave HF := (show abP c (rows (reg (px 4 c)) 128) fullShare (V.ab c) ⊢ iprop(abP c (rows (reg (px 4 c)) 128) fullShare.left (V.ab c) ∗ abP c (rows (reg (px 4 c)) 128) fullShare.right (V.ab c)) from (abP_share c fullShare (V.ab c)).1) $$ HF
  icases HF with ⟨HX7, HF⟩
  iapply (sndAG V K c (off56_4 c) (off56_4 c) (reg_le (px 4 c)) _ 1 (dev14_eq c) 7 18 0 (by rfl) (by rfl) (by decide) rfl rfl (by decide) qA (ab_px1 V c) rfl (show abP (px 1 c) (rows (reg (px 5 (px 1 c))) 128) fullShare (V.ab (px 1 c)) = _ by rw [px51]) (pays.drop 14) rfl) $$ [HO HX7 HD18 HT7 HT18]
  · isplitr; · iexact HR
    isplitl [HO]; · iexact HO
    isplitl [HX7]; · iexact HX7
    isplitl [HD18]; · iexact HD18
    isplitl [HT7]; · iexact HT7
    iexact HT18
  iintro ⟨HC7, HO⟩
  iapply (ld_ab c (off57_4 c) (a' := reg (px 4 c)) (n' := 128) le_rfl le_rfl) $$ HF; iintro HF
  iapply (ld_ab c (off58_4 c) (a' := reg (px 4 c)) (n' := 128) le_rfl le_rfl) $$ HF; iintro HF
  iapply (ld_wo c rfl) $$ Hwo; iintro Hwo
  iapply (ld_ab c (off59_4 c) (a' := reg (px 4 c)) (n' := 128) le_rfl le_rfl) $$ HF; iintro HF
  iapply (ld_wo c rfl) $$ Hwo; iintro Hwo
  rw [wp_ret]
  imodintro
  iapply Hk
  isplitl [HO]; · iexact HO
  isplitl [HA14]; · iexact HA14
  isplitl [Hwo]; · iexact Hwo
  isplitl [HF]; · iexact HF
  iexact HC7

/-- Part 26 of the body, over the buffers of the call. -/
abbrev P26 (c : Dev nD) (v618 : BitVec 32) (v922 : FVec F S128x128 .f32) (v934 : FVec F S128x1024 .f32) (v944 : FVec F S128x1024 .f32) :=
  k0_part26 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v618 v922 v934 v944
theorem p26 (c : Dev nD) (v618 : BitVec 32) (v922 : FVec F S128x128 .f32) (v934 : FVec F S128x1024 .f32) (v944 : FVec F S128x1024 .f32) (V : Vals F)  (fwo : S1024x1024.Idx → Elt F .bf16)
    {Q : (Σ' (v978 : FVec F S128x1024 .f32), FVec F S128x1024 .f32) → sProp 𝕄} :
    iprop(abP c (rows (reg (px 4 c)) 128) fullShare.right (V.ab c) ∗ woP c fwo)
      ⊢ iprop(((abP c (rows (reg (px 4 c)) 128) fullShare.right (V.ab c) ∗ woP c fwo)
          -∗ Q ⟨k0_pay92 v922 v934 v944 (subA 128 128 (reg (px 4 c)) 256 (V.ab c)) (subA 128 1024 (256) 0 fwo) (subA 128 128 (reg (px 4 c)) 384 (V.ab c)) (subA 128 1024 (384) 0 fwo) (subA 128 128 (reg (px 4 c)) 512 (V.ab c)) (subA 128 1024 (512) 0 fwo), k0_pay93 v922 (subA 128 128 (reg (px 4 c)) 640 (V.ab c)) (subA 128 1024 (640) 0 fwo)⟩)
        -∗ wp frame (wpE (defs₀ (F := F)) 𝒱₀ (c : Thread nD τ) none) Set.univ (P26 (F := F) c v618 v922 v934 v944) Q) := by
  iintro ⟨HF, Hwo⟩ Hk
  unfold P26
  rw [k0_part26_eq_skeleton]
  unfold k0_part26_skel
  simp only [semSignalWord, semWaitWord, Prog.lift, Prog.bind_op, Prog.bind_ret, Prog.pure_eq_ret]
  iapply (ld_ab c (off60_4 c) (a' := reg (px 4 c)) (n' := 128) le_rfl le_rfl) $$ HF; iintro HF
  iapply (ld_wo c rfl) $$ Hwo; iintro Hwo
  iapply (ld_ab c (off61_4 c) (a' := reg (px 4 c)) (n' := 128) le_rfl le_rfl) $$ HF; iintro HF
  iapply (ld_wo c rfl) $$ Hwo; iintro Hwo
  iapply (ld_ab c (off62_4 c) (a' := reg (px 4 c)) (n' := 128) le_rfl le_rfl) $$ HF; iintro HF
  iapply (ld_wo c rfl) $$ Hwo; iintro Hwo
  iapply (ld_ab c (off63_4 c) (a' := reg (px 4 c)) (n' := 128) le_rfl le_rfl) $$ HF; iintro HF
  iapply (ld_wo c rfl) $$ Hwo; iintro Hwo
  rw [wp_ret]
  imodintro
  iapply Hk
  isplitl [HF]; · iexact HF
  iexact Hwo

/-- Part 27 of the body, over the buffers of the call. -/
abbrev P27 (c : Dev nD) (v2 : BitVec 32) (v618 : BitVec 32) (v922 : FVec F S128x128 .f32) (v978 : FVec F S128x1024 .f32) (v988 : FVec F S128x1024 .f32) :=
  k0_part27 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v2 v618 v922 v978 v988
theorem p27 (V : Vals F) (K : Dev nD × Fin 19 → ℕ) (c : Dev nD) (v2 : BitVec 32) (v618 : BitVec 32) (v922 : FVec F S128x128 .f32) (v978 : FVec F S128x1024 .f32) (v988 : FVec F S128x1024 .f32) (fwo : S1024x1024.Idx → Elt F .bf16) (fo : S1024x1024.Idx → Elt F .f32)
    {Q : (PUnit) → sProp 𝕄} :
    iprop(recs V K ∗ levAts L lv ∗ abP c (rows (reg (px 4 c)) 128) fullShare.right (V.ab c) ∗ OW c (pays.drop 14) ∗ cred (tallyAt (kcell c 15) () n128) ∗ atPos ER (kcell c 15) 0 ∅ 0 ∗ woP c fwo ∗ oP c fo)
      ⊢ iprop(((abP c (rows (reg (px 4 c)) 128) fullShare.right (V.ab c) ∗ OW c (pays.drop 14) ∗ atPos ER (kcell c 15) 1 ∅ 0 ∗ woP c fwo ∗ oP c (putA (reg (px 4 c)) 0 fo (k0_pay94 v922 v978 v988 (subA 128 128 (reg (px 4 c)) 768 (V.ab c)) (subA 128 1024 (768) 0 fwo) (subA 128 128 (reg (px 4 c)) 896 (V.ab c)) (subA 128 1024 (896) 0 fwo))) ∗ abP c (rows (reg (px 6 c)) 128) fullShare (V.ab c))
          -∗ Q ⟨⟩)
        -∗ wp frame (wpE (defs₀ (F := F)) 𝒱₀ (c : Thread nD τ) none) Set.univ (P27 (F := F) c v2 v618 v922 v978 v988) Q) := by
  iintro ⟨#HR, #HL, HF, HO, HC15, HA15, Hwo, Ho⟩ Hk
  unfold P27
  rw [k0_part27_eq_skeleton]
  unfold k0_part27_skel
  simp only [semSignalWord, semWaitWord, Prog.lift, Prog.bind_op, Prog.bind_ret, Prog.pure_eq_ret]
  iapply (ld_ab c (off64_4 c) (a' := reg (px 4 c)) (n' := 128) le_rfl le_rfl) $$ HF; iintro HF
  iapply (ld_wo c rfl) $$ Hwo; iintro Hwo
  iapply (ld_ab c (off65_4 c) (a' := reg (px 4 c)) (n' := 128) le_rfl le_rfl) $$ HF; iintro HF
  iapply (ld_wo c rfl) $$ Hwo; iintro Hwo
  iapply (ld_o c (off66_4 c)) $$ Ho; iintro Ho
  iapply (st_o c (off66_4 c)) $$ Ho; iintro Ho
  iapply (wt V K c 15 0 n128 _ (by rfl) (fun K' => wpw c cr_128 K') (by decide) (by rfl) (pays.drop 14) (by decide)) $$ [HC15 HO HA15]
  · isplitr; · iexact HR
    isplitr; · iexact HL
    isplitl [HC15]; · iexact HC15
    isplitl [HO]; · iexact HO
    iexact HA15
  iintro ⟨HO, HA15, -, HP⟩
  ihave HP := (show payK V c 15 0 0 ⊢ iprop(abP c (rows (reg (px 6 c)) 128) fullShare (V.ab c)) from Entails.rfl) $$ HP
  icases HP with HG
  rw [wp_ret]
  imodintro
  iapply Hk
  isplitl [HF]; · iexact HF
  isplitl [HO]; · iexact HO
  isplitl [HA15]; · iexact HA15
  isplitl [Hwo]; · iexact Hwo
  isplitl [Ho]; · iexact Ho
  iexact HG

/-- Part 28 of the body, over the buffers of the call. -/
abbrev P28 (c : Dev nD) (v631 : BitVec 32) :=
  k0_part28 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v631
theorem p28 (V : Vals F) (K : Dev nD × Fin 19 → ℕ) (c : Dev nD) (v631 : BitVec 32) (fwo : S1024x1024.Idx → Elt F .bf16)
    {Q : (Σ' (v1031 : FVec F S128x128 .f32) (v1065 : FVec F S128x1024 .f32) (v1068 : FVec F S128x128 .f32), FVec F S128x1 .f32) → sProp 𝕄} :
    iprop(recs V K ∗ levAts L lv ∗ abP c (rows (reg (px 6 c)) 128) fullShare (V.ab c) ∗ OW c (pays.drop 14) ∗ (∃ f, abP (px 1 c) (rows (reg (px 6 c)) 128) fullShare f) ∗ dutyTok ER (kcell c 8) 0 0 ∗ dutyTok ER (kcell (px 1 c) 18) 0 1 ∗ woP c fwo)
      ⊢ iprop(((OW c (pays.drop 15) ∗ woP c fwo ∗ abP c (rows (reg (px 6 c)) 128) fullShare.right (V.ab c) ∗ cred (tallyAt (kcell c 8) () n128))
          -∗ Q ⟨k0_pay95 (subA 128 128 (reg (px 6 c)) 1024 (V.ab c)), k0_pay96 (subA 128 128 (reg (px 6 c)) 1024 (V.ab c)) (subA 128 128 (reg (px 6 c)) 0 (V.ab c)) (subA 128 1024 (0) 0 fwo) (subA 128 128 (reg (px 6 c)) 128 (V.ab c)) (subA 128 1024 (128) 0 fwo) (subA 128 128 (reg (px 6 c)) 256 (V.ab c)) (subA 128 1024 (256) 0 fwo), k0_pay97 (subA 128 128 (reg (px 6 c)) 384 (V.ab c)), k0_pay98 (subA 128 128 (reg (px 6 c)) 1024 (V.ab c))⟩)
        -∗ wp frame (wpE (defs₀ (F := F)) 𝒱₀ (c : Thread nD τ) none) Set.univ (P28 (F := F) c v631) Q) := by
  iintro ⟨#HR, #HL, HG, HO, HD18, HT8, HT18b, Hwo⟩ Hk
  unfold P28
  rw [k0_part28_eq_skeleton]
  unfold k0_part28_skel
  simp only [semSignalWord, semWaitWord, Prog.lift, Prog.bind_op, Prog.bind_ret, Prog.pure_eq_ret]
  ihave HG := (show abP c (rows (reg (px 6 c)) 128) fullShare (V.ab c) ⊢ iprop(abP c (rows (reg (px 6 c)) 128) fullShare.left (V.ab c) ∗ abP c (rows (reg (px 6 c)) 128) fullShare.right (V.ab c)) from (abP_share c fullShare (V.ab c)).1) $$ HG
  icases HG with ⟨HX8, HG⟩
  iapply (sndAG V K c (off67_4 c) (off67_4 c) (reg_le (px 6 c)) _ 1 (dev15_eq c) 8 18 1 (by rfl) (by rfl) (by decide) rfl rfl (by decide) qA (ab_px1 V c) rfl (show abP (px 1 c) (rows (reg (px 7 (px 1 c))) 128) fullShare (V.ab (px 1 c)) = _ by rw [px71]) (pays.drop 15) rfl) $$ [HO HX8 HD18 HT8 HT18b]
  · isplitr; · iexact HR
    isplitl [HO]; · iexact HO
    isplitl [HX8]; · iexact HX8
    isplitl [HD18]; · iexact HD18
    isplitl [HT8]; · iexact HT8
    iexact HT18b
  iintro ⟨HC8, HO⟩
  iapply (ld_ab c (off68_4 c) (a' := reg (px 6 c)) (n' := 128) le_rfl le_rfl) $$ HG; iintro HG
  iapply (ld_ab c (off69_4 c) (a' := reg (px 6 c)) (n' := 128) le_rfl le_rfl) $$ HG; iintro HG
  iapply (ld_wo c rfl) $$ Hwo; iintro Hwo
  iapply (ld_ab c (off70_4 c) (a' := reg (px 6 c)) (n' := 128) le_rfl le_rfl) $$ HG; iintro HG
  iapply (ld_wo c rfl) $$ Hwo; iintro Hwo
  iapply (ld_ab c (off71_4 c) (a' := reg (px 6 c)) (n' := 128) le_rfl le_rfl) $$ HG; iintro HG
  iapply (ld_wo c rfl) $$ Hwo; iintro Hwo
  iapply (ld_ab c (off72_4 c) (a' := reg (px 6 c)) (n' := 128) le_rfl le_rfl) $$ HG; iintro HG
  rw [wp_ret]
  imodintro
  iapply Hk
  isplitl [HO]; · iexact HO
  isplitl [Hwo]; · iexact Hwo
  isplitl [HG]; · iexact HG
  iexact HC8

/-- Part 29 of the body, over the buffers of the call. -/
abbrev P29 (c : Dev nD) (v631 : BitVec 32) (v1031 : FVec F S128x128 .f32) (v1065 : FVec F S128x1024 .f32) (v1068 : FVec F S128x128 .f32) (v1069 : FVec F S128x1 .f32) :=
  k0_part29 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v631 v1031 v1065 v1068 v1069
theorem p29 (c : Dev nD) (v631 : BitVec 32) (v1031 : FVec F S128x128 .f32) (v1065 : FVec F S128x1024 .f32) (v1068 : FVec F S128x128 .f32) (v1069 : FVec F S128x1 .f32) (V : Vals F)  (fwo : S1024x1024.Idx → Elt F .bf16)
    {Q : (Σ' (v1109 : FVec F S128x1024 .f32) (v1112 : FVec F S128x128 .f32), FVec F S128x1 .f32) → sProp 𝕄} :
    iprop(abP c (rows (reg (px 6 c)) 128) fullShare.right (V.ab c) ∗ woP c fwo)
      ⊢ iprop(((abP c (rows (reg (px 6 c)) 128) fullShare.right (V.ab c) ∗ woP c fwo)
          -∗ Q ⟨k0_pay99 v1031 v1065 v1068 v1069 (subA 128 1024 (384) 0 fwo) (subA 128 128 (reg (px 6 c)) 512 (V.ab c)) (subA 128 1024 (512) 0 fwo) (subA 128 128 (reg (px 6 c)) 640 (V.ab c)) (subA 128 1024 (640) 0 fwo) (subA 128 128 (reg (px 6 c)) 768 (V.ab c)) (subA 128 1024 (768) 0 fwo), k0_pay100 (subA 128 128 (reg (px 6 c)) 896 (V.ab c)), k0_pay101 v1031⟩)
        -∗ wp frame (wpE (defs₀ (F := F)) 𝒱₀ (c : Thread nD τ) none) Set.univ (P29 (F := F) c v631 v1031 v1065 v1068 v1069) Q) := by
  iintro ⟨HG, Hwo⟩ Hk
  unfold P29
  rw [k0_part29_eq_skeleton]
  unfold k0_part29_skel
  simp only [semSignalWord, semWaitWord, Prog.lift, Prog.bind_op, Prog.bind_ret, Prog.pure_eq_ret]
  iapply (ld_wo c rfl) $$ Hwo; iintro Hwo
  iapply (ld_ab c (off73_4 c) (a' := reg (px 6 c)) (n' := 128) le_rfl le_rfl) $$ HG; iintro HG
  iapply (ld_wo c rfl) $$ Hwo; iintro Hwo
  iapply (ld_ab c (off74_4 c) (a' := reg (px 6 c)) (n' := 128) le_rfl le_rfl) $$ HG; iintro HG
  iapply (ld_wo c rfl) $$ Hwo; iintro Hwo
  iapply (ld_ab c (off75_4 c) (a' := reg (px 6 c)) (n' := 128) le_rfl le_rfl) $$ HG; iintro HG
  iapply (ld_wo c rfl) $$ Hwo; iintro Hwo
  iapply (ld_ab c (off76_4 c) (a' := reg (px 6 c)) (n' := 128) le_rfl le_rfl) $$ HG; iintro HG
  rw [wp_ret]
  imodintro
  iapply Hk
  isplitl [HG]; · iexact HG
  iexact Hwo

/-- Part 30 of the body, over the buffers of the call. -/
abbrev P30 (c : Dev nD) (v2 : BitVec 32) (v631 : BitVec 32) (v643 : BitVec 32) (v1109 : FVec F S128x1024 .f32) (v1112 : FVec F S128x128 .f32) (v1113 : FVec F S128x1 .f32) :=
  k0_part30 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v2 v631 v643 v1109 v1112 v1113
theorem p30 (V : Vals F) (K : Dev nD × Fin 19 → ℕ) (c : Dev nD) (v2 : BitVec 32) (v631 : BitVec 32) (v643 : BitVec 32) (v1109 : FVec F S128x1024 .f32) (v1112 : FVec F S128x128 .f32) (v1113 : FVec F S128x1 .f32) (fwo : S1024x1024.Idx → Elt F .bf16) (fo : S1024x1024.Idx → Elt F .f32)
    {Q : (Σ' (v1131 : FVec F S128x128 .f32) (v1143 : FVec F S128x1024 .f32) (v1150 : FVec F S128x128 .bf16) (v1152 : FVec F S128x1024 .bf16), FVec F S128x1024 .f32) → sProp 𝕄} :
    iprop(recs V K ∗ levAts L lv ∗ OW c (pays.drop 15) ∗ cred (tallyAt (kcell c 16) () n128) ∗ atPos ER (kcell c 16) 0 ∅ 0 ∗ abP c (rows (reg (px 6 c)) 128) fullShare.right (V.ab c) ∗ woP c fwo ∗ oP c fo)
      ⊢ iprop(((OW c (pays.drop 15) ∗ atPos ER (kcell c 16) 1 ∅ 0 ∗ abP c (rows (reg (px 6 c)) 128) fullShare.right (V.ab c) ∗ woP c fwo ∗ oP c (putA (reg (px 6 c)) 0 fo (k0_pay102 v1109 v1112 v1113 (subA 128 1024 (896) 0 fwo))) ∗ abP c (rows (reg (px 1 c)) 128) fullShare (V.ab c))
          -∗ Q ⟨k0_pay103 (subA 128 128 (reg (px 1 c)) 1024 (V.ab c)), k0_pay104 (subA 128 128 (reg (px 1 c)) 1024 (V.ab c)) (subA 128 128 (reg (px 1 c)) 0 (V.ab c)) (subA 128 1024 (0) 0 fwo), k0_pay105 (subA 128 128 (reg (px 1 c)) 1024 (V.ab c)) (subA 128 128 (reg (px 1 c)) 128 (V.ab c)), k0_pay106 (subA 128 1024 (128) 0 fwo), (constant S128x1024 .f32 0x00000000#32 : FVec F S128x1024 .f32)⟩)
        -∗ wp frame (wpE (defs₀ (F := F)) 𝒱₀ (c : Thread nD τ) none) Set.univ (P30 (F := F) c v2 v631 v643 v1109 v1112 v1113) Q) := by
  iintro ⟨#HR, #HL, HO, HC16, HA16, HG, Hwo, Ho⟩ Hk
  unfold P30
  rw [k0_part30_eq_skeleton]
  unfold k0_part30_skel
  simp only [semSignalWord, semWaitWord, Prog.lift, Prog.bind_op, Prog.bind_ret, Prog.pure_eq_ret]
  iapply (ld_wo c rfl) $$ Hwo; iintro Hwo
  iapply (ld_o c (off77_4 c)) $$ Ho; iintro Ho
  iapply (st_o c (off77_4 c)) $$ Ho; iintro Ho
  iapply (wt V K c 16 0 n128 _ (by rfl) (fun K' => wpw c cr_128 K') (by decide) (by rfl) (pays.drop 15) (by decide)) $$ [HC16 HO HA16]
  · isplitr; · iexact HR
    isplitr; · iexact HL
    isplitl [HC16]; · iexact HC16
    isplitl [HO]; · iexact HO
    iexact HA16
  iintro ⟨HO, HA16, -, HP⟩
  ihave HP := (show payK V c 16 0 0 ⊢ iprop(abP c (rows (reg (px 1 c)) 128) fullShare (V.ab c)) from Entails.rfl) $$ HP
  icases HP with HI
  iapply (ld_ab c (off57_1 c) (a' := reg (px 1 c)) (n' := 128) le_rfl le_rfl) $$ HI; iintro HI
  iapply (ld_ab c (off58_1 c) (a' := reg (px 1 c)) (n' := 128) le_rfl le_rfl) $$ HI; iintro HI
  iapply (ld_wo c rfl) $$ Hwo; iintro Hwo
  iapply (ld_ab c (off59_1 c) (a' := reg (px 1 c)) (n' := 128) le_rfl le_rfl) $$ HI; iintro HI
  iapply (ld_wo c rfl) $$ Hwo; iintro Hwo
  rw [wp_ret]
  imodintro
  iapply Hk
  isplitl [HO]; · iexact HO
  isplitl [HA16]; · iexact HA16
  isplitl [HG]; · iexact HG
  isplitl [Hwo]; · iexact Hwo
  isplitl [Ho]; · iexact Ho
  iexact HI

/-- Part 31 of the body, over the buffers of the call. -/
abbrev P31 (c : Dev nD) (v643 : BitVec 32) (v1131 : FVec F S128x128 .f32) (v1143 : FVec F S128x1024 .f32) (v1150 : FVec F S128x128 .bf16) (v1152 : FVec F S128x1024 .bf16) (cst_560 : FVec F S128x1024 .f32) :=
  k0_part31 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v643 v1131 v1143 v1150 v1152 cst_560
theorem p31 (c : Dev nD) (v643 : BitVec 32) (v1131 : FVec F S128x128 .f32) (v1143 : FVec F S128x1024 .f32) (v1150 : FVec F S128x128 .bf16) (v1152 : FVec F S128x1024 .bf16) (cst_560 : FVec F S128x1024 .f32) (V : Vals F)  (fwo : S1024x1024.Idx → Elt F .bf16)
    {Q : (Σ' (v1187 : FVec F S128x1024 .f32) (v1194 : FVec F S128x128 .bf16) (v1196 : FVec F S128x1024 .bf16), FVec F S128x1024 .f32) → sProp 𝕄} :
    iprop(abP c (rows (reg (px 1 c)) 128) fullShare (V.ab c) ∗ woP c fwo)
      ⊢ iprop(((abP c (rows (reg (px 1 c)) 128) fullShare (V.ab c) ∗ woP c fwo)
          -∗ Q ⟨k0_pay107 v1131 v1143 v1150 v1152 cst_560 (subA 128 128 (reg (px 1 c)) 256 (V.ab c)) (subA 128 1024 (256) 0 fwo) (subA 128 128 (reg (px 1 c)) 384 (V.ab c)) (subA 128 1024 (384) 0 fwo) (subA 128 128 (reg (px 1 c)) 512 (V.ab c)) (subA 128 1024 (512) 0 fwo), k0_pay108 v1131 (subA 128 128 (reg (px 1 c)) 640 (V.ab c)), k0_pay109 (subA 128 1024 (640) 0 fwo), (constant S128x1024 .f32 0x00000000#32 : FVec F S128x1024 .f32)⟩)
        -∗ wp frame (wpE (defs₀ (F := F)) 𝒱₀ (c : Thread nD τ) none) Set.univ (P31 (F := F) c v643 v1131 v1143 v1150 v1152 cst_560) Q) := by
  iintro ⟨HI, Hwo⟩ Hk
  unfold P31
  rw [k0_part31_eq_skeleton]
  unfold k0_part31_skel
  simp only [semSignalWord, semWaitWord, Prog.lift, Prog.bind_op, Prog.bind_ret, Prog.pure_eq_ret]
  iapply (ld_ab c (off60_1 c) (a' := reg (px 1 c)) (n' := 128) le_rfl le_rfl) $$ HI; iintro HI
  iapply (ld_wo c rfl) $$ Hwo; iintro Hwo
  iapply (ld_ab c (off61_1 c) (a' := reg (px 1 c)) (n' := 128) le_rfl le_rfl) $$ HI; iintro HI
  iapply (ld_wo c rfl) $$ Hwo; iintro Hwo
  iapply (ld_ab c (off62_1 c) (a' := reg (px 1 c)) (n' := 128) le_rfl le_rfl) $$ HI; iintro HI
  iapply (ld_wo c rfl) $$ Hwo; iintro Hwo
  iapply (ld_ab c (off63_1 c) (a' := reg (px 1 c)) (n' := 128) le_rfl le_rfl) $$ HI; iintro HI
  iapply (ld_wo c rfl) $$ Hwo; iintro Hwo
  rw [wp_ret]
  imodintro
  iapply Hk
  isplitl [HI]; · iexact HI
  iexact Hwo

/-- Part 32 of the body, over the buffers of the call. -/
abbrev P32 (c : Dev nD) (v2 : BitVec 32) (v643 : BitVec 32) (v656 : BitVec 32) (v1131 : FVec F S128x128 .f32) (v1187 : FVec F S128x1024 .f32) (v1194 : FVec F S128x128 .bf16) (v1196 : FVec F S128x1024 .bf16) (cst_576 : FVec F S128x1024 .f32) :=
  k0_part32 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v2 v643 v656 v1131 v1187 v1194 v1196 cst_576
theorem p32 (V : Vals F) (K : Dev nD × Fin 19 → ℕ) (c : Dev nD) (v2 : BitVec 32) (v643 : BitVec 32) (v656 : BitVec 32) (v1131 : FVec F S128x128 .f32) (v1187 : FVec F S128x1024 .f32) (v1194 : FVec F S128x128 .bf16) (v1196 : FVec F S128x1024 .bf16) (cst_576 : FVec F S128x1024 .f32) (fwo : S1024x1024.Idx → Elt F .bf16) (fo : S1024x1024.Idx → Elt F .f32)
    {Q : (Σ' (v1231 : FVec F S128x128 .f32) (v1232 : FVec F S128x1024 .f32) (v1235 : FVec F S128x128 .f32), FVec F S128x128 .f32) → sProp 𝕄} :
    iprop(recs V K ∗ levAts L lv ∗ abP c (rows (reg (px 1 c)) 128) fullShare (V.ab c) ∗ OW c (pays.drop 15) ∗ cred (tallyAt (kcell c 17) () n128) ∗ atPos ER (kcell c 17) 0 ∅ 0 ∗ woP c fwo ∗ oP c fo)
      ⊢ iprop(((abP c (rows (reg (px 1 c)) 128) fullShare (V.ab c) ∗ OW c (pays.drop 15) ∗ atPos ER (kcell c 17) 1 ∅ 0 ∗ woP c fwo ∗ oP c (putA (reg (px 1 c)) 0 fo (k0_pay110 v1131 v1187 v1194 v1196 cst_576 (subA 128 128 (reg (px 1 c)) 768 (V.ab c)) (subA 128 1024 (768) 0 fwo) (subA 128 128 (reg (px 1 c)) 896 (V.ab c)) (subA 128 1024 (896) 0 fwo))) ∗ abP c (rows (reg (px 3 c)) 128) fullShare (V.ab c))
          -∗ Q ⟨k0_pay111 (subA 128 128 (reg (px 3 c)) 1024 (V.ab c)), k0_pay112 (F := F), k0_pay113 (subA 128 128 (reg (px 3 c)) 0 (V.ab c)), k0_pay114 (subA 128 128 (reg (px 3 c)) 1024 (V.ab c))⟩)
        -∗ wp frame (wpE (defs₀ (F := F)) 𝒱₀ (c : Thread nD τ) none) Set.univ (P32 (F := F) c v2 v643 v656 v1131 v1187 v1194 v1196 cst_576) Q) := by
  iintro ⟨#HR, #HL, HI, HO, HC17, HA17, Hwo, Ho⟩ Hk
  unfold P32
  rw [k0_part32_eq_skeleton]
  unfold k0_part32_skel
  simp only [semSignalWord, semWaitWord, Prog.lift, Prog.bind_op, Prog.bind_ret, Prog.pure_eq_ret]
  iapply (ld_ab c (off64_1 c) (a' := reg (px 1 c)) (n' := 128) le_rfl le_rfl) $$ HI; iintro HI
  iapply (ld_wo c rfl) $$ Hwo; iintro Hwo
  iapply (ld_ab c (off65_1 c) (a' := reg (px 1 c)) (n' := 128) le_rfl le_rfl) $$ HI; iintro HI
  iapply (ld_wo c rfl) $$ Hwo; iintro Hwo
  iapply (ld_o c (off66_1 c)) $$ Ho; iintro Ho
  iapply (st_o c (off66_1 c)) $$ Ho; iintro Ho
  iapply (wt V K c 17 0 n128 _ (by rfl) (fun K' => wpw c cr_128 K') (by decide) (by rfl) (pays.drop 15) (by decide)) $$ [HC17 HO HA17]
  · isplitr; · iexact HR
    isplitr; · iexact HL
    isplitl [HC17]; · iexact HC17
    isplitl [HO]; · iexact HO
    iexact HA17
  iintro ⟨HO, HA17, -, HP⟩
  ihave HP := (show payK V c 17 0 0 ⊢ iprop(abP c (rows (reg (px 3 c)) 128) fullShare (V.ab c)) from Entails.rfl) $$ HP
  icases HP with HJ
  iapply (ld_ab c (off68_1 c) (a' := reg (px 3 c)) (n' := 128) le_rfl le_rfl) $$ HJ; iintro HJ
  iapply (ld_ab c (off69_1 c) (a' := reg (px 3 c)) (n' := 128) le_rfl le_rfl) $$ HJ; iintro HJ
  rw [wp_ret]
  imodintro
  iapply Hk
  isplitl [HI]; · iexact HI
  isplitl [HO]; · iexact HO
  isplitl [HA17]; · iexact HA17
  isplitl [Hwo]; · iexact Hwo
  isplitl [Ho]; · iexact Ho
  iexact HJ

/-- Part 33 of the body, over the buffers of the call. -/
abbrev P33 (c : Dev nD) (v656 : BitVec 32) (v1231 : FVec F S128x128 .f32) (v1232 : FVec F S128x1024 .f32) (v1235 : FVec F S128x128 .f32) (v1237 : FVec F S128x128 .f32) :=
  k0_part33 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v656 v1231 v1232 v1235 v1237
theorem p33 (c : Dev nD) (v656 : BitVec 32) (v1231 : FVec F S128x128 .f32) (v1232 : FVec F S128x1024 .f32) (v1235 : FVec F S128x128 .f32) (v1237 : FVec F S128x128 .f32) (V : Vals F)  (fwo : S1024x1024.Idx → Elt F .bf16)
    {Q : (Σ' (v1276 : FVec F S128x1024 .f32) (v1279 : FVec F S128x128 .f32), FVec F S128x128 .f32) → sProp 𝕄} :
    iprop(abP c (rows (reg (px 3 c)) 128) fullShare (V.ab c) ∗ woP c fwo)
      ⊢ iprop(((abP c (rows (reg (px 3 c)) 128) fullShare (V.ab c) ∗ woP c fwo)
          -∗ Q ⟨k0_pay115 v1231 v1232 v1235 v1237 (subA 128 1024 (0) 0 fwo) (subA 128 128 (reg (px 3 c)) 128 (V.ab c)) (subA 128 1024 (128) 0 fwo) (subA 128 128 (reg (px 3 c)) 256 (V.ab c)) (subA 128 1024 (256) 0 fwo) (subA 128 128 (reg (px 3 c)) 384 (V.ab c)) (subA 128 1024 (384) 0 fwo), k0_pay116 (subA 128 128 (reg (px 3 c)) 512 (V.ab c)), k0_pay117 v1231⟩)
        -∗ wp frame (wpE (defs₀ (F := F)) 𝒱₀ (c : Thread nD τ) none) Set.univ (P33 (F := F) c v656 v1231 v1232 v1235 v1237) Q) := by
  iintro ⟨HJ, Hwo⟩ Hk
  unfold P33
  rw [k0_part33_eq_skeleton]
  unfold k0_part33_skel
  simp only [semSignalWord, semWaitWord, Prog.lift, Prog.bind_op, Prog.bind_ret, Prog.pure_eq_ret]
  iapply (ld_wo c rfl) $$ Hwo; iintro Hwo
  iapply (ld_ab c (off70_1 c) (a' := reg (px 3 c)) (n' := 128) le_rfl le_rfl) $$ HJ; iintro HJ
  iapply (ld_wo c rfl) $$ Hwo; iintro Hwo
  iapply (ld_ab c (off71_1 c) (a' := reg (px 3 c)) (n' := 128) le_rfl le_rfl) $$ HJ; iintro HJ
  iapply (ld_wo c rfl) $$ Hwo; iintro Hwo
  iapply (ld_ab c (off72_1 c) (a' := reg (px 3 c)) (n' := 128) le_rfl le_rfl) $$ HJ; iintro HJ
  iapply (ld_wo c rfl) $$ Hwo; iintro Hwo
  iapply (ld_ab c (off73_1 c) (a' := reg (px 3 c)) (n' := 128) le_rfl le_rfl) $$ HJ; iintro HJ
  rw [wp_ret]
  imodintro
  iapply Hk
  isplitl [HJ]; · iexact HJ
  iexact Hwo

/-- Part 34 of the body, over the buffers of the call. -/
abbrev P34 (c : Dev nD) (v656 : BitVec 32) (v1231 : FVec F S128x128 .f32) (v1276 : FVec F S128x1024 .f32) (v1279 : FVec F S128x128 .f32) (v1281 : FVec F S128x128 .f32) :=
  k0_part34 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v656 v1231 v1276 v1279 v1281
theorem p34 (c : Dev nD) (v656 : BitVec 32) (v1231 : FVec F S128x128 .f32) (v1276 : FVec F S128x1024 .f32) (v1279 : FVec F S128x128 .f32) (v1281 : FVec F S128x128 .f32) (V : Vals F)  (fwo : S1024x1024.Idx → Elt F .bf16) (fo : S1024x1024.Idx → Elt F .f32)
    {Q : (BitVec 32) → sProp 𝕄} :
    iprop(abP c (rows (reg (px 3 c)) 128) fullShare (V.ab c) ∗ woP c fwo ∗ oP c fo)
      ⊢ iprop(((abP c (rows (reg (px 3 c)) 128) fullShare (V.ab c) ∗ woP c fwo ∗ oP c (putA (reg (px 3 c)) 0 fo (k0_pay118 v1231 v1276 v1279 v1281 (subA 128 1024 (512) 0 fwo) (subA 128 128 (reg (px 3 c)) 640 (V.ab c)) (subA 128 1024 (640) 0 fwo) (subA 128 128 (reg (px 3 c)) 768 (V.ab c)) (subA 128 1024 (768) 0 fwo) (subA 128 128 (reg (px 3 c)) 896 (V.ab c)) (subA 128 1024 (896) 0 fwo))))
          -∗ Q 1#32)
        -∗ wp frame (wpE (defs₀ (F := F)) 𝒱₀ (c : Thread nD τ) none) Set.univ (P34 (F := F) c v656 v1231 v1276 v1279 v1281) Q) := by
  iintro ⟨HJ, Hwo, Ho⟩ Hk
  unfold P34
  rw [k0_part34_eq_skeleton]
  unfold k0_part34_skel
  simp only [semSignalWord, semWaitWord, Prog.lift, Prog.bind_op, Prog.bind_ret, Prog.pure_eq_ret]
  iapply (ld_wo c rfl) $$ Hwo; iintro Hwo
  iapply (ld_ab c (off74_1 c) (a' := reg (px 3 c)) (n' := 128) le_rfl le_rfl) $$ HJ; iintro HJ
  iapply (ld_wo c rfl) $$ Hwo; iintro Hwo
  iapply (ld_ab c (off75_1 c) (a' := reg (px 3 c)) (n' := 128) le_rfl le_rfl) $$ HJ; iintro HJ
  iapply (ld_wo c rfl) $$ Hwo; iintro Hwo
  iapply (ld_ab c (off76_1 c) (a' := reg (px 3 c)) (n' := 128) le_rfl le_rfl) $$ HJ; iintro HJ
  iapply (ld_wo c rfl) $$ Hwo; iintro Hwo
  iapply (ld_o c (off77_1 c)) $$ Ho; iintro Ho
  iapply (st_o c (off77_1 c)) $$ Ho; iintro Ho
  rw [wp_ret]
  imodintro
  iapply Hk
  isplitl [HJ]; · iexact HJ
  isplitl [Hwo]; · iexact Hwo
  iexact Ho

/-- Part 35 of the body, over the buffers of the call. -/
abbrev P35 (c : Dev nD) (v2 : BitVec 32) (v665 : BitVec 32) (c1_i32_627 : BitVec 32) :=
  k0_part35 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v2 v665 c1_i32_627
theorem p35 (V : Vals F) (K : Dev nD × Fin 19 → ℕ) (c : Dev nD) (v2 : BitVec 32) (v665 : BitVec 32) (c1_i32_627 : BitVec 32) (fwo : S1024x1024.Idx → Elt F .bf16)
    {Q : (Σ' (v1331 : FVec F S256x128 .f32) (v1354 : FVec F S256x1024 .f32), FVec F S256x1024 .f32) → sProp 𝕄} :
    iprop(recs V K ∗ levAts L lv ∗ OW c (pays.drop 15) ∗ cred (tallyAt (kcell c 18) () n256) ∗ atPos ER (kcell c 18) 0 ∅ 0 ∗ woP c fwo)
      ⊢ iprop(((OW c (pays.drop 15) ∗ atPos ER (kcell c 18) 1 ∅ 0 ∗ woP c fwo ∗ abP c (rows (lst c) 256) fullShare (V.ab c))
          -∗ Q ⟨k0_pay119 (subA 256 128 (lst c) 1024 (V.ab c)), k0_pay120 (subA 256 128 (lst c) 1024 (V.ab c)) (subA 256 128 (lst c) 0 (V.ab c)) (subA 128 1024 (0) 0 fwo) (subA 256 128 (lst c) 128 (V.ab c)) (subA 128 1024 (128) 0 fwo), k0_pay121 (subA 256 128 (lst c) 1024 (V.ab c)) (subA 256 128 (lst c) 256 (V.ab c)) (subA 128 1024 (256) 0 fwo)⟩)
        -∗ wp frame (wpE (defs₀ (F := F)) 𝒱₀ (c : Thread nD τ) none) Set.univ (P35 (F := F) c v2 v665 c1_i32_627) Q) := by
  iintro ⟨#HR, #HL, HO, HC18, HA18, Hwo⟩ Hk
  unfold P35
  rw [k0_part35_eq_skeleton]
  unfold k0_part35_skel
  simp only [semSignalWord, semWaitWord, Prog.lift, Prog.bind_op, Prog.bind_ret, Prog.pure_eq_ret]
  iapply (wt18 V K c n256 _ (by rfl) (fun K' => wpw c cr_256 K') rfl (pays.drop 15) (by decide)) $$ [HC18 HO HA18]
  · isplitr; · iexact HR
    isplitr; · iexact HL
    isplitl [HC18]; · iexact HC18
    isplitl [HO]; · iexact HO
    iexact HA18
  iintro ⟨HO, HA18, HP, HP2⟩
  ihave HM := (ab_halves c (at_lst c) fullShare (V.ab c)).2 $$ [HP HP2]
  · isplitl [HP]; · iexact HP
    iexact HP2
  iapply (ld_ab c (off79 c) (a' := lst c) (n' := 256) le_rfl le_rfl) $$ HM; iintro HM
  iapply (ld_ab c (off80 c) (a' := lst c) (n' := 256) le_rfl le_rfl) $$ HM; iintro HM
  iapply (ld_wo c rfl) $$ Hwo; iintro Hwo
  iapply (ld_ab c (off81 c) (a' := lst c) (n' := 256) le_rfl le_rfl) $$ HM; iintro HM
  iapply (ld_wo c rfl) $$ Hwo; iintro Hwo
  iapply (ld_ab c (off82 c) (a' := lst c) (n' := 256) le_rfl le_rfl) $$ HM; iintro HM
  iapply (ld_wo c rfl) $$ Hwo; iintro Hwo
  rw [wp_ret]
  imodintro
  iapply Hk
  isplitl [HO]; · iexact HO
  isplitl [HA18]; · iexact HA18
  isplitl [Hwo]; · iexact Hwo
  iexact HM

/-- Part 36 of the body, over the buffers of the call. -/
abbrev P36 (c : Dev nD) (v665 : BitVec 32) (v1331 : FVec F S256x128 .f32) (v1354 : FVec F S256x1024 .f32) (v1364 : FVec F S256x1024 .f32) :=
  k0_part36 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v665 v1331 v1354 v1364
theorem p36 (c : Dev nD) (v665 : BitVec 32) (v1331 : FVec F S256x128 .f32) (v1354 : FVec F S256x1024 .f32) (v1364 : FVec F S256x1024 .f32) (V : Vals F)  (fwo : S1024x1024.Idx → Elt F .bf16)
    {Q : (Σ' (v1398 : FVec F S256x1024 .f32), FVec F S256x1024 .f32) → sProp 𝕄} :
    iprop(abP c (rows (lst c) 256) fullShare (V.ab c) ∗ woP c fwo)
      ⊢ iprop(((abP c (rows (lst c) 256) fullShare (V.ab c) ∗ woP c fwo)
          -∗ Q ⟨k0_pay122 v1331 v1354 v1364 (subA 256 128 (lst c) 384 (V.ab c)) (subA 128 1024 (384) 0 fwo) (subA 256 128 (lst c) 512 (V.ab c)) (subA 128 1024 (512) 0 fwo) (subA 256 128 (lst c) 640 (V.ab c)) (subA 128 1024 (640) 0 fwo), k0_pay123 v1331 (subA 256 128 (lst c) 768 (V.ab c)) (subA 128 1024 (768) 0 fwo)⟩)
        -∗ wp frame (wpE (defs₀ (F := F)) 𝒱₀ (c : Thread nD τ) none) Set.univ (P36 (F := F) c v665 v1331 v1354 v1364) Q) := by
  iintro ⟨HM, Hwo⟩ Hk
  unfold P36
  rw [k0_part36_eq_skeleton]
  unfold k0_part36_skel
  simp only [semSignalWord, semWaitWord, Prog.lift, Prog.bind_op, Prog.bind_ret, Prog.pure_eq_ret]
  iapply (ld_ab c (off83 c) (a' := lst c) (n' := 256) le_rfl le_rfl) $$ HM; iintro HM
  iapply (ld_wo c rfl) $$ Hwo; iintro Hwo
  iapply (ld_ab c (off84 c) (a' := lst c) (n' := 256) le_rfl le_rfl) $$ HM; iintro HM
  iapply (ld_wo c rfl) $$ Hwo; iintro Hwo
  iapply (ld_ab c (off85 c) (a' := lst c) (n' := 256) le_rfl le_rfl) $$ HM; iintro HM
  iapply (ld_wo c rfl) $$ Hwo; iintro Hwo
  iapply (ld_ab c (off86 c) (a' := lst c) (n' := 256) le_rfl le_rfl) $$ HM; iintro HM
  iapply (ld_wo c rfl) $$ Hwo; iintro Hwo
  rw [wp_ret]
  imodintro
  iapply Hk
  isplitl [HM]; · iexact HM
  iexact Hwo

/-- Part 37 of the body, over the buffers of the call. -/
abbrev P37 (c : Dev nD) (v665 : BitVec 32) (v1331 : FVec F S256x128 .f32) (v1398 : FVec F S256x1024 .f32) (v1408 : FVec F S256x1024 .f32) :=
  k0_part37 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 c v665 v1331 v1398 v1408
theorem p37 (V : Vals F) (K : Dev nD × Fin 19 → ℕ) (c : Dev nD) (v665 : BitVec 32) (v1331 : FVec F S256x128 .f32) (v1398 : FVec F S256x1024 .f32) (v1408 : FVec F S256x1024 .f32) (fwo : S1024x1024.Idx → Elt F .bf16) (fo : S1024x1024.Idx → Elt F .f32)
    {Q : (PUnit) → sProp 𝕄} :
    iprop(recs V K ∗ levAts L lv ∗ OW c (pays.drop 15) ∗ abP c (rows (lst c) 256) fullShare (V.ab c) ∗ woP c fwo ∗ oP c fo ∗ cred (tallyAt (kcell c 2) () n128) ∗ atPos ER (kcell c 2) 0 ∅ 0 ∗ cred (tallyAt (kcell c 3) () n128) ∗ atPos ER (kcell c 3) 0 ∅ 0 ∗ cred (tallyAt (kcell c 4) () n128) ∗ atPos ER (kcell c 4) 0 ∅ 0 ∗ cred (tallyAt (kcell c 5) () n128) ∗ atPos ER (kcell c 5) 0 ∅ 0)
      ⊢ iprop(((OW c (pays.drop 15) ∗ abP c (rows (lst c) 256) fullShare (V.ab c) ∗ woP c fwo ∗ oP c (putA (lst c) 0 fo (k0_pay124 v1331 v1398 v1408 (subA 256 128 (lst c) 896 (V.ab c)) (subA 128 1024 (896) 0 fwo))) ∗ atPos ER (kcell c 2) 1 ∅ 0 ∗ atPos ER (kcell c 3) 1 ∅ 0 ∗ atPos ER (kcell c 4) 1 ∅ 0 ∗ atPos ER (kcell c 5) 1 ∅ 0 ∗ abP c (rows (reg c) 128) qA (V.ab c) ∗ abP c (rows (reg c) 128) qB (V.ab c) ∗ abP c (rows (reg c) 128) qC (V.ab c) ∗ abP c (rows (reg (px 2 c)) 128) qA (V.ab c))
          -∗ Q ⟨⟩)
        -∗ wp frame (wpE (defs₀ (F := F)) 𝒱₀ (c : Thread nD τ) none) Set.univ (P37 (F := F) c v665 v1331 v1398 v1408) Q) := by
  iintro ⟨#HR, #HL, HO, HM, Hwo, Ho, HC2, HA2, HC3, HA3, HC4, HA4, HC5, HA5⟩ Hk
  unfold P37
  rw [k0_part37_eq_skeleton]
  unfold k0_part37_skel
  simp only [semSignalWord, semWaitWord, Prog.lift, Prog.bind_op, Prog.bind_ret, Prog.pure_eq_ret]
  iapply (ld_ab c (off87 c) (a' := lst c) (n' := 256) le_rfl le_rfl) $$ HM; iintro HM
  iapply (ld_wo c rfl) $$ Hwo; iintro Hwo
  iapply (ld_o c (off88 c)) $$ Ho; iintro Ho
  iapply (st_o c (off88 c)) $$ Ho; iintro Ho
  iapply (wt V K c 2 0 n128 _ (by rfl) (fun K' => wpw c cr_128 K') (by decide) (by rfl) (pays.drop 15) (by decide)) $$ [HC2 HO HA2]
  · isplitr; · iexact HR
    isplitr; · iexact HL
    isplitl [HC2]; · iexact HC2
    isplitl [HO]; · iexact HO
    iexact HA2
  iintro ⟨HO, HA2, -, HP⟩
  ihave HP := (show payK V c 2 0 0 ⊢ iprop(abP c (rows (reg c) 128) qA (V.ab c)) from Entails.rfl) $$ HP
  icases HP with HX2
  iapply (wt V K c 3 0 n128 _ (by rfl) (fun K' => wpw c cr_128 K') (by decide) (by rfl) (pays.drop 15) (by decide)) $$ [HC3 HO HA3]
  · isplitr; · iexact HR
    isplitr; · iexact HL
    isplitl [HC3]; · iexact HC3
    isplitl [HO]; · iexact HO
    iexact HA3
  iintro ⟨HO, HA3, -, HP⟩
  ihave HP := (show payK V c 3 0 0 ⊢ iprop(abP c (rows (reg c) 128) qB (V.ab c)) from Entails.rfl) $$ HP
  icases HP with HX3
  iapply (wt V K c 4 0 n128 _ (by rfl) (fun K' => wpw c cr_128 K') (by decide) (by rfl) (pays.drop 15) (by decide)) $$ [HC4 HO HA4]
  · isplitr; · iexact HR
    isplitr; · iexact HL
    isplitl [HC4]; · iexact HC4
    isplitl [HO]; · iexact HO
    iexact HA4
  iintro ⟨HO, HA4, -, HP⟩
  ihave HP := (show payK V c 4 0 0 ⊢ iprop(abP c (rows (reg c) 128) qC (V.ab c)) from Entails.rfl) $$ HP
  icases HP with HX4
  iapply (wt V K c 5 0 n128 _ (by rfl) (fun K' => wpw c cr_128 K') (by decide) (by rfl) (pays.drop 15) (by decide)) $$ [HC5 HO HA5]
  · isplitr; · iexact HR
    isplitr; · iexact HL
    isplitl [HC5]; · iexact HC5
    isplitl [HO]; · iexact HO
    iexact HA5
  iintro ⟨HO, HA5, -, HP⟩
  ihave HP := (show payK V c 5 0 0 ⊢ iprop(abP c (rows (reg (px 2 c)) 128) qA (V.ab c)) from Entails.rfl) $$ HP
  icases HP with HX5
  rw [wp_ret]
  imodintro
  iapply Hk
  isplitl [HO]; · iexact HO
  isplitl [HM]; · iexact HM
  isplitl [Hwo]; · iexact Hwo
  isplitl [Ho]; · iexact Ho
  isplitl [HA2]; · iexact HA2
  isplitl [HA3]; · iexact HA3
  isplitl [HA4]; · iexact HA4
  isplitl [HA5]; · iexact HA5
  isplitl [HX2]; · iexact HX2
  isplitl [HX3]; · iexact HX3
  isplitl [HX4]; · iexact HX4
  iexact HX5

end Cert.KernelIdealProof
-- ==== Proof.KI.Outs.lean ====
/-
The output's rows, part by part, as one function of the gathered rows and the output weights.
-/
module

public import proofs.«01_k».proof.Proof.KI.Sends
public import proofs.«01_k».proof.Proof.KI.Offs
public import proofs.«01_k».proof.Proof.KI.Contents
public import proofs.«01_k».proof.Proof.KI.PartsA
public import proofs.«01_k».proof.Proof.KI.PartsB
public import proofs.«01_k».proof.Proof.KI.PartsC

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- 256 rows of the output, from the gathered rows at `r`. -/
def o256 (ab : S1024x1152.Idx → Elt F .bf16) (wo : S1024x1024.Idx → Elt F .bf16) (r : ℕ) : S256x1024.Idx → Elt F .f32 :=
  (k0_pay124 (k0_pay119 (subA 256 128 r 1024 ab)) (k0_pay122 (k0_pay119 (subA 256 128 r 1024 ab)) (k0_pay120 (subA 256 128 r 1024 ab) (subA 256 128 r 0 ab) (subA 128 1024 (0) 0 wo) (subA 256 128 r 128 ab) (subA 128 1024 (128) 0 wo)) (k0_pay121 (subA 256 128 r 1024 ab) (subA 256 128 r 256 ab) (subA 128 1024 (256) 0 wo)) (subA 256 128 r 384 ab) (subA 128 1024 (384) 0 wo) (subA 256 128 r 512 ab) (subA 128 1024 (512) 0 wo) (subA 256 128 r 640 ab) (subA 128 1024 (640) 0 wo)) (k0_pay123 (k0_pay119 (subA 256 128 r 1024 ab)) (subA 256 128 r 768 ab) (subA 128 1024 (768) 0 wo)) (subA 256 128 r 896 ab) (subA 128 1024 (896) 0 wo))

variable (I : Ins F)

theorem oe21 (c : Dev nD) : (k0_pay82 (k0_pay77 (subA 128 128 (reg c) 1024 (AB I c))) (k0_pay80 (k0_pay77 (subA 128 128 (reg c) 1024 (AB I c))) (k0_pay78 (F := F)) (k0_pay79 (subA 128 128 (reg c) 0 (AB I c))) (subA 128 1024 (0) 0 (I.wo c)) (subA 128 128 (reg c) 128 (AB I c)) (subA 128 1024 (128) 0 (I.wo c)) (subA 128 128 (reg c) 256 (AB I c)) (subA 128 1024 (256) 0 (I.wo c)) (subA 128 128 (reg c) 384 (AB I c)) (subA 128 1024 (384) 0 (I.wo c))) (k0_pay81 (subA 128 128 (reg c) 512 (AB I c))) (subA 128 1024 (512) 0 (I.wo c)) (subA 128 128 (reg c) 640 (AB I c)) (subA 128 1024 (640) 0 (I.wo c)) (subA 128 128 (reg c) 768 (AB I c)) (subA 128 1024 (768) 0 (I.wo c)) (subA 128 128 (reg c) 896 (AB I c)) (subA 128 1024 (896) 0 (I.wo c))) = o128 (AB I c) (I.wo c) (reg c) := rfl

/-- The rows `reg c` of the output. -/
theorem e21 (c : Dev nD) (v564 : BitVec 32)   (fo : S1024x1024.Idx → Elt F .f32)
    {Q : (PUnit) → sProp 𝕄} :
    iprop(abP c (rows (reg c) 128) fullShare.right.right.right ((vals I).ab c) ∗ woP c (I.wo c) ∗ oP c fo)
      ⊢ iprop(((abP c (rows (reg c) 128) fullShare.right.right.right ((vals I).ab c) ∗ woP c (I.wo c) ∗ oP c (putA (reg c) 0 fo (o128 (AB I c) (I.wo c) (reg c))))
          -∗ Q ⟨⟩)
        -∗ wp frame (wpE (defs₀ (F := F)) 𝒱₀ (c : Thread nD τ) none) Set.univ (P21 (F := F) c v564 (k0_pay77 (subA 128 128 (reg c) 1024 (AB I c))) (k0_pay80 (k0_pay77 (subA 128 128 (reg c) 1024 (AB I c))) (k0_pay78 (F := F)) (k0_pay79 (subA 128 128 (reg c) 0 (AB I c))) (subA 128 1024 (0) 0 (I.wo c)) (subA 128 128 (reg c) 128 (AB I c)) (subA 128 1024 (128) 0 (I.wo c)) (subA 128 128 (reg c) 256 (AB I c)) (subA 128 1024 (256) 0 (I.wo c)) (subA 128 128 (reg c) 384 (AB I c)) (subA 128 1024 (384) 0 (I.wo c))) (k0_pay81 (subA 128 128 (reg c) 512 (AB I c)))) Q) := by
  rw [← oe21 I c]
  exact p21 c v564 (k0_pay77 (subA 128 128 (reg c) 1024 (AB I c))) (k0_pay80 (k0_pay77 (subA 128 128 (reg c) 1024 (AB I c))) (k0_pay78 (F := F)) (k0_pay79 (subA 128 128 (reg c) 0 (AB I c))) (subA 128 1024 (0) 0 (I.wo c)) (subA 128 128 (reg c) 128 (AB I c)) (subA 128 1024 (128) 0 (I.wo c)) (subA 128 128 (reg c) 256 (AB I c)) (subA 128 1024 (256) 0 (I.wo c)) (subA 128 128 (reg c) 384 (AB I c)) (subA 128 1024 (384) 0 (I.wo c))) (k0_pay81 (subA 128 128 (reg c) 512 (AB I c))) (vals I) (I.wo c) fo

theorem oe24 (c : Dev nD) : (k0_pay88 (k0_pay83 (subA 128 128 (reg (px 2 c)) 1024 (AB I c))) (k0_pay86 (k0_pay83 (subA 128 128 (reg (px 2 c)) 1024 (AB I c))) (k0_pay84 (F := F)) (k0_pay85 (subA 128 128 (reg (px 2 c)) 1024 (AB I c)) (subA 128 128 (reg (px 2 c)) 0 (AB I c))) (subA 128 1024 (0) 0 (I.wo c)) (subA 128 128 (reg (px 2 c)) 128 (AB I c)) (subA 128 1024 (128) 0 (I.wo c)) (subA 128 128 (reg (px 2 c)) 256 (AB I c)) (subA 128 1024 (256) 0 (I.wo c)) (subA 128 128 (reg (px 2 c)) 384 (AB I c)) (subA 128 1024 (384) 0 (I.wo c))) (k0_pay87 (k0_pay83 (subA 128 128 (reg (px 2 c)) 1024 (AB I c))) (subA 128 128 (reg (px 2 c)) 512 (AB I c))) (subA 128 1024 (512) 0 (I.wo c)) (subA 128 128 (reg (px 2 c)) 640 (AB I c)) (subA 128 1024 (640) 0 (I.wo c)) (subA 128 128 (reg (px 2 c)) 768 (AB I c)) (subA 128 1024 (768) 0 (I.wo c)) (subA 128 128 (reg (px 2 c)) 896 (AB I c)) (subA 128 1024 (896) 0 (I.wo c))) = o128 (AB I c) (I.wo c) (reg (px 2 c)) := rfl

/-- The rows `reg (px 2 c)` of the output. -/
theorem e24 (c : Dev nD) (v2 : BitVec 32) (v606 : BitVec 32)   (fo : S1024x1024.Idx → Elt F .f32)
    {Q : (Σ' (v905 : BitVec 32), BitVec 32) → sProp 𝕄} :
    iprop(abP c (rows (reg (px 2 c)) 128) fullShare.right.right ((vals I).ab c) ∗ woP c (I.wo c) ∗ oP c fo)
      ⊢ iprop(((abP c (rows (reg (px 2 c)) 128) fullShare.right.right ((vals I).ab c) ∗ woP c (I.wo c) ∗ oP c (putA (reg (px 2 c)) 0 fo (o128 (AB I c) (I.wo c) (reg (px 2 c)))))
          -∗ Q ⟨(Scalar.muli v2 1#32 : BitVec 32), 0#32⟩)
        -∗ wp frame (wpE (defs₀ (F := F)) 𝒱₀ (c : Thread nD τ) none) Set.univ (P24 (F := F) c v2 v606 (k0_pay83 (subA 128 128 (reg (px 2 c)) 1024 (AB I c))) (k0_pay86 (k0_pay83 (subA 128 128 (reg (px 2 c)) 1024 (AB I c))) (k0_pay84 (F := F)) (k0_pay85 (subA 128 128 (reg (px 2 c)) 1024 (AB I c)) (subA 128 128 (reg (px 2 c)) 0 (AB I c))) (subA 128 1024 (0) 0 (I.wo c)) (subA 128 128 (reg (px 2 c)) 128 (AB I c)) (subA 128 1024 (128) 0 (I.wo c)) (subA 128 128 (reg (px 2 c)) 256 (AB I c)) (subA 128 1024 (256) 0 (I.wo c)) (subA 128 128 (reg (px 2 c)) 384 (AB I c)) (subA 128 1024 (384) 0 (I.wo c))) (k0_pay87 (k0_pay83 (subA 128 128 (reg (px 2 c)) 1024 (AB I c))) (subA 128 128 (reg (px 2 c)) 512 (AB I c)))) Q) := by
  rw [← oe24 I c]
  exact p24 c v2 v606 (k0_pay83 (subA 128 128 (reg (px 2 c)) 1024 (AB I c))) (k0_pay86 (k0_pay83 (subA 128 128 (reg (px 2 c)) 1024 (AB I c))) (k0_pay84 (F := F)) (k0_pay85 (subA 128 128 (reg (px 2 c)) 1024 (AB I c)) (subA 128 128 (reg (px 2 c)) 0 (AB I c))) (subA 128 1024 (0) 0 (I.wo c)) (subA 128 128 (reg (px 2 c)) 128 (AB I c)) (subA 128 1024 (128) 0 (I.wo c)) (subA 128 128 (reg (px 2 c)) 256 (AB I c)) (subA 128 1024 (256) 0 (I.wo c)) (subA 128 128 (reg (px 2 c)) 384 (AB I c)) (subA 128 1024 (384) 0 (I.wo c))) (k0_pay87 (k0_pay83 (subA 128 128 (reg (px 2 c)) 1024 (AB I c))) (subA 128 128 (reg (px 2 c)) 512 (AB I c))) (vals I) (I.wo c) fo

theorem oe27 (c : Dev nD) : (k0_pay94 (k0_pay89 (subA 128 128 (reg (px 4 c)) 1024 (AB I c))) (k0_pay92 (k0_pay89 (subA 128 128 (reg (px 4 c)) 1024 (AB I c))) (k0_pay90 (subA 128 128 (reg (px 4 c)) 1024 (AB I c)) (subA 128 128 (reg (px 4 c)) 0 (AB I c)) (subA 128 1024 (0) 0 (I.wo c))) (k0_pay91 (subA 128 128 (reg (px 4 c)) 1024 (AB I c)) (subA 128 128 (reg (px 4 c)) 128 (AB I c)) (subA 128 1024 (128) 0 (I.wo c))) (subA 128 128 (reg (px 4 c)) 256 (AB I c)) (subA 128 1024 (256) 0 (I.wo c)) (subA 128 128 (reg (px 4 c)) 384 (AB I c)) (subA 128 1024 (384) 0 (I.wo c)) (subA 128 128 (reg (px 4 c)) 512 (AB I c)) (subA 128 1024 (512) 0 (I.wo c))) (k0_pay93 (k0_pay89 (subA 128 128 (reg (px 4 c)) 1024 (AB I c))) (subA 128 128 (reg (px 4 c)) 640 (AB I c)) (subA 128 1024 (640) 0 (I.wo c))) (subA 128 128 (reg (px 4 c)) 768 (AB I c)) (subA 128 1024 (768) 0 (I.wo c)) (subA 128 128 (reg (px 4 c)) 896 (AB I c)) (subA 128 1024 (896) 0 (I.wo c))) = o128 (AB I c) (I.wo c) (reg (px 4 c)) := rfl

/-- The rows `reg (px 4 c)` of the output. -/
theorem e27 (K : Dev nD × Fin 19 → ℕ) (c : Dev nD) (v2 : BitVec 32) (v618 : BitVec 32)  (fo : S1024x1024.Idx → Elt F .f32)
    {Q : (PUnit) → sProp 𝕄} :
    iprop(recs (vals I) K ∗ levAts L lv ∗ abP c (rows (reg (px 4 c)) 128) fullShare.right ((vals I).ab c) ∗ OW c (pays.drop 14) ∗ cred (tallyAt (kcell c 15) () n128) ∗ atPos ER (kcell c 15) 0 ∅ 0 ∗ woP c (I.wo c) ∗ oP c fo)
      ⊢ iprop(((abP c (rows (reg (px 4 c)) 128) fullShare.right ((vals I).ab c) ∗ OW c (pays.drop 14) ∗ atPos ER (kcell c 15) 1 ∅ 0 ∗ woP c (I.wo c) ∗ oP c (putA (reg (px 4 c)) 0 fo (o128 (AB I c) (I.wo c) (reg (px 4 c)))) ∗ abP c (rows (reg (px 6 c)) 128) fullShare ((vals I).ab c))
          -∗ Q ⟨⟩)
        -∗ wp frame (wpE (defs₀ (F := F)) 𝒱₀ (c : Thread nD τ) none) Set.univ (P27 (F := F) c v2 v618 (k0_pay89 (subA 128 128 (reg (px 4 c)) 1024 (AB I c))) (k0_pay92 (k0_pay89 (subA 128 128 (reg (px 4 c)) 1024 (AB I c))) (k0_pay90 (subA 128 128 (reg (px 4 c)) 1024 (AB I c)) (subA 128 128 (reg (px 4 c)) 0 (AB I c)) (subA 128 1024 (0) 0 (I.wo c))) (k0_pay91 (subA 128 128 (reg (px 4 c)) 1024 (AB I c)) (subA 128 128 (reg (px 4 c)) 128 (AB I c)) (subA 128 1024 (128) 0 (I.wo c))) (subA 128 128 (reg (px 4 c)) 256 (AB I c)) (subA 128 1024 (256) 0 (I.wo c)) (subA 128 128 (reg (px 4 c)) 384 (AB I c)) (subA 128 1024 (384) 0 (I.wo c)) (subA 128 128 (reg (px 4 c)) 512 (AB I c)) (subA 128 1024 (512) 0 (I.wo c))) (k0_pay93 (k0_pay89 (subA 128 128 (reg (px 4 c)) 1024 (AB I c))) (subA 128 128 (reg (px 4 c)) 640 (AB I c)) (subA 128 1024 (640) 0 (I.wo c)))) Q) := by
  rw [← oe27 I c]
  exact p27 (vals I) K c v2 v618 (k0_pay89 (subA 128 128 (reg (px 4 c)) 1024 (AB I c))) (k0_pay92 (k0_pay89 (subA 128 128 (reg (px 4 c)) 1024 (AB I c))) (k0_pay90 (subA 128 128 (reg (px 4 c)) 1024 (AB I c)) (subA 128 128 (reg (px 4 c)) 0 (AB I c)) (subA 128 1024 (0) 0 (I.wo c))) (k0_pay91 (subA 128 128 (reg (px 4 c)) 1024 (AB I c)) (subA 128 128 (reg (px 4 c)) 128 (AB I c)) (subA 128 1024 (128) 0 (I.wo c))) (subA 128 128 (reg (px 4 c)) 256 (AB I c)) (subA 128 1024 (256) 0 (I.wo c)) (subA 128 128 (reg (px 4 c)) 384 (AB I c)) (subA 128 1024 (384) 0 (I.wo c)) (subA 128 128 (reg (px 4 c)) 512 (AB I c)) (subA 128 1024 (512) 0 (I.wo c))) (k0_pay93 (k0_pay89 (subA 128 128 (reg (px 4 c)) 1024 (AB I c))) (subA 128 128 (reg (px 4 c)) 640 (AB I c)) (subA 128 1024 (640) 0 (I.wo c))) (I.wo c) fo

theorem oe30 (c : Dev nD) : (k0_pay102 (k0_pay99 (k0_pay95 (subA 128 128 (reg (px 6 c)) 1024 (AB I c))) (k0_pay96 (subA 128 128 (reg (px 6 c)) 1024 (AB I c)) (subA 128 128 (reg (px 6 c)) 0 (AB I c)) (subA 128 1024 (0) 0 (I.wo c)) (subA 128 128 (reg (px 6 c)) 128 (AB I c)) (subA 128 1024 (128) 0 (I.wo c)) (subA 128 128 (reg (px 6 c)) 256 (AB I c)) (subA 128 1024 (256) 0 (I.wo c))) (k0_pay97 (subA 128 128 (reg (px 6 c)) 384 (AB I c))) (k0_pay98 (subA 128 128 (reg (px 6 c)) 1024 (AB I c))) (subA 128 1024 (384) 0 (I.wo c)) (subA 128 128 (reg (px 6 c)) 512 (AB I c)) (subA 128 1024 (512) 0 (I.wo c)) (subA 128 128 (reg (px 6 c)) 640 (AB I c)) (subA 128 1024 (640) 0 (I.wo c)) (subA 128 128 (reg (px 6 c)) 768 (AB I c)) (subA 128 1024 (768) 0 (I.wo c))) (k0_pay100 (subA 128 128 (reg (px 6 c)) 896 (AB I c))) (k0_pay101 (k0_pay95 (subA 128 128 (reg (px 6 c)) 1024 (AB I c)))) (subA 128 1024 (896) 0 (I.wo c))) = o128 (AB I c) (I.wo c) (reg (px 6 c)) := rfl

/-- The rows `reg (px 6 c)` of the output. -/
theorem e30 (K : Dev nD × Fin 19 → ℕ) (c : Dev nD) (v2 : BitVec 32) (v631 : BitVec 32) (v643 : BitVec 32)  (fo : S1024x1024.Idx → Elt F .f32)
    {Q : (Σ' (v1131 : FVec F S128x128 .f32) (v1143 : FVec F S128x1024 .f32) (v1150 : FVec F S128x128 .bf16) (v1152 : FVec F S128x1024 .bf16), FVec F S128x1024 .f32) → sProp 𝕄} :
    iprop(recs (vals I) K ∗ levAts L lv ∗ OW c (pays.drop 15) ∗ cred (tallyAt (kcell c 16) () n128) ∗ atPos ER (kcell c 16) 0 ∅ 0 ∗ abP c (rows (reg (px 6 c)) 128) fullShare.right ((vals I).ab c) ∗ woP c (I.wo c) ∗ oP c fo)
      ⊢ iprop(((OW c (pays.drop 15) ∗ atPos ER (kcell c 16) 1 ∅ 0 ∗ abP c (rows (reg (px 6 c)) 128) fullShare.right ((vals I).ab c) ∗ woP c (I.wo c) ∗ oP c (putA (reg (px 6 c)) 0 fo (o128 (AB I c) (I.wo c) (reg (px 6 c)))) ∗ abP c (rows (reg (px 1 c)) 128) fullShare ((vals I).ab c))
          -∗ Q ⟨k0_pay103 (subA 128 128 (reg (px 1 c)) 1024 ((vals I).ab c)), k0_pay104 (subA 128 128 (reg (px 1 c)) 1024 ((vals I).ab c)) (subA 128 128 (reg (px 1 c)) 0 ((vals I).ab c)) (subA 128 1024 (0) 0 (I.wo c)), k0_pay105 (subA 128 128 (reg (px 1 c)) 1024 ((vals I).ab c)) (subA 128 128 (reg (px 1 c)) 128 ((vals I).ab c)), k0_pay106 (subA 128 1024 (128) 0 (I.wo c)), (constant S128x1024 .f32 0x00000000#32 : FVec F S128x1024 .f32)⟩)
        -∗ wp frame (wpE (defs₀ (F := F)) 𝒱₀ (c : Thread nD τ) none) Set.univ (P30 (F := F) c v2 v631 v643 (k0_pay99 (k0_pay95 (subA 128 128 (reg (px 6 c)) 1024 (AB I c))) (k0_pay96 (subA 128 128 (reg (px 6 c)) 1024 (AB I c)) (subA 128 128 (reg (px 6 c)) 0 (AB I c)) (subA 128 1024 (0) 0 (I.wo c)) (subA 128 128 (reg (px 6 c)) 128 (AB I c)) (subA 128 1024 (128) 0 (I.wo c)) (subA 128 128 (reg (px 6 c)) 256 (AB I c)) (subA 128 1024 (256) 0 (I.wo c))) (k0_pay97 (subA 128 128 (reg (px 6 c)) 384 (AB I c))) (k0_pay98 (subA 128 128 (reg (px 6 c)) 1024 (AB I c))) (subA 128 1024 (384) 0 (I.wo c)) (subA 128 128 (reg (px 6 c)) 512 (AB I c)) (subA 128 1024 (512) 0 (I.wo c)) (subA 128 128 (reg (px 6 c)) 640 (AB I c)) (subA 128 1024 (640) 0 (I.wo c)) (subA 128 128 (reg (px 6 c)) 768 (AB I c)) (subA 128 1024 (768) 0 (I.wo c))) (k0_pay100 (subA 128 128 (reg (px 6 c)) 896 (AB I c))) (k0_pay101 (k0_pay95 (subA 128 128 (reg (px 6 c)) 1024 (AB I c))))) Q) := by
  rw [← oe30 I c]
  exact p30 (vals I) K c v2 v631 v643 (k0_pay99 (k0_pay95 (subA 128 128 (reg (px 6 c)) 1024 (AB I c))) (k0_pay96 (subA 128 128 (reg (px 6 c)) 1024 (AB I c)) (subA 128 128 (reg (px 6 c)) 0 (AB I c)) (subA 128 1024 (0) 0 (I.wo c)) (subA 128 128 (reg (px 6 c)) 128 (AB I c)) (subA 128 1024 (128) 0 (I.wo c)) (subA 128 128 (reg (px 6 c)) 256 (AB I c)) (subA 128 1024 (256) 0 (I.wo c))) (k0_pay97 (subA 128 128 (reg (px 6 c)) 384 (AB I c))) (k0_pay98 (subA 128 128 (reg (px 6 c)) 1024 (AB I c))) (subA 128 1024 (384) 0 (I.wo c)) (subA 128 128 (reg (px 6 c)) 512 (AB I c)) (subA 128 1024 (512) 0 (I.wo c)) (subA 128 128 (reg (px 6 c)) 640 (AB I c)) (subA 128 1024 (640) 0 (I.wo c)) (subA 128 128 (reg (px 6 c)) 768 (AB I c)) (subA 128 1024 (768) 0 (I.wo c))) (k0_pay100 (subA 128 128 (reg (px 6 c)) 896 (AB I c))) (k0_pay101 (k0_pay95 (subA 128 128 (reg (px 6 c)) 1024 (AB I c)))) (I.wo c) fo

theorem oe32 (c : Dev nD) : (k0_pay110 (k0_pay103 (subA 128 128 (reg (px 1 c)) 1024 (AB I c))) (k0_pay107 (k0_pay103 (subA 128 128 (reg (px 1 c)) 1024 (AB I c))) (k0_pay104 (subA 128 128 (reg (px 1 c)) 1024 (AB I c)) (subA 128 128 (reg (px 1 c)) 0 (AB I c)) (subA 128 1024 (0) 0 (I.wo c))) (k0_pay105 (subA 128 128 (reg (px 1 c)) 1024 (AB I c)) (subA 128 128 (reg (px 1 c)) 128 (AB I c))) (k0_pay106 (subA 128 1024 (128) 0 (I.wo c))) (constant S128x1024 .f32 0x00000000#32 : FVec F S128x1024 .f32) (subA 128 128 (reg (px 1 c)) 256 (AB I c)) (subA 128 1024 (256) 0 (I.wo c)) (subA 128 128 (reg (px 1 c)) 384 (AB I c)) (subA 128 1024 (384) 0 (I.wo c)) (subA 128 128 (reg (px 1 c)) 512 (AB I c)) (subA 128 1024 (512) 0 (I.wo c))) (k0_pay108 (k0_pay103 (subA 128 128 (reg (px 1 c)) 1024 (AB I c))) (subA 128 128 (reg (px 1 c)) 640 (AB I c))) (k0_pay109 (subA 128 1024 (640) 0 (I.wo c))) (constant S128x1024 .f32 0x00000000#32 : FVec F S128x1024 .f32) (subA 128 128 (reg (px 1 c)) 768 (AB I c)) (subA 128 1024 (768) 0 (I.wo c)) (subA 128 128 (reg (px 1 c)) 896 (AB I c)) (subA 128 1024 (896) 0 (I.wo c))) = o128 (AB I c) (I.wo c) (reg (px 1 c)) := rfl

/-- The rows `reg (px 1 c)` of the output. -/
theorem e32 (K : Dev nD × Fin 19 → ℕ) (c : Dev nD) (v2 : BitVec 32) (v643 : BitVec 32) (v656 : BitVec 32)  (fo : S1024x1024.Idx → Elt F .f32)
    {Q : (Σ' (v1231 : FVec F S128x128 .f32) (v1232 : FVec F S128x1024 .f32) (v1235 : FVec F S128x128 .f32), FVec F S128x128 .f32) → sProp 𝕄} :
    iprop(recs (vals I) K ∗ levAts L lv ∗ abP c (rows (reg (px 1 c)) 128) fullShare ((vals I).ab c) ∗ OW c (pays.drop 15) ∗ cred (tallyAt (kcell c 17) () n128) ∗ atPos ER (kcell c 17) 0 ∅ 0 ∗ woP c (I.wo c) ∗ oP c fo)
      ⊢ iprop(((abP c (rows (reg (px 1 c)) 128) fullShare ((vals I).ab c) ∗ OW c (pays.drop 15) ∗ atPos ER (kcell c 17) 1 ∅ 0 ∗ woP c (I.wo c) ∗ oP c (putA (reg (px 1 c)) 0 fo (o128 (AB I c) (I.wo c) (reg (px 1 c)))) ∗ abP c (rows (reg (px 3 c)) 128) fullShare ((vals I).ab c))
          -∗ Q ⟨k0_pay111 (subA 128 128 (reg (px 3 c)) 1024 ((vals I).ab c)), k0_pay112 (F := F), k0_pay113 (subA 128 128 (reg (px 3 c)) 0 ((vals I).ab c)), k0_pay114 (subA 128 128 (reg (px 3 c)) 1024 ((vals I).ab c))⟩)
        -∗ wp frame (wpE (defs₀ (F := F)) 𝒱₀ (c : Thread nD τ) none) Set.univ (P32 (F := F) c v2 v643 v656 (k0_pay103 (subA 128 128 (reg (px 1 c)) 1024 (AB I c))) (k0_pay107 (k0_pay103 (subA 128 128 (reg (px 1 c)) 1024 (AB I c))) (k0_pay104 (subA 128 128 (reg (px 1 c)) 1024 (AB I c)) (subA 128 128 (reg (px 1 c)) 0 (AB I c)) (subA 128 1024 (0) 0 (I.wo c))) (k0_pay105 (subA 128 128 (reg (px 1 c)) 1024 (AB I c)) (subA 128 128 (reg (px 1 c)) 128 (AB I c))) (k0_pay106 (subA 128 1024 (128) 0 (I.wo c))) (constant S128x1024 .f32 0x00000000#32 : FVec F S128x1024 .f32) (subA 128 128 (reg (px 1 c)) 256 (AB I c)) (subA 128 1024 (256) 0 (I.wo c)) (subA 128 128 (reg (px 1 c)) 384 (AB I c)) (subA 128 1024 (384) 0 (I.wo c)) (subA 128 128 (reg (px 1 c)) 512 (AB I c)) (subA 128 1024 (512) 0 (I.wo c))) (k0_pay108 (k0_pay103 (subA 128 128 (reg (px 1 c)) 1024 (AB I c))) (subA 128 128 (reg (px 1 c)) 640 (AB I c))) (k0_pay109 (subA 128 1024 (640) 0 (I.wo c))) (constant S128x1024 .f32 0x00000000#32 : FVec F S128x1024 .f32)) Q) := by
  rw [← oe32 I c]
  exact p32 (vals I) K c v2 v643 v656 (k0_pay103 (subA 128 128 (reg (px 1 c)) 1024 (AB I c))) (k0_pay107 (k0_pay103 (subA 128 128 (reg (px 1 c)) 1024 (AB I c))) (k0_pay104 (subA 128 128 (reg (px 1 c)) 1024 (AB I c)) (subA 128 128 (reg (px 1 c)) 0 (AB I c)) (subA 128 1024 (0) 0 (I.wo c))) (k0_pay105 (subA 128 128 (reg (px 1 c)) 1024 (AB I c)) (subA 128 128 (reg (px 1 c)) 128 (AB I c))) (k0_pay106 (subA 128 1024 (128) 0 (I.wo c))) (constant S128x1024 .f32 0x00000000#32 : FVec F S128x1024 .f32) (subA 128 128 (reg (px 1 c)) 256 (AB I c)) (subA 128 1024 (256) 0 (I.wo c)) (subA 128 128 (reg (px 1 c)) 384 (AB I c)) (subA 128 1024 (384) 0 (I.wo c)) (subA 128 128 (reg (px 1 c)) 512 (AB I c)) (subA 128 1024 (512) 0 (I.wo c))) (k0_pay108 (k0_pay103 (subA 128 128 (reg (px 1 c)) 1024 (AB I c))) (subA 128 128 (reg (px 1 c)) 640 (AB I c))) (k0_pay109 (subA 128 1024 (640) 0 (I.wo c))) (constant S128x1024 .f32 0x00000000#32 : FVec F S128x1024 .f32) (I.wo c) fo

theorem oe34 (c : Dev nD) : (k0_pay118 (k0_pay111 (subA 128 128 (reg (px 3 c)) 1024 (AB I c))) (k0_pay115 (k0_pay111 (subA 128 128 (reg (px 3 c)) 1024 (AB I c))) (k0_pay112 (F := F)) (k0_pay113 (subA 128 128 (reg (px 3 c)) 0 (AB I c))) (k0_pay114 (subA 128 128 (reg (px 3 c)) 1024 (AB I c))) (subA 128 1024 (0) 0 (I.wo c)) (subA 128 128 (reg (px 3 c)) 128 (AB I c)) (subA 128 1024 (128) 0 (I.wo c)) (subA 128 128 (reg (px 3 c)) 256 (AB I c)) (subA 128 1024 (256) 0 (I.wo c)) (subA 128 128 (reg (px 3 c)) 384 (AB I c)) (subA 128 1024 (384) 0 (I.wo c))) (k0_pay116 (subA 128 128 (reg (px 3 c)) 512 (AB I c))) (k0_pay117 (k0_pay111 (subA 128 128 (reg (px 3 c)) 1024 (AB I c)))) (subA 128 1024 (512) 0 (I.wo c)) (subA 128 128 (reg (px 3 c)) 640 (AB I c)) (subA 128 1024 (640) 0 (I.wo c)) (subA 128 128 (reg (px 3 c)) 768 (AB I c)) (subA 128 1024 (768) 0 (I.wo c)) (subA 128 128 (reg (px 3 c)) 896 (AB I c)) (subA 128 1024 (896) 0 (I.wo c))) = o128 (AB I c) (I.wo c) (reg (px 3 c)) := rfl

/-- The rows `reg (px 3 c)` of the output. -/
theorem e34 (c : Dev nD) (v656 : BitVec 32)   (fo : S1024x1024.Idx → Elt F .f32)
    {Q : (BitVec 32) → sProp 𝕄} :
    iprop(abP c (rows (reg (px 3 c)) 128) fullShare ((vals I).ab c) ∗ woP c (I.wo c) ∗ oP c fo)
      ⊢ iprop(((abP c (rows (reg (px 3 c)) 128) fullShare ((vals I).ab c) ∗ woP c (I.wo c) ∗ oP c (putA (reg (px 3 c)) 0 fo (o128 (AB I c) (I.wo c) (reg (px 3 c)))))
          -∗ Q 1#32)
        -∗ wp frame (wpE (defs₀ (F := F)) 𝒱₀ (c : Thread nD τ) none) Set.univ (P34 (F := F) c v656 (k0_pay111 (subA 128 128 (reg (px 3 c)) 1024 (AB I c))) (k0_pay115 (k0_pay111 (subA 128 128 (reg (px 3 c)) 1024 (AB I c))) (k0_pay112 (F := F)) (k0_pay113 (subA 128 128 (reg (px 3 c)) 0 (AB I c))) (k0_pay114 (subA 128 128 (reg (px 3 c)) 1024 (AB I c))) (subA 128 1024 (0) 0 (I.wo c)) (subA 128 128 (reg (px 3 c)) 128 (AB I c)) (subA 128 1024 (128) 0 (I.wo c)) (subA 128 128 (reg (px 3 c)) 256 (AB I c)) (subA 128 1024 (256) 0 (I.wo c)) (subA 128 128 (reg (px 3 c)) 384 (AB I c)) (subA 128 1024 (384) 0 (I.wo c))) (k0_pay116 (subA 128 128 (reg (px 3 c)) 512 (AB I c))) (k0_pay117 (k0_pay111 (subA 128 128 (reg (px 3 c)) 1024 (AB I c))))) Q) := by
  rw [← oe34 I c]
  exact p34 c v656 (k0_pay111 (subA 128 128 (reg (px 3 c)) 1024 (AB I c))) (k0_pay115 (k0_pay111 (subA 128 128 (reg (px 3 c)) 1024 (AB I c))) (k0_pay112 (F := F)) (k0_pay113 (subA 128 128 (reg (px 3 c)) 0 (AB I c))) (k0_pay114 (subA 128 128 (reg (px 3 c)) 1024 (AB I c))) (subA 128 1024 (0) 0 (I.wo c)) (subA 128 128 (reg (px 3 c)) 128 (AB I c)) (subA 128 1024 (128) 0 (I.wo c)) (subA 128 128 (reg (px 3 c)) 256 (AB I c)) (subA 128 1024 (256) 0 (I.wo c)) (subA 128 128 (reg (px 3 c)) 384 (AB I c)) (subA 128 1024 (384) 0 (I.wo c))) (k0_pay116 (subA 128 128 (reg (px 3 c)) 512 (AB I c))) (k0_pay117 (k0_pay111 (subA 128 128 (reg (px 3 c)) 1024 (AB I c)))) (vals I) (I.wo c) fo

theorem oe37 (c : Dev nD) : (k0_pay124 (k0_pay119 (subA 256 128 (lst c) 1024 (AB I c))) (k0_pay122 (k0_pay119 (subA 256 128 (lst c) 1024 (AB I c))) (k0_pay120 (subA 256 128 (lst c) 1024 (AB I c)) (subA 256 128 (lst c) 0 (AB I c)) (subA 128 1024 (0) 0 (I.wo c)) (subA 256 128 (lst c) 128 (AB I c)) (subA 128 1024 (128) 0 (I.wo c))) (k0_pay121 (subA 256 128 (lst c) 1024 (AB I c)) (subA 256 128 (lst c) 256 (AB I c)) (subA 128 1024 (256) 0 (I.wo c))) (subA 256 128 (lst c) 384 (AB I c)) (subA 128 1024 (384) 0 (I.wo c)) (subA 256 128 (lst c) 512 (AB I c)) (subA 128 1024 (512) 0 (I.wo c)) (subA 256 128 (lst c) 640 (AB I c)) (subA 128 1024 (640) 0 (I.wo c))) (k0_pay123 (k0_pay119 (subA 256 128 (lst c) 1024 (AB I c))) (subA 256 128 (lst c) 768 (AB I c)) (subA 128 1024 (768) 0 (I.wo c))) (subA 256 128 (lst c) 896 (AB I c)) (subA 128 1024 (896) 0 (I.wo c))) = o256 (AB I c) (I.wo c) (lst c) := rfl

/-- The rows `lst c` of the output. -/
theorem e37 (K : Dev nD × Fin 19 → ℕ) (c : Dev nD) (v665 : BitVec 32)  (fo : S1024x1024.Idx → Elt F .f32)
    {Q : (PUnit) → sProp 𝕄} :
    iprop(recs (vals I) K ∗ levAts L lv ∗ OW c (pays.drop 15) ∗ abP c (rows (lst c) 256) fullShare ((vals I).ab c) ∗ woP c (I.wo c) ∗ oP c fo ∗ cred (tallyAt (kcell c 2) () n128) ∗ atPos ER (kcell c 2) 0 ∅ 0 ∗ cred (tallyAt (kcell c 3) () n128) ∗ atPos ER (kcell c 3) 0 ∅ 0 ∗ cred (tallyAt (kcell c 4) () n128) ∗ atPos ER (kcell c 4) 0 ∅ 0 ∗ cred (tallyAt (kcell c 5) () n128) ∗ atPos ER (kcell c 5) 0 ∅ 0)
      ⊢ iprop(((OW c (pays.drop 15) ∗ abP c (rows (lst c) 256) fullShare ((vals I).ab c) ∗ woP c (I.wo c) ∗ oP c (putA (lst c) 0 fo (o256 (AB I c) (I.wo c) (lst c))) ∗ atPos ER (kcell c 2) 1 ∅ 0 ∗ atPos ER (kcell c 3) 1 ∅ 0 ∗ atPos ER (kcell c 4) 1 ∅ 0 ∗ atPos ER (kcell c 5) 1 ∅ 0 ∗ abP c (rows (reg c) 128) qA ((vals I).ab c) ∗ abP c (rows (reg c) 128) qB ((vals I).ab c) ∗ abP c (rows (reg c) 128) qC ((vals I).ab c) ∗ abP c (rows (reg (px 2 c)) 128) qA ((vals I).ab c))
          -∗ Q ⟨⟩)
        -∗ wp frame (wpE (defs₀ (F := F)) 𝒱₀ (c : Thread nD τ) none) Set.univ (P37 (F := F) c v665 (k0_pay119 (subA 256 128 (lst c) 1024 (AB I c))) (k0_pay122 (k0_pay119 (subA 256 128 (lst c) 1024 (AB I c))) (k0_pay120 (subA 256 128 (lst c) 1024 (AB I c)) (subA 256 128 (lst c) 0 (AB I c)) (subA 128 1024 (0) 0 (I.wo c)) (subA 256 128 (lst c) 128 (AB I c)) (subA 128 1024 (128) 0 (I.wo c))) (k0_pay121 (subA 256 128 (lst c) 1024 (AB I c)) (subA 256 128 (lst c) 256 (AB I c)) (subA 128 1024 (256) 0 (I.wo c))) (subA 256 128 (lst c) 384 (AB I c)) (subA 128 1024 (384) 0 (I.wo c)) (subA 256 128 (lst c) 512 (AB I c)) (subA 128 1024 (512) 0 (I.wo c)) (subA 256 128 (lst c) 640 (AB I c)) (subA 128 1024 (640) 0 (I.wo c))) (k0_pay123 (k0_pay119 (subA 256 128 (lst c) 1024 (AB I c))) (subA 256 128 (lst c) 768 (AB I c)) (subA 128 1024 (768) 0 (I.wo c)))) Q) := by
  rw [← oe37 I c]
  exact p37 (vals I) K c v665 (k0_pay119 (subA 256 128 (lst c) 1024 (AB I c))) (k0_pay122 (k0_pay119 (subA 256 128 (lst c) 1024 (AB I c))) (k0_pay120 (subA 256 128 (lst c) 1024 (AB I c)) (subA 256 128 (lst c) 0 (AB I c)) (subA 128 1024 (0) 0 (I.wo c)) (subA 256 128 (lst c) 128 (AB I c)) (subA 128 1024 (128) 0 (I.wo c))) (k0_pay121 (subA 256 128 (lst c) 1024 (AB I c)) (subA 256 128 (lst c) 256 (AB I c)) (subA 128 1024 (256) 0 (I.wo c))) (subA 256 128 (lst c) 384 (AB I c)) (subA 128 1024 (384) 0 (I.wo c)) (subA 256 128 (lst c) 512 (AB I c)) (subA 128 1024 (512) 0 (I.wo c)) (subA 256 128 (lst c) 640 (AB I c)) (subA 128 1024 (640) 0 (I.wo c))) (k0_pay123 (k0_pay119 (subA 256 128 (lst c) 1024 (AB I c))) (subA 256 128 (lst c) 768 (AB I c)) (subA 128 1024 (768) 0 (I.wo c))) (I.wo c) fo

end Cert.KernelIdealProof
-- ==== Proof.KI.Bands.lean ====
/-
The two bands, part by part: what each leaves in the accumulator and hands to the next, at the call's own operands.
-/
module

public import proofs.«01_k».proof.Proof.KI.Sends
public import proofs.«01_k».proof.Proof.KI.Offs
public import proofs.«01_k».proof.Proof.KI.Contents
public import proofs.«01_k».proof.Proof.KI.PartsA
public import proofs.«01_k».proof.Proof.KI.PartsB

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

theorem e3 (c : Dev nD) (v30 : BitVec 32) (fac : S1024x1152.Idx → Elt F .f32) {Q : (Σ' (v97 : IVec S512x1024 1) (v109 : FVec F S512x1 .f32), FVec F S512x128 .f32) → sProp 𝕄} :
    iprop(qP c (qb I c) ∗ kP c (I.k c) ∗ vP c (I.v c) ∗ acP c fac) ⊢ iprop(((qP c (qb I c) ∗ kP c (I.k c) ∗ vP c (I.v c) ∗ acP c fac) -∗ Q ⟨mS c, (rs I c (snd0 c) (mS c) 0), (hd I c (snd0 c) (mS c) 0)⟩)
      -∗ wp frame (wpE (defs₀ (F := F)) 𝒱₀ (c : Thread nD τ) none) Set.univ (P3 (F := F) c v30 (iota .tc S512x1024 32 [1] iota_S512x1024_d1_w32) (k0_pay2 (W2 c) 1#32) (Scalar.muli (W2 c) 16#32) 64#32 k0_pay3 k0_pay4 (Scalar.cmpi .sgt 64#32 0#32)) Q) :=
  p3 c v30 (iota .tc S512x1024 32 [1] iota_S512x1024_d1_w32) (k0_pay2 (W2 c) 1#32) (Scalar.muli (W2 c) 16#32) 64#32 k0_pay3 k0_pay4 (Scalar.cmpi .sgt 64#32 0#32) (qb I c) (I.k c) (I.v c) fac

theorem e4 (c : Dev nD) (v30 : BitVec 32) (fac : S1024x1152.Idx → Elt F .f32) {Q : (Σ' (v127 : FVec F S512x1 .f32), FVec F S512x1 .f32) → sProp 𝕄} :
    iprop(qP c (qb I c) ∗ kP c (I.k c) ∗ vP c (I.v c) ∗ acP c fac) ⊢ iprop(((qP c (qb I c) ∗ kP c (I.k c) ∗ vP c (I.v c) ∗ acP c (putA (snd0 c) 256 (putA (snd0 c) 128 (putA (snd0 c) 0 fac (hd I c (snd0 c) (mS c) 0)) (hd I c (snd0 c) (mS c) 1)) (hd I c (snd0 c) (mS c) 2))) -∗ Q ⟨(rs I c (snd0 c) (mS c) 1), (rs I c (snd0 c) (mS c) 2)⟩)
      -∗ wp frame (wpE (defs₀ (F := F)) 𝒱₀ (c : Thread nD τ) none) Set.univ (P4 (F := F) c v30 (mS c) (hd I c (snd0 c) (mS c) 0)) Q) :=
  p4 c v30 (mS c) (hd I c (snd0 c) (mS c) 0) (qb I c) (I.k c) (I.v c) fac

theorem e5 (c : Dev nD) (v30 : BitVec 32) (fac : S1024x1152.Idx → Elt F .f32) {Q : (Σ' (v163 : FVec F S512x1 .f32) (v181 : FVec F S512x1 .f32), Vec F S512x128 .bf16) → sProp 𝕄} :
    iprop(qP c (qb I c) ∗ kP c (I.k c) ∗ vP c (I.v c) ∗ acP c fac) ⊢ iprop(((qP c (qb I c) ∗ kP c (I.k c) ∗ vP c (I.v c) ∗ acP c (putA (snd0 c) 512 (putA (snd0 c) 384 fac (hd I c (snd0 c) (mS c) 3)) (hd I c (snd0 c) (mS c) 4))) -∗ Q ⟨(rs I c (snd0 c) (mS c) 3), (rs I c (snd0 c) (mS c) 4), qH I c (snd0 c) 5⟩)
      -∗ wp frame (wpE (defs₀ (F := F)) 𝒱₀ (c : Thread nD τ) none) Set.univ (P5 (F := F) c v30 (mS c)) Q) :=
  p5 c v30 (mS c) (qb I c) (I.k c) (I.v c) fac

theorem e6 (c : Dev nD) (v30 : BitVec 32) (fac : S1024x1152.Idx → Elt F .f32) {Q : (Σ' (v199 : FVec F S512x1 .f32) (v217 : FVec F S512x1 .f32), Vec F S512x128 .bf16) → sProp 𝕄} :
    iprop(qP c (qb I c) ∗ kP c (I.k c) ∗ vP c (I.v c) ∗ acP c fac) ⊢ iprop(((qP c (qb I c) ∗ kP c (I.k c) ∗ vP c (I.v c) ∗ acP c (putA (snd0 c) 768 (putA (snd0 c) 640 fac (hd I c (snd0 c) (mS c) 5)) (hd I c (snd0 c) (mS c) 6))) -∗ Q ⟨(rs I c (snd0 c) (mS c) 5), (rs I c (snd0 c) (mS c) 6), qH I c (snd0 c) 7⟩)
      -∗ wp frame (wpE (defs₀ (F := F)) 𝒱₀ (c : Thread nD τ) none) Set.univ (P6 (F := F) c v30 (mS c) (qH I c (snd0 c) 5)) Q) :=
  p6 c v30 (mS c) (qH I c (snd0 c) 5) (qb I c) (I.k c) (I.v c) fac

theorem e7 (K : Dev nD × Fin 19 → ℕ) (c : Dev nD) (v2 : BitVec 32) (v30 : BitVec 32) (v32 : BitVec 32) (fac : S1024x1152.Idx → Elt F .f32) (fs : S1024x1152.Idx → Elt F .bf16) {Q : (Σ' (v255 : BitVec 32) (v261 : IVec S512x1024 32), IVec S512x1024 32) → sProp 𝕄} :
    iprop(recs (vals I) K ∗ levAts L lv ∗ kP c (I.k c) ∗ vP c (I.v c) ∗ acP c (putA (snd0 c) 768 (putA (snd0 c) 640 (putA (snd0 c) 512 (putA (snd0 c) 384 (putA (snd0 c) 256 (putA (snd0 c) 128 (putA (snd0 c) 0 fac (hd I c (snd0 c) (mS c) 0)) (hd I c (snd0 c) (mS c) 1)) (hd I c (snd0 c) (mS c) 2)) (hd I c (snd0 c) (mS c) 3)) (hd I c (snd0 c) (mS c) 4)) (hd I c (snd0 c) (mS c) 5)) (hd I c (snd0 c) (mS c) 6)) ∗ abP c (rows (snd0 c) 512) fullShare fs ∗ OW c (pays.drop 4) ∗ cred (tallyAt (kcell c 0) () 4) ∗ atPos ER (kcell c 0) 0 ∅ 0 ∗ dutyTok ER (kcell c 1) 0 0 ∗ dutyTok ER (kcell (px 1 c) 9) 0 0)
      ⊢ iprop(((kP c (I.k c) ∗ vP c (I.v c) ∗ acP c (putA (snd0 c) 1024 (putA (snd0 c) 896 (putA (snd0 c) 768 (putA (snd0 c) 640 (putA (snd0 c) 512 (putA (snd0 c) 384 (putA (snd0 c) 256 (putA (snd0 c) 128 (putA (snd0 c) 0 fac (hd I c (snd0 c) (mS c) 0)) (hd I c (snd0 c) (mS c) 1)) (hd I c (snd0 c) (mS c) 2)) (hd I c (snd0 c) (mS c) 3)) (hd I c (snd0 c) (mS c) 4)) (hd I c (snd0 c) (mS c) 5)) (hd I c (snd0 c) (mS c) 6)) (hd I c (snd0 c) (mS c) 7)) (rsAll I c (snd0 c) (mS c))) ∗ OW c (pays.drop 5) ∗ atPos ER (kcell c 0) 1 ∅ 0 ∗ (∃ f, l1P (px 4 c) f) ∗ (∃ f, l2P (px 2 c) f) ∗ (∃ f, l3P (px 8 c) f) ∗ cred (tallyAt (kcell c 1) () n512))
          -∗ Q ⟨Scalar.xori v2 1#32, iota .tc S512x1024 32 [0] iota_S512x1024_d0_w32, k0_pay31 v32⟩)
        -∗ wp frame (wpE (defs₀ (F := F)) 𝒱₀ (c : Thread nD τ) none) Set.univ (P7 (F := F) c v2 (SemArray.scalar (sig.barrier 0 rfl)) v30 v32 (mS c) (rs I c (snd0 c) (mS c) 0) (rs I c (snd0 c) (mS c) 1) (rs I c (snd0 c) (mS c) 2) (rs I c (snd0 c) (mS c) 3) (rs I c (snd0 c) (mS c) 4) (rs I c (snd0 c) (mS c) 5) (rs I c (snd0 c) (mS c) 6) (qH I c (snd0 c) 7)) Q) := by
  have hv : k0_pay30 (subA 512 1152 (snd0 c) 0 (putA (snd0 c) 1024 (putA (snd0 c) 896 (putA (snd0 c) 768 (putA (snd0 c) 640 (putA (snd0 c) 512 (putA (snd0 c) 384 (putA (snd0 c) 256 (putA (snd0 c) 128 (putA (snd0 c) 0 fac (hd I c (snd0 c) (mS c) 0)) (hd I c (snd0 c) (mS c) 1)) (hd I c (snd0 c) (mS c) 2)) (hd I c (snd0 c) (mS c) 3)) (hd I c (snd0 c) (mS c) 4)) (hd I c (snd0 c) (mS c) 5)) (hd I c (snd0 c) (mS c) 6)) (hd I c (snd0 c) (mS c) 7)) (rsAll I c (snd0 c) (mS c)))) = (vals I).l0 (px 1 c) := by
    rw [band_put I c (snd0 c) (mS c) (snd0_le c) fac]
    show _ = k0_pay30 (band I (px 1 (px 1 c)) (snd0 (px 1 (px 1 c))) (mS (px 1 (px 1 c))))
    rw [px_px]
  exact p7 (vals I) K c v2 (SemArray.scalar (sig.barrier 0 rfl)) v30 v32 (mS c) (rs I c (snd0 c) (mS c) 0) (rs I c (snd0 c) (mS c) 1) (rs I c (snd0 c) (mS c) 2) (rs I c (snd0 c) (mS c) 3) (rs I c (snd0 c) (mS c) 4) (rs I c (snd0 c) (mS c) 5) (rs I c (snd0 c) (mS c) 6) (qH I c (snd0 c) 7) (I.k c) (I.v c) (putA (snd0 c) 768 (putA (snd0 c) 640 (putA (snd0 c) 512 (putA (snd0 c) 384 (putA (snd0 c) 256 (putA (snd0 c) 128 (putA (snd0 c) 0 fac (hd I c (snd0 c) (mS c) 0)) (hd I c (snd0 c) (mS c) 1)) (hd I c (snd0 c) (mS c) 2)) (hd I c (snd0 c) (mS c) 3)) (hd I c (snd0 c) (mS c) 4)) (hd I c (snd0 c) (mS c) 5)) (hd I c (snd0 c) (mS c) 6)) fs rfl hv

theorem e9 (c : Dev nD) (v32 : BitVec 32) (fac : S1024x1152.Idx → Elt F .f32) {Q : (Σ' (v325 : IVec S512x1024 1) (v337 : FVec F S512x1 .f32) (v345 : Vec F S512x128 .bf16) (v347 : FVec F S1024x128 .bf16), Vec F S1024x128 .bf16) → sProp 𝕄} :
    iprop(qP c (qb I c) ∗ kP c (I.k c) ∗ vP c (I.v c) ∗ acP c fac) ⊢ iprop(((qP c (qb I c) ∗ kP c (I.k c) ∗ vP c (I.v c) ∗ acP c (putA (kp0 c) 0 fac (hd I c (kp0 c) (mK c) 0))) -∗ Q ⟨mK c, (rs I c (kp0 c) (mK c) 0), qH I c (kp0 c) 1, k0_pay41 (kH I c 1), vH I c 1⟩)
      -∗ wp frame (wpE (defs₀ (F := F)) 𝒱₀ (c : Thread nD τ) none) Set.univ (P9 (F := F) c v32 (k0_pay32 (iota .tc S512x1024 32 [0] iota_S512x1024_d0_w32) (k0_pay31 (Scalar.muli (Scalar.andi (W2 c) 1#32) 512#32))) (Scalar.muli (W2 c) 16#32) k0_pay33 k0_pay34 k0_pay35 k0_pay36) Q) :=
  p9 c v32 (k0_pay32 (iota .tc S512x1024 32 [0] iota_S512x1024_d0_w32) (k0_pay31 (Scalar.muli (Scalar.andi (W2 c) 1#32) 512#32))) (Scalar.muli (W2 c) 16#32) k0_pay33 k0_pay34 k0_pay35 k0_pay36 (qb I c) (I.k c) (I.v c) fac

theorem e10 (c : Dev nD) (v32 : BitVec 32) (fac : S1024x1152.Idx → Elt F .f32) {Q : (Σ' (v355 : FVec F S512x1 .f32) (v373 : FVec F S512x1 .f32) (v381 : Vec F S512x128 .bf16) (v383 : FVec F S1024x128 .bf16) (v385 : FVec F S1024x128 .bf16), FVec F S512x1024 .f32) → sProp 𝕄} :
    iprop(qP c (qb I c) ∗ kP c (I.k c) ∗ vP c (I.v c) ∗ acP c fac) ⊢ iprop(((qP c (qb I c) ∗ kP c (I.k c) ∗ vP c (I.v c) ∗ acP c (putA (kp0 c) 256 (putA (kp0 c) 128 fac (hd I c (kp0 c) (mK c) 1)) (hd I c (kp0 c) (mK c) 2))) -∗ Q ⟨(rs I c (kp0 c) (mK c) 1), (rs I c (kp0 c) (mK c) 2), qH I c (kp0 c) 3, k0_pay48 (kH I c 3), k0_pay49 (vH I c 3), constant S512x1024 .f32 0x00000000#32⟩)
      -∗ wp frame (wpE (defs₀ (F := F)) 𝒱₀ (c : Thread nD τ) none) Set.univ (P10 (F := F) c v32 (mK c) (qH I c (kp0 c) 1) (k0_pay41 (kH I c 1)) (vH I c 1)) Q) :=
  p10 c v32 (mK c) (qH I c (kp0 c) 1) (k0_pay41 (kH I c 1)) (vH I c 1) (qb I c) (I.k c) (I.v c) fac

theorem e11 (c : Dev nD) (v32 : BitVec 32) (fac : S1024x1152.Idx → Elt F .f32) {Q : (Σ' (v391 : FVec F S512x1 .f32) (v409 : FVec F S512x1 .f32) (v421 : FVec F S1024x128 .bf16), FVec F S512x1024 .f32) → sProp 𝕄} :
    iprop(qP c (qb I c) ∗ kP c (I.k c) ∗ vP c (I.v c) ∗ acP c fac) ⊢ iprop(((qP c (qb I c) ∗ kP c (I.k c) ∗ vP c (I.v c) ∗ acP c (putA (kp0 c) 512 (putA (kp0 c) 384 fac (hd I c (kp0 c) (mK c) 3)) (hd I c (kp0 c) (mK c) 4))) -∗ Q ⟨(rs I c (kp0 c) (mK c) 3), (rs I c (kp0 c) (mK c) 4), k0_pay56 (vH I c 5), (k0_pay57 (qH I c (kp0 c) 5) (kH I c 5))⟩)
      -∗ wp frame (wpE (defs₀ (F := F)) 𝒱₀ (c : Thread nD τ) none) Set.univ (P11 (F := F) c v32 (mK c) (qH I c (kp0 c) 3) (k0_pay48 (kH I c 3)) (k0_pay49 (vH I c 3)) (constant S512x1024 .f32 0x00000000#32)) Q) :=
  p11 c v32 (mK c) (qH I c (kp0 c) 3) (k0_pay48 (kH I c 3)) (k0_pay49 (vH I c 3)) (constant S512x1024 .f32 0x00000000#32) (qb I c) (I.k c) (I.v c) fac

theorem e12 (c : Dev nD) (v32 : BitVec 32) (fac : S1024x1152.Idx → Elt F .f32) {Q : (Σ' (v427 : FVec F S512x1 .f32) (v445 : FVec F S512x1 .f32) (v457 : FVec F S1024x128 .bf16) (v459 : FVec F S512x1024 .f32), FVec F S512x1024 .f32) → sProp 𝕄} :
    iprop(qP c (qb I c) ∗ kP c (I.k c) ∗ vP c (I.v c) ∗ acP c fac) ⊢ iprop(((qP c (qb I c) ∗ kP c (I.k c) ∗ vP c (I.v c) ∗ acP c (putA (kp0 c) 768 (putA (kp0 c) 640 fac (hd I c (kp0 c) (mK c) 5)) (hd I c (kp0 c) (mK c) 6))) -∗ Q ⟨(rs I c (kp0 c) (mK c) 5), (rs I c (kp0 c) (mK c) 6), k0_pay64 (vH I c 7), (k0_pay65 (qH I c (kp0 c) 7) (kH I c 7)), k0_pay66 (F := F)⟩)
      -∗ wp frame (wpE (defs₀ (F := F)) 𝒱₀ (c : Thread nD τ) none) Set.univ (P12 (F := F) c v32 (mK c) (k0_pay56 (vH I c 5)) (k0_pay57 (qH I c (kp0 c) 5) (kH I c 5))) Q) :=
  p12 c v32 (mK c) (k0_pay56 (vH I c 5)) (k0_pay57 (qH I c (kp0 c) 5) (kH I c 5)) (qb I c) (I.k c) (I.v c) fac

theorem e13 (K : Dev nD × Fin 19 → ℕ) (c : Dev nD) (v2 : BitVec 32) (v32 : BitVec 32) (v255 : BitVec 32) (fac : S1024x1152.Idx → Elt F .f32) {Q : (Σ' (v494 : BitVec 32), BitVec 32) → sProp 𝕄} :
    iprop(recs (vals I) K ∗ levAts L lv ∗ qP c (qb I c) ∗ kP c (I.k c) ∗ vP c (I.v c) ∗ acP c (putA (kp0 c) 768 (putA (kp0 c) 640 (putA (kp0 c) 512 (putA (kp0 c) 384 (putA (kp0 c) 256 (putA (kp0 c) 128 (putA (kp0 c) 0 fac (hd I c (kp0 c) (mK c) 0)) (hd I c (kp0 c) (mK c) 1)) (hd I c (kp0 c) (mK c) 2)) (hd I c (kp0 c) (mK c) 3)) (hd I c (kp0 c) (mK c) 4)) (hd I c (kp0 c) (mK c) 5)) (hd I c (kp0 c) (mK c) 6)) ∗ OW c (pays.drop 5) ∗ cred (tallyAt (kcell c 9) () n512) ∗ atPos ER (kcell c 9) 0 ∅ 0)
      ⊢ iprop((∀ a b, (qP c (qb I c) ∗ kP c (I.k c) ∗ vP c (I.v c) ∗ (∃ g, acP c (putA (kp0 c) 0 g (sum1 I c))) ∗ OW c (pays.drop 5) ∗ atPos ER (kcell c 9) 1 ∅ 0 ∗ l0P c (land0 I c) ∗ (∃ f, abP (px 1 c) (rows (kp0 c) 512) fullShare f))
          -∗ Q ⟨a, b⟩)
        -∗ wp frame (wpE (defs₀ (F := F)) 𝒱₀ (c : Thread nD τ) none) Set.univ (P13 (F := F) c v2 v32 v255 (mK c) (rs I c (kp0 c) (mK c) 0) (rs I c (kp0 c) (mK c) 1) (rs I c (kp0 c) (mK c) 2) (rs I c (kp0 c) (mK c) 3) (rs I c (kp0 c) (mK c) 4) (rs I c (kp0 c) (mK c) 5) (rs I c (kp0 c) (mK c) 6) (k0_pay64 (vH I c 7)) (k0_pay65 (qH I c (kp0 c) 7) (kH I c 7)) (k0_pay66 (F := F))) Q) := by
  have hg : k0_pay70 (subA 512 1152 (kp0 c) 0 (putA (kp0 c) 1024 (putA (kp0 c) 896 (putA (kp0 c) 768 (putA (kp0 c) 640 (putA (kp0 c) 512 (putA (kp0 c) 384 (putA (kp0 c) 256 (putA (kp0 c) 128 (putA (kp0 c) 0 fac (hd I c (kp0 c) (mK c) 0)) (hd I c (kp0 c) (mK c) 1)) (hd I c (kp0 c) (mK c) 2)) (hd I c (kp0 c) (mK c) 3)) (hd I c (kp0 c) (mK c) 4)) (hd I c (kp0 c) (mK c) 5)) (hd I c (kp0 c) (mK c) 6)) (hd I c (kp0 c) (mK c) 7)) (rsAll I c (kp0 c) (mK c)))) ((vals I).l0 c) = sum1 I c := by
    rw [band_put I c (kp0 c) (mK c) (kp0_le c) fac]; rfl
  iintro ⟨#HR, #HL, Hq, HK, Hv, Hac, HO, HC, HA⟩ Hk
  iapply (p13 (vals I) K c v2 v32 v255 (mK c) (rs I c (kp0 c) (mK c) 0) (rs I c (kp0 c) (mK c) 1) (rs I c (kp0 c) (mK c) 2) (rs I c (kp0 c) (mK c) 3) (rs I c (kp0 c) (mK c) 4) (rs I c (kp0 c) (mK c) 5) (rs I c (kp0 c) (mK c) 6) (k0_pay64 (vH I c 7)) (k0_pay65 (qH I c (kp0 c) 7) (kH I c 7)) (k0_pay66 (F := F)) (qb I c) (I.k c) (I.v c) (putA (kp0 c) 768 (putA (kp0 c) 640 (putA (kp0 c) 512 (putA (kp0 c) 384 (putA (kp0 c) 256 (putA (kp0 c) 128 (putA (kp0 c) 0 fac (hd I c (kp0 c) (mK c) 0)) (hd I c (kp0 c) (mK c) 1)) (hd I c (kp0 c) (mK c) 2)) (hd I c (kp0 c) (mK c) 3)) (hd I c (kp0 c) (mK c) 4)) (hd I c (kp0 c) (mK c) 5)) (hd I c (kp0 c) (mK c) 6))) $$ [Hq HK Hv Hac HO HC HA]
  · isplitr; · iexact HR
    isplitr; · iexact HL
    isplitl [Hq]; · iexact Hq
    isplitl [HK]; · iexact HK
    isplitl [Hv]; · iexact Hv
    isplitl [Hac]; · iexact Hac
    isplitl [HO]; · iexact HO
    isplitl [HC]; · iexact HC
    iexact HA
  iintro ⟨Hq, HK, Hv, Hac, HO, HA, Hl, HG⟩
  have hac : acP c (putA (kp0 c) 0 (putA (kp0 c) 1024 (putA (kp0 c) 896 (putA (kp0 c) 768 (putA (kp0 c) 640 (putA (kp0 c) 512 (putA (kp0 c) 384 (putA (kp0 c) 256 (putA (kp0 c) 128 (putA (kp0 c) 0 fac (hd I c (kp0 c) (mK c) 0)) (hd I c (kp0 c) (mK c) 1)) (hd I c (kp0 c) (mK c) 2)) (hd I c (kp0 c) (mK c) 3)) (hd I c (kp0 c) (mK c) 4)) (hd I c (kp0 c) (mK c) 5)) (hd I c (kp0 c) (mK c) 6)) (hd I c (kp0 c) (mK c) 7)) (rsAll I c (kp0 c) (mK c))) (k0_pay70 (subA 512 1152 (kp0 c) 0 (putA (kp0 c) 1024 (putA (kp0 c) 896 (putA (kp0 c) 768 (putA (kp0 c) 640 (putA (kp0 c) 512 (putA (kp0 c) 384 (putA (kp0 c) 256 (putA (kp0 c) 128 (putA (kp0 c) 0 fac (hd I c (kp0 c) (mK c) 0)) (hd I c (kp0 c) (mK c) 1)) (hd I c (kp0 c) (mK c) 2)) (hd I c (kp0 c) (mK c) 3)) (hd I c (kp0 c) (mK c) 4)) (hd I c (kp0 c) (mK c) 5)) (hd I c (kp0 c) (mK c) 6)) (hd I c (kp0 c) (mK c) 7)) (rsAll I c (kp0 c) (mK c)))) ((vals I).l0 c))) ⊢ (acP c (putA (kp0 c) 0 (putA (kp0 c) 1024 (putA (kp0 c) 896 (putA (kp0 c) 768 (putA (kp0 c) 640 (putA (kp0 c) 512 (putA (kp0 c) 384 (putA (kp0 c) 256 (putA (kp0 c) 128 (putA (kp0 c) 0 fac (hd I c (kp0 c) (mK c) 0)) (hd I c (kp0 c) (mK c) 1)) (hd I c (kp0 c) (mK c) 2)) (hd I c (kp0 c) (mK c) 3)) (hd I c (kp0 c) (mK c) 4)) (hd I c (kp0 c) (mK c) 5)) (hd I c (kp0 c) (mK c) 6)) (hd I c (kp0 c) (mK c) 7)) (rsAll I c (kp0 c) (mK c))) (sum1 I c)) : sProp 𝕄) := by rw [hg]
  iapply Hk
  isplitl [Hq]; · iexact Hq
  isplitl [HK]; · iexact HK
  isplitl [Hv]; · iexact Hv
  isplitl [Hac]
  · iexists _
    iapply hac
    iexact Hac
  isplitl [HO]; · iexact HO
  isplitl [HA]; · iexact HA
  isplitl [Hl]; · iexact Hl
  iexact HG

theorem sub1s (c : Dev nD) (g : S1024x1152.Idx → Elt F .f32) : subA 256 1152 (snd1 c) 0 (putA (kp0 c) 0 g (sum1 I c)) = subA 256 1152 ((1 - b2 c) * 256) 0 (sum1 I c) := by
  have h1 : kp0 c ≤ snd1 c := by unfold kp0 snd1; omega
  have h2 : snd1 c + 256 ≤ kp0 c + 512 := by unfold kp0 snd1; omega
  rw [subA_putA_in (N := 1024) (M := 1152) (n := 512) (n' := 256) h1 h2 (kp0_le c), show snd1 c - kp0 c = (1 - b2 c) * 256 by unfold kp0 snd1; omega]
theorem sub1k (c : Dev nD) (g : S1024x1152.Idx → Elt F .f32) : subA 256 1152 (kp1 c) 0 (putA (kp0 c) 0 g (sum1 I c)) = subA 256 1152 (b2 c * 256) 0 (sum1 I c) := by
  have h0 : b2 c < 2 := Nat.mod_lt _ (by decide)
  have h1 : kp0 c ≤ kp1 c := by unfold kp0 kp1; omega
  have h2 : kp1 c + 256 ≤ kp0 c + 512 := by unfold kp0 kp1; omega
  rw [subA_putA_in (N := 1024) (M := 1152) (n := 512) (n' := 256) h1 h2 (kp0_le c), show kp1 c - kp0 c = b2 c * 256 by unfold kp0 kp1; omega]
theorem sub2s (c : Dev nD) (g : S1024x1152.Idx → Elt F .f32) : subA 128 1152 (snd2 c) 0 (putA (kp1 c) 0 g (sum2 I c)) = subA 128 1152 ((1 - b1 c) * 128) 0 (sum2 I c) := by
  have h1 : kp1 c ≤ snd2 c := by unfold kp1 snd2; omega
  have h2 : snd2 c + 128 ≤ kp1 c + 256 := by unfold kp1 snd2; omega
  rw [subA_putA_in (N := 1024) (M := 1152) (n := 256) (n' := 128) h1 h2 (kp1_le c), show snd2 c - kp1 c = (1 - b1 c) * 128 by unfold kp1 snd2; omega]
theorem sub2k (c : Dev nD) (g : S1024x1152.Idx → Elt F .f32) : subA 128 1152 (reg c) 0 (putA (kp1 c) 0 g (sum2 I c)) = subA 128 1152 (b1 c * 128) 0 (sum2 I c) := by
  have h0 : b1 c < 2 := Nat.mod_lt _ (by decide)
  have h1 : kp1 c ≤ reg c := by unfold kp1 reg; omega
  have h2 : reg c + 128 ≤ kp1 c + 256 := by unfold kp1 reg; omega
  rw [subA_putA_in (N := 1024) (M := 1152) (n := 256) (n' := 128) h1 h2 (kp1_le c), show reg c - kp1 c = b1 c * 128 by unfold kp1 reg; omega]
theorem sub3 (c : Dev nD) (g : S1024x1152.Idx → Elt F .f32) : subA 128 1152 (reg c) 0 (putA (reg c) 0 g (sum3 I c)) = sum3 I c := by
  rw [subA_putA_in (N := 1024) (M := 1152) (n := 128) (n' := 128) le_rfl le_rfl (reg_le c), Nat.sub_self, subA_full]

theorem e14 (K : Dev nD × Fin 19 → ℕ) (c : Dev nD) (v2 : BitVec 32) (v494 : BitVec 32) (v498 : BitVec 32) (g : S1024x1152.Idx → Elt F .f32) (fs : S1024x1152.Idx → Elt F .bf16)
    {Q : (Σ' (v528 : BitVec 32) (v531 : BitVec 32), BitVec 32) → sProp 𝕄} :
    iprop(recs (vals I) K ∗ levAts L lv ∗ acP c (putA (kp0 c) 0 g (sum1 I c)) ∗ abP c (rows (snd1 c) 256) fullShare fs ∗ OW c (pays.drop 5) ∗ cred (tallyAt (kcell c 1) () n512) ∗ atPos ER (kcell c 1) 0 ∅ 0 ∗ (∃ f, l1P (px 4 c) f) ∗ dutyTok ER (kcell c 1) 1 0 ∗ dutyTok ER (kcell (px 4 c) 10) 0 0 ∗ cred (tallyAt (kcell c 10) () n256) ∗ atPos ER (kcell c 10) 0 ∅ 0)
      ⊢ iprop(((acP c (putA (kp1 c) 0 (putA (kp0 c) 0 g (sum1 I c)) (sum2 I c)) ∗ OW c (pays.drop 6) ∗ atPos ER (kcell c 1) 1 ∅ 0 ∗ atPos ER (kcell c 10) 1 ∅ 0 ∗ reached ER (kcell c 1) 1 ∗ cred (tallyAt (kcell c 1) () n256) ∗ l1P c (land1 I c) ∗ (∃ f, abP (px 4 c) (rows (kp1 c) 256) fullShare f))
          -∗ Q ⟨(Scalar.andi (Scalar.shrsi v2 1#32 : BitVec 32) 1#32 : BitVec 32), ((Scalar.addi v494 (Scalar.muli (Scalar.andi (Scalar.shrsi v2 1#32 : BitVec 32) 1#32 : BitVec 32) 128#32 : BitVec 32) : BitVec 32) : BitVec 32), 1#32⟩)
        -∗ wp frame (wpE (defs₀ (F := F)) 𝒱₀ (c : Thread nD τ) none) Set.univ (P14 (F := F) c v2 v494 v498) Q) := by
  have h := p14 (vals I) K c v2 v494 v498 (putA (kp0 c) 0 g (sum1 I c)) fs
    (by rw [sub1s]; show out1 I c = out1 I (px 4 (px 4 c)); rw [px_px]) (Q := Q)
  rw [sub1k I c g, show k0_pay72 (subA 256 1152 (b2 c * 256) 0 (sum1 I c)) ((vals I).l1 c) = sum2 I c from rfl] at h
  exact h

theorem e15 (K : Dev nD × Fin 19 → ℕ) (c : Dev nD) (v2 : BitVec 32) (v494 : BitVec 32) (v528 : BitVec 32) (v531 : BitVec 32) (c1_i32_251 : BitVec 32) (g : S1024x1152.Idx → Elt F .f32) (fs : S1024x1152.Idx → Elt F .bf16)
    {Q : (Σ' (v564 : BitVec 32), Vec F S128x1152 .f32) → sProp 𝕄} :
    iprop(recs (vals I) K ∗ levAts L lv ∗ acP c (putA (kp1 c) 0 g (sum2 I c)) ∗ abP c (rows (snd2 c) 128) fullShare fs ∗ OW c (pays.drop 6) ∗ cred (tallyAt (kcell c 1) () n256) ∗ atPos ER (kcell c 1) 1 ∅ 0 ∗ (∃ f, l2P (px 2 c) f) ∗ dutyTok ER (kcell c 1) 2 0 ∗ dutyTok ER (kcell (px 2 c) 11) 0 0 ∗ cred (tallyAt (kcell c 11) () n128) ∗ atPos ER (kcell c 11) 0 ∅ 0)
      ⊢ iprop(((acP c (putA (reg c) 0 (putA (kp1 c) 0 g (sum2 I c)) (sum3 I c)) ∗ OW c (pays.drop 7) ∗ atPos ER (kcell c 1) 2 ∅ 0 ∗ atPos ER (kcell c 11) 1 ∅ 0 ∗ reached ER (kcell c 1) 2 ∗ cred (tallyAt (kcell c 1) () n128) ∗ l2P c (land2 I c) ∗ (∃ f, abP (px 2 c) (rows (reg c) 128) fullShare f))
          -∗ Q ⟨(v531 : BitVec 32), (sum3 I c)⟩)
        -∗ wp frame (wpE (defs₀ (F := F)) 𝒱₀ (c : Thread nD τ) none) Set.univ (P15 (F := F) c v2 v494 v528 v531 c1_i32_251) Q) := by
  have h := p15 (vals I) K c v2 v494 v528 v531 c1_i32_251 (putA (kp1 c) 0 g (sum2 I c)) fs
    (by rw [sub2s]; show out2 I c = out2 I (px 2 (px 2 c)); rw [px_px]) (Q := Q)
  rw [sub2k I c g, show k0_pay74 (subA 128 1152 (b1 c * 128) 0 (sum2 I c)) ((vals I).l2 c) = sum3 I c from rfl, sub3] at h
  exact h

theorem e16 (K : Dev nD × Fin 19 → ℕ) (c : Dev nD) (v2 : BitVec 32) (v564 : BitVec 32) (g : S1024x1152.Idx → Elt F .f32) (fs : S1024x1152.Idx → Elt F .bf16)
    {Q : (Σ' (v595 : BitVec 32), BitVec 32) → sProp 𝕄} :
    iprop(recs (vals I) K ∗ levAts L lv ∗ acP c (putA (reg c) 0 g (sum3 I c)) ∗ abP c (rows (reg c) 128) fullShare fs ∗ OW c (pays.drop 7) ∗ cred (tallyAt (kcell c 1) () n128) ∗ atPos ER (kcell c 1) 2 ∅ 0 ∗ (∃ f, l3P (px 8 c) f) ∗ dutyTok ER (kcell c 1) 3 0 ∗ dutyTok ER (kcell (px 8 c) 12) 0 0 ∗ cred (tallyAt (kcell c 12) () n128) ∗ atPos ER (kcell c 12) 0 ∅ 0)
      ⊢ iprop(((acP c (putA (reg c) 0 g (sum3 I c)) ∗ OW c (pays.drop 8) ∗ atPos ER (kcell c 1) 4 ∅ 0 ∗ atPos ER (kcell c 12) 1 ∅ 0 ∗ reached ER (kcell c 1) 3 ∗ l3P c (land3 I c) ∗ reached ER (kcell c 1) 4 ∗ abP c (rows (reg c) 128) fullShare (AB I c))
          -∗ Q ⟨(Scalar.xori v2 2#32 : BitVec 32), (Scalar.muli (Scalar.andi (Scalar.xori v2 2#32 : BitVec 32) 1#32 : BitVec 32) 512#32 : BitVec 32)⟩)
        -∗ wp frame (wpE (defs₀ (F := F)) 𝒱₀ (c : Thread nD τ) none) Set.univ (P16 (F := F) c v2 v564 (sum3 I c)) Q) := by
  exact p16 (vals I) K c v2 v564 (sum3 I c) (putA (reg c) 0 g (sum3 I c)) fs
    (by show k0_pay75 (sum3 I c) = k0_pay75 (sum3 I (px 8 (px 8 c))); rw [px_px]) (by rw [sub3]; rfl) (Q := Q)

end Cert.KernelIdealProof
-- ==== Proof.KI.Rest.lean ====
/-
The parts of the body without arithmetic on the buffers, the first part, and the last waits.
-/
module

public import proofs.«01_k».proof.Proof.KI.Outs
public import proofs.«01_k».proof.Proof.KI.Bands

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

theorem pay_0 (V : Vals F) (c : Dev nD) : (iprop(∃ f, l0P c f) : sProp 𝕄) ⊢ payK V (px 1 c) 0 0 0 := by
  show (iprop(∃ f, l0P c f) : sProp 𝕄) ⊢ iprop(∃ f, l0P (px 1 (px 1 c)) f)
  rw [px_px]
theorem pay_1 (V : Vals F) (c : Dev nD) : (iprop(∃ f, l2P c f) : sProp 𝕄) ⊢ payK V (px 2 c) 0 0 1 := by
  show (iprop(∃ f, l2P c f) : sProp 𝕄) ⊢ iprop(∃ f, l2P (px 2 (px 2 c)) f)
  rw [px_px]
theorem pay_2 (V : Vals F) (c : Dev nD) : (iprop(∃ f, l1P c f) : sProp 𝕄) ⊢ payK V (px 4 c) 0 0 2 := by
  show (iprop(∃ f, l1P c f) : sProp 𝕄) ⊢ iprop(∃ f, l1P (px 4 (px 4 c)) f)
  rw [px_px]
theorem pay_3 (V : Vals F) (c : Dev nD) : (iprop(∃ f, l3P c f) : sProp 𝕄) ⊢ payK V (px 8 c) 0 0 3 := by
  show (iprop(∃ f, l3P c f) : sProp 𝕄) ⊢ iprop(∃ f, l3P (px 8 (px 8 c)) f)
  rw [px_px]

/-- Part 1 of the body, over the buffers of the call: the barrier's signals and the query projection. -/
abbrev P1 : Prog (TpuEff nD τ sig (Elt F) Λ₀ .tc) (Σ' (d0 : Dev nD) (v2 : BitVec 32) (v3 : Sems sig S_), BitVec 32) :=
  k0_part1 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9
theorem p1 (K : Dev nD × Fin 19 → ℕ) (c : Dev nD) (fq : S1024x1024.Idx → Elt F .bf16) {Q : (Σ' (d0 : Dev nD) (v2 : BitVec 32) (v3 : Sems sig S_), BitVec 32) → sProp 𝕄} :
    iprop(recs (vals I) K ∗ levAts L lv ∗ OW c pays ∗ (∃ f, l0P c f) ∗ (∃ f, l2P c f) ∗ (∃ f, l1P c f) ∗ (∃ f, l3P c f) ∗ dutyTok ER (kcell (px 1 c) 0) 0 0 ∗ dutyTok ER (kcell (px 2 c) 0) 0 1 ∗ dutyTok ER (kcell (px 4 c) 0) 0 2 ∗ dutyTok ER (kcell (px 8 c) 0) 0 3 ∗ xP c (I.x c) ∗ wqP c (I.wq c) ∗ qP c fq)
      ⊢ iprop(((OW c (pays.drop 4) ∗ xP c (I.x c) ∗ wqP c (I.wq c) ∗ qP c (qb I c)) -∗ Q ⟨c, W2 c, SemArray.scalar (sig.barrier 0 rfl), 1#32⟩)
        -∗ wp frame (wpE (defs₀ (F := F)) 𝒱₀ (c : Thread nD τ) none) Set.univ (P1 (F := F)) Q) := by
  unfold W2
  iintro ⟨#HR, #HL, HO, H0, H1, H2, H3, HT0, HT1, HT2, HT3, Hx, Hw, Hq⟩ Hk
  unfold P1
  rw [k0_part1_eq_skeleton]
  unfold k0_part1_skel
  simp only [semSignalWord, semWaitWord, Prog.lift, Prog.bind_op, Prog.bind_ret, Prog.pure_eq_ret, wp_deviceId]
  ihave H0 := (pay_0 (vals I) c) $$ H0
  iapply (st_signal (vals I) K c _ 1 (dev1_eq c) 0 rfl (by decide +kernel) (pays.drop 1) rfl) $$ [HO HT0 H0]
  · isplitr; · iexact HR
    isplitl [HO]; · iexact HO
    isplitl [HT0]; · iexact HT0
    iexact H0
  iintro HO
  ihave H1 := (pay_1 (vals I) c) $$ H1
  iapply (st_signal (vals I) K c _ 2 (dev2_eq c) 1 rfl (by decide +kernel) (pays.drop 2) rfl) $$ [HO HT1 H1]
  · isplitr; · iexact HR
    isplitl [HO]; · iexact HO
    isplitl [HT1]; · iexact HT1
    iexact H1
  iintro HO
  ihave H2 := (pay_2 (vals I) c) $$ H2
  iapply (st_signal (vals I) K c _ 4 (dev3_eq c) 2 rfl (by decide +kernel) (pays.drop 3) rfl) $$ [HO HT2 H2]
  · isplitr; · iexact HR
    isplitl [HO]; · iexact HO
    isplitl [HT2]; · iexact HT2
    iexact H2
  iintro HO
  ihave H3 := (pay_3 (vals I) c) $$ H3
  iapply (st_signal (vals I) K c _ 8 (dev4_eq c) 3 rfl (by decide +kernel) (pays.drop 4) rfl) $$ [HO HT3 H3]
  · isplitr; · iexact HR
    isplitl [HO]; · iexact HO
    isplitl [HT3]; · iexact HT3
    iexact H3
  iintro HO
  iapply (ldw_x c) $$ Hx; iintro Hx
  iapply (ldw_wq c) $$ Hw; iintro Hw
  iapply (ldw_q c) $$ Hq; iintro Hq
  iapply (stw_q c) $$ Hq; iintro Hq
  rw [wp_ret]
  imodintro
  iapply Hk
  isplitl [HO]; · iexact HO
  isplitl [Hx]; · iexact Hx
  isplitl [Hw]; · iexact Hw
  iexact Hq

/-- Part 2 of the body, over the buffers of the call. -/
abbrev P2 (v2 c1 : BitVec 32) : Prog (TpuEff nD τ sig (Elt F) Λ₀ .tc) (Σ' (v30 : BitVec 32) (v32 : BitVec 32) (v36 : IVec S512x1024 32) (v60 : IVec S512x1024 32) (v61 : BitVec 32) (c64_i32_28 : BitVec 32) (v63 : IVec S512x1024 32) (v70 : IVec S512x1024 32), BitVec 1) :=
  k0_part2 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 v2 c1
theorem p2 (c : Dev nD) (v2 c1 : BitVec 32) {Q : (Σ' (v30 : BitVec 32) (v32 : BitVec 32) (v36 : IVec S512x1024 32) (v60 : IVec S512x1024 32) (v61 : BitVec 32) (c64_i32_28 : BitVec 32) (v63 : IVec S512x1024 32) (v70 : IVec S512x1024 32), BitVec 1) → sProp 𝕄} :
    Q ⟨Scalar.muli (Scalar.subi 1#32 (Scalar.andi v2 c1)) 512#32, Scalar.muli (Scalar.andi v2 c1) 512#32, iota .tc S512x1024 32 [1] iota_S512x1024_d1_w32, k0_pay2 v2 c1, Scalar.muli v2 16#32, 64#32, k0_pay3, k0_pay4, Scalar.cmpi .sgt 64#32 0#32⟩ ⊢ wp frame (wpE (defs₀ (F := F)) 𝒱₀ (c : Thread nD τ) none) Set.univ (P2 (F := F) v2 c1) Q := by
  iintro H
  unfold P2
  rw [k0_part2_eq_skeleton]
  unfold k0_part2_skel
  simp only [Prog.pure_eq_ret]
  rw [wp_ret]
  imodintro
  iexact H

/-- Part 8 of the body, over the buffers of the call. -/
abbrev P8 (v2 : BitVec 32) (v261 v262 : IVec S512x1024 32) : Prog (TpuEff nD τ sig (Elt F) Λ₀ .tc) (Σ' (v288 : IVec S512x1024 32) (v289 : BitVec 32) (v291 : IVec S512x1024 32) (v305 : IVec S512x1024 1) (v307 : IVec S512x1024 32), IVec S512x1024 32) :=
  k0_part8 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 v2 v261 v262
theorem p8 (c : Dev nD) (v2 : BitVec 32) (v261 v262 : IVec S512x1024 32) {Q : (Σ' (v288 : IVec S512x1024 32) (v289 : BitVec 32) (v291 : IVec S512x1024 32) (v305 : IVec S512x1024 1) (v307 : IVec S512x1024 32), IVec S512x1024 32) → sProp 𝕄} :
    Q ⟨k0_pay32 v261 v262, Scalar.muli v2 16#32, k0_pay33, k0_pay34, k0_pay35, k0_pay36⟩ ⊢ wp frame (wpE (defs₀ (F := F)) 𝒱₀ (c : Thread nD τ) none) Set.univ (P8 (F := F) v2 v261 v262) Q := by
  iintro H
  unfold P8
  rw [k0_part8_eq_skeleton]
  unfold k0_part8_skel
  simp only [Prog.pure_eq_ret]
  rw [wp_ret]
  imodintro
  iexact H

/-- Part 17 of the body, over the buffers of the call. -/
abbrev P17 (v2 v595 v597 : BitVec 32) : Prog (TpuEff nD τ sig (Elt F) Λ₀ .tc) (Σ' (v606 : BitVec 32) (v618 : BitVec 32) (v631 : BitVec 32), BitVec 32) :=
  k0_part17 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 v2 v595 v597
theorem p17 (c : Dev nD) (v2 v595 v597 : BitVec 32) {Q : (Σ' (v606 : BitVec 32) (v618 : BitVec 32) (v631 : BitVec 32), BitVec 32) → sProp 𝕄} :
    iprop(∀ a b d e, Q ⟨a, b, d, e⟩) ⊢ wp frame (wpE (defs₀ (F := F)) 𝒱₀ (c : Thread nD τ) none) Set.univ (P17 (F := F) v2 v595 v597) Q := by
  iintro H
  unfold P17
  rw [k0_part17_eq_skeleton]
  unfold k0_part17_skel
  simp only [Prog.pure_eq_ret]
  rw [wp_ret]
  imodintro
  iapply H

/-- Part 18 of the body, over the buffers of the call. -/
abbrev P18 (v2 c1 : BitVec 32) : Prog (TpuEff nD τ sig (Elt F) Λ₀ .tc) (Σ' (v643 : BitVec 32) (v656 : BitVec 32) (v665 : BitVec 32), BitVec 32) :=
  k0_part18 (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9 v2 c1
theorem p18 (c : Dev nD) (v2 c1 : BitVec 32) {Q : (Σ' (v643 : BitVec 32) (v656 : BitVec 32) (v665 : BitVec 32), BitVec 32) → sProp 𝕄} :
    iprop(∀ a b d e, Q ⟨a, b, d, e⟩) ⊢ wp frame (wpE (defs₀ (F := F)) 𝒱₀ (c : Thread nD τ) none) Set.univ (P18 (F := F) v2 c1) Q := by
  iintro H
  unfold P18
  rw [k0_part18_eq_skeleton]
  unfold k0_part18_skel
  simp only [Prog.pure_eq_ret]
  rw [wp_ret]
  imodintro
  iapply H

/-! ## The output -/

/-- The rows of the output at `i`: the last 256 rows in one piece, the others in pieces of 128. -/
def out (ab : S1024x1152.Idx → Elt F .bf16) (wo : S1024x1024.Idx → Elt F .bf16) (l : ℕ) : S1024x1024.Idx → Elt F .f32 := fun i =>
  if l ≤ (i 0).val ∧ (i 0).val < l + 256 then o256 ab wo l (ix2 ⟨((i 0).val - l) % 256, Nat.mod_lt _ (by decide)⟩ (i 1))
  else o128 ab wo ((i 0).val / 128 * 128) (ix2 ⟨(i 0).val % 128, Nat.mod_lt _ (by decide)⟩ (i 1))

theorem out_rows (c : Dev nD) (k : Fin 8) : (lst c ≤ k.val * 128 ∧ k.val * 128 + 128 ≤ lst c + 256)
    ∨ k.val * 128 = reg c ∨ k.val * 128 = reg (px 2 c) ∨ k.val * 128 = reg (px 4 c) ∨ k.val * 128 = reg (px 6 c)
    ∨ k.val * 128 = reg (px 1 c) ∨ k.val * 128 = reg (px 3 c) := by revert c k; decide +kernel

/-- One store of 128 rows. -/
theorem out_put (ab : S1024x1152.Idx → Elt F .bf16) (wo : S1024x1024.Idx → Elt F .bf16) (l r : ℕ) (hr : r % 128 = 0) (f : S1024x1024.Idx → Elt F .f32)
    (i : S1024x1024.Idx) (hl : ¬ (l ≤ (i 0).val ∧ (i 0).val < l + 256)) (hf : (i 0).val / 128 * 128 ≠ r → f i = out ab wo l i) :
    putA r 0 f (o128 ab wo r) i = out ab wo l i := by
  have hi1 : (i 1).val < 1024 := (i 1).isLt
  by_cases h : r ≤ (i 0).val ∧ (i 0).val < r + 128
  · have e : (i 0).val / 128 * 128 = r := by omega
    have hd : (i 0).val = r + (i 0).val % 128 := by omega
    rw [putA_in (n := 128) (m := 1024) f (o128 ab wo r) i (ix2 ⟨(i 0).val % 128, Nat.mod_lt _ (by decide)⟩ (i 1)) hd (Nat.zero_add _).symm]
    unfold out
    rw [if_neg hl, e]
  · rw [putA_out (n := 128) (m := 1024) f (o128 ab wo r) i (fun hh => h hh.1)]
    exact hf (by omega)

/-- The output after the seven stores. -/
theorem out_all (I : Ins F) (c : Dev nD) (f : S1024x1024.Idx → Elt F .f32) :
    putA (lst c) 0 (putA (reg (px 3 c)) 0 (putA (reg (px 1 c)) 0 (putA (reg (px 6 c)) 0 (putA (reg (px 4 c)) 0 (putA (reg (px 2 c)) 0 (putA (reg c) 0 f
      (o128 (AB I c) (I.wo c) (reg c))) (o128 (AB I c) (I.wo c) (reg (px 2 c)))) (o128 (AB I c) (I.wo c) (reg (px 4 c)))) (o128 (AB I c) (I.wo c) (reg (px 6 c))))
      (o128 (AB I c) (I.wo c) (reg (px 1 c)))) (o128 (AB I c) (I.wo c) (reg (px 3 c)))) (o256 (AB I c) (I.wo c) (lst c))
      = out (AB I c) (I.wo c) (lst c) := by
  funext i
  have hi0 : (i 0).val < 1024 := (i 0).isLt
  by_cases hl : lst c ≤ (i 0).val ∧ (i 0).val < lst c + 256
  · have hd : (i 0).val = lst c + ((i 0).val - lst c) % 256 := by omega
    rw [putA_in (n := 256) (m := 1024) _ (o256 (AB I c) (I.wo c) (lst c)) i (ix2 ⟨((i 0).val - lst c) % 256, Nat.mod_lt _ (by decide)⟩ (i 1)) hd (Nat.zero_add _).symm]
    unfold out
    rw [if_pos hl]
  · rw [putA_out (n := 256) (m := 1024) _ (o256 (AB I c) (I.wo c) (lst c)) i (fun hh => hl hh.1)]
    refine out_put _ _ _ _ (reg_mod _) _ i hl fun h6 => ?_
    refine out_put _ _ _ _ (reg_mod _) _ i hl fun h5 => ?_
    refine out_put _ _ _ _ (reg_mod _) _ i hl fun h4 => ?_
    refine out_put _ _ _ _ (reg_mod _) _ i hl fun h3 => ?_
    refine out_put _ _ _ _ (reg_mod _) _ i hl fun h2 => ?_
    refine out_put _ _ _ _ (reg_mod _) _ i hl fun h1 => ?_
    have h := out_rows c ⟨(i 0).val / 128, by omega⟩
    simp only at h
    exfalso
    omega

/-! ## The gathered rows -/

theorem lst_eq (c : Dev nD) : snd1 (px 1 c) = lst c := by revert c; decide +kernel
theorem px26 (c : Dev nD) : px 2 (px 4 c) = px 6 c := by revert c; decide +kernel

theorem ab_split (c : Dev nD) (f : S1024x1152.Idx → Elt F .bf16) :
    (abP c Finset.univ fullShare f : sProp 𝕄) ⊢ iprop(abP c (rows (snd0 c) 512) fullShare f ∗ abP c (rows (snd1 c) 256) fullShare f
      ∗ abP c (rows (snd2 c) 128) fullShare f ∗ abP c (rows (reg c) 128) fullShare f) := by
  rw [← rows_univ]
  iintro H
  ihave H := (ab_halves c (at_kp0 c) fullShare f).1 $$ H
  icases H with ⟨H, H0⟩
  ihave H := (ab_halves c (n := 256) (at_kp1 c) fullShare f).1 $$ H
  icases H with ⟨H, H1⟩
  ihave H := (ab_halves c (n := 128) (at_reg c) fullShare f).1 $$ H
  icases H with ⟨H, H2⟩
  isplitl [H0]; · iexact H0
  isplitl [H1]; · iexact H1
  isplitl [H2]; · iexact H2
  iexact H

/-- The four blocks of the half a device keeps. -/
theorem ab_half4 (d c : Dev nD) (f : S1024x1152.Idx → Elt F .bf16) :
    (abP d (rows (kp0 c) 512) fullShare f : sProp 𝕄) ⊣⊢ iprop((abP d (rows (reg c) 128) fullShare f ∗ abP d (rows (reg (px 2 c)) 128) fullShare f)
      ∗ (abP d (rows (reg (px 4 c)) 128) fullShare f ∗ abP d (rows (reg (px 6 c)) 128) fullShare f)) := by
  have h1 := ab_halves (F := F) d (n := 256) (at_kp1 c) fullShare f
  have h2 := ab_halves (F := F) d (n := 128) (at_reg c) fullShare f
  have h3 := ab_halves (F := F) d (n := 128) (at_reg (px 4 c)) fullShare f
  rw [← reg_px2] at h2
  rw [← reg_px2, px26, kp1_px4] at h3
  exact h1.trans (sep_congr h2 h3)

theorem ab_join (c : Dev nD) (f : S1024x1152.Idx → Elt F .bf16) :
    iprop(abP c (rows (reg c) 128) fullShare f ∗ abP c (rows (reg (px 2 c)) 128) fullShare f ∗ abP c (rows (reg (px 4 c)) 128) fullShare f
      ∗ abP c (rows (reg (px 6 c)) 128) fullShare f ∗ abP c (rows (reg (px 1 c)) 128) fullShare f ∗ abP c (rows (reg (px 3 c)) 128) fullShare f
      ∗ abP c (rows (lst c) 256) fullShare f) ⊢ (abP c Finset.univ fullShare f : sProp 𝕄) := by
  have h1 := ab_halves (F := F) c (n := 256) (at_kp1 (px 1 c)) fullShare f
  have h2 := ab_halves (F := F) c (n := 128) (at_reg (px 1 c)) fullShare f
  rw [kp0_px1, lst_eq] at h1
  rw [← reg_px2, px21] at h2
  rw [← rows_univ]
  iintro ⟨H0, H2, H4, H6, H1, H3, HL⟩
  iapply (ab_halves c (at_kp0 c) fullShare f).2
  isplitl [H0 H2 H4 H6]
  · iapply (ab_half4 c c f).2
    isplitl [H0 H2]
    · isplitl [H0]; · iexact H0
      iexact H2
    isplitl [H4]; · iexact H4
    iexact H6
  iapply h1.2
  isplitl [H1 H3]
  · iapply h2.2
    isplitl [H1]; · iexact H1
    iexact H3
  iexact HL

end Cert.KernelIdealProof

end
-- ==== Proof.KI.BodyB.lean ====
/-
The body after the reduced rows are known: the all-gather and the output, block by block.
-/
module

public import proofs.«01_k».proof.Proof.KI.Rest

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The two blocks of the quarter a device keeps. -/
theorem ab_halves2 (d c : Dev nD) (f : S1024x1152.Idx → Elt F .bf16) :
    (abP d (rows (kp1 c) 256) fullShare f : sProp 𝕄) ⊣⊢ iprop(abP d (rows (reg c) 128) fullShare f ∗ abP d (rows (reg (px 2 c)) 128) fullShare f) := by
  have h2 := ab_halves (F := F) d (n := 128) (at_reg c) fullShare f
  rw [← reg_px2] at h2
  exact h2
theorem ex_ab (d : Dev nD) (S : Finset S1024x1152.Idx) (q : PosShare TreeShare) (f : S1024x1152.Idx → Elt F .bf16) : (abP d S q f : sProp 𝕄) ⊢ iprop(∃ f, abP d S q f) := by
  iintro H; iexists f; iexact H
theorem oP_congr (c : Dev nD) {f g : S1024x1024.Idx → Elt F .f32} (h : f = g) : (oP c f : sProp 𝕄) ⊢ oP c g := by rw [h]

variable (I : Ins F)

/-- The body from part 17 on, but for its last wait. -/
abbrev progB (d0 : Dev nD) (v2 v564 v595 v597 : BitVec 32) : Prog (TpuEff nD τ sig (Elt F) Λ₀ .tc) (Dev nD) := do
  let ⟨v606, v618, v631, c1_i32_320⟩ : Σ' (v606 : BitVec 32) (v618 : BitVec 32) (v631 : BitVec 32), BitVec 32 ← P17 (F := F) v2 v595 v597
  let ⟨v643, v656, v665, c2_i32_346⟩ : Σ' (v643 : BitVec 32) (v656 : BitVec 32) (v665 : BitVec 32), BitVec 32 ← P18 (F := F) v2 c1_i32_320
  let ⟨v695, v696, v699⟩ : Σ' (v695 : FVec F S128x128 .f32) (v696 : FVec F S128x1024 .f32), FVec F S128x128 .f32 ← P19 (F := F) d0 v2 v564 c2_i32_346
  let ⟨v740, v743⟩ : Σ' (v740 : FVec F S128x1024 .f32), FVec F S128x128 .f32 ← P20 (F := F) d0 v564 v695 v696 v699
  P21 (F := F) d0 v564 v695 v740 v743
  let ⟨v813, v814, v821⟩ : Σ' (v813 : FVec F S128x128 .f32) (v814 : FVec F S128x1024 .f32), FVec F S128x128 .bf16 ← P22 (F := F) d0 v2 v606
  let ⟨v858, v865⟩ : Σ' (v858 : FVec F S128x1024 .f32), FVec F S128x128 .bf16 ← P23 (F := F) d0 v606 v813 v814 v821
  let ⟨v905, c0_i32_455⟩ : Σ' (v905 : BitVec 32), BitVec 32 ← P24 (F := F) d0 v2 v606 v813 v858 v865
  let ⟨v922, v934, v944⟩ : Σ' (v922 : FVec F S128x128 .f32) (v934 : FVec F S128x1024 .f32), FVec F S128x1024 .f32 ← P25 (F := F) d0 v2 v618 v905 c0_i32_455
  let ⟨v978, v988⟩ : Σ' (v978 : FVec F S128x1024 .f32), FVec F S128x1024 .f32 ← P26 (F := F) d0 v618 v922 v934 v944
  P27 (F := F) d0 v2 v618 v922 v978 v988
  let ⟨v1031, v1065, v1068, v1069⟩ : Σ' (v1031 : FVec F S128x128 .f32) (v1065 : FVec F S128x1024 .f32) (v1068 : FVec F S128x128 .f32), FVec F S128x1 .f32 ← P28 (F := F) d0 v631
  let ⟨v1109, v1112, v1113⟩ : Σ' (v1109 : FVec F S128x1024 .f32) (v1112 : FVec F S128x128 .f32), FVec F S128x1 .f32 ← P29 (F := F) d0 v631 v1031 v1065 v1068 v1069
  let ⟨v1131, v1143, v1150, v1152, cst_560⟩ : Σ' (v1131 : FVec F S128x128 .f32) (v1143 : FVec F S128x1024 .f32) (v1150 : FVec F S128x128 .bf16) (v1152 : FVec F S128x1024 .bf16), FVec F S128x1024 .f32 ← P30 (F := F) d0 v2 v631 v643 v1109 v1112 v1113
  let ⟨v1187, v1194, v1196, cst_576⟩ : Σ' (v1187 : FVec F S128x1024 .f32) (v1194 : FVec F S128x128 .bf16) (v1196 : FVec F S128x1024 .bf16), FVec F S128x1024 .f32 ← P31 (F := F) d0 v643 v1131 v1143 v1150 v1152 cst_560
  let ⟨v1231, v1232, v1235, v1237⟩ : Σ' (v1231 : FVec F S128x128 .f32) (v1232 : FVec F S128x1024 .f32) (v1235 : FVec F S128x128 .f32), FVec F S128x128 .f32 ← P32 (F := F) d0 v2 v643 v656 v1131 v1187 v1194 v1196 cst_576
  let ⟨v1276, v1279, v1281⟩ : Σ' (v1276 : FVec F S128x1024 .f32) (v1279 : FVec F S128x128 .f32), FVec F S128x128 .f32 ← P33 (F := F) d0 v656 v1231 v1232 v1235 v1237
  let c1_i32_627 : BitVec 32 ← P34 (F := F) d0 v656 v1231 v1276 v1279 v1281
  let ⟨v1331, v1354, v1364⟩ : Σ' (v1331 : FVec F S256x128 .f32) (v1354 : FVec F S256x1024 .f32), FVec F S256x1024 .f32 ← P35 (F := F) d0 v2 v665 c1_i32_627
  let ⟨v1398, v1408⟩ : Σ' (v1398 : FVec F S256x1024 .f32), FVec F S256x1024 .f32 ← P36 (F := F) d0 v665 v1331 v1354 v1364
  P37 (F := F) d0 v665 v1331 v1398 v1408
  let v1439 : DmaSems sig S1 := cc0_scratch8.slice (Rect.unit (s := S7) ![4] S1.size inb_S7_S1_4)
  let v1440 : DmaSems sig S_ := v1439.squeeze S_ squeezes_S1_S_
  let v1441 : Memref sig .tc .vmem S128x1152 .bf16 := abM.slice (Rect.unit (s := S1024x1152) (k0_off56 d0 2#32) S128x1152.size (k0_off56_inb d0 0)) (fun _ => rfl)
  let v1442 : Memref sig .tc .vmem S128x1152 .bf16 := abM.slice (Rect.unit (s := S1024x1152) (k0_off56 d0 2#32) S128x1152.size (k0_off56_inb d0 0)) (fun _ => rfl)
  Prog.lift (.waitDma2 v1440.sem v1442 v1441 ((Memref.isWhole_whole cc0_scratch2).wordExact_slice rfl _ (k0_off56_wordsbf16 d0 0)) ((Memref.isWhole_whole cc0_scratch2).wordExact_slice rfl _ (k0_off56_wordsbf16 d0 0)))
  let v1443 : DmaSems sig S1 := cc0_scratch8.slice (Rect.unit (s := S7) ![5] S1.size inb_S7_S1_5)
  let v1444 : DmaSems sig S_ := v1443.squeeze S_ squeezes_S1_S_
  let v1445 : Memref sig .tc .vmem S128x1152 .bf16 := abM.slice (Rect.unit (s := S1024x1152) (k0_off56 d0 4#32) S128x1152.size (k0_off56_inb d0 1)) (fun _ => rfl)
  let v1446 : Memref sig .tc .vmem S128x1152 .bf16 := abM.slice (Rect.unit (s := S1024x1152) (k0_off56 d0 4#32) S128x1152.size (k0_off56_inb d0 1)) (fun _ => rfl)
  Prog.lift (.waitDma2 v1444.sem v1446 v1445 ((Memref.isWhole_whole cc0_scratch2).wordExact_slice rfl _ (k0_off56_wordsbf16 d0 1)) ((Memref.isWhole_whole cc0_scratch2).wordExact_slice rfl _ (k0_off56_wordsbf16 d0 1)))
  pure d0

set_option maxHeartbeats 1600000 in
theorem bodyB (K : Dev nD × Fin 19 → ℕ) (c : Dev nD) (v564 v595 v597 : BitVec 32) (fo : S1024x1024.Idx → Elt F .f32) {Q : Dev nD → sProp 𝕄} :
    iprop(recs (vals I) K ∗ levAts L lv ∗ OW c (pays.drop 8) ∗ abP c (rows (reg c) 128) fullShare (AB I c) ∗ (∃ f, abP (px 1 c) (rows (kp0 c) 512) fullShare f) ∗ (∃ f, abP (px 4 c) (rows (kp1 c) 256) fullShare f) ∗ (∃ f, abP (px 2 c) (rows (reg c) 128) fullShare f) ∗ dutyTok ER (kcell c 2) 0 0 ∗ dutyTok ER (kcell c 3) 0 0 ∗ dutyTok ER (kcell c 4) 0 0 ∗ dutyTok ER (kcell c 5) 0 0 ∗ dutyTok ER (kcell c 6) 0 0 ∗ dutyTok ER (kcell c 7) 0 0 ∗ dutyTok ER (kcell c 8) 0 0 ∗ dutyTok ER (kcell (px 2 c) 13) 0 0 ∗ dutyTok ER (kcell (px 4 c) 14) 0 0 ∗ dutyTok ER (kcell (px 1 c) 16) 0 0 ∗ dutyTok ER (kcell (px 4 c) 15) 0 0 ∗ dutyTok ER (kcell (px 1 c) 17) 0 0 ∗ dutyTok ER (kcell (px 1 c) 18) 0 0 ∗ dutyTok ER (kcell (px 1 c) 18) 0 1 ∗ cred (tallyAt (kcell c 13) () n128) ∗ cred (tallyAt (kcell c 14) () n128) ∗ cred (tallyAt (kcell c 15) () n128) ∗ cred (tallyAt (kcell c 16) () n128) ∗ cred (tallyAt (kcell c 17) () n128) ∗ cred (tallyAt (kcell c 18) () n256) ∗ atPos ER (kcell c 2) 0 ∅ 0 ∗ atPos ER (kcell c 3) 0 ∅ 0 ∗ atPos ER (kcell c 4) 0 ∅ 0 ∗ atPos ER (kcell c 5) 0 ∅ 0 ∗ atPos ER (kcell c 6) 0 ∅ 0 ∗ atPos ER (kcell c 7) 0 ∅ 0 ∗ atPos ER (kcell c 13) 0 ∅ 0 ∗ atPos ER (kcell c 14) 0 ∅ 0 ∗ atPos ER (kcell c 15) 0 ∅ 0 ∗ atPos ER (kcell c 16) 0 ∅ 0 ∗ atPos ER (kcell c 17) 0 ∅ 0 ∗ atPos ER (kcell c 18) 0 ∅ 0 ∗ woP c (I.wo c) ∗ oP c fo)
      ⊢ iprop(((OW c (pays.drop 15) ∗ woP c (I.wo c) ∗ oP c (out (AB I c) (I.wo c) (lst c)) ∗ cred (tallyAt (kcell c 8) () n128) ∗ atPos ER (kcell c 2) 1 ∅ 0 ∗ atPos ER (kcell c 3) 1 ∅ 0 ∗ atPos ER (kcell c 4) 1 ∅ 0 ∗ atPos ER (kcell c 5) 1 ∅ 0 ∗ atPos ER (kcell c 6) 1 ∅ 0 ∗ atPos ER (kcell c 7) 1 ∅ 0 ∗ atPos ER (kcell c 13) 1 ∅ 0 ∗ atPos ER (kcell c 14) 1 ∅ 0 ∗ atPos ER (kcell c 15) 1 ∅ 0 ∗ atPos ER (kcell c 16) 1 ∅ 0 ∗ atPos ER (kcell c 17) 1 ∅ 0 ∗ atPos ER (kcell c 18) 1 ∅ 0 ∗ abP c (rows (reg c) 128) fullShare (AB I c) ∗ abP c (rows (reg (px 2 c)) 128) fullShare (AB I c) ∗ abP c (rows (reg (px 4 c)) 128) fullShare (AB I c) ∗ abP c (rows (reg (px 6 c)) 128) fullShare.right (AB I c) ∗ abP c (rows (reg (px 1 c)) 128) fullShare (AB I c) ∗ abP c (rows (reg (px 3 c)) 128) fullShare (AB I c) ∗ abP c (rows (lst c) 256) fullShare (AB I c)) -∗ Q c)
        -∗ wp frame (wpE (defs₀ (F := F)) 𝒱₀ (c : Thread nD τ) none) Set.univ (progB (F := F) c (W2 c) v564 v595 v597) Q) := by
  iintro ⟨#HR, #HL, HO, HR0, HK0, HK1, HK2, HT2, HT3, HT4, HT5, HT6, HT7, HT8, HP13, HP14, HP16, HP15, HP17, HP18, HPb, HC13, HC14, HC15, HC16, HC17, HC18, HA2, HA3, HA4, HA5, HA6, HA7, HA13, HA14, HA15, HA16, HA17, HA18, Hwo, Ho⟩ Hk
  icases HK0 with ⟨%fd1, HK0⟩
  ihave HK0 := (ab_half4 (px 1 c) c fd1).1 $$ HK0
  icases HK0 with ⟨⟨HD16, HD17⟩, HD18, HD19⟩
  icases HK1 with ⟨%fd4, HK1⟩
  ihave HK1 := (ab_halves2 (px 4 c) c fd4).1 $$ HK1
  icases HK1 with ⟨HD14, HD15⟩
  ihave HD14 := (ex_ab (F := F) (px 4 c) _ _ fd4) $$ HD14
  ihave HD15 := (ex_ab (F := F) (px 4 c) _ _ fd4) $$ HD15
  ihave HD16 := (ex_ab (F := F) (px 1 c) _ _ fd1) $$ HD16
  ihave HD17 := (ex_ab (F := F) (px 1 c) _ _ fd1) $$ HD17
  ihave HD18 := (ex_ab (F := F) (px 1 c) _ _ fd1) $$ HD18
  ihave HD19 := (ex_ab (F := F) (px 1 c) _ _ fd1) $$ HD19
  ihave HR0 := (abP_share c fullShare (AB I c)).1 $$ HR0
  icases HR0 with ⟨HX2, HR0⟩
  ihave HR0 := (abP_share c fullShare.right (AB I c)).1 $$ HR0
  icases HR0 with ⟨HX3, HR0⟩
  ihave HR0 := (abP_share c fullShare.right.right (AB I c)).1 $$ HR0
  icases HR0 with ⟨HX4, HB⟩
  unfold progB
  rw [wp_bind]
  iapply (p17 c)
  iintro %v606 %v618 %v631 %v17
  dsimp only
  rw [wp_bind]
  iapply (p18 c)
  iintro %v643 %v656 %v665 %v18
  dsimp only
  rw [wp_bind]
  iapply (p19 (vals I) K c _ _ _) $$ [HO HX2 HX3 HX4 HB HK2 HD14 HD16 HT2 HT3 HT4 HP13 HP14 HP16]
  · isplitr; · iexact HR
    isplitr; · iexact HL
    isplitl [HO]; · iexact HO
    isplitl [HX2]; · iexact HX2
    isplitl [HX3]; · iexact HX3
    isplitl [HX4]; · iexact HX4
    isplitl [HB]; · iexact HB
    isplitl [HK2]; · iexact HK2
    isplitl [HD14]; · iexact HD14
    isplitl [HD16]; · iexact HD16
    isplitl [HT2]; · iexact HT2
    isplitl [HT3]; · iexact HT3
    isplitl [HT4]; · iexact HT4
    isplitl [HP13]; · iexact HP13
    isplitl [HP14]; · iexact HP14
    iexact HP16
  iintro ⟨HO, HB, HC2, HC3, HC4⟩
  try dsimp only
  rw [wp_bind]
  iapply (p20 c _ _ _ _ (vals I) (I.wo c)) $$ [HB Hwo]
  · isplitl [HB]; · iexact HB
    iexact Hwo
  iintro ⟨HB, Hwo⟩
  try dsimp only
  rw [wp_bind]
  iapply (e21 I c _ fo) $$ [HB Hwo Ho]
  · isplitl [HB]; · iexact HB
    isplitl [Hwo]; · iexact Hwo
    iexact Ho
  iintro ⟨HB, Hwo, Ho⟩
  try dsimp only
  rw [wp_bind]
  iapply (p22 (vals I) K c _ _) $$ [HO HC13 HA13 HD15 HD17 HT5 HT6 HP15 HP17]
  · isplitr; · iexact HR
    isplitr; · iexact HL
    isplitl [HO]; · iexact HO
    isplitl [HC13]; · iexact HC13
    isplitl [HA13]; · iexact HA13
    isplitl [HD15]; · iexact HD15
    isplitl [HD17]; · iexact HD17
    isplitl [HT5]; · iexact HT5
    isplitl [HT6]; · iexact HT6
    isplitl [HP15]; · iexact HP15
    iexact HP17
  iintro ⟨HO, HA13, HE, HC5, HC6⟩
  try dsimp only
  rw [wp_bind]
  iapply (p23 c _ _ _ _ (vals I) (I.wo c)) $$ [HE Hwo]
  · isplitl [HE]; · iexact HE
    iexact Hwo
  iintro ⟨HE, Hwo⟩
  try dsimp only
  rw [wp_bind]
  iapply (e24 I c _ _ _) $$ [HE Hwo Ho]
  · isplitl [HE]; · iexact HE
    isplitl [Hwo]; · iexact Hwo
    iexact Ho
  iintro ⟨HE, Hwo, Ho⟩
  try dsimp only
  rw [wp_bind]
  iapply (p25 (vals I) K c _ _ _ _ (I.wo c)) $$ [HO HC14 HA14 HD18 HT7 HP18 Hwo]
  · isplitr; · iexact HR
    isplitr; · iexact HL
    isplitl [HO]; · iexact HO
    isplitl [HC14]; · iexact HC14
    isplitl [HA14]; · iexact HA14
    isplitl [HD18]; · iexact HD18
    isplitl [HT7]; · iexact HT7
    isplitl [HP18]; · iexact HP18
    iexact Hwo
  iintro ⟨HO, HA14, Hwo, HF, HC7⟩
  try dsimp only
  rw [wp_bind]
  iapply (p26 c _ _ _ _ (vals I) (I.wo c)) $$ [HF Hwo]
  · isplitl [HF]; · iexact HF
    iexact Hwo
  iintro ⟨HF, Hwo⟩
  try dsimp only
  rw [wp_bind]
  iapply (e27 I K c _ _ _) $$ [HF HO HC15 HA15 Hwo Ho]
  · isplitr; · iexact HR
    isplitr; · iexact HL
    isplitl [HF]; · iexact HF
    isplitl [HO]; · iexact HO
    isplitl [HC15]; · iexact HC15
    isplitl [HA15]; · iexact HA15
    isplitl [Hwo]; · iexact Hwo
    iexact Ho
  iintro ⟨HF, HO, HA15, Hwo, Ho, HG⟩
  try dsimp only
  rw [wp_bind]
  iapply (p28 (vals I) K c _ (I.wo c)) $$ [HG HO HD19 HT8 HPb Hwo]
  · isplitr; · iexact HR
    isplitr; · iexact HL
    isplitl [HG]; · iexact HG
    isplitl [HO]; · iexact HO
    isplitl [HD19]; · iexact HD19
    isplitl [HT8]; · iexact HT8
    isplitl [HPb]; · iexact HPb
    iexact Hwo
  iintro ⟨HO, Hwo, HG, HC8⟩
  try dsimp only
  rw [wp_bind]
  iapply (p29 c _ _ _ _ _ (vals I) (I.wo c)) $$ [HG Hwo]
  · isplitl [HG]; · iexact HG
    iexact Hwo
  iintro ⟨HG, Hwo⟩
  try dsimp only
  rw [wp_bind]
  iapply (e30 I K c _ _ _ _) $$ [HO HC16 HA16 HG Hwo Ho]
  · isplitr; · iexact HR
    isplitr; · iexact HL
    isplitl [HO]; · iexact HO
    isplitl [HC16]; · iexact HC16
    isplitl [HA16]; · iexact HA16
    isplitl [HG]; · iexact HG
    isplitl [Hwo]; · iexact Hwo
    iexact Ho
  iintro ⟨HO, HA16, HG, Hwo, Ho, HH⟩
  try dsimp only
  rw [wp_bind]
  iapply (p31 c _ _ _ _ _ _ (vals I) (I.wo c)) $$ [HH Hwo]
  · isplitl [HH]; · iexact HH
    iexact Hwo
  iintro ⟨HH, Hwo⟩
  try dsimp only
  rw [wp_bind]
  iapply (e32 I K c _ _ _ _) $$ [HH HO HC17 HA17 Hwo Ho]
  · isplitr; · iexact HR
    isplitr; · iexact HL
    isplitl [HH]; · iexact HH
    isplitl [HO]; · iexact HO
    isplitl [HC17]; · iexact HC17
    isplitl [HA17]; · iexact HA17
    isplitl [Hwo]; · iexact Hwo
    iexact Ho
  iintro ⟨HH, HO, HA17, Hwo, Ho, HI⟩
  try dsimp only
  rw [wp_bind]
  iapply (p33 c _ _ _ _ _ (vals I) (I.wo c)) $$ [HI Hwo]
  · isplitl [HI]; · iexact HI
    iexact Hwo
  iintro ⟨HI, Hwo⟩
  try dsimp only
  rw [wp_bind]
  iapply (e34 I c _ _) $$ [HI Hwo Ho]
  · isplitl [HI]; · iexact HI
    isplitl [Hwo]; · iexact Hwo
    iexact Ho
  iintro ⟨HI, Hwo, Ho⟩
  try dsimp only
  rw [wp_bind]
  iapply (p35 (vals I) K c _ _ _ (I.wo c)) $$ [HO HC18 HA18 Hwo]
  · isplitr; · iexact HR
    isplitr; · iexact HL
    isplitl [HO]; · iexact HO
    isplitl [HC18]; · iexact HC18
    isplitl [HA18]; · iexact HA18
    iexact Hwo
  iintro ⟨HO, HA18, Hwo, HJ⟩
  try dsimp only
  rw [wp_bind]
  iapply (p36 c _ _ _ _ (vals I) (I.wo c)) $$ [HJ Hwo]
  · isplitl [HJ]; · iexact HJ
    iexact Hwo
  iintro ⟨HJ, Hwo⟩
  try dsimp only
  rw [wp_bind]
  iapply (e37 I K c _ _) $$ [HO HJ Hwo Ho HC2 HA2 HC3 HA3 HC4 HA4 HC5 HA5]
  · isplitr; · iexact HR
    isplitr; · iexact HL
    isplitl [HO]; · iexact HO
    isplitl [HJ]; · iexact HJ
    isplitl [Hwo]; · iexact Hwo
    isplitl [Ho]; · iexact Ho
    isplitl [HC2]; · iexact HC2
    isplitl [HA2]; · iexact HA2
    isplitl [HC3]; · iexact HC3
    isplitl [HA3]; · iexact HA3
    isplitl [HC4]; · iexact HC4
    isplitl [HA4]; · iexact HA4
    isplitl [HC5]; · iexact HC5
    iexact HA5
  iintro ⟨HO, HJ, Hwo, Ho, HA2, HA3, HA4, HA5, HX2, HX3, HX4, HX5⟩
  try dsimp only
  simp only [Prog.lift, Prog.bind_op, Prog.bind_ret, Prog.pure_eq_ret]
  iapply (wt (vals I) K c 6 0 n128 _ (by rfl) (fun K' => wpw c cr_128 K') (by decide) (by rfl) (pays.drop 15) (by decide)) $$ [HC6 HO HA6]
  · isplitr; · iexact HR
    isplitr; · iexact HL
    isplitl [HC6]; · iexact HC6
    isplitl [HO]; · iexact HO
    iexact HA6
  iintro ⟨HO, HA6, -, HX6⟩
  iapply (wt (vals I) K c 7 0 n128 _ (by rfl) (fun K' => wpw c cr_128 K') (by decide) (by rfl) (pays.drop 15) (by decide)) $$ [HC7 HO HA7]
  · isplitr; · iexact HR
    isplitr; · iexact HL
    isplitl [HC7]; · iexact HC7
    isplitl [HO]; · iexact HO
    iexact HA7
  iintro ⟨HO, HA7, -, HX7⟩
  ihave HX6 := (show payK (vals I) c 6 0 0 ⊢ abP c (rows (reg (px 2 c)) 128) qB (AB I c) from Entails.rfl) $$ HX6
  ihave HX7 := (show payK (vals I) c 7 0 0 ⊢ abP c (rows (reg (px 4 c)) 128) qA (AB I c) from Entails.rfl) $$ HX7
  rw [wp_ret]
  imodintro
  iapply Hk
  isplitl [HO]; · iexact HO
  isplitl [Hwo]; · iexact Hwo
  isplitl [Ho]
  · ihave Ho := (oP_congr (F := F) c (out_all I c fo)) $$ Ho
    iexact Ho
  isplitl [HC8]; · iexact HC8
  isplitl [HA2]; · iexact HA2
  isplitl [HA3]; · iexact HA3
  isplitl [HA4]; · iexact HA4
  isplitl [HA5]; · iexact HA5
  isplitl [HA6]; · iexact HA6
  isplitl [HA7]; · iexact HA7
  isplitl [HA13]; · iexact HA13
  isplitl [HA14]; · iexact HA14
  isplitl [HA15]; · iexact HA15
  isplitl [HA16]; · iexact HA16
  isplitl [HA17]; · iexact HA17
  isplitl [HA18]; · iexact HA18
  isplitl [HX2 HX3 HX4 HB]
  · iapply (abP_share c fullShare (AB I c)).2
    isplitl [HX2]; · iexact HX2
    iapply (abP_share c fullShare.right (AB I c)).2
    isplitl [HX3]; · iexact HX3
    iapply (abP_share c fullShare.right.right (AB I c)).2
    isplitl [HX4]; · iexact HX4
    iexact HB
  isplitl [HX5 HX6 HE]
  · iapply (abP_share c fullShare (AB I c)).2
    isplitl [HX5]; · iexact HX5
    iapply (abP_share c fullShare.right (AB I c)).2
    isplitl [HX6]; · iexact HX6
    iexact HE
  isplitl [HX7 HF]
  · iapply (abP_share c fullShare (AB I c)).2
    isplitl [HX7]; · iexact HX7
    iexact HF
  isplitl [HG]; · iexact HG
  isplitl [HH]; · iexact HH
  isplitl [HI]; · iexact HI
  iexact HJ

end Cert.KernelIdealProof

end
-- ==== Proof.KI.Body.lean ====
/-
The whole body of a device: what it starts from and what it leaves.
-/
module

public import proofs.«01_k».proof.Proof.KI.BodyB

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

theorem ex_f {β : Type} (P : β → sProp 𝕄) (f : β) : P f ⊢ iprop(∃ f, P f) := by
  iintro H; iexists f; iexact H

/-- The buffers of a device, before its body. -/
def bufs0 (c : Dev nD) : sProp 𝕄 := iprop(xP c (I.x c) ∗ wqP c (I.wq c) ∗ kP c (I.k c) ∗ vP c (I.v c) ∗ woP c (I.wo c) ∗ (∃ f, oP c f) ∗ (∃ f, qP c f) ∗ (∃ f, acP c f) ∗ (∃ f, abP c Finset.univ fullShare f) ∗ (∃ f, l0P c f) ∗ (∃ f, l1P c f) ∗ (∃ f, l2P c f) ∗ (∃ f, l3P c f))
/-- The buffers of a device, after its body. -/
def bufs1 (c : Dev nD) : sProp 𝕄 := iprop(xP c (I.x c) ∗ wqP c (I.wq c) ∗ kP c (I.k c) ∗ vP c (I.v c) ∗ woP c (I.wo c) ∗ oP c (out (AB I c) (I.wo c) (lst c)) ∗ (∃ f, qP c f) ∗ (∃ f, acP c f) ∗ (∃ f, abP c Finset.univ fullShare f) ∗ (∃ f, l0P c f) ∗ (∃ f, l1P c f) ∗ (∃ f, l2P c f) ∗ (∃ f, l3P c f))
/-- The credits of a device. -/
def creds (c : Dev nD) : sProp 𝕄 := iprop(cred (tallyAt (kcell c 0) () 4) ∗ cred (tallyAt (kcell c 9) () n512) ∗ cred (tallyAt (kcell c 10) () n256) ∗ cred (tallyAt (kcell c 11) () n128) ∗ cred (tallyAt (kcell c 12) () n128) ∗ cred (tallyAt (kcell c 13) () n128) ∗ cred (tallyAt (kcell c 14) () n128) ∗ cred (tallyAt (kcell c 15) () n128) ∗ cred (tallyAt (kcell c 16) () n128) ∗ cred (tallyAt (kcell c 17) () n128) ∗ cred (tallyAt (kcell c 18) () n256))
/-- The device's place at each of its cells. -/
def places (c : Dev nD) : sProp 𝕄 := iprop(atPos ER (kcell c 0) 0 ∅ 0 ∗ atPos ER (kcell c 1) 0 ∅ 0 ∗ atPos ER (kcell c 2) 0 ∅ 0 ∗ atPos ER (kcell c 3) 0 ∅ 0 ∗ atPos ER (kcell c 4) 0 ∅ 0 ∗ atPos ER (kcell c 5) 0 ∅ 0 ∗ atPos ER (kcell c 6) 0 ∅ 0 ∗ atPos ER (kcell c 7) 0 ∅ 0 ∗ atPos ER (kcell c 8) 0 ∅ 0 ∗ atPos ER (kcell c 9) 0 ∅ 0 ∗ atPos ER (kcell c 10) 0 ∅ 0 ∗ atPos ER (kcell c 11) 0 ∅ 0 ∗ atPos ER (kcell c 12) 0 ∅ 0 ∗ atPos ER (kcell c 13) 0 ∅ 0 ∗ atPos ER (kcell c 14) 0 ∅ 0 ∗ atPos ER (kcell c 15) 0 ∅ 0 ∗ atPos ER (kcell c 16) 0 ∅ 0 ∗ atPos ER (kcell c 17) 0 ∅ 0 ∗ atPos ER (kcell c 18) 0 ∅ 0)
/-- The duties a device does at its own cells. -/
def owns (c : Dev nD) : sProp 𝕄 := iprop(dutyTok ER (kcell c 1) 0 0 ∗ dutyTok ER (kcell c 1) 1 0 ∗ dutyTok ER (kcell c 1) 2 0 ∗ dutyTok ER (kcell c 1) 3 0 ∗ dutyTok ER (kcell c 2) 0 0 ∗ dutyTok ER (kcell c 3) 0 0 ∗ dutyTok ER (kcell c 4) 0 0 ∗ dutyTok ER (kcell c 5) 0 0 ∗ dutyTok ER (kcell c 6) 0 0 ∗ dutyTok ER (kcell c 7) 0 0 ∗ dutyTok ER (kcell c 8) 0 0)
/-- The duties a device does at its peers' cells. -/
def peers (c : Dev nD) : sProp 𝕄 := iprop(dutyTok ER (kcell (px 1 c) 0) 0 0 ∗ dutyTok ER (kcell (px 2 c) 0) 0 1 ∗ dutyTok ER (kcell (px 4 c) 0) 0 2 ∗ dutyTok ER (kcell (px 8 c) 0) 0 3 ∗ dutyTok ER (kcell (px 1 c) 9) 0 0 ∗ dutyTok ER (kcell (px 4 c) 10) 0 0 ∗ dutyTok ER (kcell (px 2 c) 11) 0 0 ∗ dutyTok ER (kcell (px 8 c) 12) 0 0 ∗ dutyTok ER (kcell (px 2 c) 13) 0 0 ∗ dutyTok ER (kcell (px 4 c) 14) 0 0 ∗ dutyTok ER (kcell (px 4 c) 15) 0 0 ∗ dutyTok ER (kcell (px 1 c) 16) 0 0 ∗ dutyTok ER (kcell (px 1 c) 17) 0 0 ∗ dutyTok ER (kcell (px 1 c) 18) 0 0 ∗ dutyTok ER (kcell (px 1 c) 18) 0 1)
/-- The device's semaphores at zero. -/
def zeros (c : Dev nD) : sProp 𝕄 := iprop(semVal (kcell c 0) 0 ∗ semVal (kcell c 1) 0 ∗ semVal (kcell c 2) 0 ∗ semVal (kcell c 3) 0 ∗ semVal (kcell c 4) 0 ∗ semVal (kcell c 5) 0 ∗ semVal (kcell c 6) 0 ∗ semVal (kcell c 7) 0 ∗ semVal (kcell c 8) 0 ∗ semVal (kcell c 9) 0 ∗ semVal (kcell c 10) 0 ∗ semVal (kcell c 11) 0 ∗ semVal (kcell c 12) 0 ∗ semVal (kcell c 13) 0 ∗ semVal (kcell c 14) 0 ∗ semVal (kcell c 15) 0 ∗ semVal (kcell c 16) 0 ∗ semVal (kcell c 17) 0 ∗ semVal (kcell c 18) 0)

set_option maxHeartbeats 1600000 in
theorem body (K : Dev nD × Fin 19 → ℕ) (c : Dev nD) {Q : PUnit → sProp 𝕄} :
    iprop(recs (vals I) K ∗ levAts L lv ∗ OW c pays ∗ bufs0 I c ∗ creds c ∗ places c ∗ owns c ∗ peers c)
      ⊢ iprop(((OW c [] ∗ bufs1 I c ∗ zeros c) -∗ Q ⟨⟩)
        -∗ wp frame (wpE (defs₀ (F := F)) 𝒱₀ (c : Thread nD τ) none) Set.univ (cc0_body (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9) Q) := by
  unfold bufs0 bufs1 creds places owns peers zeros
  iintro ⟨#HR, #HL, HO, ⟨Hx, Hw, Hk, Hv, Hwo, Ho, Hq, Hac, Hab, L0, L2, L1, L3⟩, ⟨HC0, HC9, HC10, HC11, HC12, HC13, HC14, HC15, HC16, HC17, HC18⟩, ⟨HA0, HA1, HA2, HA3, HA4, HA5, HA6, HA7, HA8, HA9, HA10, HA11, HA12, HA13, HA14, HA15, HA16, HA17, HA18⟩, ⟨HR0, HR1, HR2, HR3, HT2, HT3, HT4, HT5, HT6, HT7, HT8⟩, ⟨HB0, HB1, HB2, HB3, HP9, HP10, HP11, HP12, HP13, HP14, HP15, HP16, HP17, HP18, HPb⟩⟩ Hk'
  rw [cc0_body_eq_skeleton]
  unfold cc0_body_skel
  rw [wp_bind, k0_part38_eq_skeleton]
  unfold k0_part38_skel
  icases Ho with ⟨%fo, Ho⟩
  icases Hq with ⟨%fq, Hq⟩
  icases Hac with ⟨%fac, Hac⟩
  icases Hab with ⟨%fab, Hab⟩
  ihave Hab := (ab_split c fab) $$ Hab
  icases Hab with ⟨HS0, HS1, HS2, HG⟩
  rw [wp_bind]
  iapply (p1 I K c fq) $$ [HO L0 L1 L2 L3 HB0 HB1 HB2 HB3 Hx Hw Hq]
  · isplitr; · iexact HR
    isplitr; · iexact HL
    isplitl [HO]; · iexact HO
    isplitl [L0]; · iexact L0
    isplitl [L1]; · iexact L1
    isplitl [L2]; · iexact L2
    isplitl [L3]; · iexact L3
    isplitl [HB0]; · iexact HB0
    isplitl [HB1]; · iexact HB1
    isplitl [HB2]; · iexact HB2
    isplitl [HB3]; · iexact HB3
    isplitl [Hx]; · iexact Hx
    isplitl [Hw]; · iexact Hw
    iexact Hq
  iintro ⟨HO, Hx, Hw, Hq⟩
  try dsimp only
  rw [wp_bind]
  iapply (p2 c (W2 c) 1#32)
  try dsimp only
  rw [wp_bind]
  iapply (e3 I c _ _) $$ [Hq Hk Hv Hac]
  · isplitl [Hq]; · iexact Hq
    isplitl [Hk]; · iexact Hk
    isplitl [Hv]; · iexact Hv
    iexact Hac
  iintro ⟨Hq, Hk, Hv, Hac⟩
  try dsimp only
  rw [wp_bind]
  iapply (e4 I c _ _) $$ [Hq Hk Hv Hac]
  · isplitl [Hq]; · iexact Hq
    isplitl [Hk]; · iexact Hk
    isplitl [Hv]; · iexact Hv
    iexact Hac
  iintro ⟨Hq, Hk, Hv, Hac⟩
  try dsimp only
  rw [wp_bind]
  iapply (e5 I c _ _) $$ [Hq Hk Hv Hac]
  · isplitl [Hq]; · iexact Hq
    isplitl [Hk]; · iexact Hk
    isplitl [Hv]; · iexact Hv
    iexact Hac
  iintro ⟨Hq, Hk, Hv, Hac⟩
  try dsimp only
  rw [wp_bind]
  iapply (e6 I c _ _) $$ [Hq Hk Hv Hac]
  · isplitl [Hq]; · iexact Hq
    isplitl [Hk]; · iexact Hk
    isplitl [Hv]; · iexact Hv
    iexact Hac
  iintro ⟨Hq, Hk, Hv, Hac⟩
  try dsimp only
  rw [wp_bind]
  iapply (e7 I K c _ _ _ fac fab) $$ [Hk Hv Hac HS0 HO HC0 HA0 HR0 HP9]
  · isplitr; · iexact HR
    isplitr; · iexact HL
    isplitl [Hk]; · iexact Hk
    isplitl [Hv]; · iexact Hv
    isplitl [Hac]; · iexact Hac
    isplitl [HS0]; · iexact HS0
    isplitl [HO]; · iexact HO
    isplitl [HC0]; · iexact HC0
    isplitl [HA0]; · iexact HA0
    isplitl [HR0]; · iexact HR0
    iexact HP9
  iintro ⟨Hk, Hv, Hac, HO, HA0, M1, M2, M3, HC1⟩
  try dsimp only
  ihave Hac := (ex_f (fun f => acP c f) _) $$ Hac
  icases Hac with ⟨%fac1, Hac⟩
  rw [wp_bind]
  iapply (p8 c (W2 c) _ _)
  try dsimp only
  rw [wp_bind]
  iapply (e9 I c _ _) $$ [Hq Hk Hv Hac]
  · isplitl [Hq]; · iexact Hq
    isplitl [Hk]; · iexact Hk
    isplitl [Hv]; · iexact Hv
    iexact Hac
  iintro ⟨Hq, Hk, Hv, Hac⟩
  try dsimp only
  rw [wp_bind]
  iapply (e10 I c _ _) $$ [Hq Hk Hv Hac]
  · isplitl [Hq]; · iexact Hq
    isplitl [Hk]; · iexact Hk
    isplitl [Hv]; · iexact Hv
    iexact Hac
  iintro ⟨Hq, Hk, Hv, Hac⟩
  try dsimp only
  rw [wp_bind]
  iapply (e11 I c _ _) $$ [Hq Hk Hv Hac]
  · isplitl [Hq]; · iexact Hq
    isplitl [Hk]; · iexact Hk
    isplitl [Hv]; · iexact Hv
    iexact Hac
  iintro ⟨Hq, Hk, Hv, Hac⟩
  try dsimp only
  rw [wp_bind]
  iapply (e12 I c _ _) $$ [Hq Hk Hv Hac]
  · isplitl [Hq]; · iexact Hq
    isplitl [Hk]; · iexact Hk
    isplitl [Hv]; · iexact Hv
    iexact Hac
  iintro ⟨Hq, Hk, Hv, Hac⟩
  try dsimp only
  rw [wp_bind]
  iapply (e13 I K c _ _ _ fac1) $$ [Hq Hk Hv Hac HO HC9 HA9]
  · isplitr; · iexact HR
    isplitr; · iexact HL
    isplitl [Hq]; · iexact Hq
    isplitl [Hk]; · iexact Hk
    isplitl [Hv]; · iexact Hv
    isplitl [Hac]; · iexact Hac
    isplitl [HO]; · iexact HO
    isplitl [HC9]; · iexact HC9
    iexact HA9
  iintro %z0 %z1 ⟨Hq, Hk, Hv, ⟨%g, Hac⟩, HO, HA9, L0, HK0⟩
  try dsimp only
  rw [wp_bind]
  iapply (e14 I K c _ _ _ g fab) $$ [Hac HS1 HO HC1 HA1 M1 HR1 HP10 HC10 HA10]
  · isplitr; · iexact HR
    isplitr; · iexact HL
    isplitl [Hac]; · iexact Hac
    isplitl [HS1]; · iexact HS1
    isplitl [HO]; · iexact HO
    isplitl [HC1]; · iexact HC1
    isplitl [HA1]; · iexact HA1
    isplitl [M1]; · iexact M1
    isplitl [HR1]; · iexact HR1
    isplitl [HP10]; · iexact HP10
    isplitl [HC10]; · iexact HC10
    iexact HA10
  iintro ⟨Hac, HO, HA1, HA10, -, HC1, L1, HK1⟩
  try dsimp only
  rw [wp_bind]
  iapply (e15 I K c _ _ _ _ _ _ fab) $$ [Hac HS2 HO HC1 HA1 M2 HR2 HP11 HC11 HA11]
  · isplitr; · iexact HR
    isplitr; · iexact HL
    isplitl [Hac]; · iexact Hac
    isplitl [HS2]; · iexact HS2
    isplitl [HO]; · iexact HO
    isplitl [HC1]; · iexact HC1
    isplitl [HA1]; · iexact HA1
    isplitl [M2]; · iexact M2
    isplitl [HR2]; · iexact HR2
    isplitl [HP11]; · iexact HP11
    isplitl [HC11]; · iexact HC11
    iexact HA11
  iintro ⟨Hac, HO, HA1, HA11, -, HC1, L2, HK2⟩
  try dsimp only
  rw [wp_bind]
  iapply (e16 I K c _ _ _ fab) $$ [Hac HG HO HC1 HA1 M3 HR3 HP12 HC12 HA12]
  · isplitr; · iexact HR
    isplitr; · iexact HL
    isplitl [Hac]; · iexact Hac
    isplitl [HG]; · iexact HG
    isplitl [HO]; · iexact HO
    isplitl [HC1]; · iexact HC1
    isplitl [HA1]; · iexact HA1
    isplitl [M3]; · iexact M3
    isplitl [HR3]; · iexact HR3
    isplitl [HP12]; · iexact HP12
    isplitl [HC12]; · iexact HC12
    iexact HA12
  iintro ⟨Hac, HO, HA1, HA12, -, L3, -, HG⟩
  try dsimp only
  iapply (bodyB I K c _ _ _ fo) $$ [HO HG HK0 HK1 HK2 HT2 HT3 HT4 HT5 HT6 HT7 HT8 HP13 HP14 HP16 HP15 HP17 HP18 HPb HC13 HC14 HC15 HC16 HC17 HC18 HA2 HA3 HA4 HA5 HA6 HA7 HA13 HA14 HA15 HA16 HA17 HA18 Hwo Ho]
  · isplitr; · iexact HR
    isplitr; · iexact HL
    isplitl [HO]; · iexact HO
    isplitl [HG]; · iexact HG
    isplitl [HK0]; · iexact HK0
    isplitl [HK1]; · iexact HK1
    isplitl [HK2]; · iexact HK2
    isplitl [HT2]; · iexact HT2
    isplitl [HT3]; · iexact HT3
    isplitl [HT4]; · iexact HT4
    isplitl [HT5]; · iexact HT5
    isplitl [HT6]; · iexact HT6
    isplitl [HT7]; · iexact HT7
    isplitl [HT8]; · iexact HT8
    isplitl [HP13]; · iexact HP13
    isplitl [HP14]; · iexact HP14
    isplitl [HP16]; · iexact HP16
    isplitl [HP15]; · iexact HP15
    isplitl [HP17]; · iexact HP17
    isplitl [HP18]; · iexact HP18
    isplitl [HPb]; · iexact HPb
    isplitl [HC13]; · iexact HC13
    isplitl [HC14]; · iexact HC14
    isplitl [HC15]; · iexact HC15
    isplitl [HC16]; · iexact HC16
    isplitl [HC17]; · iexact HC17
    isplitl [HC18]; · iexact HC18
    isplitl [HA2]; · iexact HA2
    isplitl [HA3]; · iexact HA3
    isplitl [HA4]; · iexact HA4
    isplitl [HA5]; · iexact HA5
    isplitl [HA6]; · iexact HA6
    isplitl [HA7]; · iexact HA7
    isplitl [HA13]; · iexact HA13
    isplitl [HA14]; · iexact HA14
    isplitl [HA15]; · iexact HA15
    isplitl [HA16]; · iexact HA16
    isplitl [HA17]; · iexact HA17
    isplitl [HA18]; · iexact HA18
    isplitl [Hwo]; · iexact Hwo
    iexact Ho
  iintro ⟨HO, Hwo, Ho, HC8, HA2, HA3, HA4, HA5, HA6, HA7, HA13, HA14, HA15, HA16, HA17, HA18, G0, G2, G4, G6, G1, G3, GL⟩
  try dsimp only
  simp only [Prog.lift, Prog.bind_op, Prog.bind_ret, Prog.pure_eq_ret]
  iapply (wt (vals I) K c 8 0 n128 _ (by rfl) (fun K' => wpw c cr_128 K') (by decide) (by rfl) (pays.drop 15) (by decide)) $$ [HC8 HO HA8]
  · isplitr; · iexact HR
    isplitr; · iexact HL
    isplitl [HC8]; · iexact HC8
    isplitl [HO]; · iexact HO
    iexact HA8
  iintro ⟨HO, HA8, -, G⟩
  ihave G := (show payK (vals I) c 8 0 0 ⊢ abP c (rows (reg (px 6 c)) 128) fullShare.left (AB I c) from Entails.rfl) $$ G
  rw [wp_ret]
  imod (st_close (β := Unit) (vals I) K c 0 1 (by decide)) $$ [HA0] with HA0
  · isplitr; · iexact HR
    iexact HA0
  imod (st_close (β := Unit) (vals I) K c 1 4 (by decide)) $$ [HA1] with HA1
  · isplitr; · iexact HR
    iexact HA1
  imod (st_close (β := Unit) (vals I) K c 2 1 (by decide)) $$ [HA2] with HA2
  · isplitr; · iexact HR
    iexact HA2
  imod (st_close (β := Unit) (vals I) K c 3 1 (by decide)) $$ [HA3] with HA3
  · isplitr; · iexact HR
    iexact HA3
  imod (st_close (β := Unit) (vals I) K c 4 1 (by decide)) $$ [HA4] with HA4
  · isplitr; · iexact HR
    iexact HA4
  imod (st_close (β := Unit) (vals I) K c 5 1 (by decide)) $$ [HA5] with HA5
  · isplitr; · iexact HR
    iexact HA5
  imod (st_close (β := Unit) (vals I) K c 6 1 (by decide)) $$ [HA6] with HA6
  · isplitr; · iexact HR
    iexact HA6
  imod (st_close (β := Unit) (vals I) K c 7 1 (by decide)) $$ [HA7] with HA7
  · isplitr; · iexact HR
    iexact HA7
  imod (st_close (β := Unit) (vals I) K c 8 1 (by decide)) $$ [HA8] with HA8
  · isplitr; · iexact HR
    iexact HA8
  imod (st_close (β := Unit) (vals I) K c 9 1 (by decide)) $$ [HA9] with HA9
  · isplitr; · iexact HR
    iexact HA9
  imod (st_close (β := Unit) (vals I) K c 10 1 (by decide)) $$ [HA10] with HA10
  · isplitr; · iexact HR
    iexact HA10
  imod (st_close (β := Unit) (vals I) K c 11 1 (by decide)) $$ [HA11] with HA11
  · isplitr; · iexact HR
    iexact HA11
  imod (st_close (β := Unit) (vals I) K c 12 1 (by decide)) $$ [HA12] with HA12
  · isplitr; · iexact HR
    iexact HA12
  imod (st_close (β := Unit) (vals I) K c 13 1 (by decide)) $$ [HA13] with HA13
  · isplitr; · iexact HR
    iexact HA13
  imod (st_close (β := Unit) (vals I) K c 14 1 (by decide)) $$ [HA14] with HA14
  · isplitr; · iexact HR
    iexact HA14
  imod (st_close (β := Unit) (vals I) K c 15 1 (by decide)) $$ [HA15] with HA15
  · isplitr; · iexact HR
    iexact HA15
  imod (st_close (β := Unit) (vals I) K c 16 1 (by decide)) $$ [HA16] with HA16
  · isplitr; · iexact HR
    iexact HA16
  imod (st_close (β := Unit) (vals I) K c 17 1 (by decide)) $$ [HA17] with HA17
  · isplitr; · iexact HR
    iexact HA17
  imod (st_close (β := Unit) (vals I) K c 18 1 (by decide)) $$ [HA18] with HA18
  · isplitr; · iexact HR
    iexact HA18
  imodintro
  iapply Hk'
  isplitl [HO]; · iexact HO
  isplitl [Hx Hw Hk Hv Hwo Ho Hq Hac G0 G2 G4 G6 G G1 G3 GL L0 L1 L2 L3]
  · isplitl [Hx]; · iexact Hx
    isplitl [Hw]; · iexact Hw
    isplitl [Hk]; · iexact Hk
    isplitl [Hv]; · iexact Hv
    isplitl [Hwo]; · iexact Hwo
    isplitl [Ho]; · iexact Ho
    isplitl [Hq]; · iexists _; iexact Hq
    isplitl [Hac]; · iexists _; iexact Hac
    isplitl [G0 G2 G4 G6 G G1 G3 GL]
    · iexists (AB I c)
      iapply (ab_join c (AB I c))
      isplitl [G0]; · iexact G0
      isplitl [G2]; · iexact G2
      isplitl [G4]; · iexact G4
      isplitl [G6 G]
      · iapply (abP_share c fullShare (AB I c)).2
        isplitl [G]; · iexact G
        iexact G6
      isplitl [G1]; · iexact G1
      isplitl [G3]; · iexact G3
      iexact GL
    isplitl [L0]; · iexists _; iexact L0
    isplitl [L1]; · iexists _; iexact L1
    isplitl [L2]; · iexists _; iexact L2
    iexists _; iexact L3
  isplitl [HA0]; · iexact HA0
  isplitl [HA1]; · iexact HA1
  isplitl [HA2]; · iexact HA2
  isplitl [HA3]; · iexact HA3
  isplitl [HA4]; · iexact HA4
  isplitl [HA5]; · iexact HA5
  isplitl [HA6]; · iexact HA6
  isplitl [HA7]; · iexact HA7
  isplitl [HA8]; · iexact HA8
  isplitl [HA9]; · iexact HA9
  isplitl [HA10]; · iexact HA10
  isplitl [HA11]; · iexact HA11
  isplitl [HA12]; · iexact HA12
  isplitl [HA13]; · iexact HA13
  isplitl [HA14]; · iexact HA14
  isplitl [HA15]; · iexact HA15
  isplitl [HA16]; · iexact HA16
  isplitl [HA17]; · iexact HA17
  iexact HA18

end Cert.KernelIdealProof

end
-- ==== Proof.KI.Launch.lean ====
/-
The launch: what each device is dealt before its body runs, and the run of the whole
program from any memory.
-/
module

public import proofs.«01_k».proof.Proof.KI.Body
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

def s₀ : MemSt nD τ sig (Elt F) := ⟨m, fun _ => 0, ρ⟩

/-- The argument blocks the devices hold in the memory `m`. -/
def ins : Ins F where
  x c := (win0_0.blk (0 : Fin 1)).view.read (Elt F) (m ((c : Thread nD τ).loc main_arg0))
  wq c := (win0_1.blk (0 : Fin 1)).view.read (Elt F) (m ((c : Thread nD τ).loc main_arg1))
  k c := (win0_2.blk (0 : Fin 1)).view.read (Elt F) (m ((c : Thread nD τ).loc main_arg2))
  v c := (win0_3.blk (0 : Fin 1)).view.read (Elt F) (m ((c : Thread nD τ).loc main_arg3))
  wo c := (win0_4.blk (0 : Fin 1)).view.read (Elt F) (m ((c : Thread nD τ).loc main_arg4))

/-- The result on device `c`. -/
def res (c : Dev nD) : S1024x1024.Idx → Elt F .f32 := out (AB (ins m) c) ((ins m).wo c) (lst c)

/-- The kernel's own semaphores: all cells but the barrier. -/
abbrev osem (i : Fin 18) : SemLoc sig := csem i.succ

/-! ## The duties, listed -/

/-- The duties of one device's cells: the cell, the round, the duty; first those the device pays itself. -/
def tk : Fin 26 → Fin 19 × ℕ × DN :=
  ![(1, 0, 0), (1, 1, 0), (1, 2, 0), (1, 3, 0), (2, 0, 0), (3, 0, 0), (4, 0, 0), (5, 0, 0), (6, 0, 0), (7, 0, 0), (8, 0, 0), (0, 0, 0), (0, 0, 1), (0, 0, 2), (0, 0, 3), (9, 0, 0), (10, 0, 0), (11, 0, 0), (12, 0, 0), (13, 0, 0), (14, 0, 0), (15, 0, 0), (16, 0, 0), (17, 0, 0), (18, 0, 0), (18, 0, 1)]
/-- Who pays it: the device itself, or the one at that distance. -/
def who : Fin 26 → Dev nD → Dev nD :=
  ![fun c => c, fun c => c, fun c => c, fun c => c, fun c => c, fun c => c, fun c => c, fun c => c, fun c => c, fun c => c, fun c => c, px 1, px 2, px 4, px 8, px 1, px 4, px 2, px 8, px 2, px 4, px 4, px 1, px 1, px 1, px 1]

theorem who_who (i : Fin 26) (c : Dev nD) : who i (who i c) = c := by
  fin_cases i <;> first | rfl | exact px_px _ _

abbrev tokOf (cj : Dev nD × Fin 26) : GSem nD τ sig × ℕ × DN := (kcell cj.1 (tk cj.2).1, (tk cj.2).2)

theorem kcell_inj {c c' : Dev nD} {k k' : Fin 19} (h : kcell c k = kcell c' k') : c = c' ∧ k = k' :=
  ⟨congrArg (fun g : GSem nD τ sig => g.1.1) h, csem_inj (congrArg Prod.snd h)⟩

theorem tk_inj : ∀ i j : Fin 26, tk i = tk j → i = j := by decide

theorem tokOf_injective : Function.Injective tokOf := by
  rintro ⟨c, j⟩ ⟨c', j'⟩ h
  obtain ⟨h1, h2⟩ := kcell_inj (congrArg Prod.fst h)
  have h3 : (tk j).2 = (tk j').2 := congrArg (fun x : GSem nD τ sig × ℕ × DN => x.2) h
  have h4 := tk_inj j j' (Prod.ext h2 h3)
  rw [show c = c' from h1, h4]

abbrev cellsOf (ck : Dev nD × Fin 19) : GSem nD τ sig := kcell ck.1 ck.2
theorem cellsOf_injective : Function.Injective cellsOf := fun a b h => Prod.ext (kcell_inj h).1 (kcell_inj h).2

def allCells : Finset (GSem nD τ sig) := Finset.univ.map ⟨cellsOf, cellsOf_injective⟩
def allToks : Finset (GSem nD τ sig × ℕ × DN) := Finset.univ.map ⟨tokOf, tokOf_injective⟩

def u₀ : UU :=
  (initOf (Pipeline.cells cfgs cellOf_inj) (Pipeline.launchToks cfgs cellOf_inj), initOf allCells allToks)

/-- One duty's token. -/
def tok (c : Dev nD) (j : Fin 26) : sProp 𝕄 := dutyTok ER (kcell c (tk j).1) (tk j).2.1 (tk j).2.2

def G (c : Dev nD) : sProp 𝕄 :=
  iprop((bigSep Finset.univ fun k : Fin 19 => roundState ER (Rd (vals (ins m))) (kcell c k) 0)
    ∗ (bigSep Finset.univ fun k : Fin 19 => iprop(atPos ER (kcell c k) 0 ∅ 0 ∗ reached ER (kcell c k) 0)) ∗ bigSep Finset.univ (tok c))

/-- What a device keeps for itself: its places and the duties it pays. -/
def linear (c : Dev nD) : sProp 𝕄 := iprop(places c ∗ owns c ∗ peers c)

def G' (c : Dev nD) : sProp 𝕄 := iprop(∃ K, recs (vals (ins m)) K ∗ linear c)

omit [FloatOps F] in
theorem bigSep_fin19 (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ
omit [FloatOps F] in
theorem bigSep_fin26 (Φ : Fin 26 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) :=
  bigSep_univ_eq_bigSepL [0, 1, 2, 3, 4, 5, 6, 7, 8, 9, 10, 11, 12, 13, 14, 15, 16, 17, 18, 19, 20, 21, 22, 23, 24, 25] (by decide) (by decide) Φ

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 19 => Φ (kcell c k) := by
    unfold allCells; rw [bigSep_map, bigSep_univ_prod]; rfl
  have hT : bigSep allToks (fun x => (dutyTok ER x.1 x.2.1 x.2.2 : sProp 𝕄)) = bigSep Finset.univ fun c : Dev nD => bigSep Finset.univ (tok c) := by
    unfold allToks; rw [bigSep_map, bigSep_univ_prod]; rfl
  iintro HX
  imod (Rounds.fund ER (Rd (vals (ins m))) allCells allToks) $$ HX with ⟨Hst, Hr, Hat, Htok⟩
  imodintro
  ihave Hst' := (Entails.of_eq (hX fun g => roundState ER (Rd (vals (ins m))) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
theorem ownSems0_eq (c : Dev nD) : (Pipeline.ownSems0 (Ix := Unit) (Name := ℕ) (U := UU) (Lvl := ℕ) (Val := Elt F) (τ := τ) osem c : sProp 𝕄)
    = iprop(semVal (kcell c 1) 0 ∗ semVal (kcell c 2) 0 ∗ semVal (kcell c 3) 0 ∗ semVal (kcell c 4) 0 ∗ semVal (kcell c 5) 0 ∗ semVal (kcell c 6) 0 ∗ semVal (kcell c 7) 0 ∗ semVal (kcell c 8) 0 ∗ semVal (kcell c 9) 0 ∗ semVal (kcell c 10) 0 ∗ semVal (kcell c 11) 0 ∗ semVal (kcell c 12) 0 ∗ semVal (kcell c 13) 0 ∗ semVal (kcell c 14) 0 ∗ semVal (kcell c 15) 0 ∗ semVal (kcell c 16) 0 ∗ semVal (kcell c 17) 0 ∗ semVal (kcell c 18) 0) := by
  rw [Pipeline.ownSems0_eq_of_list c osem [0, 1, 2, 3, 4, 5, 6, 7, 8, 9, 10, 11, 12, 13, 14, 15, 16, 17] (by decide) (by decide)]; rfl
omit [FloatOps F] in
theorem unscopedSems0_eq (c : Dev nD) : (unscopedSems0 c : sProp 𝕄) = semVal (kcell c 0) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell c k) 0 : sProp 𝕄) := by
  rw [ownSems0_eq, unscopedSems0_eq, bigSep_fin19]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (vals (ins m))) κ (kcell c k)))
          ∗ (bigSep Finset.univ fun k => iprop(atPos ER (kcell c k) 0 ∅ 0 ∗ reached ER (kcell c k) 0)) ∗ bigSep Finset.univ (tok c)) := by
  unfold G
  iintro ⟨Hos, Hus, Hst, Hat, Htok⟩
  ihave Hv := (sems0_eq (F := F) c) $$ [Hos Hus]
  · isplitl [Hos] <;> iassumption
  imod (show iprop((bigSep Finset.univ fun k : Fin 19 => semVal (kcell c k) 0) ∗ bigSep Finset.univ fun k : Fin 19 => roundState ER (Rd (vals (ins m))) (kcell c k) 0)
      ⊢ (|={Set.univ}=> bigSep Finset.univ fun k => iprop(∃ κ : ℕ, cellInv ER (Rd (vals (ins m))) κ (kcell c k)) : sProp 𝕄) from by
        rw [← bigSep_sep']
        exact (bigSep_mono fun k _ => (Rounds.body_intro ER (Rd (vals (ins m))) (kcell c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to those who pay: a token goes as far as its duty's distance. -/
theorem toks_dealt : (bigSep Finset.univ fun c : Dev nD => bigSep Finset.univ (tok (F := F) c)) ⊢ bigSep Finset.univ fun c : Dev nD => iprop(owns (F := F) c ∗ peers c) := by
  let e : Dev nD × Fin 26 ≃ Dev nD × Fin 26 :=
    ⟨fun p => (who p.2 p.1, p.2), fun p => (who p.2 p.1, p.2), fun p => Prod.ext (who_who _ _) rfl, fun p => Prod.ext (who_who _ _) rfl⟩
  rw [← bigSep_univ_prod (fun p : Dev nD × Fin 26 => tok (F := F) p.1 p.2), bigSep_univ_equiv e, bigSep_univ_prod]
  refine bigSep_mono fun c _ => ?_
  have h : (bigSep Finset.univ fun j : Fin 26 => tok (F := F) (who j c) j) ⊢ iprop(dutyTok ER (kcell (c) 1) 0 0 ∗ dutyTok ER (kcell (c) 1) 1 0 ∗ dutyTok ER (kcell (c) 1) 2 0 ∗ dutyTok ER (kcell (c) 1) 3 0 ∗ dutyTok ER (kcell (c) 2) 0 0 ∗ dutyTok ER (kcell (c) 3) 0 0 ∗ dutyTok ER (kcell (c) 4) 0 0 ∗ dutyTok ER (kcell (c) 5) 0 0 ∗ dutyTok ER (kcell (c) 6) 0 0 ∗ dutyTok ER (kcell (c) 7) 0 0 ∗ dutyTok ER (kcell (c) 8) 0 0 ∗ dutyTok ER (kcell (px 1 c) 0) 0 0 ∗ dutyTok ER (kcell (px 2 c) 0) 0 1 ∗ dutyTok ER (kcell (px 4 c) 0) 0 2 ∗ dutyTok ER (kcell (px 8 c) 0) 0 3 ∗ dutyTok ER (kcell (px 1 c) 9) 0 0 ∗ dutyTok ER (kcell (px 4 c) 10) 0 0 ∗ dutyTok ER (kcell (px 2 c) 11) 0 0 ∗ dutyTok ER (kcell (px 8 c) 12) 0 0 ∗ dutyTok ER (kcell (px 2 c) 13) 0 0 ∗ dutyTok ER (kcell (px 4 c) 14) 0 0 ∗ dutyTok ER (kcell (px 4 c) 15) 0 0 ∗ dutyTok ER (kcell (px 1 c) 16) 0 0 ∗ dutyTok ER (kcell (px 1 c) 17) 0 0 ∗ dutyTok ER (kcell (px 1 c) 18) 0 0 ∗ dutyTok ER (kcell (px 1 c) 18) 0 1) := by
    rw [bigSep_fin26]; exact Entails.refl _
  refine h.trans ?_
  unfold owns peers
  iintro ⟨H0, H1, H2, H3, H4, H5, H6, H7, H8, H9, H10, H11, H12, H13, H14, H15, H16, H17, H18, H19, H20, H21, H22, H23, H24, H25⟩
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

omit [FloatOps F] in
theorem bigSep_with {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (vals (ins m))) κ (kcell c k)))
          ∗ (bigSep Finset.univ fun k => iprop(atPos ER (kcell c k) 0 ∅ 0 ∗ reached ER (kcell c k) 0)) ∗ bigSep Finset.univ (tok c)) : sProp 𝕄)
      ⊢ bigSep Finset.univ (G' m) := by
  rw [bigSep_sep', bigSep_sep', ← bigSep_univ_prod (fun ck : Dev nD × Fin 19 => iprop(∃ κ : ℕ, cellInv ER (Rd (vals (ins m))) κ (kcell ck.1 ck.2))),
    bigSep_congr (s := Finset.univ) (fun (c : Dev nD) _ => bigSep_sep' Finset.univ (fun k : Fin 19 => (atPos ER (kcell c k) 0 ∅ 0 : sProp 𝕄)) (fun k => reached ER (kcell c k) 0)),
    bigSep_sep', ← bigSep_univ_prod (fun ck : Dev nD × Fin 19 => (reached ER (kcell ck.1 ck.2) 0 : sProp 𝕄))]
  iintro ⟨HI, ⟨Hat, #HR⟩, Htok⟩
  ihave HK := (BI.bigSep_exists_pi Finset.univ (fun (ck : Dev nD × Fin 19) (κ : ℕ) => (cellInv ER (Rd (vals (ins m))) κ (kcell ck.1 ck.2) : sProp 𝕄))) $$ HI
  icases HK with ⟨%K, #HI⟩
  ihave Htk := (toks_dealt (F := F)) $$ Htok
  iapply (bigSep_with (R := recs (vals (ins m)) K) fun c _ => show iprop(recs (vals (ins m)) K ∗ linear c) ⊢ G' m c from by
    unfold G'; iintro ⟨HR, HL⟩; iexists K; isplitl [HR]; · iexact HR
    iexact HL)
  isplitr
  · unfold recs; isplitl; · iexact HI
    iexact HR
  · iapply ((Entails.of_eq (bigSep_sep' Finset.univ (fun c : Dev nD => bigSep Finset.univ fun k : Fin 19 => (atPos ER (kcell c k) 0 ∅ 0 : sProp 𝕄)) (fun c => iprop(owns c ∗ peers c))).symm).trans
      (bigSep_mono fun c _ => show _ ⊢ linear c from Entails.of_eq (by unfold linear places; rw [bigSep_fin19])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What all devices together owe one cell, the payments `l` outstanding. -/
def due (l : List (Fin 16 × Fin 19 × ℕ)) (k : Fin 19) : ℕ := (l.map fun e => if e.2.1 = k then e.2.2 else 0).sum

theorem due_eq (l : List (Fin 16 × Fin 19 × ℕ)) (c : Dev nD) (k : Fin 19) : ∑ d : Dev nD, Ow d l (kcell c k) () = due l k := by
  induction l with
  | nil => exact Finset.sum_eq_zero fun d _ => rfl
  | cons e l ih =>
    have h : ∀ d : Dev nD, Ow d (e :: l) (kcell c k) () = Ow d l (kcell c k) () + (if d = px e.1 c then (if e.2.1 = k then e.2.2 else 0) else 0) := fun d => by
      rw [Ow, Pi.add_apply, Finsupp.add_apply, tallyAt_apply]
      congr 1
      by_cases h1 : d = px e.1 c
      · subst h1
        rw [if_pos rfl, px_px]
        by_cases h2 : e.2.1 = k
        · subst h2; rw [if_pos ⟨rfl, rfl⟩, if_pos rfl]
        · rw [if_neg h2, if_neg fun h => h2 (kcell_inj h.1).2.symm]
      · rw [if_neg h1, if_neg fun h => h1 (by rw [show c = px e.1 d from (kcell_inj h.1).1, px_px])]
    rw [Finset.sum_congr rfl fun d _ => h d, Finset.sum_add_distrib, ih, Finset.sum_ite_eq' Finset.univ (px e.1 c) fun _ => _, if_pos (Finset.mem_univ _), Nat.add_comm]
    rfl

omit [FloatOps F] in
theorem launch_cell (c : Dev nD) (k : Fin 19) :
    tallyOn (kcell c k) (launchCredit (Pipeline.owing O₀) 0 (kcell c k)) = (tallyAt (kcell c k) () (due pays k) : CellTallies nD τ sig Unit) := by
  unfold tallyAt; refine congrArg _ (Finsupp.ext fun u => ?_); cases u
  rw [Pipeline.launchCredit_owing, Finsupp.single_eq_same]
  exact due_eq pays c k

theorem due_pays : due pays 0 = 4 ∧ due pays 9 = n512 ∧ due pays 10 = n256 ∧ due pays 11 = n128 ∧ due pays 12 = n128 ∧ due pays 13 = n128
    ∧ due pays 14 = n128 ∧ due pays 15 = n128 ∧ due pays 16 = n128 ∧ due pays 17 = n128 ∧ due pays 18 = n256 := by
  refine ⟨?_, ?_, ?_, ?_, ?_, ?_, ?_, ?_, ?_, ?_, ?_⟩ <;> decide

theorem creds_intro (c : Dev nD) : (Pipeline.launchCred O₀ c : sProp 𝕄) ⊢ creds c := by
  have h : (Pipeline.launchCred O₀ c : sProp 𝕄) ⊢ bigSep Finset.univ fun k : Fin 19 => cred (tallyAt (kcell c k) () (due pays k)) := by
    unfold Pipeline.launchCred
    refine (bigSep_subset (t := Finset.univ.map ⟨csem, fun a b h => csem_inj h⟩) (Finset.subset_univ _)).trans ?_
    rw [bigSep_map]
    exact bigSep_mono fun k _ => Entails.of_eq (congrArg cred (launch_cell c k))
  refine h.trans ?_
  obtain ⟨e0, e9, e10, e11, e12, e13, e14, e15, e16, e17, e18⟩ := due_pays
  rw [bigSep_fin19, e0, e9, e10, e11, e12, e13, e14, e15, e16, e17, e18]
  unfold creds
  iintro ⟨Z0, -, -, -, -, -, -, -, -, Z9, Z10, Z11, Z12, Z13, Z14, Z15, Z16, Z17, Z18⟩
  isplitl [Z0]; · iexact Z0
  isplitl [Z9]; · iexact Z9
  isplitl [Z10]; · iexact Z10
  isplitl [Z11]; · iexact Z11
  isplitl [Z12]; · iexact Z12
  isplitl [Z13]; · iexact Z13
  isplitl [Z14]; · iexact Z14
  isplitl [Z15]; · iexact Z15
  isplitl [Z16]; · iexact Z16
  isplitl [Z17]; · iexact Z17
  iexact Z18

/-! ## The windows' data -/

def start (c : Dev nD) : sProp 𝕄 := iprop(G' m c ∗ creds c ∗ levAts L lv)

/-- The buffers the windows do not stage. -/
def scr (c : Dev nD) : sProp 𝕄 :=
  iprop((∃ f, qP c f) ∗ (∃ f, acP c f) ∗ (∃ f, abP c Finset.univ fullShare f) ∗ (∃ f, l0P c f) ∗ (∃ f, l1P c f) ∗ (∃ f, l2P c f) ∗ (∃ f, l3P c f))

def Φ₀ (c : Dev nD) : sProp 𝕄 := iprop(start m c ∗ scr c)
def Φ₁ (c : Dev nD) : sProp 𝕄 := iprop(scr c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).wq c
    | ⟨2, _⟩ => (ins m).k c
    | ⟨3, _⟩ => (ins m).v c
    | ⟨4, _⟩ => (ins m).wo c
    | ⟨5, _⟩ => res m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem owns_whole_eq (c : Dev nD) (b : Ref sig .tc) (X : b.ty.Contents (Elt F)) :
    (Idealize.ShloMosaic.owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold Idealize.ShloMosaic.owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem fetch_0 (t : Fin cfg0.N) : (cfg0.win (0 : Fin 6)).fetch t = true := by rw [fin_N t]; rfl
theorem fetch_1 (t : Fin cfg0.N) : (cfg0.win (1 : Fin 6)).fetch t = true := by rw [fin_N t]; rfl
theorem fetch_2 (t : Fin cfg0.N) : (cfg0.win (2 : Fin 6)).fetch t = true := by rw [fin_N t]; rfl
theorem fetch_3 (t : Fin cfg0.N) : (cfg0.win (3 : Fin 6)).fetch t = true := by rw [fin_N t]; rfl
theorem fetch_4 (t : Fin cfg0.N) : (cfg0.win (4 : Fin 6)).fetch t = true := by rw [fin_N t]; rfl

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
def bodyPost (c : Dev nD) : sProp 𝕄 :=
  iprop(Φ₁ c ∗ (dats m ρ 0 c).owesAt () t₀.succ
    ∗ stg c cc0_stg0_0 ((ins m).x c)
    ∗ stg c cc0_stg1_0 ((ins m).wq c)
    ∗ stg c cc0_stg2_0 ((ins m).k c)
    ∗ stg c cc0_stg3_0 ((ins m).v c)
    ∗ stg c cc0_stg4_0 ((ins m).wo c)
    ∗ stg c cc0_stg5_0 (res m c))

theorem start_of (c : Dev nD) : bodyPre m ρ c ⊢ iprop(∃ K, recs (vals (ins m)) K ∗ levAts L lv ∗ OW c pays ∗ bufs0 (ins m) c ∗ creds c ∗ places c ∗ owns c ∗ peers c) := by
  unfold bodyPre Φ₀ start G' linear scr
  iintro ⟨⟨⟨⟨%K, Hr, Hp, Ho, Hq⟩, Hc, Hl⟩, Hs⟩, HO, ⟨%d0, %g0, %h0, W0⟩, ⟨%d1, %g1, %h1, W1⟩, ⟨%d2, %g2, %h2, W2⟩, ⟨%d3, %g3, %h3, W3⟩, ⟨%d4, %g4, %h4, W4⟩, ⟨%d5, %g5, %h5, W5⟩⟩
  have e0 : g0 = (ins m).x c := by rw [h0]; unfold Dat.before; rw [if_pos (fetch_0 t₀)]; rfl
  subst e0
  have e1 : g1 = (ins m).wq c := by rw [h1]; unfold Dat.before; rw [if_pos (fetch_1 t₀)]; rfl
  subst e1
  have e2 : g2 = (ins m).k c := by rw [h2]; unfold Dat.before; rw [if_pos (fetch_2 t₀)]; rfl
  subst e2
  have e3 : g3 = (ins m).v c := by rw [h3]; unfold Dat.before; rw [if_pos (fetch_3 t₀)]; rfl
  subst e3
  have e4 : g4 = (ins m).wo c := by rw [h4]; unfold Dat.before; rw [if_pos (fetch_4 t₀)]; rfl
  subst e4
  unfold Dat.owesAt Pipeline.owesWithin
  rw [show (dats m ρ 0 c).owed t₀.castSucc = Ow c pays from rfl]
  icases HO with ⟨%W, %hW, HO⟩
  iexists K
  isplitl [Hr]; · iexact Hr
  isplitl [Hl]; · iexact Hl
  isplitl [HO]; · unfold OW; iexists W; iexact HO
  isplitr [Hc Hp Ho Hq]
  · unfold bufs0
    isplitl [W0]; · unfold xP; iexact W0
    isplitl [W1]; · unfold wqP; iexact W1
    isplitl [W2]; · unfold kP; iexact W2
    isplitl [W3]; · unfold vP; iexact W3
    isplitl [W4]; · unfold woP; iexact W4
    isplitl [W5]; · unfold oP; iexists _; iexact W5
    iexact Hs
  isplitl [Hc]; · iexact Hc
  isplitl [Hp]; · iexact Hp
  isplitl [Ho]; · iexact Ho
  iexact Hq

theorem end_of (c : Dev nD) : iprop(OW c [] ∗ bufs1 (ins m) c ∗ zeros c) ⊢ bodyPost m ρ c := by
  unfold bodyPost Φ₁ scr OW bufs1 xP wqP kP vP woP oP
  iintro ⟨⟨%W, HO⟩, ⟨W0, W1, W2, W3, W4, W5, Hs⟩, Hz⟩
  isplitl [Hs Hz]
  · isplitl [Hs]; · iexact Hs
    iexact Hz
  isplitl [HO]
  · unfold Dat.owesAt Pipeline.owesWithin
    rw [show (dats m ρ 0 c).owed t₀.succ = Ow c [] from rfl]
    iexists W
    isplitr; · ipureintro; exact fun _ _ => Or.inl trivial
    iexact HO
  isplitl [W0]
  · iexists _; isplitr; · (ipureintro; rfl)
    iexact W0
  isplitl [W1]
  · iexists _; isplitr; · (ipureintro; rfl)
    iexact W1
  isplitl [W2]
  · iexists _; isplitr; · (ipureintro; rfl)
    iexact W2
  isplitl [W3]
  · iexists _; isplitr; · (ipureintro; rfl)
    iexact W3
  isplitl [W4]
  · iexists _; isplitr; · (ipureintro; rfl)
    iexact W4
  iexists _; isplitr; · (ipureintro; rfl)
  iexact W5

set_option maxRecDepth 8000 in
/-- The body's obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ (cc0_body (F := F) xM (Memref.isWhole_whole _) wqM (Memref.isWhole_whole _) kM (Memref.isWhole_whole _) vM (Memref.isWhole_whole _) woM (Memref.isWhole_whole _) oM (Memref.isWhole_whole _) qM (Memref.isWhole_whole _) acM (Memref.isWhole_whole _) abM (Memref.isWhole_whole _)
    l0M (Memref.isWhole_whole _) l1M (Memref.isWhole_whole _) l2M (Memref.isWhole_whole _) l3M (Memref.isWhole_whole _) cc0_scratch7 cc0_scratch8 cc0_scratch9) (fun _ => bodyPost m ρ c)
  refine (start_of m ρ c).trans ?_
  iintro ⟨%K, H⟩
  have hb := body (ins m) K c (Q := fun _ => bodyPost m ρ c)
  ihave H2 := hb $$ H
  iapply H2
  iintro H
  have he := end_of m ρ c
  ihave H3 := he $$ H
  iexact H3

/-! ## The theorem's side conditions -/

omit [FloatOps F] in
theorem mayWait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · exact mayWait_of c (.dma q) 0 (le_of_eq (by unfold lv; rw [hq])) pays (by decide)
  · rw [MayWait_zero]; iintro -; iempintro

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem scr_eq (c : Dev nD) : (Pipeline.scopedRest cfg0.spec c : sProp 𝕄) = scr c := by
  rw [scopedRest0_eq]; unfold scr qP acP abP l0P l1P l2P l3P; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq, ownSems0_eq, unscopedSems0_eq]
  unfold Φ₁ zeros
  iintro ⟨Hr, HB, Hz⟩
  isplitl [HB]; · iexact HB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem ownSemFacts : Pipeline.OwnSemFacts cfg0.spec osem := by decide

theorem share_eq (c : Dev nD) (w : Fin cfg0.W) : (dats m ρ 0 c).share w = fullShare := by unfold Dat.share; split <;> rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every fair execution ends, with every window's array as computed and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof

end
-- ==== Proof.Val.Softmax.lean ====
/-
Softmax-weighted sums: dividing every weight by the sum of the weights, after shifting the scores by their maximum, is
dividing the weighted sum of the unshifted exponentials by the sum of them.
-/
module

public import Idealize.ShloMosaic.Lib.Pointwise
public import Mathlib.Data.EReal.Inv

@[expose] public section

noncomputable section

namespace Cert.Val

open Idealize.ShloMosaic

theorem exp_coe (r : ℝ) : Ideal.exp ((r : ℝ) : EReal) = ((Real.exp r : ℝ) : EReal) := rfl
theorem exp_bot : Ideal.exp (⊥ : EReal) = 0 := rfl

theorem coe_sum {ι : Type} (s : Finset ι) (f : ι → ℝ) : ((∑ i ∈ s, f i : ℝ) : EReal) = ∑ i ∈ s, ((f i : ℝ) : EReal) := by
  classical
  induction s using Finset.induction_on with
  | empty => rfl
  | insert a s ha ih => rw [Finset.sum_insert ha, Finset.sum_insert ha, EReal.coe_add, ih]

/-- A nonnegative real factor goes into a sum. -/
theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => rw [Finset.sum_empty, Finset.sum_empty, zero_mul]
  | insert a s ha ih =>
    rw [Finset.sum_insert ha, Finset.sum_insert ha, ← ih]
    exact EReal.right_distrib_of_nonneg_of_ne_top (EReal.coe_nonneg.2 hc) (EReal.coe_ne_top c) _ _

theorem div_coe (a : EReal) {b : ℝ} (hb : b ≠ 0) : Ideal.div a (b : EReal) = a * ((b⁻¹ : ℝ) : EReal) := by
  rw [Ideal.div, if_neg (by exact_mod_cast hb), EReal.coe_inv]

/-- The maximum of some reals and minus infinities, one of them real, is real. -/
theorem fold_max_coe {ι : Type} [Fintype ι] (f : ι → EReal) (ht : ∀ i, f i ≠ ⊤) (i : ι) (hi : f i ≠ ⊥) :
    ∃ M : ℝ, Finset.univ.fold max (⊥ : EReal) f = (M : EReal) := by
  have h1 : f i ≤ Finset.univ.fold max (⊥ : EReal) f := (Finset.le_fold_max _).2 (Or.inr ⟨i, Finset.mem_univ i, le_rfl⟩)
  have h2 : Finset.univ.fold max (⊥ : EReal) f < ⊤ := (Finset.fold_max_lt _).2 ⟨bot_lt_top, fun x _ => lt_top_iff_ne_top.2 (ht x)⟩
  have h3 : Finset.univ.fold max (⊥ : EReal) f ≠ ⊥ := fun h => hi (le_bot_iff.1 (h ▸ h1))
  exact ⟨_, (EReal.coe_toReal h2.ne h3).symm⟩

section
variable {ι : Type} [Fintype ι] (att : ι → Prop) [DecidablePred att] (s : ι → ℝ)

/-- The masked score. -/
def msk (j : ι) : EReal := if att j then (s j : EReal) else ⊥
/-- The weight before any shift. -/
def wgt (j : ι) : EReal := if att j then Ideal.exp (s j : EReal) else 0

theorem softmax_eq (v : ι → EReal) (i₀ : ι) (h₀ : att i₀) :
    (∑ j, v j * Ideal.div (Ideal.exp (msk att s j - Finset.univ.fold max (⊥ : EReal) (msk att s)))
        (∑ j, Ideal.exp (msk att s j - Finset.univ.fold max (⊥ : EReal) (msk att s))))
      = Ideal.div (∑ j, wgt att s j * v j) (∑ j, wgt att s j) := by
  obtain ⟨M, hM⟩ := fold_max_coe (msk att s) (fun i => by unfold msk; split <;> simp) i₀ (by rw [msk, if_pos h₀]; simp)
  rw [hM]
  have hw : ∀ j, wgt att s j = (((if att j then Real.exp (s j) else 0 : ℝ)) : EReal) := fun j => by
    unfold wgt; split
    · rfl
    · rfl
  have he : ∀ j, Ideal.exp (msk att s j - (M : EReal)) = (((if att j then Real.exp (s j) else 0) * Real.exp (-M) : ℝ) : EReal) := fun j => by
    unfold msk; split
    · rw [← EReal.coe_sub, exp_coe, ← Real.exp_add, sub_eq_add_neg]
    · rw [EReal.bot_sub, exp_bot, zero_mul, EReal.coe_zero]
  simp only [he, hw]
  rw [← coe_sum, ← coe_sum, ← Finset.sum_mul]
  have hA : 0 < ∑ j, (if att j then Real.exp (s j) else 0 : ℝ) :=
    Finset.sum_pos' (fun j _ => by split <;> positivity) ⟨i₀, Finset.mem_univ _, by rw [if_pos h₀]; positivity⟩
  have hE : Real.exp (-M) ≠ 0 := (Real.exp_pos _).ne'
  rw [div_coe _ hA.ne', sum_mul_coe _ _ _ (inv_nonneg.2 hA.le)]
  refine Finset.sum_congr rfl fun j _ => ?_
  rw [div_coe _ (mul_ne_zero hA.ne' hE), mul_comm (v j), ← EReal.coe_mul, mul_right_comm _ (v j), ← EReal.coe_mul]
  congr 2
  field_simp
end

end Cert.Val

end
-- ==== Proof.Val.Pre.lean ====
/-
The precondition read: every entry of the arrays that enter the scores is a real number.
-/
module

public import proofs.«01_k».proof.Defs
public import proofs.«01_k».proof.Proof.Val.Softmax

@[expose] public section

set_option maxRecDepth 16384

noncomputable section

namespace Cert.Pre

open Idealize.ShloMosaic Idealize.ShloMosaic.TcCoe

/-- The shape facts the precondition over the candidate's inputs states. -/
instance factsK : Cert.Pre_finite_KernelIdeal.Facts where
  bcast_S_S1024x1024 := by decide
  reducesTo_S1024x1024_S_d0_1 := by decide
  h_S_ := by decide

/-- The shape facts the precondition over the reference's inputs states. -/
instance factsR : Cert.Pre_finite_ReferenceIdeal.Facts where
  bcast_S_S1024x1024 := by decide
  reducesTo_S1024x1024_S_d0_1 := by decide
  h_S_ := by decide
  bcast_S_S16384x1024 := by decide
  reducesTo_S16384x1024_S_d0_1 := by decide

theorem and_one {a b : BitVec 1} (h : IntOp.andi a b = 1#1) : a = 1#1 ∧ b = 1#1 := by
  revert a b; decide

theorem fold_one {ι : Type} [Fintype ι] (f : ι → BitVec 1)
    (h : Finset.univ.fold IntOp.andi (1#1) f = 1#1) (i : ι) : f i = 1#1 := by
  classical
  have key : ∀ s : Finset ι, s.fold IntOp.andi (1#1) f = 1#1 → ∀ i ∈ s, f i = 1#1 := by
    intro s
    induction s using Finset.induction_on with
    | empty => intro _ i hi; simp at hi
    | insert a s ha ih =>
      intro h i hi
      rw [Finset.fold_insert ha] at h
      obtain ⟨h1, h2⟩ := and_one h
      rcases Finset.mem_insert.mp hi with rfl | hi
      · exact h1
      · exact ih h2 i hi
  exact key _ h i (Finset.mem_univ i)

/-- An extended real whose absolute value is below the bf16 infinity is a real number. -/
theorem real_of_lt (a : EReal)
    (h : BitVec.ofBool (decide (FloatOps.absf (F := Ideal) (φ := .bf16) a < Ideal.ofBits .bf16 32640#16)) = 1#1) :
    ∃ r : ℝ, a = (r : EReal) := by
  have ht : Ideal.ofBits .bf16 32640#16 = ⊤ := by simp [Ideal.ofBits, Ideal.ieee]
  rw [ht] at h
  have h' : max a (-a) < ⊤ := by
    by_contra hn
    have : decide (FloatOps.absf (F := Ideal) (φ := .bf16) a < (⊤ : EReal)) = false := decide_eq_false hn
    rw [this] at h
    exact absurd h (by decide)
  have h1 : a ≠ ⊤ := fun e => by subst e; simp at h'
  have h2 : a ≠ ⊥ := fun e => by subst e; simp at h'
  exact ⟨a.toReal, (EReal.coe_toReal h1 h2).symm⟩

/-- The precondition says that every entry of its first three arrays is a real number. -/
theorem reals (a b k v w : FVec Ideal Cert.Pre_finite_KernelIdeal.S1024x1024 .bf16)
    (h : Cert.Pre_finite_KernelIdeal.fn (F := Ideal) a b k v w = fun _ => 1#1) (i j : Fin 1024) :
    (∃ r : ℝ, a (ix2 i j) = (r : EReal)) ∧ (∃ r : ℝ, b (ix2 i j) = (r : EReal)) ∧
      (∃ r : ℝ, k (ix2 i j) = (r : EReal)) := by
  have h0 := congrFun h ix0
  pointwise [Cert.Pre_finite_KernelIdeal.fn] at h0
  obtain ⟨h12, h3⟩ := and_one h0
  obtain ⟨h1, h2⟩ := and_one h12
  exact ⟨real_of_lt _ (fold_one _ h1 (i, j)), real_of_lt _ (fold_one _ h2 (i, j)),
    real_of_lt _ (fold_one _ h3 (i, j))⟩

end Cert.Pre

end
-- ==== Proof.Frames.lean ====
/-
The frames: every program runs to its end, leaves its arguments as they were and every counter at zero.
The kernel read at the machine's floats is the same program as the one read over the extended reals, so one run serves both.
-/
module

public import proofs.«01_k».proof.Defs
public import proofs.«01_k».proof.Proof.KI.Launch
public import proofs.«01_k».proof.Proof.Gen.Kernel
public import proofs.«01_k».proof.Proof.Gen.ReferenceIdeal.Run
public import proofs.«01_k».proof.Proof.Val.Pre

@[expose] public section

noncomputable section

namespace Cert.KernelIdealProof

open Idealize.ShloMosaic Idealize.SL.Sem Cert.KernelIdeal Cert.KernelIdeal.Gen
open Idealize.ShloMosaic.TcCoe

variable {F : FTy → Type} [FloatOps F]
variable (m : (ℓ : Loc nD τ sig) → Buf (Elt F) ℓ) (ρ : Dev nD → PrngReg)

theorem final_in (c : Dev nD) (w : Fin 6) (hw : w ≠ 5) : finalA m ρ c w = m (((cfg0 : Pipeline.Cfg sig Λ₀).win w).arr.view.loc (c : Thread nD τ)) :=
  (dats m ρ 0 c).arrAt_in w (by revert w; decide) _

/-- The five arguments end as they were, the result array as the window leaves it, every counter at zero. -/
theorem run_all : θ_run (defs (F := F)) (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)))
    ∧ (∀ c : Dev nD, r.2.mem ((c.tc : Thread nD τ).loc main_v1) = finalA m ρ c (5 : Fin 6)) ∧ r.2.sem = fun _ => 0) :=
  (θ_run defs _ _).mono (fun r h =>
    have a (c : Dev nD) (w : Fin 6) (hw : w ≠ 5) : r.2.mem (((cfg0 : Pipeline.Cfg sig Λ₀).win w).arr.view.loc (c : Thread nD τ)) = m (((cfg0 : Pipeline.Cfg sig Λ₀).win w).arr.view.loc (c : Thread nD τ)) := (h.1 c w).trans (final_in m ρ c w hw)
    ⟨fun c => ⟨a c 0 (by decide), a c 1 (by decide), a c 2 (by decide), a c 3 (by decide), a c 4 (by decide)⟩, fun c => h.1 c (5 : Fin 6), h.2⟩)
    (run_main m ρ)

end Cert.KernelIdealProof

namespace Cert.Frames

open Idealize.ShloMosaic Idealize.SL.Sem

theorem frame_ideal : Cert.quiescent_KernelIdeal (hKernelIdeal := Cert.KernelIdeal.Gen.facts) := fun m ρ _ =>
  (θ_run (@Cert.KernelIdeal.defs Ideal _ Cert.KernelIdeal.Gen.facts) _ _).mono (fun _ h => ⟨h.1, h.2.2⟩) (Cert.KernelIdealProof.run_all m ρ)

section
variable {F : FTy → Type} [FloatOps F]

set_option maxRecDepth 20000 in
theorem body_same : @Cert.Kernel.cc0_body F _ Cert.Kernel.Gen.facts = @Cert.KernelIdeal.cc0_body F _ Cert.KernelIdeal.Gen.facts := rfl

set_option maxRecDepth 20000 in
theorem defs₀_same : @Cert.Kernel.defs₀ F _ Cert.Kernel.Gen.facts = @Cert.KernelIdeal.defs₀ F _ Cert.KernelIdeal.Gen.facts := by
  unfold Cert.Kernel.defs₀ Cert.KernelIdeal.defs₀
  rw [body_same]
  refine congrArg Defs.onTc (funext fun l => ?_)
  match l with
  | ⟨0, _⟩ => rfl

theorem main_same : Cert.Kernel.main (F := F) = Cert.KernelIdeal.main (F := F) := rfl

theorem defs_same : @Cert.Kernel.defs F _ Cert.Kernel.Gen.facts = @Cert.KernelIdeal.defs F _ Cert.KernelIdeal.Gen.facts := by
  unfold Cert.Kernel.defs Cert.KernelIdeal.defs
  rw [defs₀_same]; rfl
end

theorem frame_kernel : Cert.quiescent_Kernel (hKernel := Cert.Kernel.Gen.facts) := fun m ρ _ => by
  rw [defs_same, main_same]
  exact (θ_run (@Cert.KernelIdeal.defs Bits _ Cert.KernelIdeal.Gen.facts) _ _).mono (fun _ h => ⟨h.1, h.2.2⟩) (Cert.KernelIdealProof.run_all (F := Bits) m ρ)

theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) _⟩)
    (Cert.ReferenceIdeal.Value.run m ρ)

/-- The same, with the precondition granted. -/
theorem frame_ideal_pre : Cert.quiescent_KernelIdeal_pre_finite_KernelIdeal (hKernelIdeal := Cert.KernelIdeal.Gen.facts)
    (hPre_finite_KernelIdeal := Cert.Pre.factsK) := fun m ρ _ => frame_ideal m ρ trivial

theorem frame_reference_pre : Cert.quiescent_ReferenceIdeal_pre_finite_ReferenceIdeal (hReferenceIdeal := Cert.ReferenceIdeal.Gen.facts)
    (hPre_finite_ReferenceIdeal := Cert.Pre.factsR) := fun m ρ _ => frame_reference m ρ trivial

end Cert.Frames

end
-- ==== Proof.Val.Io.lean ====
/-
The windows of the call are whole arrays: what a device is dealt is the array, and what the run leaves in the result
array is what the device wrote.
-/
module

public import proofs.«01_k».proof.Proof.KI.Launch
public import Idealize.ShloMosaic.Lib.Pipeline.ValueKit.Geometry

@[expose] public section

noncomputable section

namespace Cert.KernelIdealProof

open Idealize.ShloMosaic Idealize.ShloMosaic.TcCoe Cert.KernelIdeal Cert.KernelIdeal.Gen
open Idealize.ShloMosaic.Pipeline (Dat Cfg Window)

variable {F : FTy → Type} [FloatOps F]
variable (m : (ℓ : Loc nD τ sig) → Buf (Elt F) ℓ) (ρ : Dev nD → PrngReg)

/-- An array read through a map that keeps every coordinate is the array. -/
theorem read_id {α : Type} {S : Shape} (f : S.Idx → α) (e : S.Idx → S.Idx) (h : ∀ i a, (e i a).val = (i a).val) : (fun i => f (e i)) = f :=
  funext fun i => congrArg f (funext fun a => Fin.ext (h i a))

theorem ins_x (c : Dev nD) : (ins m).x c = m ((c.tc : Thread nD τ).loc main_arg0) :=
  read_id _ (win0_0.blk (0 : Fin 1)).view.emb fun i a => by fin_cases a <;> simp <;> rfl
theorem ins_wq (c : Dev nD) : (ins m).wq c = m ((c.tc : Thread nD τ).loc main_arg1) :=
  read_id _ (win0_1.blk (0 : Fin 1)).view.emb fun i a => by fin_cases a <;> simp <;> rfl
theorem ins_k (c : Dev nD) : (ins m).k c = m ((c.tc : Thread nD τ).loc main_arg2) :=
  read_id _ (win0_2.blk (0 : Fin 1)).view.emb fun i a => by fin_cases a <;> simp <;> rfl
theorem ins_v (c : Dev nD) : (ins m).v c = m ((c.tc : Thread nD τ).loc main_arg3) :=
  read_id _ (win0_3.blk (0 : Fin 1)).view.emb fun i a => by fin_cases a <;> simp <;> rfl
theorem ins_wo (c : Dev nD) : (ins m).wo c = m ((c.tc : Thread nD τ).loc main_arg4) :=
  read_id _ (win0_4.blk (0 : Fin 1)).view.emb fun i a => by fin_cases a <;> simp <;> rfl

theorem final_out (c : Dev nD) : finalA m ρ c (5 : Fin 6) = res m c := by
  funext i
  exact (dats m ρ 0 c).arrAt_emb_eq_after_last (5 : Fin 6) t₀ (by decide +kernel) i

end Cert.KernelIdealProof

end
-- ==== Proof.Val.RefDefs.lean ====
/-
The reference's result taken apart: its mask, its scores, its weights and its result as functions of the five arrays.
-/
module

public import proofs.«01_k».proof.Proof.Gen.ReferenceIdeal.Run

@[expose] public section

noncomputable section

namespace Cert.RefVal

open Cert.ReferenceIdeal Cert.ReferenceIdeal.Gen Idealize.ShloMosaic Idealize.ShloMosaic.TcCoe

/-- The word 64 along the queries and along the keys. -/
def d64q : IVec S1024 32 := broadcastInDim S1024 ![] bcast_S_S1024 (id (constantI S_ 32 64#32))
def d64k : IVec S16384 32 := broadcastInDim S16384 ![] bcast_S_S16384 (id (constantI S_ 32 64#32))

/-- The block of each query row. -/
def qblk : IVec S1024 32 :=
  select (andi (cmpi .ne (signi (iotaInDim S1024 32 0)) (broadcastInDim S1024 ![] bcast_S_S1024 (signi (id (constantI S_ 32 64#32)))))
      (cmpi .ne (Host.remsi (iotaInDim S1024 32 0) d64q) (broadcastInDim S1024 ![] bcast_S_S1024 (constantI S_ 32 0#32))))
    (subi (Host.divsi (iotaInDim S1024 32 0) d64q) (broadcastInDim S1024 ![] bcast_S_S1024 (constantI S_ 32 1#32)))
    (Host.divsi (iotaInDim S1024 32 0) d64q)

/-- The block of each key. -/
def kblk : IVec S16384 32 :=
  select (andi (cmpi .ne (signi (iotaInDim S16384 32 0)) (broadcastInDim S16384 ![] bcast_S_S16384 (signi (id (constantI S_ 32 64#32)))))
      (cmpi .ne (Host.remsi (iotaInDim S16384 32 0) d64k) (broadcastInDim S16384 ![] bcast_S_S16384 (constantI S_ 32 0#32))))
    (subi (Host.divsi (iotaInDim S16384 32 0) d64k) (broadcastInDim S16384 ![] bcast_S_S16384 (constantI S_ 32 1#32)))
    (Host.divsi (iotaInDim S16384 32 0) d64k)

/-- The two blocks along both axes. -/
def qblk2 : IVec S1024x16384 32 := broadcastInDim S1024x16384 ![0, 1] bcast_S1024x1_S1024x16384_0_1 (broadcastInDim S1024x1 ![0] bcast_S1024_S1024x1_0 qblk)
def kblk1 : IVec S1x16384 32 := broadcastInDim S1x16384 ![1] bcast_S16384_S1x16384_1 kblk
def kblk2 : IVec S1024x16384 32 := broadcastInDim S1024x16384 ![0, 1] bcast_S1x16384_S1024x16384_0_1 kblk1

/-- The divisor three, and the remainder of the blocks' sum by it. -/
def three : IVec S_ 32 := select (cmpi .eq (id (constantI S_ 32 3#32)) (constantI S_ 32 0#32)) (constantI S_ 32 1#32) (id (constantI S_ 32 3#32))
def rem3 : IVec S1024x16384 32 := Host.remsi (addi qblk2 kblk2) (broadcastInDim S1024x16384 ![] bcast_S_S1024x16384 three)
def zero2 : IVec S1024x16384 32 := broadcastInDim S1024x16384 ![] bcast_S_S1024x16384 (constantI S_ 32 0#32)

/-- The mask. -/
def mask : IVec S1024x16384 1 :=
  ori (ori (cmpi .eq qblk2 kblk2) (broadcastInDim S1024x16384 ![0, 1] bcast_S1x16384_S1024x16384_0_1 (cmpi .eq kblk1 (broadcastInDim S1x16384 ![] bcast_S_S1x16384 (constantI S_ 32 0#32)))))
    (cmpi .eq (select (andi (cmpi .ne (cmpi .slt rem3 zero2) (broadcastInDim S1024x16384 ![] bcast_S_S1024x16384 (cmpi .slt three (constantI S_ 32 0#32)))) (cmpi .ne rem3 zero2))
      (addi rem3 (broadcastInDim S1024x16384 ![] bcast_S_S1024x16384 three)) rem3) zero2)

/-- Whether a row keeps any key. -/
def keep : IVec S1x1024x1 1 := broadcastInDim S1x1024x1 ![1] bcast_S1024_S1x1024x1_1 (Host.reduce IntOp.ori mask (constantI S_ 1 0#1) reducesTo_S1024x16384_S1024_d1 h_S_)

variable {F : FTy → Type} [FloatOps F]
variable (x wq : FVec F S1024x1024 .bf16) (k v : FVec F S16384x1024 .bf16) (wo : FVec F S1024x1024 .bf16)

/-- The queries, by heads. -/
def qs : FVec F S1024x8x128 .bf16 :=
  shapeCast _ (truncf .bf16 (Host.dotGeneral dot_S1024x1024_S1024x1024_S1024x1024_1_0_0_1_n_n none x wq) bitsLt_bf16_f32) shapeCasts_S1024x1024_S1024x8x128

/-- The masked scores. -/
def scores : FVec F S8x1024x16384 .f32 :=
  select (broadcastInDim S8x1024x16384 ![0, 1, 2] bcast_S1x1024x16384_S8x1024x16384_0_1_2 (broadcastInDim S1x1024x16384 ![1, 2] bcast_S1024x16384_S1x1024x16384_1_2 mask))
    (mulf (extf .f32 (truncf .bf16 (Host.dotGeneral dot_S1024x8x128_S16384x8x128_S8x1024x16384_2_2_0_0_1_1 none (qs x wq) (shapeCast _ k shapeCasts_S16384x1024_S16384x8x128)) bitsLt_bf16_f32) bitsLt_bf16_f32)
      (broadcastInDim S8x1024x16384 ![] bcast_S_S8x1024x16384 (constant S_ .f32 0x3DB504F3#32)))
    (broadcastInDim S8x1024x16384 ![] bcast_S_S8x1024x16384 (id (constant S_ .f32 0xFF800000#32)))

/-- The largest score of each row. -/
def top : FVec F S8x1024 .f32 := Host.reduce FloatOps.maximumf (scores x wq k) (constant S_ .f32 0xFF800000#32) reducesTo_S8x1024x16384_S8x1024_d2 h_S_

/-- The exponentials. -/
def exps : FVec F S8x1024x16384 .f32 :=
  Host.exp (subf (scores x wq k) (broadcastInDim S8x1024x16384 ![0, 1, 2] bcast_S8x1024x1_S8x1024x16384_0_1_2 (broadcastInDim S8x1024x1 ![0, 1] bcast_S8x1024_S8x1024x1_0_1 (top x wq k))))

/-- The sums the weights are divided by. -/
def sums : FVec F S8x1024x1 .f32 :=
  select (broadcastInDim S8x1024x1 ![0, 1, 2] bcast_S1x1024x1_S8x1024x1_0_1_2 keep)
    (broadcastInDim S8x1024x1 ![0, 1] bcast_S8x1024_S8x1024x1_0_1 (Host.reduceAdd (exps x wq k) (constant S_ .f32 0x00000000#32) reducesTo_S8x1024x16384_S8x1024_d2 h_S_))
    (broadcastInDim S8x1024x1 ![] bcast_S_S8x1024x1 (id (constant S_ .f32 0x3F800000#32)))

/-- The weights. -/
def wts : FVec F S8x1024x16384 .f32 :=
  select (broadcastInDim S8x1024x16384 ![0, 1, 2] bcast_S1x1024x1_S8x1024x16384_0_1_2 keep)
    (Host.divf (exps x wq k) (broadcastInDim S8x1024x16384 ![0, 1, 2] bcast_S8x1024x1_S8x1024x16384_0_1_2 (sums x wq k)))
    (broadcastInDim S8x1024x16384 ![] bcast_S_S8x1024x16384 (id (constant S_ .f32 0x00000000#32)))

/-- The weighted values of each head. -/
def ctx : FVec F S8x128x1024 .f32 :=
  Host.dotGeneral dot_S16384x8x128_S8x1024x16384_S8x128x1024_0_2_2_1_1_0 none (extf .f32 (shapeCast _ v shapeCasts_S16384x1024_S16384x8x128) bitsLt_bf16_f32) (wts x wq k)

/-- The result. -/
def outp : FVec F S1024x1024 .f32 :=
  Host.dotGeneral dot_S1024x1024_S1024x1024_S1024x1024_1_0_0_1_n_n none
    (shapeCast _ (transpose S1024x8x128 [2, 0, 1] (ctx x wq k v) transposes_S8x128x1024_S1024x8x128_2_0_1) shapeCasts_S1024x8x128_S1024x1024)
    (extf .f32 wo bitsLt_bf16_f32)

set_option maxRecDepth 8192 in
theorem res_eq (m : (ℓ : Loc nD τ sig) → Buf (Elt F) ℓ) (c : Dev nD) :
    Cert.ReferenceIdeal.Value.res_main_v51 m c
      = outp (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Cert.RefVal

end
-- ==== Proof.Val.Words.lean ====
/-
The index words: a position's block of 64, and the test that lets a block of queries attend to a block of keys.
-/
module

public import Idealize.ShloMosaic.Lib.Pointwise
public import Idealize.ShloMosaic.Lib.Routing.Words

@[expose] public section

namespace Cert.Val

open Idealize.ShloMosaic

/-- The query at row `r` attends to the key at position `J`. -/
def Att (r J : ℕ) : Prop := (r / 64 = J / 64 ∨ J / 64 = 0) ∨ (r / 64 + J / 64) % 3 = 0

instance (r J : ℕ) : Decidable (Att r J) := inferInstanceAs (Decidable ((_ ∨ _) ∨ _))

/-- The kernel's floor division of a word by 64. -/
def fdK (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- The reference's floor division of a word by 64. -/
def fdR (x : BitVec 32) : BitVec 32 :=
  Scalar.select
    (IntOp.andi (IntOp.cmpi (w := 32) .ne (if x = 0 then 0 else if x.msb = true then -1 else 1) (if (64#32 : BitVec 32) = 0 then 0 else if (64#32).msb = true then -1 else 1))
      (IntOp.cmpi .ne (IntOp.remsi .host x 64#32) 0#32))
    (IntOp.subi (IntOp.divsi .host x 64#32) 1#32) (IntOp.divsi .host x 64#32)

theorem select_and_left {α : Type} {p q : BitVec 1} (a b : α) (h : p = 0#1) : Scalar.select (IntOp.andi p q) a b = b := by
  subst h
  rcases BitVec.eq_zero_or_eq_one q with rfl | rfl <;> rfl
theorem select_and_right {α : Type} {p q : BitVec 1} (a b : α) (h : q = 0#1) : Scalar.select (IntOp.andi p q) a b = b := by
  subst h
  rcases BitVec.eq_zero_or_eq_one p with rfl | rfl <;> rfl

theorem slt_zero {n : ℕ} (hn : n < 2 ^ 31) : (BitVec.ofNat 32 n).slt 0#32 = false := by
  rw [show (0#32 : BitVec 32) = BitVec.ofNat 32 0 from rfl, Routing.slt_ofNat32 hn (by decide)]
  simp
theorem zero_slt {n : ℕ} (hn : n < 2 ^ 31) (h0 : 0 < n) : (0#32 : BitVec 32).slt (BitVec.ofNat 32 n) = true := by
  rw [show (0#32 : BitVec 32) = BitVec.ofNat 32 0 from rfl, Routing.slt_ofNat32 (by decide) hn]
  simp [h0]

theorem fdK_word {n : ℕ} (hn : n < 2 ^ 31) : fdK (BitVec.ofNat 32 n) = BitVec.ofNat 32 (n / 64) := by
  have e : IntOp.divsi .vector (BitVec.ofNat 32 n) 64#32 = BitVec.ofNat 32 (n / 64) := Routing.divsi_word .vector hn (by decide) (by decide)
  rcases Nat.eq_zero_or_pos n with h | h
  · subst h; decide +kernel
  · rw [fdK, select_and_left _ _ ?_, e]
    show IntOp.cmpi .ne (IntOp.subi (BitVec.setWidth 32 (BitVec.ofBool ((0#32).slt (BitVec.ofNat 32 n)))) (BitVec.setWidth 32 (BitVec.ofBool ((BitVec.ofNat 32 n).slt 0#32)))) _ = _
    rw [slt_zero hn, zero_slt hn h]
    decide +kernel

theorem fdR_word {n : ℕ} (hn : n < 2 ^ 31) : fdR (BitVec.ofNat 32 n) = BitVec.ofNat 32 (n / 64) := by
  have e : IntOp.divsi .host (BitVec.ofNat 32 n) 64#32 = BitVec.ofNat 32 (n / 64) := Routing.divsi_word .host hn (by decide) (by decide)
  rcases Nat.eq_zero_or_pos n with h | h
  · subst h; decide +kernel
  · have hm : (BitVec.ofNat 32 n).msb = false := by
      rw [BitVec.msb_eq_decide, BitVec.toNat_ofNat, Nat.mod_eq_of_lt (by omega)]
      simpa using hn
    have hz : ¬ BitVec.ofNat 32 n = (0 : BitVec 32) := Routing.ofNat32_ne_zero h (by omega)
    rw [fdR, select_and_left _ _ ?_, e]
    rw [if_neg hz, hm]
    decide +kernel

/-- The kernel's test on a block of queries and a block of keys. -/
def attK (a b : BitVec 32) : BitVec 1 :=
  IntOp.ori (IntOp.ori (IntOp.cmpi .eq a b) (IntOp.cmpi .eq b 0#32)) (IntOp.cmpi .eq (IntOp.remsi .vector (IntOp.addi a b) 3#32) 0#32)

/-- The reference's test. -/
def attR (a b d : BitVec 32) : BitVec 1 :=
  IntOp.ori (IntOp.ori (IntOp.cmpi .eq a b) (IntOp.cmpi .eq b 0#32))
    (IntOp.cmpi .eq
      (Scalar.select
        (IntOp.andi (IntOp.cmpi .ne (IntOp.cmpi .slt (IntOp.remsi .host (IntOp.addi a b) d) 0#32) (IntOp.cmpi .slt d 0#32))
          (IntOp.cmpi .ne (IntOp.remsi .host (IntOp.addi a b) d) 0#32))
        (IntOp.addi (IntOp.remsi .host (IntOp.addi a b) d) d) (IntOp.remsi .host (IntOp.addi a b) d))
      0#32)

theorem eq_word {a b : ℕ} (ha : a < 2 ^ 31) (hb : b < 2 ^ 31) : IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have := congrArg BitVec.toNat h
    rw [BitVec.toNat_ofNat, BitVec.toNat_ofNat, Nat.mod_eq_of_lt (by omega), Nat.mod_eq_of_lt (by omega)] at this
    exact this
  · rintro rfl; rfl

theorem rem_word (u : ArithUnit) {a b : ℕ} (ha : a < 2 ^ 30) (hb : b < 2 ^ 30) :
    IntOp.remsi u (IntOp.addi (BitVec.ofNat 32 a) (BitVec.ofNat 32 b)) 3#32 = BitVec.ofNat 32 ((a + b) % 3) := by
  rw [show IntOp.addi (BitVec.ofNat 32 a) (BitVec.ofNat 32 b) = BitVec.ofNat 32 (a + b) from (BitVec.ofNat_add ..).symm]
  exact Routing.remsi_word u (by omega) (by decide) (by decide)

theorem attK_word {r J : ℕ} (hr : r < 2 ^ 30) (hJ : J < 2 ^ 30) : attK (BitVec.ofNat 32 (r / 64)) (BitVec.ofNat 32 (J / 64)) = BitVec.ofBool (decide (Att r J)) := by
  rw [attK, rem_word _ (by omega) (by omega), eq_word (by omega) (by omega), show (0#32 : BitVec 32) = BitVec.ofNat 32 0 from rfl, eq_word (by omega) (by omega),
    eq_word (by omega) (by omega)]
  rw [show ∀ p q : Bool, IntOp.ori (BitVec.ofBool p) (BitVec.ofBool q) = BitVec.ofBool (p || q) by decide,
    show ∀ p q : Bool, IntOp.ori (BitVec.ofBool p) (BitVec.ofBool q) = BitVec.ofBool (p || q) by decide]
  congr 1
  rw [← Bool.decide_or, ← Bool.decide_or]
  rfl

theorem attR_word {r J : ℕ} (hr : r < 2 ^ 30) (hJ : J < 2 ^ 30) : attR (BitVec.ofNat 32 (r / 64)) (BitVec.ofNat 32 (J / 64)) 3#32 = BitVec.ofBool (decide (Att r J)) := by
  have hm : (r / 64 + J / 64) % 3 < 3 := Nat.mod_lt _ (by decide)
  rw [← attK_word hr hJ, attR, attK, rem_word _ (by omega) (by omega), rem_word _ (by omega) (by omega)]
  congr 2
  refine select_and_left _ _ ?_
  show IntOp.cmpi .ne (BitVec.ofBool ((BitVec.ofNat 32 ((r / 64 + J / 64) % 3)).slt 0#32)) _ = _
  rw [slt_zero (by omega)]
  decide +kernel

/-- A selection by a tested proposition. -/
theorem select_ofBool {α : Type} (p : Prop) [Decidable p] (a b : α) : Scalar.select (BitVec.ofBool (decide p)) a b = if p then a else b := by
  by_cases h : p
  · rw [if_pos h, decide_eq_true h]; rfl
  · rw [if_neg h, decide_eq_false h]; rfl

theorem select_one {α : Type} (a b : α) : Scalar.select 1#1 a b = a := rfl

end Cert.Val
-- ==== Proof.Val.Ref.lean ====
/-
The reference's result at an index.
-/
module

public import proofs.«01_k».proof.Proof.Val.RefDefs
public import proofs.«01_k».proof.Proof.Val.Words
public import Idealize.ShloMosaic.Lib.Pointwise
public import Idealize.ShloMosaic.Lib.Routing.OpsOrder

@[expose] public section

set_option maxRecDepth 16384

noncomputable section

namespace Cert.RefVal

open Cert.ReferenceIdeal Cert.ReferenceIdeal.Gen Idealize.ShloMosaic Idealize.ShloMosaic.TcCoe
open Cert.Val (Att fdR attR fdR_word attR_word select_ofBool select_one)

variable (x wq : FVec Ideal S1024x1024 .bf16) (k v : FVec Ideal S16384x1024 .bf16) (wo : FVec Ideal S1024x1024 .bf16)

theorem qblk_at (r : Fin 1024) : qblk (ix1 r) = BitVec.ofNat 32 (r.val / 64) := by
  refine Eq.trans ?_ (fdR_word (n := r.val) (by omega))
  pointwise [qblk, d64q]
  rfl
theorem kblk_at (j : Fin 16384) : kblk (ix1 j) = BitVec.ofNat 32 (j.val / 64) := by
  refine Eq.trans ?_ (fdR_word (n := j.val) (by omega))
  pointwise [kblk, d64k]
  rfl
theorem mask_at (r : Fin 1024) (j : Fin 16384) : mask (ix2 r j) = BitVec.ofBool (decide (Att r.val j.val)) := by
  refine Eq.trans ?_ (attR_word (r := r.val) (J := j.val) (by omega) (by omega))
  rw [← qblk_at, ← kblk_at]
  pointwise [mask, rem3, zero2, qblk2, kblk2, kblk1, three]
  rfl
theorem keep_at (r : Fin 1024) : keep (ix3 0 r 0) = 1#1 := by
  pointwise [keep]
  rw [Routing.fold_ori]
  exact ⟨0, Finset.mem_univ _, by rw [mask_at]; simp [Att]⟩

/-- The score of query `r` and key `j` in head `h`, before the mask. -/
def score (h : Fin 8) (r : Fin 1024) (j : Fin 16384) : EReal :=
  (∑ d : Fin 128, (∑ i : Fin 1024, x (ix2 r i) * wq (ix2 i ⟨h.val * 128 + d.val, by omega⟩)) * k (ix2 j ⟨h.val * 128 + d.val, by omega⟩)) * Ideal.ofBits .f32 0x3DB504F3#32

theorem ninf : Ideal.ofBits .f32 0xFF800000#32 = (⊥ : EReal) := by
  simp [Ideal.ofBits, Ideal.ieee]

theorem scores_at (h : Fin 8) (r : Fin 1024) (j : Fin 16384) : scores x wq k (ix3 h r j) = if Att r.val j.val then score x wq k h r j else ⊥ := by
  rw [← select_ofBool, ← mask_at, ← ninf]
  pointwise [scores, qs]
  rfl
theorem top_at (h : Fin 8) (r : Fin 1024) : top x wq k (ix2 h r) = Finset.univ.fold max ⊥ (fun j : Fin 16384 => if Att r.val j.val then score x wq k h r j else ⊥) := by
  simp only [← scores_at]
  rw [← ninf]
  pointwise [top]
theorem exps_at (h : Fin 8) (r : Fin 1024) (j : Fin 16384) : exps x wq k (ix3 h r j) = Ideal.exp (scores x wq k (ix3 h r j) - top x wq k (ix2 h r)) := by
  pointwise [exps]

theorem sums_gen (kp : IVec S1x1024x1 1) (e : FVec Ideal S8x1024x16384 .f32) (h : Fin 8) (r : Fin 1024) :
    select (broadcastInDim S8x1024x1 ![0, 1, 2] bcast_S1x1024x1_S8x1024x1_0_1_2 kp)
      (broadcastInDim S8x1024x1 ![0, 1] bcast_S8x1024_S8x1024x1_0_1 (Host.reduceAdd e (constant S_ .f32 0x00000000#32) reducesTo_S8x1024x16384_S8x1024_d2 h_S_))
      (broadcastInDim S8x1024x1 ![] bcast_S_S8x1024x1 (id (constant S_ .f32 0x3F800000#32))) (ix3 h r 0)
      = Scalar.select (kp (ix3 0 r 0)) (∑ j : Fin 16384, e (ix3 h r j)) (id (constant (F := Ideal) S_ .f32 0x3F800000#32) ix0) := by
  pointwise []
theorem wts_gen (kp : IVec S1x1024x1 1) (e : FVec Ideal S8x1024x16384 .f32) (s : FVec Ideal S8x1024x1 .f32) (h : Fin 8) (r : Fin 1024) (j : Fin 16384) :
    select (broadcastInDim S8x1024x16384 ![0, 1, 2] bcast_S1x1024x1_S8x1024x16384_0_1_2 kp)
      (Host.divf e (broadcastInDim S8x1024x16384 ![0, 1, 2] bcast_S8x1024x1_S8x1024x16384_0_1_2 s))
      (broadcastInDim S8x1024x16384 ![] bcast_S_S8x1024x16384 (id (constant S_ .f32 0x00000000#32))) (ix3 h r j)
      = Scalar.select (kp (ix3 0 r 0)) (Ideal.div (e (ix3 h r j)) (s (ix3 h r 0))) (id (constant (F := Ideal) S_ .f32 0x00000000#32) ix0) := by
  pointwise []

theorem sums_at (h : Fin 8) (r : Fin 1024) : sums x wq k (ix3 h r 0) = ∑ j : Fin 16384, exps x wq k (ix3 h r j) := by
  refine (sums_gen keep (exps x wq k) h r).trans ?_
  rw [keep_at, select_one]
theorem wts_at (h : Fin 8) (r : Fin 1024) (j : Fin 16384) :
    wts x wq k (ix3 h r j) = Ideal.div (exps x wq k (ix3 h r j)) (∑ j : Fin 16384, exps x wq k (ix3 h r j)) := by
  refine (wts_gen keep (exps x wq k) (sums x wq k) h r j).trans ?_
  rw [keep_at, sums_at, select_one]
theorem ctx_at (h : Fin 8) (d : Fin 128) (r : Fin 1024) :
    ctx x wq k v (ix3 h d r) = ∑ j : Fin 16384, v (ix2 j ⟨h.val * 128 + d.val, by omega⟩) * wts x wq k (ix3 h r j) := by
  pointwise [ctx]
theorem outp_at (r c : Fin 1024) :
    outp x wq k v wo (ix2 r c) = ∑ e : Fin 1024, ctx x wq k v (ix3 ⟨e.val / 128, by omega⟩ ⟨e.val % 128, by omega⟩ r) * wo (ix2 e c) := by
  pointwise [outp]

end Cert.RefVal

end
-- ==== Proof.Val.Ker.lean ====
/-
What the kernel computes, at an index: the queries, one device's share of the weighted values and of the row sums, the two
bands, and their sum over the sixteen devices.
-/
module

public import proofs.«01_k».proof.Proof.KI.Rest
public import proofs.«01_k».proof.Proof.Val.Words
public import Idealize.ShloMosaic.Lib.Pointwise

@[expose] public section

set_option maxRecDepth 16384

noncomputable section

namespace Cert.KerVal

open Cert.KernelIdeal Cert.KernelIdeal.Gen Idealize.ShloMosaic Idealize.ShloMosaic.TcCoe
open Cert.KernelIdealProof (Ins qb mS mK W2 subA px snd0 kp0 kp1 reg b0 b1 b2)
open Cert.Val (Att fdK attK fdK_word attK_word select_ofBool)

variable (I : Ins Ideal)

/-- The scale. -/
def sc : EReal := Ideal.ofBits .f32 0x3DB504F3#32

/-- The scaled query at row `r`, column `e`. -/
def qv (c : Dev nD) (r e : Fin 1024) : EReal := (∑ i : Fin 1024, I.x c (ix2 r i) * I.wq c (ix2 i e)) * sc
/-- The score of query `r` and the device's key `j` in head `h`. -/
def sck (c : Dev nD) (h : Fin 8) (r j : Fin 1024) : EReal :=
  ∑ d : Fin 128, qv I c r ⟨h.val * 128 + d.val, by omega⟩ * I.k c (ix2 j ⟨h.val * 128 + d.val, by omega⟩)
/-- Its weight. -/
def kw (c : Dev nD) (h : Fin 8) (r j : Fin 1024) : EReal := if Att r.val (1024 * c.val + j.val) then Ideal.exp (sck I c h r j) else 0
/-- The device's weighted values. -/
def num (c : Dev nD) (r e : Fin 1024) : EReal := ∑ j : Fin 1024, kw I c ⟨e.val / 128, by omega⟩ r j * I.v c (ix2 j e)
/-- The device's sum of weights. -/
def den (c : Dev nD) (r : Fin 1024) (h : Fin 8) : EReal := ∑ j : Fin 1024, kw I c h r j
/-- The device's share of the reduced rows. -/
def bd (c : Dev nD) (r : Fin 1024) (e : Fin 1152) : EReal :=
  if h : e.val < 1024 then num I c r ⟨e.val, h⟩ else if h : e.val - 1024 < 8 then den I c r ⟨e.val - 1024, h⟩ else 0

theorem ix2_eq {n m : ℕ} (a : Fin n) (b : Fin m) : (Cert.KernelIdealProof.ix2 a b : (⟨2, ![n, m]⟩ : Shape).Idx) = ix2 a b := by
  funext x; fin_cases x <;> rfl

theorem subA_at {α : Type} {N M n m : ℕ} [NeZero N] [NeZero M] (a b : ℕ) (f : (⟨2, ![N, M]⟩ : Shape).Idx → α) (i : Fin n) (j : Fin m) (x : Fin N) (y : Fin M)
    (hx : x.val = a + i.val) (hy : y.val = b + j.val) : subA n m a b f (ix2 i j) = f (ix2 x y) := by
  unfold subA
  rw [ix2_eq]
  congr 2
  · exact Fin.ext ((Nat.mod_eq_of_lt (by have := x.isLt; show a + i.val < N; omega)).trans hx.symm)
  · exact Fin.ext ((Nat.mod_eq_of_lt (by have := y.isLt; show b + j.val < M; omega)).trans hy.symm)

/-! ## The masks -/

theorem word_W2 (c : Dev nD) : Scalar.muli (W2 c) 16#32 = BitVec.ofNat 32 (c.val * 16) := by revert c; decide +kernel
theorem word_S (c : Dev nD) : Scalar.muli (Scalar.subi 1#32 (Scalar.andi (W2 c) 1#32)) 512#32 = BitVec.ofNat 32 (snd0 c) := by revert c; decide +kernel
theorem word_K (c : Dev nD) : Scalar.muli (Scalar.andi (W2 c) 1#32) 512#32 = BitVec.ofNat 32 (kp0 c) := by revert c; decide +kernel

theorem att_at (c : Dev nD) (o : BitVec 32) (row : ℕ) (ho : o = BitVec.ofNat 32 row) (hrow : row ≤ 1024) (r : Fin 512) (j : Fin 1024) :
    attK (fdK (IntOp.addi (BitVec.ofNat 32 r.val) o)) (IntOp.addi (Scalar.muli (W2 c) 16#32) (fdK (BitVec.ofNat 32 j.val)))
      = BitVec.ofBool (decide (Att (row + r.val) (1024 * c.val + j.val))) := by
  have hc : c.val < 16 := c.isLt
  rw [ho, word_W2, fdK_word (by omega), show IntOp.addi (BitVec.ofNat 32 r.val) (BitVec.ofNat 32 row) = BitVec.ofNat 32 (r.val + row) from (BitVec.ofNat_add ..).symm,
    fdK_word (by omega), show IntOp.addi (BitVec.ofNat 32 (c.val * 16)) (BitVec.ofNat 32 (j.val / 64)) = BitVec.ofNat 32 (c.val * 16 + j.val / 64) from (BitVec.ofNat_add ..).symm,
    Nat.add_comm r.val, ← attK_word (by omega) (by omega)]
  congr 2
  omega

theorem mS_at (c : Dev nD) (r : Fin 512) (j : Fin 1024) : mS c (ix2 r j) = BitVec.ofBool (decide (Att (snd0 c + r.val) (1024 * c.val + j.val))) := by
  refine Eq.trans ?_ (att_at c _ _ (word_S c) (by revert c; decide +kernel) r j)
  unfold mS
  pointwise [k0_pay5, k0_pay3, k0_pay4, k0_pay2]
  rfl
theorem mK_at (c : Dev nD) (r : Fin 512) (j : Fin 1024) : mK c (ix2 r j) = BitVec.ofBool (decide (Att (kp0 c + r.val) (1024 * c.val + j.val))) := by
  refine Eq.trans ?_ (att_at c _ _ (word_K c) (by revert c; decide +kernel) r j)
  unfold mK
  pointwise [k0_pay31, k0_pay32, k0_pay33, k0_pay34, k0_pay35, k0_pay36, k0_pay37]
  rfl

/-! ## A band -/

theorem qb_at (c : Dev nD) (r e : Fin 1024) : qb I c (ix2 r e) = qv I c r e := by
  unfold qb qv sc
  pointwise [k0_pay1]
theorem pay9_at (m : IVec S512x1024 1) (q : FVec Ideal S512x128 .bf16) (k : FVec Ideal S1024x128 .bf16) (r : Fin 512) (j : Fin 1024) :
    k0_pay9 (F := Ideal) m q k (ix2 r j) = Scalar.select (m (ix2 r j)) (Ideal.exp (∑ d : Fin 128, q (ix2 r d) * k (ix2 j d))) 0 := by
  pointwise [k0_pay9]
theorem pay10_at (m : IVec S512x1024 1) (q : FVec Ideal S512x128 .bf16) (k : FVec Ideal S1024x128 .bf16) (r : Fin 512) :
    k0_pay10 (F := Ideal) m q k (ix2 r 0) = ∑ j : Fin 1024, k0_pay9 (F := Ideal) m q k (ix2 r j) := by
  pointwise [k0_pay10]
theorem pay11_at (m : IVec S512x1024 1) (q : FVec Ideal S512x128 .bf16) (k v : FVec Ideal S1024x128 .bf16) (r : Fin 512) (d : Fin 128) :
    k0_pay11 (F := Ideal) m q k v (ix2 r d) = ∑ j : Fin 1024, k0_pay9 (F := Ideal) m q k (ix2 r j) * v (ix2 j d) := by
  pointwise [k0_pay11]
theorem pay27_eq (m : IVec S512x1024 1) (q : FVec Ideal S512x128 .bf16) (k : FVec Ideal S1024x128 .bf16) : k0_pay27 (F := Ideal) m q k = k0_pay9 (F := Ideal) m q k := rfl

section Band
variable (c : Dev nD) (row : ℕ) (m : IVec S512x1024 1) (hrow : row + 512 ≤ 1024)
  (hm : ∀ (r : Fin 512) (j : Fin 1024), m (ix2 r j) = BitVec.ofBool (decide (Att (row + r.val) (1024 * c.val + j.val))))
include hrow hm

theorem wt_at (h : Fin 8) (r : Fin 512) (j : Fin 1024) :
    k0_pay9 (F := Ideal) m (Cert.KernelIdealProof.qH I c row h.val) (Cert.KernelIdealProof.kH I c h.val) (ix2 r j) = kw I c h ⟨row + r.val, by omega⟩ j := by
  rw [pay9_at, hm, select_ofBool]
  unfold kw sck Cert.KernelIdealProof.qH Cert.KernelIdealProof.kH
  refine if_congr Iff.rfl (congrArg Ideal.exp (Finset.sum_congr rfl fun d _ => ?_)) rfl
  rw [subA_at row (128 * h.val) (qb I c) r d ⟨row + r.val, by omega⟩ ⟨h.val * 128 + d.val, by omega⟩ rfl (by show h.val * 128 + d.val = _; omega), qb_at,
    subA_at 0 (128 * h.val) (I.k c) j d j ⟨h.val * 128 + d.val, by omega⟩ (Nat.zero_add _).symm (by show h.val * 128 + d.val = _; omega)]

theorem hd_at (h : Fin 8) (r : Fin 512) (d : Fin 128) :
    Cert.KernelIdealProof.hd I c row m h.val (ix2 r d) = num I c ⟨row + r.val, by omega⟩ ⟨h.val * 128 + d.val, by omega⟩ := by
  unfold Cert.KernelIdealProof.hd num
  rw [pay11_at]
  refine Finset.sum_congr rfl fun j _ => ?_
  rw [wt_at I c row m hrow hm]
  congr 1
  · congr 1
    apply Fin.ext
    show h.val = (h.val * 128 + d.val) / 128
    omega
  · exact subA_at 0 (128 * h.val) (I.v c) j d j ⟨h.val * 128 + d.val, by omega⟩ (Nat.zero_add _).symm (by show h.val * 128 + d.val = _; omega)

theorem rs_at (h : Fin 8) (r : Fin 512) : Cert.KernelIdealProof.rs I c row m h.val (ix2 r 0) = den I c ⟨row + r.val, by omega⟩ h := by
  unfold Cert.KernelIdealProof.rs den
  rw [pay10_at]
  exact Finset.sum_congr rfl fun j _ => wt_at I c row m hrow hm h r j

theorem rsAll_at (r : Fin 512) (d : Fin 128) :
    Cert.KernelIdealProof.rsAll I c row m (ix2 r d) = if h : d.val < 8 then den I c ⟨row + r.val, by omega⟩ ⟨d.val, h⟩ else 0 := by
  have e7 : ∑ j : Fin 1024, k0_pay27 (F := Ideal) m (Cert.KernelIdealProof.qH I c row 7) (Cert.KernelIdealProof.kH I c 7) (ix2 r j) = den I c ⟨row + r.val, by omega⟩ 7 :=
    Finset.sum_congr rfl fun j _ => wt_at I c row m hrow hm 7 r j
  unfold Cert.KernelIdealProof.rsAll
  pointwise [k0_pay29]
  rw [e7]
  by_cases hd : d.val < 8
  · rw [dif_pos hd]
    obtain ⟨d, hd'⟩ := d
    simp only at hd
    interval_cases d
    · exact rs_at I c row m hrow hm 0 r
    · exact rs_at I c row m hrow hm 1 r
    · exact rs_at I c row m hrow hm 2 r
    · exact rs_at I c row m hrow hm 3 r
    · exact rs_at I c row m hrow hm 4 r
    · exact rs_at I c row m hrow hm 5 r
    · exact rs_at I c row m hrow hm 6 r
    · rfl
  · rw [dif_neg hd, dif_neg (by omega), dif_neg (by omega), dif_neg (by omega), dif_neg (by omega), dif_neg (by omega), dif_neg (by omega), dif_neg (by omega), dif_neg (by omega)]

theorem band_at (r : Fin 512) (e : Fin 1152) : Cert.KernelIdealProof.band I c row m (ix2 r e) = bd I c ⟨row + r.val, by omega⟩ e := by
  unfold Cert.KernelIdealProof.band bd
  simp only [ix2_eq]
  show (if e.val < 1024 then _ else _) = _
  by_cases h : e.val < 1024
  · rw [if_pos h, dif_pos h]
    refine (hd_at I c row m hrow hm ⟨e.val / 128, by omega⟩ r ⟨e.val % 128, Nat.mod_lt _ (by decide)⟩).trans ?_
    congr 1
    apply Fin.ext
    show e.val / 128 * 128 + e.val % 128 = e.val
    omega
  · rw [if_neg h, dif_neg h]
    refine (rsAll_at I c row m hrow hm r ⟨(e.val - 1024) % 128, Nat.mod_lt _ (by decide)⟩).trans ?_
    have he : (e.val - 1024) % 128 = e.val - 1024 := Nat.mod_eq_of_lt (by omega)
    simp only [he]
end Band

end Cert.KerVal

end
-- ==== Proof.Val.Dist.lean ====
/-
The reduced rows: what a device holds after each step of the exchange, and that the gathered buffer holds, at every
element, the sum of the sixteen devices' shares.
-/
module

public import proofs.«01_k».proof.Proof.Val.Ker

@[expose] public section

set_option maxRecDepth 16384

noncomputable section

namespace Cert.KerVal

open Cert.KernelIdeal Cert.KernelIdeal.Gen Idealize.ShloMosaic Idealize.ShloMosaic.TcCoe
open Cert.KernelIdealProof (Ins subA px pxE snd0 kp0 kp1 reg b0 b1 b2 own mS mK sum1 sum2 sum3 land0 land1 land2 land3 out1 out2 fin AB)

variable (I : Ins Ideal)

theorem snd0_px (c : Dev nD) : snd0 (px 1 c) = kp0 c := by revert c; decide +kernel
theorem kp0_le (c : Dev nD) : kp0 c + 512 ≤ 1024 := by revert c; decide +kernel
theorem snd0_le (c : Dev nD) : snd0 c + 512 ≤ 1024 := by revert c; decide +kernel
theorem px0 (c : Dev nD) : px 0 c = c := by revert c; decide +kernel
theorem kp0_px4 (c : Dev nD) : kp0 (px 4 c) + (1 - b2 (px 4 c)) * 256 = kp1 c := by revert c; decide +kernel
theorem kp1_eq (c : Dev nD) : kp0 c + b2 c * 256 = kp1 c := rfl
theorem b2_le (c : Dev nD) : (1 - b2 c) * 256 ≤ 256 ∧ b2 c * 256 ≤ 256 := by revert c; decide +kernel
theorem kp1_px2 (c : Dev nD) : kp1 (px 2 c) + (1 - b1 (px 2 c)) * 128 = reg c := by revert c; decide +kernel
theorem reg_eq (c : Dev nD) : kp1 c + b1 c * 128 = reg c := rfl
theorem b1_le (c : Dev nD) : (1 - b1 c) * 128 ≤ 128 ∧ b1 c * 128 ≤ 128 := by revert c; decide +kernel
theorem reg_px8 (c : Dev nD) : reg (px 8 c) = reg c := by revert c; decide +kernel
theorem px_two (c : Dev nD) : px 1 (px 4 c) = px 5 c ∧ px 1 (px 2 c) = px 3 c ∧ px 4 (px 2 c) = px 6 c ∧ px 1 (px 6 c) = px 7 c ∧ px 1 (px 8 c) = px 9 c ∧ px 4 (px 8 c) = px 12 c ∧ px 2 (px 8 c) = px 10 c ∧ px 1 (px 12 c) = px 13 c ∧ px 1 (px 10 c) = px 11 c ∧ px 4 (px 10 c) = px 14 c ∧ px 1 (px 14 c) = px 15 c := by revert c; decide +kernel

theorem band_S (c : Dev nD) (r : Fin 512) (e : Fin 1152) (X : Fin 1024) (hX : X.val = snd0 c + r.val) :
    Cert.KernelIdealProof.band I c (snd0 c) (mS c) (ix2 r e) = bd I c X e :=
  (band_at I c (snd0 c) (mS c) (snd0_le c) (mS_at c) r e).trans (congrArg (fun x => bd I c x e) (Fin.ext hX.symm))
theorem band_K (c : Dev nD) (r : Fin 512) (e : Fin 1152) (X : Fin 1024) (hX : X.val = kp0 c + r.val) :
    Cert.KernelIdealProof.band I c (kp0 c) (mK c) (ix2 r e) = bd I c X e :=
  (band_at I c (kp0 c) (mK c) (kp0_le c) (mK_at c) r e).trans (congrArg (fun x => bd I c x e) (Fin.ext hX.symm))

/-- Two devices' shares. -/
def two (c : Dev nD) (X : Fin 1024) (e : Fin 1152) : EReal := bd I c X e + bd I (px 1 c) X e
def four (c : Dev nD) (X : Fin 1024) (e : Fin 1152) : EReal := two I c X e + two I (px 4 c) X e
def eight (c : Dev nD) (X : Fin 1024) (e : Fin 1152) : EReal := four I c X e + four I (px 2 c) X e

theorem pay30_at (a : FVec Ideal S512x1152 .f32) (i : S512x1152.Idx) : k0_pay30 (F := Ideal) a i = a i := by pointwise [k0_pay30]
theorem pay70_at (a : FVec Ideal S512x1152 .f32) (b : FVec Ideal S512x1152 .bf16) (i : S512x1152.Idx) : k0_pay70 (F := Ideal) a b i = a i + b i := by
  pointwise [k0_pay70]
theorem pay71_at (a : FVec Ideal S256x1152 .f32) (i : S256x1152.Idx) : k0_pay71 (F := Ideal) a i = a i := by pointwise [k0_pay71]
theorem pay72_at (a : FVec Ideal S256x1152 .f32) (b : FVec Ideal S256x1152 .bf16) (i : S256x1152.Idx) : k0_pay72 (F := Ideal) a b i = a i + b i := by
  pointwise [k0_pay72]
theorem pay73_at (a : FVec Ideal S128x1152 .f32) (i : S128x1152.Idx) : k0_pay73 (F := Ideal) a i = a i := by pointwise [k0_pay73]
theorem pay74_at (a : FVec Ideal S128x1152 .f32) (b : FVec Ideal S128x1152 .bf16) (i : S128x1152.Idx) : k0_pay74 (F := Ideal) a b i = a i + b i := by
  pointwise [k0_pay74]
theorem pay75_at (a : FVec Ideal S128x1152 .f32) (i : S128x1152.Idx) : k0_pay75 (F := Ideal) a i = a i := by pointwise [k0_pay75]
theorem pay76_at (a : FVec Ideal S128x1152 .f32) (b : FVec Ideal S128x1152 .bf16) (i : S128x1152.Idx) : k0_pay76 (F := Ideal) a b i = a i + b i := by
  pointwise [k0_pay76]

theorem sum1_at (c : Dev nD) (r : Fin 512) (e : Fin 1152) (X : Fin 1024) (hX : X.val = kp0 c + r.val) : sum1 I c (ix2 r e) = two I c X e := by
  unfold sum1 land0 two
  rw [pay70_at, pay30_at, band_K I c r e X hX, band_S I (px 1 c) r e X (by rw [snd0_px]; exact hX)]

theorem sum2_at (c : Dev nD) (r : Fin 256) (e : Fin 1152) (X : Fin 1024) (hX : X.val = kp1 c + r.val) : sum2 I c (ix2 r e) = four I c X e := by
  have h1 := kp0_px4 c
  have h2 := kp1_eq c
  have h3 := (b2_le (px 4 c)).1
  have h4 := (b2_le c).2
  unfold sum2 land1 out1 four
  rw [pay72_at, pay71_at,
    subA_at (b2 c * 256) 0 (sum1 I c) r e ⟨b2 c * 256 + r.val, by omega⟩ e rfl (Nat.zero_add _).symm,
    subA_at ((1 - b2 (px 4 c)) * 256) 0 (sum1 I (px 4 c)) r e ⟨(1 - b2 (px 4 c)) * 256 + r.val, by omega⟩ e rfl (Nat.zero_add _).symm,
    sum1_at I c _ e X (by show _ = _ + (_ + _); omega), sum1_at I (px 4 c) _ e X (by show _ = _ + (_ + _); omega)]

theorem sum3_at (c : Dev nD) (r : Fin 128) (e : Fin 1152) (X : Fin 1024) (hX : X.val = reg c + r.val) : sum3 I c (ix2 r e) = eight I c X e := by
  have h1 := kp1_px2 c
  have h2 := reg_eq c
  have h3 := (b1_le (px 2 c)).1
  have h4 := (b1_le c).2
  unfold sum3 land2 out2 eight
  rw [pay74_at, pay73_at,
    subA_at (b1 c * 128) 0 (sum2 I c) r e ⟨b1 c * 128 + r.val, by omega⟩ e rfl (Nat.zero_add _).symm,
    subA_at ((1 - b1 (px 2 c)) * 128) 0 (sum2 I (px 2 c)) r e ⟨(1 - b1 (px 2 c)) * 128 + r.val, by omega⟩ e rfl (Nat.zero_add _).symm,
    sum2_at I c _ e X (by show _ = _ + (_ + _); omega), sum2_at I (px 2 c) _ e X (by show _ = _ + (_ + _); omega)]

theorem fin_at (c : Dev nD) (r : Fin 128) (e : Fin 1152) (X : Fin 1024) (hX : X.val = reg c + r.val) :
    fin I c (ix2 r e) = eight I c X e + eight I (px 8 c) X e := by
  unfold fin land3
  rw [pay76_at, pay75_at, sum3_at I c r e X hX, sum3_at I (px 8 c) r e X (by rw [reg_px8]; exact hX)]

/-- Sixteen terms, in the order of the exchange. -/
theorem sum16 (g : Fin 16 → EReal) :
    g 0 + g 1 + (g 4 + g 5) + (g 2 + g 3 + (g 6 + g 7)) + (g 8 + g 9 + (g 12 + g 13) + (g 10 + g 11 + (g 14 + g 15))) = ∑ d : Fin 16, g d := by
  rw [Fin.sum_univ_castSucc, Fin.sum_univ_castSucc, Fin.sum_univ_castSucc, Fin.sum_univ_castSucc, Fin.sum_univ_castSucc, Fin.sum_univ_castSucc, Fin.sum_univ_castSucc,
    Fin.sum_univ_castSucc, Fin.sum_univ_eight]
  show _ = g 0 + g 1 + g 2 + g 3 + g 4 + g 5 + g 6 + g 7 + g 8 + g 9 + g 10 + g 11 + g 12 + g 13 + g 14 + g 15
  ac_rfl

/-- The sixteen devices' shares. -/
theorem all_eq (c : Dev nD) (X : Fin 1024) (e : Fin 1152) : eight I c X e + eight I (px 8 c) X e = ∑ d : Dev nD, bd I d X e := by
  have hs : ∑ d : Dev nD, bd I d X e = ∑ d : Fin 16, bd I (px d c) X e :=
    (Fintype.sum_equiv (⟨fun d : Fin 16 => px d c, fun b : Dev nD => px c b, fun d => by revert c d; decide +kernel, fun d => by revert c d; decide +kernel⟩ : Fin 16 ≃ Dev nD) (fun d => bd I (px d c) X e) (fun d => bd I d X e) fun d => rfl).symm
  rw [hs]
  unfold eight four two
  have h := sum16 fun d => bd I (px d c) X e
  simp only [px0] at h
  simp only [px_two]
  exact h

theorem reg_own (c : Dev nD) (k : Fin 8) : reg (own c k.val) = k.val * 128 := by revert c k; decide +kernel

/-- The gathered buffer. -/
theorem AB_at (c : Dev nD) (r : Fin 1024) (e : Fin 1152) : AB I c (ix2 r e) = ∑ d : Dev nD, bd I d r e := by
  show fin I (own c (r.val / 128)) (Cert.KernelIdealProof.ix2 ⟨r.val % 128, Nat.mod_lt _ (by decide)⟩ e) = _
  rw [ix2_eq, fin_at I _ _ e r (by
    have := reg_own c ⟨r.val / 128, by omega⟩
    simp only at this
    rw [this]
    show r.val = r.val / 128 * 128 + r.val % 128
    omega), all_eq]

end Cert.KerVal

end
-- ==== Proof.Val.OutAt.lean ====
/-
The kernel's output at an index: over the gathered rows and the output weights.
-/
module

public import proofs.«01_k».proof.Proof.Val.Dist

@[expose] public section

set_option maxRecDepth 16384

noncomputable section

namespace Cert.KerVal

open Cert.KernelIdeal Cert.KernelIdeal.Gen Idealize.ShloMosaic Idealize.ShloMosaic.TcCoe
open Cert.KernelIdealProof (Ins subA o128 o256 out lst)

variable (ab : S1024x1152.Idx → EReal) (wo : S1024x1024.Idx → EReal)

/-- One head's part of the output. -/
def ot (r c : Fin 1024) (h : Fin 8) : EReal :=
  ∑ d : Fin 128, Ideal.div (ab (ix2 r ⟨h.val * 128 + d.val, by omega⟩)) (ab (ix2 r ⟨1024 + h.val, by omega⟩)) * wo (ix2 ⟨h.val * 128 + d.val, by omega⟩ c)

theorem term_at {n : ℕ} (rb : ℕ) (i : Fin n) (r c : Fin 1024) (hr : r.val = rb + i.val) (h : Fin 8) (a : ℕ) (ha : a = h.val * 128) (h' : Fin 128) (hh : h'.val = h.val) :
    ∑ d : Fin 128, Ideal.div (subA n 128 rb (h.val * 128) ab (ix2 i d)) (subA n 128 rb 1024 ab (ix2 i h')) * subA 128 1024 a 0 wo (ix2 d c) = ot ab wo r c h := by
  subst ha
  refine Finset.sum_congr rfl fun d _ => ?_
  rw [subA_at rb (h.val * 128) ab i d r ⟨h.val * 128 + d.val, by omega⟩ hr rfl, subA_at rb 1024 ab i h' r ⟨1024 + h.val, by omega⟩ hr (by show 1024 + h.val = 1024 + h'.val; omega),
    subA_at (h.val * 128) 0 wo d c ⟨h.val * 128 + d.val, by omega⟩ c rfl (Nat.zero_add _).symm]

theorem o128_at (rb : ℕ) (i : Fin 128) (r c : Fin 1024) (hr : r.val = rb + i.val) : o128 (F := Ideal) ab wo rb (ix2 i c) = ∑ h : Fin 8, ot ab wo r c h := by
  rw [Fin.sum_univ_eight, ← term_at ab wo rb i r c hr 0 0 rfl 0 rfl, ← term_at ab wo rb i r c hr 1 128 rfl 1 rfl, ← term_at ab wo rb i r c hr 2 256 rfl 2 rfl,
    ← term_at ab wo rb i r c hr 3 384 rfl 3 rfl, ← term_at ab wo rb i r c hr 4 512 rfl 4 rfl, ← term_at ab wo rb i r c hr 5 640 rfl 5 rfl,
    ← term_at ab wo rb i r c hr 6 768 rfl 6 rfl, ← term_at ab wo rb i r c hr 7 896 rfl 7 rfl]
  unfold o128
  pointwise [k0_pay77, k0_pay78, k0_pay79, k0_pay80, k0_pay81, k0_pay82]

theorem o256_at (rb : ℕ) (i : Fin 256) (r c : Fin 1024) (hr : r.val = rb + i.val) : o256 (F := Ideal) ab wo rb (ix2 i c) = ∑ h : Fin 8, ot ab wo r c h := by
  rw [Fin.sum_univ_eight, ← term_at ab wo rb i r c hr 0 0 rfl 0 rfl, ← term_at ab wo rb i r c hr 1 128 rfl 1 rfl, ← term_at ab wo rb i r c hr 2 256 rfl 2 rfl,
    ← term_at ab wo rb i r c hr 3 384 rfl 3 rfl, ← term_at ab wo rb i r c hr 4 512 rfl 4 rfl, ← term_at ab wo rb i r c hr 5 640 rfl 5 rfl,
    ← term_at ab wo rb i r c hr 6 768 rfl 6 rfl, ← term_at ab wo rb i r c hr 7 896 rfl 7 rfl]
  unfold o256
  pointwise [k0_pay119, k0_pay120, k0_pay121, k0_pay122, k0_pay123, k0_pay124]

theorem out_at (l : ℕ) (r c : Fin 1024) : out (F := Ideal) ab wo l (ix2 r c) = ∑ h : Fin 8, ot ab wo r c h := by
  unfold out
  simp only [ix2_eq]
  show (if l ≤ r.val ∧ r.val < l + 256 then _ else _) = _
  split
  · exact o256_at ab wo l _ r c (by show r.val = l + (r.val - l) % 256; omega)
  · exact o128_at ab wo _ _ r c (by show r.val = r.val / 128 * 128 + r.val % 128; omega)

end Cert.KerVal

end
-- ==== Proof.Val.Eqn.lean ====
/-
The equation: the rows a device writes are the reference's rows, when the inputs that enter the scores are real numbers.
-/
module

public import proofs.«01_k».proof.Proof.Val.Ref
public import proofs.«01_k».proof.Proof.Val.Softmax
public import proofs.«01_k».proof.Proof.Val.Dist
public import proofs.«01_k».proof.Proof.Val.OutAt

@[expose] public section

set_option maxRecDepth 16384

noncomputable section

namespace Cert.Eqn

open Idealize.ShloMosaic Idealize.ShloMosaic.TcCoe
open Cert.Val (Att msk wgt coe_sum softmax_eq)
open Cert.KernelIdealProof (Ins AB out)
open Cert.KerVal (sc qv sck kw num den bd AB_at ot out_at)

/-- A sum over the numbers below `m * n`, block by block. -/
theorem sum_blocks {N : ℕ} (m n : ℕ) (hN : N = m * n) (f : Fin N → EReal) (g : Fin m → Fin n → EReal)
    (h : ∀ (x : Fin m) (y : Fin n) (z : Fin N), z.val = n * x.val + y.val → f z = g x y) : ∑ z, f z = ∑ x, ∑ y, g x y := by
  subst hN
  rw [← finProdFinEquiv.sum_comp, Fintype.sum_prod_type]
  refine Finset.sum_congr rfl fun x _ => Finset.sum_congr rfl fun y _ => h x y _ ?_
  show y.val + n * x.val = _
  omega

theorem sc_real : ∃ s : ℝ, sc = (s : EReal) := by
  unfold sc
  simp [Ideal.ofBits, Ideal.ieee, -EReal.coe_mul]

/-- The scale moves across the two sums of real numbers. -/
theorem scale_moves {ι κ : Type} [Fintype ι] [Fintype κ] (x : ι → ℝ) (w : ι → κ → ℝ) (k : κ → ℝ) (s : ℝ) :
    ∃ t : ℝ, (∑ d, (∑ i, (x i : EReal) * (w i d : EReal)) * (k d : EReal)) * (s : EReal) = (t : EReal) ∧
      (∑ d, ((∑ i, (x i : EReal) * (w i d : EReal)) * (s : EReal)) * (k d : EReal)) = (t : EReal) := by
  refine ⟨(∑ d, (∑ i, x i * w i d) * k d) * s, ?_, ?_⟩
  · simp only [EReal.coe_mul, coe_sum]
  · rw [Finset.sum_mul]
    simp only [EReal.coe_mul, coe_sum]
    exact Finset.sum_congr rfl fun d _ => by rw [mul_assoc, mul_comm (s : EReal), ← mul_assoc]

section
variable (X WQ WO : (⟨2, ![1024, 1024]⟩ : Shape).Idx → EReal) (K V : (⟨2, ![16384, 1024]⟩ : Shape).Idx → EReal) (I : Ins Ideal)

/-- The devices' inputs are the reference's: three whole, two in blocks of rows; those that enter the scores are real. -/
structure Agree : Prop where
  x : ∀ c, I.x c = X
  wq : ∀ c, I.wq c = WQ
  k : ∀ (c : Dev Cert.KernelIdeal.nD) (j e : Fin 1024) (J : Fin 16384), J.val = 1024 * c.val + j.val → I.k c (ix2 j e) = K (ix2 J e)
  v : ∀ (c : Dev Cert.KernelIdeal.nD) (j e : Fin 1024) (J : Fin 16384), J.val = 1024 * c.val + j.val → I.v c (ix2 j e) = V (ix2 J e)
  rx : ∀ i j : Fin 1024, ∃ r : ℝ, X (ix2 i j) = (r : EReal)
  rw : ∀ i j : Fin 1024, ∃ r : ℝ, WQ (ix2 i j) = (r : EReal)
  rk : ∀ (i : Fin 16384) (j : Fin 1024), ∃ r : ℝ, K (ix2 i j) = (r : EReal)

variable {X WQ WO K V I} (A : Agree X WQ K V I)
include A

/-- The score is one real number on both sides. -/
theorem score_real (h : Fin 8) (r : Fin 1024) (J : Fin 16384) : ∃ t : ℝ, Cert.RefVal.score X WQ K h r J = (t : EReal) ∧
    ∀ (c : Dev Cert.KernelIdeal.nD) (j : Fin 1024), J.val = 1024 * c.val + j.val → sck I c h r j = (t : EReal) := by
  choose x hx using A.rx
  choose w hw using A.rw
  choose k hk using A.rk
  obtain ⟨s, hs⟩ := sc_real
  obtain ⟨t, h1, h2⟩ := scale_moves (fun i : Fin 1024 => x r i)
    (fun (i : Fin 1024) (d : Fin 128) => w i ⟨h.val * 128 + d.val, by omega⟩) (fun d : Fin 128 => k J ⟨h.val * 128 + d.val, by omega⟩) s
  refine ⟨t, ?_, fun c j hJ => ?_⟩
  · rw [← h1, ← hs]
    unfold Cert.RefVal.score
    simp only [hx, hw, hk]
    rfl
  · rw [← h2, ← hs]
    unfold sck qv
    simp only [A.x, A.wq, A.k c j _ J hJ, hx, hw, hk]

/-- The scores of one head and one query. -/
theorem scores_real (h : Fin 8) (r : Fin 1024) : ∃ t : Fin 16384 → ℝ, (∀ J, Cert.RefVal.score X WQ K h r J = (t J : EReal)) ∧
    ∀ (c : Dev Cert.KernelIdeal.nD) (j : Fin 1024) (J : Fin 16384), J.val = 1024 * c.val + j.val →
      kw I c h r j = wgt (fun J : Fin 16384 => Att r.val J.val) t J := by
  choose t h1 h2 using fun J => score_real A h r J
  refine ⟨t, h1, fun c j J hJ => ?_⟩
  unfold kw wgt
  rw [h2 J c j hJ, ← hJ]

/-- The reference's context at an index is the gathered weighted values over the gathered weights. -/
theorem ctx_eq (h : Fin 8) (d : Fin 128) (r : Fin 1024) (c : Dev Cert.KernelIdeal.nD) :
    Ideal.div (AB I c (ix2 r ⟨h.val * 128 + d.val, by omega⟩)) (AB I c (ix2 r ⟨1024 + h.val, by omega⟩))
      = Cert.RefVal.ctx (F := Ideal) X WQ K V (ix3 h d r) := by
  obtain ⟨t, ht, hk⟩ := scores_real A h r
  have hn : AB I c (ix2 r ⟨h.val * 128 + d.val, by omega⟩)
      = ∑ J : Fin 16384, wgt (fun J : Fin 16384 => Att r.val J.val) t J * V (ix2 J ⟨h.val * 128 + d.val, by omega⟩) := by
    rw [AB_at]
    refine (Finset.sum_congr rfl fun c' _ => ?_).trans (sum_blocks 16 1024 rfl _
      (fun c' j => kw I c' ⟨(h.val * 128 + d.val) / 128, by omega⟩ r j * I.v c' (ix2 j ⟨h.val * 128 + d.val, by omega⟩)) fun x y z hz => ?_).symm
    · unfold bd num
      rw [dif_pos (show h.val * 128 + d.val < 1024 by omega)]
    · rw [A.v x y _ z hz, show (⟨(h.val * 128 + d.val) / 128, by omega⟩ : Fin 8) = h from Fin.ext (by show (h.val * 128 + d.val) / 128 = h.val; omega), hk x y z hz]
  have hd : AB I c (ix2 r ⟨1024 + h.val, by omega⟩) = ∑ J : Fin 16384, wgt (fun J : Fin 16384 => Att r.val J.val) t J := by
    rw [AB_at]
    refine (Finset.sum_congr rfl fun c' _ => ?_).trans (sum_blocks 16 1024 rfl _
      (fun c' j => kw I c' ⟨1024 + h.val - 1024, by omega⟩ r j) fun x y z hz => ?_).symm
    · unfold bd den
      rw [dif_neg (show ¬ 1024 + h.val < 1024 by omega), dif_pos (show 1024 + h.val - 1024 < 8 by omega)]
    · rw [show (⟨1024 + h.val - 1024, by omega⟩ : Fin 8) = h from Fin.ext (by show 1024 + h.val - 1024 = h.val; omega), hk x y z hz]
  have hs : ∀ J : Fin 16384, Cert.RefVal.scores (F := Ideal) X WQ K (ix3 h r J) = msk (fun J : Fin 16384 => Att r.val J.val) t J := fun J => by
    rw [Cert.RefVal.scores_at, ht]
    rfl
  have hm : Cert.RefVal.top (F := Ideal) X WQ K (ix2 h r) = Finset.univ.fold max (⊥ : EReal) (msk (fun J : Fin 16384 => Att r.val J.val) t) := by
    rw [Cert.RefVal.top_at]
    simp only [ht]
    rfl
  rw [hn, hd, Cert.RefVal.ctx_at]
  simp only [Cert.RefVal.wts_at, Cert.RefVal.exps_at, hs, hm]
  exact (softmax_eq (fun J : Fin 16384 => Att r.val J.val) t (fun J => V (ix2 J ⟨h.val * 128 + d.val, by omega⟩)) 0 (Or.inl (Or.inr rfl))).symm

/-- A device's rows are the reference's. -/
theorem out_eq (c : Dev Cert.KernelIdeal.nD) (l : ℕ) (r e : Fin 1024) :
    out (F := Ideal) (AB I c) WO l (ix2 r e) = Cert.RefVal.outp (F := Ideal) X WQ K V WO (ix2 r e) := by
  rw [out_at, Cert.RefVal.outp_at]
  refine (sum_blocks 8 128 rfl _ _ fun h d z hz => ?_).symm
  rw [ctx_eq A h d r c]
  have e1 : (⟨z.val / 128, by omega⟩ : Fin 8) = h := Fin.ext (by show z.val / 128 = _; omega)
  have e2 : (⟨z.val % 128, by omega⟩ : Fin 128) = d := Fin.ext (by show z.val % 128 = _; omega)
  have e3 : z = ⟨h.val * 128 + d.val, by omega⟩ := Fin.ext (by show z.val = h.val * 128 + d.val; omega)
  rw [e1, e2, ← e3]

end

end Cert.Eqn

end
-- ==== Proof.Val.Alg.lean ====
/-
The equation of the two programs: from memories that hold the same arrays, every device ends with the reference's result.
-/
module

public import proofs.«01_k».proof.Proof.Frames
public import proofs.«01_k».proof.Proof.Val.Pre
public import proofs.«01_k».proof.Proof.Val.Io
public import proofs.«01_k».proof.Proof.Val.Eqn
public import proofs.«01_k».proof.Proof.Val.RefDefs

@[expose] public section

noncomputable section

namespace Cert.Alg

open Idealize.ShloMosaic Idealize.SL.Sem Idealize.ShloMosaic.TcCoe
open Cert.KernelIdealProof (ins res finalA final_out ins_x ins_wq ins_k ins_v ins_wo)

/-- Row `j` of block `c` is row `1024 c + j` of the whole array. -/
theorem block_at (c : Fin 16) (v : (⟨2, ![16384, 1024]⟩ : Shape).Idx → EReal) (j e : Fin 1024) (J : Fin 16384) (hJ : J.val = 1024 * c.val + j.val) :
    Layout.block ⟨2, ![1024, 1024]⟩ ⟨2, ![16384, 1024]⟩ 0 16 c v (by decide) (ix2 j e) = v (ix2 J e) := by
  rw [Layout.block_apply]
  refine congrArg v (funext fun a => Fin.ext ?_)
  fin_cases a
  · show c.val * 1024 + j.val = J.val
    omega
  · rfl

/-- Every row of the whole array is a row of a block. -/
theorem row_split (J : Fin 16384) : ∃ (c : Fin 16) (j : Fin 1024), J.val = 1024 * c.val + j.val :=
  ⟨⟨J.val / 1024, by omega⟩, ⟨J.val % 1024, by omega⟩, by show J.val = 1024 * (J.val / 1024) + J.val % 1024; omega⟩

theorem idx_ix2 (i : (⟨2, ![1024, 1024]⟩ : Shape).Idx) : i = ix2 (n0 := 1024) (n1 := 1024) (i 0) (i 1) := by
  funext a; fin_cases a <;> rfl

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre.factsK) := fun m g m' g' hpre hin => by
  have A : Cert.Eqn.Agree (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) (ins m) :=
    { x := fun c => (ins_x m c).trans (hin c).1
      wq := fun c => (ins_wq m c).trans (hin c).2.1
      k := fun c j e J hJ => (congrFun ((ins_k m c).trans (hin c).2.2.1) (ix2 j e)).trans (block_at c _ j e J hJ)
      v := fun c j e J hJ => (congrFun ((ins_v m c).trans (hin c).2.2.2.1) (ix2 j e)).trans (block_at c _ j e J hJ)
      rx := fun i j => by
        have h := (Cert.Pre.reals _ _ _ _ _ (hpre 0) i j).1
        rw [(hin 0).1] at h
        exact h
      rw := fun i j => by
        have h := (Cert.Pre.reals _ _ _ _ _ (hpre 0) i j).2.1
        rw [(hin 0).2.1] at h
        exact h
      rk := fun J e => by
        obtain ⟨c, j, hJ⟩ := row_split J
        have h := (Cert.Pre.reals _ _ _ _ _ (hpre c) j e).2.2
        rw [(hin c).2.2.1] at h
        obtain ⟨t, ht⟩ := h
        exact ⟨t, (block_at c _ j e J hJ).symm.trans ht⟩ }
  refine ⟨Cert.ReferenceIdeal.Value.res_main_v51 m' 0, ?_, ?_⟩
  · refine (θ_run (Cert.KernelIdeal.defs (F := Ideal)) _ _).mono (fun r h c => ⟨?_, h.1 c⟩) (Cert.KernelIdealProof.run_all m g)
    rw [h.2.1 c, final_out, Cert.RefVal.res_eq]
    unfold res
    rw [ins_wo, (hin c).2.2.2.2]
    funext i
    rw [idx_ix2 i]
    exact Cert.Eqn.out_eq A c _ (i 0) (i 1)
  · exact (θ_run (Cert.ReferenceIdeal.defs (F := Ideal)) _ _).mono (fun r h => h 0) (Cert.ReferenceIdeal.Value.run m' g')

end Cert.Alg

end
-- ==== Proof.lean ====
/- The certificate's claim, from the frames and the equation. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Val.Alg

@[expose] public section

noncomputable section

namespace Cert.Proof

theorem claim : Cert.Claim := ⟨Cert.Kernel.Gen.facts, Cert.KernelIdeal.Gen.facts, Cert.ReferenceIdeal.Gen.facts,
  Cert.Pre.factsK, Cert.Pre.factsR,
  Cert.Frames.frame_kernel, Cert.Frames.frame_ideal, Cert.Frames.frame_ideal_pre,
  Cert.Frames.frame_reference, Cert.Frames.frame_reference_pre, trivial, Cert.Alg.algebraic⟩

end Cert.Proof

end
